-- ==== Defs.lean ====
def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ya (m : (ℓ : Loc Cert.Ya.nD Cert.Ya.τ Cert.Ya.sig) → Buf (Elt Bits) ℓ) : Prop :=
  True

def Pre_YaIdeal (m : (ℓ : Loc Cert.YaIdeal.nD Cert.YaIdeal.τ Cert.YaIdeal.sig) → Buf (Elt Ideal) ℓ) : Prop :=
  True

def Pre_YaRefIdeal (m : (ℓ : Loc Cert.YaRefIdeal.nD Cert.YaRefIdeal.τ Cert.YaRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_X2 (m : (ℓ : Loc Cert.X2.nD Cert.X2.τ Cert.X2.sig) → Buf (Elt Bits) ℓ) : Prop :=
  True

def Pre_X2Ideal (m : (ℓ : Loc Cert.X2Ideal.nD Cert.X2Ideal.τ Cert.X2Ideal.sig) → Buf (Elt Ideal) ℓ) : Prop :=
  True

def Pre_X2RefIdeal (m : (ℓ : Loc Cert.X2RefIdeal.nD Cert.X2RefIdeal.τ Cert.X2RefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_AdConvRefIdeal (m : (ℓ : Loc Cert.AdConvRefIdeal.nD Cert.AdConvRefIdeal.τ Cert.AdConvRefIdeal.sig) → Buf (Elt Ideal) ℓ) : Prop :=
  True

def Pre_AdSq (m : (ℓ : Loc Cert.AdSq.nD Cert.AdSq.τ Cert.AdSq.sig) → Buf (Elt Bits) ℓ) : Prop :=
  True

def Pre_AdSqIdeal (m : (ℓ : Loc Cert.AdSqIdeal.nD Cert.AdSqIdeal.τ Cert.AdSqIdeal.sig) → Buf (Elt Ideal) ℓ) : Prop :=
  True

def Pre_AdSqRefIdeal (m : (ℓ : Loc Cert.AdSqRefIdeal.nD Cert.AdSqRefIdeal.τ Cert.AdSqRefIdeal.sig) → Buf (Elt Ideal) ℓ) : Prop :=
  True

def Pre_AdPool (m : (ℓ : Loc Cert.AdPool.nD Cert.AdPool.τ Cert.AdPool.sig) → Buf (Elt Bits) ℓ) : Prop :=
  True

def Pre_AdPoolIdeal (m : (ℓ : Loc Cert.AdPoolIdeal.nD Cert.AdPoolIdeal.τ Cert.AdPoolIdeal.sig) → Buf (Elt Ideal) ℓ) : Prop :=
  True

def Pre_AdPoolRefIdeal (m : (ℓ : Loc Cert.AdPoolRefIdeal.nD Cert.AdPoolRefIdeal.τ Cert.AdPoolRefIdeal.sig) → Buf (Elt Ideal) ℓ) : Prop :=
  True

def Pre_AdRow (m : (ℓ : Loc Cert.AdRow.nD Cert.AdRow.τ Cert.AdRow.sig) → Buf (Elt Bits) ℓ) : Prop :=
  True

def Pre_AdRowIdeal (m : (ℓ : Loc Cert.AdRowIdeal.nD Cert.AdRowIdeal.τ Cert.AdRowIdeal.sig) → Buf (Elt Ideal) ℓ) : Prop :=
  True

def Pre_AdRowRefIdeal (m : (ℓ : Loc Cert.AdRowRefIdeal.nD Cert.AdRowRefIdeal.τ Cert.AdRowRefIdeal.sig) → Buf (Elt Ideal) ℓ) : Prop :=
  True

def Pre_AdSink (m : (ℓ : Loc Cert.AdSink.nD Cert.AdSink.τ Cert.AdSink.sig) → Buf (Elt Bits) ℓ) : Prop :=
  True

def Pre_AdSinkIdeal (m : (ℓ : Loc Cert.AdSinkIdeal.nD Cert.AdSinkIdeal.τ Cert.AdSinkIdeal.sig) → Buf (Elt Ideal) ℓ) : Prop :=
  True

def Pre_AdSinkRefIdeal (m : (ℓ : Loc Cert.AdSinkRefIdeal.nD Cert.AdSinkRefIdeal.τ Cert.AdSinkRefIdeal.sig) → Buf (Elt Ideal) ℓ) : Prop :=
  True

def Pre_AdGu (m : (ℓ : Loc Cert.AdGu.nD Cert.AdGu.τ Cert.AdGu.sig) → Buf (Elt Bits) ℓ) : Prop :=
  True

def Pre_AdGuIdeal (m : (ℓ : Loc Cert.AdGuIdeal.nD Cert.AdGuIdeal.τ Cert.AdGuIdeal.sig) → Buf (Elt Ideal) ℓ) : Prop :=
  True

def Pre_AdGuRefIdeal (m : (ℓ : Loc Cert.AdGuRefIdeal.nD Cert.AdGuRefIdeal.τ Cert.AdGuRefIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownRefIdeal (m : (ℓ : Loc Cert.AdDownRefIdeal.nD Cert.AdDownRefIdeal.τ Cert.AdDownRefIdeal.sig) → Buf (Elt Ideal) ℓ) : Prop :=
  True

def Pre_AdRel (m : (ℓ : Loc Cert.AdRel.nD Cert.AdRel.τ Cert.AdRel.sig) → Buf (Elt Bits) ℓ) : Prop :=
  True

def Pre_AdRelIdeal (m : (ℓ : Loc Cert.AdRelIdeal.nD Cert.AdRelIdeal.τ Cert.AdRelIdeal.sig) → Buf (Elt Ideal) ℓ) : Prop :=
  True

def Pre_AdRelRefIdeal (m : (ℓ : Loc Cert.AdRelRefIdeal.nD Cert.AdRelRefIdeal.τ Cert.AdRelRefIdeal.sig) → Buf (Elt Ideal) ℓ) : Prop :=
  True

def Pre_AdFinal (m : (ℓ : Loc Cert.AdFinal.nD Cert.AdFinal.τ Cert.AdFinal.sig) → Buf (Elt Bits) ℓ) : Prop :=
  True

def Pre_AdFinalIdeal (m : (ℓ : Loc Cert.AdFinalIdeal.nD Cert.AdFinalIdeal.τ Cert.AdFinalIdeal.sig) → Buf (Elt Ideal) ℓ) : Prop :=
  True

def Pre_AdFinalRefIdeal (m : (ℓ : Loc Cert.AdFinalRefIdeal.nD Cert.AdFinalRefIdeal.τ Cert.AdFinalRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBRefIdeal (m : (ℓ : Loc Cert.RmsBRefIdeal.nD Cert.RmsBRefIdeal.τ Cert.RmsBRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_LossH (m : (ℓ : Loc Cert.LossH.nD Cert.LossH.τ Cert.LossH.sig) → Buf (Elt Bits) ℓ) : Prop :=
  True

def Pre_LossHIdeal (m : (ℓ : Loc Cert.LossHIdeal.nD Cert.LossHIdeal.τ Cert.LossHIdeal.sig) → Buf (Elt Ideal) ℓ) : Prop :=
  True

def Pre_LossHRefIdeal (m : (ℓ : Loc Cert.LossHRefIdeal.nD Cert.LossHRefIdeal.τ Cert.LossHRefIdeal.sig) → Buf (Elt Ideal) ℓ) : Prop :=
  True

def Pre_SwiB (m : (ℓ : Loc Cert.SwiB.nD Cert.SwiB.τ Cert.SwiB.sig) → Buf (Elt Bits) ℓ) : Prop :=
  True

def Pre_SwiBIdeal (m : (ℓ : Loc Cert.SwiBIdeal.nD Cert.SwiBIdeal.τ Cert.SwiBIdeal.sig) → Buf (Elt Ideal) ℓ) : Prop :=
  True

def Pre_SwiBIdeal_finite [hPre_finite : Cert.Pre_finite.Facts] (m : (ℓ : Loc Cert.SwiBIdeal.nD Cert.SwiBIdeal.τ Cert.SwiBIdeal.sig) → Buf (Elt Ideal) ℓ) : Prop :=
  ∀ c : Dev Cert.SwiBIdeal.nD,
    (Cert.Pre_finite.fn (F := Ideal) (m ((c.tc : Thread Cert.SwiBIdeal.nD Cert.SwiBIdeal.τ).loc Cert.SwiBIdeal.main_arg0)) (m ((c.tc : Thread Cert.SwiBIdeal.nD Cert.SwiBIdeal.τ).loc Cert.SwiBIdeal.main_arg1))) = (fun _ => 1#1)

def Pre_SwiBRefIdeal (m : (ℓ : Loc Cert.SwiBRefIdeal.nD Cert.SwiBRefIdeal.τ Cert.SwiBRefIdeal.sig) → Buf (Elt Ideal) ℓ) : Prop :=
  True

def Pre_SwiBRefIdeal_finite [hPre_finite : Cert.Pre_finite.Facts] (m : (ℓ : Loc Cert.SwiBRefIdeal.nD Cert.SwiBRefIdeal.τ Cert.SwiBRefIdeal.sig) → Buf (Elt Ideal) ℓ) : Prop :=
  ∀ c : Dev Cert.SwiBRefIdeal.nD,
    (Cert.Pre_finite.fn (F := Ideal) (m ((c.tc : Thread Cert.SwiBRefIdeal.nD Cert.SwiBRefIdeal.τ).loc Cert.SwiBRefIdeal.main_arg0)) (m ((c.tc : Thread Cert.SwiBRefIdeal.nD Cert.SwiBRefIdeal.τ).loc Cert.SwiBRefIdeal.main_arg1))) = (fun _ => 1#1)

def Pre_SwiF (m : (ℓ : Loc Cert.SwiF.nD Cert.SwiF.τ Cert.SwiF.sig) → Buf (Elt Bits) ℓ) : Prop :=
  True

def Pre_SwiFIdeal (m : (ℓ : Loc Cert.SwiFIdeal.nD Cert.SwiFIdeal.τ Cert.SwiFIdeal.sig) → Buf (Elt Ideal) ℓ) : Prop :=
  True

def Pre_SwiFRefIdeal (m : (ℓ : Loc Cert.SwiFRefIdeal.nD Cert.SwiFRefIdeal.τ Cert.SwiFRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_ChipA (m : (ℓ : Loc Cert.ChipA.nD Cert.ChipA.τ Cert.ChipA.sig) → Buf (Elt Bits) ℓ) : Prop :=
  True

def Pre_ChipAIdeal (m : (ℓ : Loc Cert.ChipAIdeal.nD Cert.ChipAIdeal.τ Cert.ChipAIdeal.sig) → Buf (Elt Ideal) ℓ) : Prop :=
  True

def Pre_ChipARefIdeal (m : (ℓ : Loc Cert.ChipARefIdeal.nD Cert.ChipARefIdeal.τ Cert.ChipARefIdeal.sig) → Buf (Elt Ideal) ℓ) : Prop :=
  True

def Pre_ChipB (m : (ℓ : Loc Cert.ChipB.nD Cert.ChipB.τ Cert.ChipB.sig) → Buf (Elt Bits) ℓ) : Prop :=
  True

def Pre_ChipBIdeal (m : (ℓ : Loc Cert.ChipBIdeal.nD Cert.ChipBIdeal.τ Cert.ChipBIdeal.sig) → Buf (Elt Ideal) ℓ) : Prop :=
  True

def Pre_ChipBRefIdeal (m : (ℓ : Loc Cert.ChipBRefIdeal.nD Cert.ChipBRefIdeal.τ Cert.ChipBRefIdeal.sig) → Buf (Elt Ideal) ℓ) : Prop :=
  True

def Pre_ChipC (m : (ℓ : Loc Cert.ChipC.nD Cert.ChipC.τ Cert.ChipC.sig) → Buf (Elt Bits) ℓ) : Prop :=
  True

def Pre_ChipCIdeal (m : (ℓ : Loc Cert.ChipCIdeal.nD Cert.ChipCIdeal.τ Cert.ChipCIdeal.sig) → Buf (Elt Ideal) ℓ) : Prop :=
  True

def Pre_ChipCRefIdeal (m : (ℓ : Loc Cert.ChipCRefIdeal.nD Cert.ChipCRefIdeal.τ Cert.ChipCRefIdeal.sig) → Buf (Elt Ideal) ℓ) : Prop :=
  True

def Pre_ChipD (m : (ℓ : Loc Cert.ChipD.nD Cert.ChipD.τ Cert.ChipD.sig) → Buf (Elt Bits) ℓ) : Prop :=
  True

def Pre_ChipDIdeal (m : (ℓ : Loc Cert.ChipDIdeal.nD Cert.ChipDIdeal.τ Cert.ChipDIdeal.sig) → Buf (Elt Ideal) ℓ) : Prop :=
  True

def Pre_ChipDRefIdeal (m : (ℓ : Loc Cert.ChipDRefIdeal.nD Cert.ChipDRefIdeal.τ Cert.ChipDRefIdeal.sig) → Buf (Elt Ideal) ℓ) : Prop :=
  True

def Pre_ChipE (m : (ℓ : Loc Cert.ChipE.nD Cert.ChipE.τ Cert.ChipE.sig) → Buf (Elt Bits) ℓ) : Prop :=
  True

def Pre_ChipEIdeal (m : (ℓ : Loc Cert.ChipEIdeal.nD Cert.ChipEIdeal.τ Cert.ChipEIdeal.sig) → Buf (Elt Ideal) ℓ) : Prop :=
  True

def Pre_ChipERefIdeal (m : (ℓ : Loc Cert.ChipERefIdeal.nD Cert.ChipERefIdeal.τ Cert.ChipERefIdeal.sig) → Buf (Elt Ideal) ℓ) : Prop :=
  True

def Pre_ChipI (m : (ℓ : Loc Cert.ChipI.nD Cert.ChipI.τ Cert.ChipI.sig) → Buf (Elt Bits) ℓ) : Prop :=
  True

def Pre_ChipIIdeal (m : (ℓ : Loc Cert.ChipIIdeal.nD Cert.ChipIIdeal.τ Cert.ChipIIdeal.sig) → Buf (Elt Ideal) ℓ) : Prop :=
  True

def Pre_ChipIRefIdeal (m : (ℓ : Loc Cert.ChipIRefIdeal.nD Cert.ChipIRefIdeal.τ Cert.ChipIRefIdeal.sig) → Buf (Elt Ideal) ℓ) : Prop :=
  True

def Pre_X1 (m : (ℓ : Loc Cert.X1.nD Cert.X1.τ Cert.X1.sig) → Buf (Elt Bits) ℓ) : Prop :=
  True

def Pre_X1Ideal (m : (ℓ : Loc Cert.X1Ideal.nD Cert.X1Ideal.τ Cert.X1Ideal.sig) → Buf (Elt Ideal) ℓ) : Prop :=
  True

def Pre_X1RefIdeal (m : (ℓ : Loc Cert.X1RefIdeal.nD Cert.X1RefIdeal.τ Cert.X1RefIdeal.sig) → Buf (Elt Ideal) ℓ) : Prop :=
  True

def Pre_DwPool (m : (ℓ : Loc Cert.DwPool.nD Cert.DwPool.τ Cert.DwPool.sig) → Buf (Elt Bits) ℓ) : Prop :=
  True

def Pre_DwPoolIdeal (m : (ℓ : Loc Cert.DwPoolIdeal.nD Cert.DwPoolIdeal.τ Cert.DwPoolIdeal.sig) → Buf (Elt Ideal) ℓ) : Prop :=
  True

def Pre_DwPoolRefIdeal (m : (ℓ : Loc Cert.DwPoolRefIdeal.nD Cert.DwPoolRefIdeal.τ Cert.DwPoolRefIdeal.sig) → Buf (Elt Ideal) ℓ) : Prop :=
  True

def Pre_Dp (m : (ℓ : Loc Cert.Dp.nD Cert.Dp.τ Cert.Dp.sig) → Buf (Elt Bits) ℓ) : Prop :=
  True

def Pre_DpIdeal (m : (ℓ : Loc Cert.DpIdeal.nD Cert.DpIdeal.τ Cert.DpIdeal.sig) → Buf (Elt Ideal) ℓ) : Prop :=
  True

def Pre_DpRefIdeal (m : (ℓ : Loc Cert.DpRefIdeal.nD Cert.DpRefIdeal.τ Cert.DpRefIdeal.sig) → Buf (Elt Ideal) ℓ) : Prop :=
  True

def Pre_Yp (m : (ℓ : Loc Cert.Yp.nD Cert.Yp.τ Cert.Yp.sig) → Buf (Elt Bits) ℓ) : Prop :=
  True

def Pre_YpIdeal (m : (ℓ : Loc Cert.YpIdeal.nD Cert.YpIdeal.τ Cert.YpIdeal.sig) → Buf (Elt Ideal) ℓ) : Prop :=
  True

def Pre_YpRefIdeal (m : (ℓ : Loc Cert.YpRefIdeal.nD Cert.YpRefIdeal.τ Cert.YpRefIdeal.sig) → Buf (Elt Ideal) ℓ) : Prop :=
  True

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Ya [hYa : Cert.Ya.Facts] : Prop :=
  ∀ (m : (ℓ : Loc Cert.Ya.nD Cert.Ya.τ Cert.Ya.sig) → Buf (Elt Bits) ℓ) (g : Dev Cert.Ya.nD → PrngReg), Pre_Ya m →
    θ_run (Cert.Ya.defs (F := Bits)) (onTc (τ := Cert.Ya.τ) (Cert.Ya.main (F := Bits))) ⟨m, fun _ => 0, g⟩ (fun r => (∀ c : Dev Cert.Ya.nD,
      r.2.mem ((c.tc : Thread Cert.Ya.nD Cert.Ya.τ).loc Cert.Ya.main_arg0) = m ((c.tc : Thread Cert.Ya.nD Cert.Ya.τ).loc Cert.Ya.main_arg0)
      ∧ r.2.mem ((c.tc : Thread Cert.Ya.nD Cert.Ya.τ).loc Cert.Ya.main_arg1) = m ((c.tc : Thread Cert.Ya.nD Cert.Ya.τ).loc Cert.Ya.main_arg1))
      ∧ r.2.sem = fun _ => 0)

def quiescent_YaIdeal [hYaIdeal : Cert.YaIdeal.Facts] : Prop :=
  ∀ (m : (ℓ : Loc Cert.YaIdeal.nD Cert.YaIdeal.τ Cert.YaIdeal.sig) → Buf (Elt Ideal) ℓ) (g : Dev Cert.YaIdeal.nD → PrngReg), Pre_YaIdeal m →
    θ_run (Cert.YaIdeal.defs (F := Ideal)) (onTc (τ := Cert.YaIdeal.τ) (Cert.YaIdeal.main (F := Ideal))) ⟨m, fun _ => 0, g⟩ (fun r => (∀ c : Dev Cert.YaIdeal.nD,
      r.2.mem ((c.tc : Thread Cert.YaIdeal.nD Cert.YaIdeal.τ).loc Cert.YaIdeal.main_arg0) = m ((c.tc : Thread Cert.YaIdeal.nD Cert.YaIdeal.τ).loc Cert.YaIdeal.main_arg0)
      ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ r.2.sem = fun _ => 0)

def quiescent_YaRefIdeal [hYaRefIdeal : Cert.YaRefIdeal.Facts] : Prop :=
  ∀ (m : (ℓ : Loc Cert.YaRefIdeal.nD Cert.YaRefIdeal.τ Cert.YaRefIdeal.sig) → Buf (Elt Ideal) ℓ) (g : Dev Cert.YaRefIdeal.nD → PrngReg), Pre_YaRefIdeal m →
    θ_run (Cert.YaRefIdeal.defs (F := Ideal)) (onTc (τ := Cert.YaRefIdeal.τ) (Cert.YaRefIdeal.main (F := Ideal))) ⟨m, fun _ => 0, g⟩ (fun r => (∀ c : Dev Cert.YaRefIdeal.nD,
      r.2.mem ((c.tc : Thread Cert.YaRefIdeal.nD Cert.YaRefIdeal.τ).loc Cert.YaRefIdeal.main_arg0) = m ((c.tc : Thread Cert.YaRefIdeal.nD Cert.YaRefIdeal.τ).loc Cert.YaRefIdeal.main_arg0)
      ∧ r.2.mem ((c.tc : Thread Cert.YaRefIdeal.nD Cert.YaRefIdeal.τ).loc Cert.YaRefIdeal.main_arg1) = m ((c.tc : Thread Cert.YaRefIdeal.nD Cert.YaRefIdeal.τ).loc Cert.YaRefIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_X2 [hX2 : Cert.X2.Facts] : Prop :=
  ∀ (m : (ℓ : Loc Cert.X2.nD Cert.X2.τ Cert.X2.sig) → Buf (Elt Bits) ℓ) (g : Dev Cert.X2.nD → PrngReg), Pre_X2 m →
    θ_run (Cert.X2.defs (F := Bits)) (onTc (τ := Cert.X2.τ) (Cert.X2.main (F := Bits))) ⟨m, fun _ => 0, g⟩ (fun r => (∀ c : Dev Cert.X2.nD,
      r.2.mem ((c.tc : Thread Cert.X2.nD Cert.X2.τ).loc Cert.X2.main_arg0) = m ((c.tc : Thread Cert.X2.nD Cert.X2.τ).loc Cert.X2.main_arg0)
      ∧ r.2.mem ((c.tc : Thread Cert.X2.nD Cert.X2.τ).loc Cert.X2.main_arg1) = m ((c.tc : Thread Cert.X2.nD Cert.X2.τ).loc Cert.X2.main_arg1)
      ∧ r.2.mem ((c.tc : Thread Cert.X2.nD Cert.X2.τ).loc Cert.X2.main_arg2) = m ((c.tc : Thread Cert.X2.nD Cert.X2.τ).loc Cert.X2.main_arg2))
      ∧ r.2.sem = fun _ => 0)

def quiescent_X2Ideal [hX2Ideal : Cert.X2Ideal.Facts] : Prop :=
  ∀ (m : (ℓ : Loc Cert.X2Ideal.nD Cert.X2Ideal.τ Cert.X2Ideal.sig) → Buf (Elt Ideal) ℓ) (g : Dev Cert.X2Ideal.nD → PrngReg), Pre_X2Ideal m →
    θ_run (Cert.X2Ideal.defs (F := Ideal)) (onTc (τ := Cert.X2Ideal.τ) (Cert.X2Ideal.main (F := Ideal))) ⟨m, fun _ => 0, g⟩ (fun r => (∀ c : Dev Cert.X2Ideal.nD,
      r.2.mem ((c.tc : Thread Cert.X2Ideal.nD Cert.X2Ideal.τ).loc Cert.X2Ideal.main_arg0) = m ((c.tc : Thread Cert.X2Ideal.nD Cert.X2Ideal.τ).loc Cert.X2Ideal.main_arg0)
      ∧ r.2.mem ((c.tc : Thread Cert.X2Ideal.nD Cert.X2Ideal.τ).loc Cert.X2Ideal.main_arg1) = m ((c.tc : Thread Cert.X2Ideal.nD Cert.X2Ideal.τ).loc Cert.X2Ideal.main_arg1)
      ∧ r.2.mem ((c.tc : Thread Cert.X2Ideal.nD Cert.X2Ideal.τ).loc Cert.X2Ideal.main_arg2) = m ((c.tc : Thread Cert.X2Ideal.nD Cert.X2Ideal.τ).loc Cert.X2Ideal.main_arg2))
      ∧ r.2.sem = fun _ => 0)

def quiescent_X2RefIdeal [hX2RefIdeal : Cert.X2RefIdeal.Facts] : Prop :=
  ∀ (m : (ℓ : Loc Cert.X2RefIdeal.nD Cert.X2RefIdeal.τ Cert.X2RefIdeal.sig) → Buf (Elt Ideal) ℓ) (g : Dev Cert.X2RefIdeal.nD → PrngReg), Pre_X2RefIdeal m →
    θ_run (Cert.X2RefIdeal.defs (F := Ideal)) (onTc (τ := Cert.X2RefIdeal.τ) (Cert.X2RefIdeal.main (F := Ideal))) ⟨m, fun _ => 0, g⟩ (fun r => (∀ c : Dev Cert.X2RefIdeal.nD,
      r.2.mem ((c.tc : Thread Cert.X2RefIdeal.nD Cert.X2RefIdeal.τ).loc Cert.X2RefIdeal.main_arg0) = m ((c.tc : Thread Cert.X2RefIdeal.nD Cert.X2RefIdeal.τ).loc Cert.X2RefIdeal.main_arg0)
      ∧ r.2.mem ((c.tc : Thread Cert.X2RefIdeal.nD Cert.X2RefIdeal.τ).loc Cert.X2RefIdeal.main_arg1) = m ((c.tc : Thread Cert.X2RefIdeal.nD Cert.X2RefIdeal.τ).loc Cert.X2RefIdeal.main_arg1)
      ∧ r.2.mem ((c.tc : Thread Cert.X2RefIdeal.nD Cert.X2RefIdeal.τ).loc Cert.X2RefIdeal.main_arg2) = m ((c.tc : Thread Cert.X2RefIdeal.nD Cert.X2RefIdeal.τ).loc Cert.X2RefIdeal.main_arg2))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_AdConvRefIdeal [hAdConvRefIdeal : Cert.AdConvRefIdeal.Facts] : Prop :=
  ∀ (m : (ℓ : Loc Cert.AdConvRefIdeal.nD Cert.AdConvRefIdeal.τ Cert.AdConvRefIdeal.sig) → Buf (Elt Ideal) ℓ) (g : Dev Cert.AdConvRefIdeal.nD → PrngReg), Pre_AdConvRefIdeal m →
    θ_run (Cert.AdConvRefIdeal.defs (F := Ideal)) (onTc (τ := Cert.AdConvRefIdeal.τ) (Cert.AdConvRefIdeal.main (F := Ideal))) ⟨m, fun _ => 0, g⟩ (fun r => (∀ c : Dev Cert.AdConvRefIdeal.nD,
      r.2.mem ((c.tc : Thread Cert.AdConvRefIdeal.nD Cert.AdConvRefIdeal.τ).loc Cert.AdConvRefIdeal.main_arg0) = m ((c.tc : Thread Cert.AdConvRefIdeal.nD Cert.AdConvRefIdeal.τ).loc Cert.AdConvRefIdeal.main_arg0)
      ∧ r.2.mem ((c.tc : Thread Cert.AdConvRefIdeal.nD Cert.AdConvRefIdeal.τ).loc Cert.AdConvRefIdeal.main_arg1) = m ((c.tc : Thread Cert.AdConvRefIdeal.nD Cert.AdConvRefIdeal.τ).loc Cert.AdConvRefIdeal.main_arg1)
      ∧ r.2.mem ((c.tc : Thread Cert.AdConvRefIdeal.nD Cert.AdConvRefIdeal.τ).loc Cert.AdConvRefIdeal.main_arg2) = m ((c.tc : Thread Cert.AdConvRefIdeal.nD Cert.AdConvRefIdeal.τ).loc Cert.AdConvRefIdeal.main_arg2)
      ∧ r.2.mem ((c.tc : Thread Cert.AdConvRefIdeal.nD Cert.AdConvRefIdeal.τ).loc Cert.AdConvRefIdeal.main_arg3) = m ((c.tc : Thread Cert.AdConvRefIdeal.nD Cert.AdConvRefIdeal.τ).loc Cert.AdConvRefIdeal.main_arg3))
      ∧ r.2.sem = fun _ => 0)

def quiescent_AdSq [hAdSq : Cert.AdSq.Facts] : Prop :=
  ∀ (m : (ℓ : Loc Cert.AdSq.nD Cert.AdSq.τ Cert.AdSq.sig) → Buf (Elt Bits) ℓ) (g : Dev Cert.AdSq.nD → PrngReg), Pre_AdSq m →
    θ_run (Cert.AdSq.defs (F := Bits)) (onTc (τ := Cert.AdSq.τ) (Cert.AdSq.main (F := Bits))) ⟨m, fun _ => 0, g⟩ (fun r => (∀ c : Dev Cert.AdSq.nD,
      r.2.mem ((c.tc : Thread Cert.AdSq.nD Cert.AdSq.τ).loc Cert.AdSq.main_arg0) = m ((c.tc : Thread Cert.AdSq.nD Cert.AdSq.τ).loc Cert.AdSq.main_arg0)
      ∧ r.2.mem ((c.tc : Thread Cert.AdSq.nD Cert.AdSq.τ).loc Cert.AdSq.main_arg1) = m ((c.tc : Thread Cert.AdSq.nD Cert.AdSq.τ).loc Cert.AdSq.main_arg1)
      ∧ r.2.mem ((c.tc : Thread Cert.AdSq.nD Cert.AdSq.τ).loc Cert.AdSq.main_arg2) = m ((c.tc : Thread Cert.AdSq.nD Cert.AdSq.τ).loc Cert.AdSq.main_arg2)
      ∧ r.2.mem ((c.tc : Thread Cert.AdSq.nD Cert.AdSq.τ).loc Cert.AdSq.main_arg3) = m ((c.tc : Thread Cert.AdSq.nD Cert.AdSq.τ).loc Cert.AdSq.main_arg3))
      ∧ r.2.sem = fun _ => 0)

def quiescent_AdSqIdeal [hAdSqIdeal : Cert.AdSqIdeal.Facts] : Prop :=
  ∀ (m : (ℓ : Loc Cert.AdSqIdeal.nD Cert.AdSqIdeal.τ Cert.AdSqIdeal.sig) → Buf (Elt Ideal) ℓ) (g : Dev Cert.AdSqIdeal.nD → PrngReg), Pre_AdSqIdeal m →
    θ_run (Cert.AdSqIdeal.defs (F := Ideal)) (onTc (τ := Cert.AdSqIdeal.τ) (Cert.AdSqIdeal.main (F := Ideal))) ⟨m, fun _ => 0, g⟩ (fun r => (∀ c : Dev Cert.AdSqIdeal.nD,
      r.2.mem ((c.tc : Thread Cert.AdSqIdeal.nD Cert.AdSqIdeal.τ).loc Cert.AdSqIdeal.main_arg0) = m ((c.tc : Thread Cert.AdSqIdeal.nD Cert.AdSqIdeal.τ).loc Cert.AdSqIdeal.main_arg0)
      ∧ r.2.mem ((c.tc : Thread Cert.AdSqIdeal.nD Cert.AdSqIdeal.τ).loc Cert.AdSqIdeal.main_arg1) = m ((c.tc : Thread Cert.AdSqIdeal.nD Cert.AdSqIdeal.τ).loc Cert.AdSqIdeal.main_arg1)
      ∧ r.2.mem ((c.tc : Thread Cert.AdSqIdeal.nD Cert.AdSqIdeal.τ).loc Cert.AdSqIdeal.main_arg2) = m ((c.tc : Thread Cert.AdSqIdeal.nD Cert.AdSqIdeal.τ).loc Cert.AdSqIdeal.main_arg2)
      ∧ r.2.mem ((c.tc : Thread Cert.AdSqIdeal.nD Cert.AdSqIdeal.τ).loc Cert.AdSqIdeal.main_arg3) = m ((c.tc : Thread Cert.AdSqIdeal.nD Cert.AdSqIdeal.τ).loc Cert.AdSqIdeal.main_arg3))
      ∧ r.2.sem = fun _ => 0)

def quiescent_AdSqRefIdeal [hAdSqRefIdeal : Cert.AdSqRefIdeal.Facts] : Prop :=
  ∀ (m : (ℓ : Loc Cert.AdSqRefIdeal.nD Cert.AdSqRefIdeal.τ Cert.AdSqRefIdeal.sig) → Buf (Elt Ideal) ℓ) (g : Dev Cert.AdSqRefIdeal.nD → PrngReg), Pre_AdSqRefIdeal m →
    θ_run (Cert.AdSqRefIdeal.defs (F := Ideal)) (onTc (τ := Cert.AdSqRefIdeal.τ) (Cert.AdSqRefIdeal.main (F := Ideal))) ⟨m, fun _ => 0, g⟩ (fun r => (∀ c : Dev Cert.AdSqRefIdeal.nD,
      r.2.mem ((c.tc : Thread Cert.AdSqRefIdeal.nD Cert.AdSqRefIdeal.τ).loc Cert.AdSqRefIdeal.main_arg0) = m ((c.tc : Thread Cert.AdSqRefIdeal.nD Cert.AdSqRefIdeal.τ).loc Cert.AdSqRefIdeal.main_arg0)
      ∧ r.2.mem ((c.tc : Thread Cert.AdSqRefIdeal.nD Cert.AdSqRefIdeal.τ).loc Cert.AdSqRefIdeal.main_arg1) = m ((c.tc : Thread Cert.AdSqRefIdeal.nD Cert.AdSqRefIdeal.τ).loc Cert.AdSqRefIdeal.main_arg1)
      ∧ r.2.mem ((c.tc : Thread Cert.AdSqRefIdeal.nD Cert.AdSqRefIdeal.τ).loc Cert.AdSqRefIdeal.main_arg2) = m ((c.tc : Thread Cert.AdSqRefIdeal.nD Cert.AdSqRefIdeal.τ).loc Cert.AdSqRefIdeal.main_arg2)
      ∧ r.2.mem ((c.tc : Thread Cert.AdSqRefIdeal.nD Cert.AdSqRefIdeal.τ).loc Cert.AdSqRefIdeal.main_arg3) = m ((c.tc : Thread Cert.AdSqRefIdeal.nD Cert.AdSqRefIdeal.τ).loc Cert.AdSqRefIdeal.main_arg3))
      ∧ r.2.sem = fun _ => 0)

def quiescent_AdPool [hAdPool : Cert.AdPool.Facts] : Prop :=
  ∀ (m : (ℓ : Loc Cert.AdPool.nD Cert.AdPool.τ Cert.AdPool.sig) → Buf (Elt Bits) ℓ) (g : Dev Cert.AdPool.nD → PrngReg), Pre_AdPool m →
    θ_run (Cert.AdPool.defs (F := Bits)) (onTc (τ := Cert.AdPool.τ) (Cert.AdPool.main (F := Bits))) ⟨m, fun _ => 0, g⟩ (fun r => (∀ c : Dev Cert.AdPool.nD,
      r.2.mem ((c.tc : Thread Cert.AdPool.nD Cert.AdPool.τ).loc Cert.AdPool.main_arg0) = m ((c.tc : Thread Cert.AdPool.nD Cert.AdPool.τ).loc Cert.AdPool.main_arg0)
      ∧ r.2.mem ((c.tc : Thread Cert.AdPool.nD Cert.AdPool.τ).loc Cert.AdPool.main_arg1) = m ((c.tc : Thread Cert.AdPool.nD Cert.AdPool.τ).loc Cert.AdPool.main_arg1)
      ∧ r.2.mem ((c.tc : Thread Cert.AdPool.nD Cert.AdPool.τ).loc Cert.AdPool.main_arg2) = m ((c.tc : Thread Cert.AdPool.nD Cert.AdPool.τ).loc Cert.AdPool.main_arg2)
      ∧ r.2.mem ((c.tc : Thread Cert.AdPool.nD Cert.AdPool.τ).loc Cert.AdPool.main_arg3) = m ((c.tc : Thread Cert.AdPool.nD Cert.AdPool.τ).loc Cert.AdPool.main_arg3))
      ∧ r.2.sem = fun _ => 0)

def quiescent_AdPoolIdeal [hAdPoolIdeal : Cert.AdPoolIdeal.Facts] : Prop :=
  ∀ (m : (ℓ : Loc Cert.AdPoolIdeal.nD Cert.AdPoolIdeal.τ Cert.AdPoolIdeal.sig) → Buf (Elt Ideal) ℓ) (g : Dev Cert.AdPoolIdeal.nD → PrngReg), Pre_AdPoolIdeal m →
    θ_run (Cert.AdPoolIdeal.defs (F := Ideal)) (onTc (τ := Cert.AdPoolIdeal.τ) (Cert.AdPoolIdeal.main (F := Ideal))) ⟨m, fun _ => 0, g⟩ (fun r => (∀ c : Dev Cert.AdPoolIdeal.nD,
      r.2.mem ((c.tc : Thread Cert.AdPoolIdeal.nD Cert.AdPoolIdeal.τ).loc Cert.AdPoolIdeal.main_arg0) = m ((c.tc : Thread Cert.AdPoolIdeal.nD Cert.AdPoolIdeal.τ).loc Cert.AdPoolIdeal.main_arg0)
      ∧ r.2.mem ((c.tc : Thread Cert.AdPoolIdeal.nD Cert.AdPoolIdeal.τ).loc Cert.AdPoolIdeal.main_arg1) = m ((c.tc : Thread Cert.AdPoolIdeal.nD Cert.AdPoolIdeal.τ).loc Cert.AdPoolIdeal.main_arg1)
      ∧ r.2.mem ((c.tc : Thread Cert.AdPoolIdeal.nD Cert.AdPoolIdeal.τ).loc Cert.AdPoolIdeal.main_arg2) = m ((c.tc : Thread Cert.AdPoolIdeal.nD Cert.AdPoolIdeal.τ).loc Cert.AdPoolIdeal.main_arg2)
      ∧ r.2.mem ((c.tc : Thread Cert.AdPoolIdeal.nD Cert.AdPoolIdeal.τ).loc Cert.AdPoolIdeal.main_arg3) = m ((c.tc : Thread Cert.AdPoolIdeal.nD Cert.AdPoolIdeal.τ).loc Cert.AdPoolIdeal.main_arg3))
      ∧ r.2.sem = fun _ => 0)

def quiescent_AdPoolRefIdeal [hAdPoolRefIdeal : Cert.AdPoolRefIdeal.Facts] : Prop :=
  ∀ (m : (ℓ : Loc Cert.AdPoolRefIdeal.nD Cert.AdPoolRefIdeal.τ Cert.AdPoolRefIdeal.sig) → Buf (Elt Ideal) ℓ) (g : Dev Cert.AdPoolRefIdeal.nD → PrngReg), Pre_AdPoolRefIdeal m →
    θ_run (Cert.AdPoolRefIdeal.defs (F := Ideal)) (onTc (τ := Cert.AdPoolRefIdeal.τ) (Cert.AdPoolRefIdeal.main (F := Ideal))) ⟨m, fun _ => 0, g⟩ (fun r => (∀ c : Dev Cert.AdPoolRefIdeal.nD,
      r.2.mem ((c.tc : Thread Cert.AdPoolRefIdeal.nD Cert.AdPoolRefIdeal.τ).loc Cert.AdPoolRefIdeal.main_arg0) = m ((c.tc : Thread Cert.AdPoolRefIdeal.nD Cert.AdPoolRefIdeal.τ).loc Cert.AdPoolRefIdeal.main_arg0)
      ∧ r.2.mem ((c.tc : Thread Cert.AdPoolRefIdeal.nD Cert.AdPoolRefIdeal.τ).loc Cert.AdPoolRefIdeal.main_arg1) = m ((c.tc : Thread Cert.AdPoolRefIdeal.nD Cert.AdPoolRefIdeal.τ).loc Cert.AdPoolRefIdeal.main_arg1)
      ∧ r.2.mem ((c.tc : Thread Cert.AdPoolRefIdeal.nD Cert.AdPoolRefIdeal.τ).loc Cert.AdPoolRefIdeal.main_arg2) = m ((c.tc : Thread Cert.AdPoolRefIdeal.nD Cert.AdPoolRefIdeal.τ).loc Cert.AdPoolRefIdeal.main_arg2)
      ∧ r.2.mem ((c.tc : Thread Cert.AdPoolRefIdeal.nD Cert.AdPoolRefIdeal.τ).loc Cert.AdPoolRefIdeal.main_arg3) = m ((c.tc : Thread Cert.AdPoolRefIdeal.nD Cert.AdPoolRefIdeal.τ).loc Cert.AdPoolRefIdeal.main_arg3))
      ∧ r.2.sem = fun _ => 0)

def quiescent_AdRow [hAdRow : Cert.AdRow.Facts] : Prop :=
  ∀ (m : (ℓ : Loc Cert.AdRow.nD Cert.AdRow.τ Cert.AdRow.sig) → Buf (Elt Bits) ℓ) (g : Dev Cert.AdRow.nD → PrngReg), Pre_AdRow m →
    θ_run (Cert.AdRow.defs (F := Bits)) (onTc (τ := Cert.AdRow.τ) (Cert.AdRow.main (F := Bits))) ⟨m, fun _ => 0, g⟩ (fun r => (∀ c : Dev Cert.AdRow.nD,
      r.2.mem ((c.tc : Thread Cert.AdRow.nD Cert.AdRow.τ).loc Cert.AdRow.main_arg0) = m ((c.tc : Thread Cert.AdRow.nD Cert.AdRow.τ).loc Cert.AdRow.main_arg0)
      ∧ r.2.mem ((c.tc : Thread Cert.AdRow.nD Cert.AdRow.τ).loc Cert.AdRow.main_arg1) = m ((c.tc : Thread Cert.AdRow.nD Cert.AdRow.τ).loc Cert.AdRow.main_arg1)
      ∧ r.2.mem ((c.tc : Thread Cert.AdRow.nD Cert.AdRow.τ).loc Cert.AdRow.main_arg2) = m ((c.tc : Thread Cert.AdRow.nD Cert.AdRow.τ).loc Cert.AdRow.main_arg2)
      ∧ r.2.mem ((c.tc : Thread Cert.AdRow.nD Cert.AdRow.τ).loc Cert.AdRow.main_arg3) = m ((c.tc : Thread Cert.AdRow.nD Cert.AdRow.τ).loc Cert.AdRow.main_arg3))
      ∧ r.2.sem = fun _ => 0)

def quiescent_AdRowIdeal [hAdRowIdeal : Cert.AdRowIdeal.Facts] : Prop :=
  ∀ (m : (ℓ : Loc Cert.AdRowIdeal.nD Cert.AdRowIdeal.τ Cert.AdRowIdeal.sig) → Buf (Elt Ideal) ℓ) (g : Dev Cert.AdRowIdeal.nD → PrngReg), Pre_AdRowIdeal m →
    θ_run (Cert.AdRowIdeal.defs (F := Ideal)) (onTc (τ := Cert.AdRowIdeal.τ) (Cert.AdRowIdeal.main (F := Ideal))) ⟨m, fun _ => 0, g⟩ (fun r => (∀ c : Dev Cert.AdRowIdeal.nD,
      r.2.mem ((c.tc : Thread Cert.AdRowIdeal.nD Cert.AdRowIdeal.τ).loc Cert.AdRowIdeal.main_arg0) = m ((c.tc : Thread Cert.AdRowIdeal.nD Cert.AdRowIdeal.τ).loc Cert.AdRowIdeal.main_arg0)
      ∧ r.2.mem ((c.tc : Thread Cert.AdRowIdeal.nD Cert.AdRowIdeal.τ).loc Cert.AdRowIdeal.main_arg1) = m ((c.tc : Thread Cert.AdRowIdeal.nD Cert.AdRowIdeal.τ).loc Cert.AdRowIdeal.main_arg1)
      ∧ r.2.mem ((c.tc : Thread Cert.AdRowIdeal.nD Cert.AdRowIdeal.τ).loc Cert.AdRowIdeal.main_arg2) = m ((c.tc : Thread Cert.AdRowIdeal.nD Cert.AdRowIdeal.τ).loc Cert.AdRowIdeal.main_arg2)
      ∧ r.2.mem ((c.tc : Thread Cert.AdRowIdeal.nD Cert.AdRowIdeal.τ).loc Cert.AdRowIdeal.main_arg3) = m ((c.tc : Thread Cert.AdRowIdeal.nD Cert.AdRowIdeal.τ).loc Cert.AdRowIdeal.main_arg3))
      ∧ r.2.sem = fun _ => 0)

def quiescent_AdRowRefIdeal [hAdRowRefIdeal : Cert.AdRowRefIdeal.Facts] : Prop :=
  ∀ (m : (ℓ : Loc Cert.AdRowRefIdeal.nD Cert.AdRowRefIdeal.τ Cert.AdRowRefIdeal.sig) → Buf (Elt Ideal) ℓ) (g : Dev Cert.AdRowRefIdeal.nD → PrngReg), Pre_AdRowRefIdeal m →
    θ_run (Cert.AdRowRefIdeal.defs (F := Ideal)) (onTc (τ := Cert.AdRowRefIdeal.τ) (Cert.AdRowRefIdeal.main (F := Ideal))) ⟨m, fun _ => 0, g⟩ (fun r => (∀ c : Dev Cert.AdRowRefIdeal.nD,
      r.2.mem ((c.tc : Thread Cert.AdRowRefIdeal.nD Cert.AdRowRefIdeal.τ).loc Cert.AdRowRefIdeal.main_arg0) = m ((c.tc : Thread Cert.AdRowRefIdeal.nD Cert.AdRowRefIdeal.τ).loc Cert.AdRowRefIdeal.main_arg0)
      ∧ r.2.mem ((c.tc : Thread Cert.AdRowRefIdeal.nD Cert.AdRowRefIdeal.τ).loc Cert.AdRowRefIdeal.main_arg1) = m ((c.tc : Thread Cert.AdRowRefIdeal.nD Cert.AdRowRefIdeal.τ).loc Cert.AdRowRefIdeal.main_arg1)
      ∧ r.2.mem ((c.tc : Thread Cert.AdRowRefIdeal.nD Cert.AdRowRefIdeal.τ).loc Cert.AdRowRefIdeal.main_arg2) = m ((c.tc : Thread Cert.AdRowRefIdeal.nD Cert.AdRowRefIdeal.τ).loc Cert.AdRowRefIdeal.main_arg2)
      ∧ r.2.mem ((c.tc : Thread Cert.AdRowRefIdeal.nD Cert.AdRowRefIdeal.τ).loc Cert.AdRowRefIdeal.main_arg3) = m ((c.tc : Thread Cert.AdRowRefIdeal.nD Cert.AdRowRefIdeal.τ).loc Cert.AdRowRefIdeal.main_arg3))
      ∧ r.2.sem = fun _ => 0)

def quiescent_AdSink [hAdSink : Cert.AdSink.Facts] : Prop :=
  ∀ (m : (ℓ : Loc Cert.AdSink.nD Cert.AdSink.τ Cert.AdSink.sig) → Buf (Elt Bits) ℓ) (g : Dev Cert.AdSink.nD → PrngReg), Pre_AdSink m →
    θ_run (Cert.AdSink.defs (F := Bits)) (onTc (τ := Cert.AdSink.τ) (Cert.AdSink.main (F := Bits))) ⟨m, fun _ => 0, g⟩ (fun r => (∀ c : Dev Cert.AdSink.nD,
      r.2.mem ((c.tc : Thread Cert.AdSink.nD Cert.AdSink.τ).loc Cert.AdSink.main_arg0) = m ((c.tc : Thread Cert.AdSink.nD Cert.AdSink.τ).loc Cert.AdSink.main_arg0)
      ∧ r.2.mem ((c.tc : Thread Cert.AdSink.nD Cert.AdSink.τ).loc Cert.AdSink.main_arg1) = m ((c.tc : Thread Cert.AdSink.nD Cert.AdSink.τ).loc Cert.AdSink.main_arg1)
      ∧ r.2.mem ((c.tc : Thread Cert.AdSink.nD Cert.AdSink.τ).loc Cert.AdSink.main_arg2) = m ((c.tc : Thread Cert.AdSink.nD Cert.AdSink.τ).loc Cert.AdSink.main_arg2)
      ∧ r.2.mem ((c.tc : Thread Cert.AdSink.nD Cert.AdSink.τ).loc Cert.AdSink.main_arg3) = m ((c.tc : Thread Cert.AdSink.nD Cert.AdSink.τ).loc Cert.AdSink.main_arg3))
      ∧ r.2.sem = fun _ => 0)

def quiescent_AdSinkIdeal [hAdSinkIdeal : Cert.AdSinkIdeal.Facts] : Prop :=
  ∀ (m : (ℓ : Loc Cert.AdSinkIdeal.nD Cert.AdSinkIdeal.τ Cert.AdSinkIdeal.sig) → Buf (Elt Ideal) ℓ) (g : Dev Cert.AdSinkIdeal.nD → PrngReg), Pre_AdSinkIdeal m →
    θ_run (Cert.AdSinkIdeal.defs (F := Ideal)) (onTc (τ := Cert.AdSinkIdeal.τ) (Cert.AdSinkIdeal.main (F := Ideal))) ⟨m, fun _ => 0, g⟩ (fun r => (∀ c : Dev Cert.AdSinkIdeal.nD,
      r.2.mem ((c.tc : Thread Cert.AdSinkIdeal.nD Cert.AdSinkIdeal.τ).loc Cert.AdSinkIdeal.main_arg0) = m ((c.tc : Thread Cert.AdSinkIdeal.nD Cert.AdSinkIdeal.τ).loc Cert.AdSinkIdeal.main_arg0)
      ∧ r.2.mem ((c.tc : Thread Cert.AdSinkIdeal.nD Cert.AdSinkIdeal.τ).loc Cert.AdSinkIdeal.main_arg1) = m ((c.tc : Thread Cert.AdSinkIdeal.nD Cert.AdSinkIdeal.τ).loc Cert.AdSinkIdeal.main_arg1)
      ∧ r.2.mem ((c.tc : Thread Cert.AdSinkIdeal.nD Cert.AdSinkIdeal.τ).loc Cert.AdSinkIdeal.main_arg2) = m ((c.tc : Thread Cert.AdSinkIdeal.nD Cert.AdSinkIdeal.τ).loc Cert.AdSinkIdeal.main_arg2)
      ∧ r.2.mem ((c.tc : Thread Cert.AdSinkIdeal.nD Cert.AdSinkIdeal.τ).loc Cert.AdSinkIdeal.main_arg3) = m ((c.tc : Thread Cert.AdSinkIdeal.nD Cert.AdSinkIdeal.τ).loc Cert.AdSinkIdeal.main_arg3))
      ∧ r.2.sem = fun _ => 0)

def quiescent_AdSinkRefIdeal [hAdSinkRefIdeal : Cert.AdSinkRefIdeal.Facts] : Prop :=
  ∀ (m : (ℓ : Loc Cert.AdSinkRefIdeal.nD Cert.AdSinkRefIdeal.τ Cert.AdSinkRefIdeal.sig) → Buf (Elt Ideal) ℓ) (g : Dev Cert.AdSinkRefIdeal.nD → PrngReg), Pre_AdSinkRefIdeal m →
    θ_run (Cert.AdSinkRefIdeal.defs (F := Ideal)) (onTc (τ := Cert.AdSinkRefIdeal.τ) (Cert.AdSinkRefIdeal.main (F := Ideal))) ⟨m, fun _ => 0, g⟩ (fun r => (∀ c : Dev Cert.AdSinkRefIdeal.nD,
      r.2.mem ((c.tc : Thread Cert.AdSinkRefIdeal.nD Cert.AdSinkRefIdeal.τ).loc Cert.AdSinkRefIdeal.main_arg0) = m ((c.tc : Thread Cert.AdSinkRefIdeal.nD Cert.AdSinkRefIdeal.τ).loc Cert.AdSinkRefIdeal.main_arg0)
      ∧ r.2.mem ((c.tc : Thread Cert.AdSinkRefIdeal.nD Cert.AdSinkRefIdeal.τ).loc Cert.AdSinkRefIdeal.main_arg1) = m ((c.tc : Thread Cert.AdSinkRefIdeal.nD Cert.AdSinkRefIdeal.τ).loc Cert.AdSinkRefIdeal.main_arg1)
      ∧ r.2.mem ((c.tc : Thread Cert.AdSinkRefIdeal.nD Cert.AdSinkRefIdeal.τ).loc Cert.AdSinkRefIdeal.main_arg2) = m ((c.tc : Thread Cert.AdSinkRefIdeal.nD Cert.AdSinkRefIdeal.τ).loc Cert.AdSinkRefIdeal.main_arg2)
      ∧ r.2.mem ((c.tc : Thread Cert.AdSinkRefIdeal.nD Cert.AdSinkRefIdeal.τ).loc Cert.AdSinkRefIdeal.main_arg3) = m ((c.tc : Thread Cert.AdSinkRefIdeal.nD Cert.AdSinkRefIdeal.τ).loc Cert.AdSinkRefIdeal.main_arg3))
      ∧ r.2.sem = fun _ => 0)

def quiescent_AdGu [hAdGu : Cert.AdGu.Facts] : Prop :=
  ∀ (m : (ℓ : Loc Cert.AdGu.nD Cert.AdGu.τ Cert.AdGu.sig) → Buf (Elt Bits) ℓ) (g : Dev Cert.AdGu.nD → PrngReg), Pre_AdGu m →
    θ_run (Cert.AdGu.defs (F := Bits)) (onTc (τ := Cert.AdGu.τ) (Cert.AdGu.main (F := Bits))) ⟨m, fun _ => 0, g⟩ (fun r => (∀ c : Dev Cert.AdGu.nD,
      r.2.mem ((c.tc : Thread Cert.AdGu.nD Cert.AdGu.τ).loc Cert.AdGu.main_arg0) = m ((c.tc : Thread Cert.AdGu.nD Cert.AdGu.τ).loc Cert.AdGu.main_arg0)
      ∧ r.2.mem ((c.tc : Thread Cert.AdGu.nD Cert.AdGu.τ).loc Cert.AdGu.main_arg1) = m ((c.tc : Thread Cert.AdGu.nD Cert.AdGu.τ).loc Cert.AdGu.main_arg1)
      ∧ r.2.mem ((c.tc : Thread Cert.AdGu.nD Cert.AdGu.τ).loc Cert.AdGu.main_arg2) = m ((c.tc : Thread Cert.AdGu.nD Cert.AdGu.τ).loc Cert.AdGu.main_arg2)
      ∧ r.2.mem ((c.tc : Thread Cert.AdGu.nD Cert.AdGu.τ).loc Cert.AdGu.main_arg3) = m ((c.tc : Thread Cert.AdGu.nD Cert.AdGu.τ).loc Cert.AdGu.main_arg3))
      ∧ r.2.sem = fun _ => 0)

def quiescent_AdGuIdeal [hAdGuIdeal : Cert.AdGuIdeal.Facts] : Prop :=
  ∀ (m : (ℓ : Loc Cert.AdGuIdeal.nD Cert.AdGuIdeal.τ Cert.AdGuIdeal.sig) → Buf (Elt Ideal) ℓ) (g : Dev Cert.AdGuIdeal.nD → PrngReg), Pre_AdGuIdeal m →
    θ_run (Cert.AdGuIdeal.defs (F := Ideal)) (onTc (τ := Cert.AdGuIdeal.τ) (Cert.AdGuIdeal.main (F := Ideal))) ⟨m, fun _ => 0, g⟩ (fun r => (∀ c : Dev Cert.AdGuIdeal.nD,
      r.2.mem ((c.tc : Thread Cert.AdGuIdeal.nD Cert.AdGuIdeal.τ).loc Cert.AdGuIdeal.main_arg0) = m ((c.tc : Thread Cert.AdGuIdeal.nD Cert.AdGuIdeal.τ).loc Cert.AdGuIdeal.main_arg0)
      ∧ r.2.mem ((c.tc : Thread Cert.AdGuIdeal.nD Cert.AdGuIdeal.τ).loc Cert.AdGuIdeal.main_arg1) = m ((c.tc : Thread Cert.AdGuIdeal.nD Cert.AdGuIdeal.τ).loc Cert.AdGuIdeal.main_arg1)
      ∧ r.2.mem ((c.tc : Thread Cert.AdGuIdeal.nD Cert.AdGuIdeal.τ).loc Cert.AdGuIdeal.main_arg2) = m ((c.tc : Thread Cert.AdGuIdeal.nD Cert.AdGuIdeal.τ).loc Cert.AdGuIdeal.main_arg2)
      ∧ r.2.mem ((c.tc : Thread Cert.AdGuIdeal.nD Cert.AdGuIdeal.τ).loc Cert.AdGuIdeal.main_arg3) = m ((c.tc : Thread Cert.AdGuIdeal.nD Cert.AdGuIdeal.τ).loc Cert.AdGuIdeal.main_arg3))
      ∧ r.2.sem = fun _ => 0)

def quiescent_AdGuRefIdeal [hAdGuRefIdeal : Cert.AdGuRefIdeal.Facts] : Prop :=
  ∀ (m : (ℓ : Loc Cert.AdGuRefIdeal.nD Cert.AdGuRefIdeal.τ Cert.AdGuRefIdeal.sig) → Buf (Elt Ideal) ℓ) (g : Dev Cert.AdGuRefIdeal.nD → PrngReg), Pre_AdGuRefIdeal m →
    θ_run (Cert.AdGuRefIdeal.defs (F := Ideal)) (onTc (τ := Cert.AdGuRefIdeal.τ) (Cert.AdGuRefIdeal.main (F := Ideal))) ⟨m, fun _ => 0, g⟩ (fun r => (∀ c : Dev Cert.AdGuRefIdeal.nD,
      r.2.mem ((c.tc : Thread Cert.AdGuRefIdeal.nD Cert.AdGuRefIdeal.τ).loc Cert.AdGuRefIdeal.main_arg0) = m ((c.tc : Thread Cert.AdGuRefIdeal.nD Cert.AdGuRefIdeal.τ).loc Cert.AdGuRefIdeal.main_arg0)
      ∧ r.2.mem ((c.tc : Thread Cert.AdGuRefIdeal.nD Cert.AdGuRefIdeal.τ).loc Cert.AdGuRefIdeal.main_arg1) = m ((c.tc : Thread Cert.AdGuRefIdeal.nD Cert.AdGuRefIdeal.τ).loc Cert.AdGuRefIdeal.main_arg1)
      ∧ r.2.mem ((c.tc : Thread Cert.AdGuRefIdeal.nD Cert.AdGuRefIdeal.τ).loc Cert.AdGuRefIdeal.main_arg2) = m ((c.tc : Thread Cert.AdGuRefIdeal.nD Cert.AdGuRefIdeal.τ).loc Cert.AdGuRefIdeal.main_arg2)
      ∧ r.2.mem ((c.tc : Thread Cert.AdGuRefIdeal.nD Cert.AdGuRefIdeal.τ).loc Cert.AdGuRefIdeal.main_arg3) = m ((c.tc : Thread Cert.AdGuRefIdeal.nD Cert.AdGuRefIdeal.τ).loc Cert.AdGuRefIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownRefIdeal [hAdDownRefIdeal : Cert.AdDownRefIdeal.Facts] : Prop :=
  ∀ (m : (ℓ : Loc Cert.AdDownRefIdeal.nD Cert.AdDownRefIdeal.τ Cert.AdDownRefIdeal.sig) → Buf (Elt Ideal) ℓ) (g : Dev Cert.AdDownRefIdeal.nD → PrngReg), Pre_AdDownRefIdeal m →
    θ_run (Cert.AdDownRefIdeal.defs (F := Ideal)) (onTc (τ := Cert.AdDownRefIdeal.τ) (Cert.AdDownRefIdeal.main (F := Ideal))) ⟨m, fun _ => 0, g⟩ (fun r => (∀ c : Dev Cert.AdDownRefIdeal.nD,
      r.2.mem ((c.tc : Thread Cert.AdDownRefIdeal.nD Cert.AdDownRefIdeal.τ).loc Cert.AdDownRefIdeal.main_arg0) = m ((c.tc : Thread Cert.AdDownRefIdeal.nD Cert.AdDownRefIdeal.τ).loc Cert.AdDownRefIdeal.main_arg0)
      ∧ r.2.mem ((c.tc : Thread Cert.AdDownRefIdeal.nD Cert.AdDownRefIdeal.τ).loc Cert.AdDownRefIdeal.main_arg1) = m ((c.tc : Thread Cert.AdDownRefIdeal.nD Cert.AdDownRefIdeal.τ).loc Cert.AdDownRefIdeal.main_arg1)
      ∧ r.2.mem ((c.tc : Thread Cert.AdDownRefIdeal.nD Cert.AdDownRefIdeal.τ).loc Cert.AdDownRefIdeal.main_arg2) = m ((c.tc : Thread Cert.AdDownRefIdeal.nD Cert.AdDownRefIdeal.τ).loc Cert.AdDownRefIdeal.main_arg2)
      ∧ r.2.mem ((c.tc : Thread Cert.AdDownRefIdeal.nD Cert.AdDownRefIdeal.τ).loc Cert.AdDownRefIdeal.main_arg3) = m ((c.tc : Thread Cert.AdDownRefIdeal.nD Cert.AdDownRefIdeal.τ).loc Cert.AdDownRefIdeal.main_arg3))
      ∧ r.2.sem = fun _ => 0)

def quiescent_AdRel [hAdRel : Cert.AdRel.Facts] : Prop :=
  ∀ (m : (ℓ : Loc Cert.AdRel.nD Cert.AdRel.τ Cert.AdRel.sig) → Buf (Elt Bits) ℓ) (g : Dev Cert.AdRel.nD → PrngReg), Pre_AdRel m →
    θ_run (Cert.AdRel.defs (F := Bits)) (onTc (τ := Cert.AdRel.τ) (Cert.AdRel.main (F := Bits))) ⟨m, fun _ => 0, g⟩ (fun r => (∀ c : Dev Cert.AdRel.nD,
      r.2.mem ((c.tc : Thread Cert.AdRel.nD Cert.AdRel.τ).loc Cert.AdRel.main_arg0) = m ((c.tc : Thread Cert.AdRel.nD Cert.AdRel.τ).loc Cert.AdRel.main_arg0)
      ∧ r.2.mem ((c.tc : Thread Cert.AdRel.nD Cert.AdRel.τ).loc Cert.AdRel.main_arg1) = m ((c.tc : Thread Cert.AdRel.nD Cert.AdRel.τ).loc Cert.AdRel.main_arg1)
      ∧ r.2.mem ((c.tc : Thread Cert.AdRel.nD Cert.AdRel.τ).loc Cert.AdRel.main_arg2) = m ((c.tc : Thread Cert.AdRel.nD Cert.AdRel.τ).loc Cert.AdRel.main_arg2)
      ∧ r.2.mem ((c.tc : Thread Cert.AdRel.nD Cert.AdRel.τ).loc Cert.AdRel.main_arg3) = m ((c.tc : Thread Cert.AdRel.nD Cert.AdRel.τ).loc Cert.AdRel.main_arg3))
      ∧ r.2.sem = fun _ => 0)

def quiescent_AdRelIdeal [hAdRelIdeal : Cert.AdRelIdeal.Facts] : Prop :=
  ∀ (m : (ℓ : Loc Cert.AdRelIdeal.nD Cert.AdRelIdeal.τ Cert.AdRelIdeal.sig) → Buf (Elt Ideal) ℓ) (g : Dev Cert.AdRelIdeal.nD → PrngReg), Pre_AdRelIdeal m →
    θ_run (Cert.AdRelIdeal.defs (F := Ideal)) (onTc (τ := Cert.AdRelIdeal.τ) (Cert.AdRelIdeal.main (F := Ideal))) ⟨m, fun _ => 0, g⟩ (fun r => (∀ c : Dev Cert.AdRelIdeal.nD,
      r.2.mem ((c.tc : Thread Cert.AdRelIdeal.nD Cert.AdRelIdeal.τ).loc Cert.AdRelIdeal.main_arg0) = m ((c.tc : Thread Cert.AdRelIdeal.nD Cert.AdRelIdeal.τ).loc Cert.AdRelIdeal.main_arg0)
      ∧ r.2.mem ((c.tc : Thread Cert.AdRelIdeal.nD Cert.AdRelIdeal.τ).loc Cert.AdRelIdeal.main_arg1) = m ((c.tc : Thread Cert.AdRelIdeal.nD Cert.AdRelIdeal.τ).loc Cert.AdRelIdeal.main_arg1)
      ∧ r.2.mem ((c.tc : Thread Cert.AdRelIdeal.nD Cert.AdRelIdeal.τ).loc Cert.AdRelIdeal.main_arg2) = m ((c.tc : Thread Cert.AdRelIdeal.nD Cert.AdRelIdeal.τ).loc Cert.AdRelIdeal.main_arg2)
      ∧ r.2.mem ((c.tc : Thread Cert.AdRelIdeal.nD Cert.AdRelIdeal.τ).loc Cert.AdRelIdeal.main_arg3) = m ((c.tc : Thread Cert.AdRelIdeal.nD Cert.AdRelIdeal.τ).loc Cert.AdRelIdeal.main_arg3))
      ∧ r.2.sem = fun _ => 0)

def quiescent_AdRelRefIdeal [hAdRelRefIdeal : Cert.AdRelRefIdeal.Facts] : Prop :=
  ∀ (m : (ℓ : Loc Cert.AdRelRefIdeal.nD Cert.AdRelRefIdeal.τ Cert.AdRelRefIdeal.sig) → Buf (Elt Ideal) ℓ) (g : Dev Cert.AdRelRefIdeal.nD → PrngReg), Pre_AdRelRefIdeal m →
    θ_run (Cert.AdRelRefIdeal.defs (F := Ideal)) (onTc (τ := Cert.AdRelRefIdeal.τ) (Cert.AdRelRefIdeal.main (F := Ideal))) ⟨m, fun _ => 0, g⟩ (fun r => (∀ c : Dev Cert.AdRelRefIdeal.nD,
      r.2.mem ((c.tc : Thread Cert.AdRelRefIdeal.nD Cert.AdRelRefIdeal.τ).loc Cert.AdRelRefIdeal.main_arg0) = m ((c.tc : Thread Cert.AdRelRefIdeal.nD Cert.AdRelRefIdeal.τ).loc Cert.AdRelRefIdeal.main_arg0)
      ∧ r.2.mem ((c.tc : Thread Cert.AdRelRefIdeal.nD Cert.AdRelRefIdeal.τ).loc Cert.AdRelRefIdeal.main_arg1) = m ((c.tc : Thread Cert.AdRelRefIdeal.nD Cert.AdRelRefIdeal.τ).loc Cert.AdRelRefIdeal.main_arg1)
      ∧ r.2.mem ((c.tc : Thread Cert.AdRelRefIdeal.nD Cert.AdRelRefIdeal.τ).loc Cert.AdRelRefIdeal.main_arg2) = m ((c.tc : Thread Cert.AdRelRefIdeal.nD Cert.AdRelRefIdeal.τ).loc Cert.AdRelRefIdeal.main_arg2)
      ∧ r.2.mem ((c.tc : Thread Cert.AdRelRefIdeal.nD Cert.AdRelRefIdeal.τ).loc Cert.AdRelRefIdeal.main_arg3) = m ((c.tc : Thread Cert.AdRelRefIdeal.nD Cert.AdRelRefIdeal.τ).loc Cert.AdRelRefIdeal.main_arg3))
      ∧ r.2.sem = fun _ => 0)

def quiescent_AdFinal [hAdFinal : Cert.AdFinal.Facts] : Prop :=
  ∀ (m : (ℓ : Loc Cert.AdFinal.nD Cert.AdFinal.τ Cert.AdFinal.sig) → Buf (Elt Bits) ℓ) (g : Dev Cert.AdFinal.nD → PrngReg), Pre_AdFinal m →
    θ_run (Cert.AdFinal.defs (F := Bits)) (onTc (τ := Cert.AdFinal.τ) (Cert.AdFinal.main (F := Bits))) ⟨m, fun _ => 0, g⟩ (fun r => (∀ c : Dev Cert.AdFinal.nD,
      r.2.mem ((c.tc : Thread Cert.AdFinal.nD Cert.AdFinal.τ).loc Cert.AdFinal.main_arg0) = m ((c.tc : Thread Cert.AdFinal.nD Cert.AdFinal.τ).loc Cert.AdFinal.main_arg0)
      ∧ r.2.mem ((c.tc : Thread Cert.AdFinal.nD Cert.AdFinal.τ).loc Cert.AdFinal.main_arg1) = m ((c.tc : Thread Cert.AdFinal.nD Cert.AdFinal.τ).loc Cert.AdFinal.main_arg1)
      ∧ r.2.mem ((c.tc : Thread Cert.AdFinal.nD Cert.AdFinal.τ).loc Cert.AdFinal.main_arg2) = m ((c.tc : Thread Cert.AdFinal.nD Cert.AdFinal.τ).loc Cert.AdFinal.main_arg2)
      ∧ r.2.mem ((c.tc : Thread Cert.AdFinal.nD Cert.AdFinal.τ).loc Cert.AdFinal.main_arg3) = m ((c.tc : Thread Cert.AdFinal.nD Cert.AdFinal.τ).loc Cert.AdFinal.main_arg3))
      ∧ r.2.sem = fun _ => 0)

def quiescent_AdFinalIdeal [hAdFinalIdeal : Cert.AdFinalIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg), Pre_AdFinalIdeal m →
    θ_run (Cert.AdFinalIdeal.defs (F := Ideal)) (onTc (τ := Cert.AdFinalIdeal.τ) (Cert.AdFinalIdeal.main (F := Ideal))) ⟨m, fun _ => 0, g⟩ (fun r => (∀ c : Dev Cert.AdFinalIdeal.nD,
      r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
      ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
      ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
      ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ r.2.sem = fun _ => 0)

def quiescent_AdFinalRefIdeal [hAdFinalRefIdeal : Cert.AdFinalRefIdeal.Facts] : Prop :=
  ∀ (m : (ℓ : Loc Cert.AdFinalRefIdeal.nD Cert.AdFinalRefIdeal.τ Cert.AdFinalRefIdeal.sig) → Buf (Elt Ideal) ℓ) (g : Dev Cert.AdFinalRefIdeal.nD → PrngReg), Pre_AdFinalRefIdeal m →
    θ_run (Cert.AdFinalRefIdeal.defs (F := Ideal)) (onTc (τ := Cert.AdFinalRefIdeal.τ) (Cert.AdFinalRefIdeal.main (F := Ideal))) ⟨m, fun _ => 0, g⟩ (fun r => (∀ c : Dev Cert.AdFinalRefIdeal.nD,
      r.2.mem ((c.tc : Thread Cert.AdFinalRefIdeal.nD Cert.AdFinalRefIdeal.τ).loc Cert.AdFinalRefIdeal.main_arg0) = m ((c.tc : Thread Cert.AdFinalRefIdeal.nD Cert.AdFinalRefIdeal.τ).loc Cert.AdFinalRefIdeal.main_arg0)
      ∧ r.2.mem ((c.tc : Thread Cert.AdFinalRefIdeal.nD Cert.AdFinalRefIdeal.τ).loc Cert.AdFinalRefIdeal.main_arg1) = m ((c.tc : Thread Cert.AdFinalRefIdeal.nD Cert.AdFinalRefIdeal.τ).loc Cert.AdFinalRefIdeal.main_arg1)
      ∧ r.2.mem ((c.tc : Thread Cert.AdFinalRefIdeal.nD Cert.AdFinalRefIdeal.τ).loc Cert.AdFinalRefIdeal.main_arg2) = m ((c.tc : Thread Cert.AdFinalRefIdeal.nD Cert.AdFinalRefIdeal.τ).loc Cert.AdFinalRefIdeal.main_arg2)
      ∧ r.2.mem ((c.tc : Thread Cert.AdFinalRefIdeal.nD Cert.AdFinalRefIdeal.τ).loc Cert.AdFinalRefIdeal.main_arg3) = m ((c.tc : Thread Cert.AdFinalRefIdeal.nD Cert.AdFinalRefIdeal.τ).loc Cert.AdFinalRefIdeal.main_arg3))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_LossH [hLossH : Cert.LossH.Facts] : Prop :=
  ∀ (m : (ℓ : Loc Cert.LossH.nD Cert.LossH.τ Cert.LossH.sig) → Buf (Elt Bits) ℓ) (g : Dev Cert.LossH.nD → PrngReg), Pre_LossH m →
    θ_run (Cert.LossH.defs (F := Bits)) (onTc (τ := Cert.LossH.τ) (Cert.LossH.main (F := Bits))) ⟨m, fun _ => 0, g⟩ (fun r => (∀ c : Dev Cert.LossH.nD,
      r.2.mem ((c.tc : Thread Cert.LossH.nD Cert.LossH.τ).loc Cert.LossH.main_arg0) = m ((c.tc : Thread Cert.LossH.nD Cert.LossH.τ).loc Cert.LossH.main_arg0)
      ∧ r.2.mem ((c.tc : Thread Cert.LossH.nD Cert.LossH.τ).loc Cert.LossH.main_arg1) = m ((c.tc : Thread Cert.LossH.nD Cert.LossH.τ).loc Cert.LossH.main_arg1)
      ∧ r.2.mem ((c.tc : Thread Cert.LossH.nD Cert.LossH.τ).loc Cert.LossH.main_arg2) = m ((c.tc : Thread Cert.LossH.nD Cert.LossH.τ).loc Cert.LossH.main_arg2))
      ∧ r.2.sem = fun _ => 0)

def quiescent_LossHIdeal [hLossHIdeal : Cert.LossHIdeal.Facts] : Prop :=
  ∀ (m : (ℓ : Loc Cert.LossHIdeal.nD Cert.LossHIdeal.τ Cert.LossHIdeal.sig) → Buf (Elt Ideal) ℓ) (g : Dev Cert.LossHIdeal.nD → PrngReg), Pre_LossHIdeal m →
    θ_run (Cert.LossHIdeal.defs (F := Ideal)) (onTc (τ := Cert.LossHIdeal.τ) (Cert.LossHIdeal.main (F := Ideal))) ⟨m, fun _ => 0, g⟩ (fun r => (∀ c : Dev Cert.LossHIdeal.nD,
      r.2.mem ((c.tc : Thread Cert.LossHIdeal.nD Cert.LossHIdeal.τ).loc Cert.LossHIdeal.main_arg0) = m ((c.tc : Thread Cert.LossHIdeal.nD Cert.LossHIdeal.τ).loc Cert.LossHIdeal.main_arg0)
      ∧ r.2.mem ((c.tc : Thread Cert.LossHIdeal.nD Cert.LossHIdeal.τ).loc Cert.LossHIdeal.main_arg1) = m ((c.tc : Thread Cert.LossHIdeal.nD Cert.LossHIdeal.τ).loc Cert.LossHIdeal.main_arg1)
      ∧ r.2.mem ((c.tc : Thread Cert.LossHIdeal.nD Cert.LossHIdeal.τ).loc Cert.LossHIdeal.main_arg2) = m ((c.tc : Thread Cert.LossHIdeal.nD Cert.LossHIdeal.τ).loc Cert.LossHIdeal.main_arg2))
      ∧ r.2.sem = fun _ => 0)

def quiescent_LossHRefIdeal [hLossHRefIdeal : Cert.LossHRefIdeal.Facts] : Prop :=
  ∀ (m : (ℓ : Loc Cert.LossHRefIdeal.nD Cert.LossHRefIdeal.τ Cert.LossHRefIdeal.sig) → Buf (Elt Ideal) ℓ) (g : Dev Cert.LossHRefIdeal.nD → PrngReg), Pre_LossHRefIdeal m →
    θ_run (Cert.LossHRefIdeal.defs (F := Ideal)) (onTc (τ := Cert.LossHRefIdeal.τ) (Cert.LossHRefIdeal.main (F := Ideal))) ⟨m, fun _ => 0, g⟩ (fun r => (∀ c : Dev Cert.LossHRefIdeal.nD,
      r.2.mem ((c.tc : Thread Cert.LossHRefIdeal.nD Cert.LossHRefIdeal.τ).loc Cert.LossHRefIdeal.main_arg0) = m ((c.tc : Thread Cert.LossHRefIdeal.nD Cert.LossHRefIdeal.τ).loc Cert.LossHRefIdeal.main_arg0)
      ∧ r.2.mem ((c.tc : Thread Cert.LossHRefIdeal.nD Cert.LossHRefIdeal.τ).loc Cert.LossHRefIdeal.main_arg1) = m ((c.tc : Thread Cert.LossHRefIdeal.nD Cert.LossHRefIdeal.τ).loc Cert.LossHRefIdeal.main_arg1)
      ∧ r.2.mem ((c.tc : Thread Cert.LossHRefIdeal.nD Cert.LossHRefIdeal.τ).loc Cert.LossHRefIdeal.main_arg2) = m ((c.tc : Thread Cert.LossHRefIdeal.nD Cert.LossHRefIdeal.τ).loc Cert.LossHRefIdeal.main_arg2))
      ∧ r.2.sem = fun _ => 0)

def quiescent_SwiB [hSwiB : Cert.SwiB.Facts] : Prop :=
  ∀ (m : (ℓ : Loc Cert.SwiB.nD Cert.SwiB.τ Cert.SwiB.sig) → Buf (Elt Bits) ℓ) (g : Dev Cert.SwiB.nD → PrngReg), Pre_SwiB m →
    θ_run (Cert.SwiB.defs (F := Bits)) (onTc (τ := Cert.SwiB.τ) (Cert.SwiB.main (F := Bits))) ⟨m, fun _ => 0, g⟩ (fun r => (∀ c : Dev Cert.SwiB.nD,
      r.2.mem ((c.tc : Thread Cert.SwiB.nD Cert.SwiB.τ).loc Cert.SwiB.main_arg0) = m ((c.tc : Thread Cert.SwiB.nD Cert.SwiB.τ).loc Cert.SwiB.main_arg0)
      ∧ r.2.mem ((c.tc : Thread Cert.SwiB.nD Cert.SwiB.τ).loc Cert.SwiB.main_arg1) = m ((c.tc : Thread Cert.SwiB.nD Cert.SwiB.τ).loc Cert.SwiB.main_arg1))
      ∧ r.2.sem = fun _ => 0)

def quiescent_SwiBIdeal [hSwiBIdeal : Cert.SwiBIdeal.Facts] : Prop :=
  ∀ (m : (ℓ : Loc Cert.SwiBIdeal.nD Cert.SwiBIdeal.τ Cert.SwiBIdeal.sig) → Buf (Elt Ideal) ℓ) (g : Dev Cert.SwiBIdeal.nD → PrngReg), Pre_SwiBIdeal m →
    θ_run (Cert.SwiBIdeal.defs (F := Ideal)) (onTc (τ := Cert.SwiBIdeal.τ) (Cert.SwiBIdeal.main (F := Ideal))) ⟨m, fun _ => 0, g⟩ (fun r => (∀ c : Dev Cert.SwiBIdeal.nD,
      r.2.mem ((c.tc : Thread Cert.SwiBIdeal.nD Cert.SwiBIdeal.τ).loc Cert.SwiBIdeal.main_arg0) = m ((c.tc : Thread Cert.SwiBIdeal.nD Cert.SwiBIdeal.τ).loc Cert.SwiBIdeal.main_arg0)
      ∧ r.2.mem ((c.tc : Thread Cert.SwiBIdeal.nD Cert.SwiBIdeal.τ).loc Cert.SwiBIdeal.main_arg1) = m ((c.tc : Thread Cert.SwiBIdeal.nD Cert.SwiBIdeal.τ).loc Cert.SwiBIdeal.main_arg1))
      ∧ r.2.sem = fun _ => 0)

def quiescent_SwiBIdeal_pre_finite [hSwiBIdeal : Cert.SwiBIdeal.Facts] [hPre_finite : Cert.Pre_finite.Facts] : Prop :=
  ∀ (m : (ℓ : Loc Cert.SwiBIdeal.nD Cert.SwiBIdeal.τ Cert.SwiBIdeal.sig) → Buf (Elt Ideal) ℓ) (g : Dev Cert.SwiBIdeal.nD → PrngReg), Pre_SwiBIdeal_finite m →
    θ_run (Cert.SwiBIdeal.defs (F := Ideal)) (onTc (τ := Cert.SwiBIdeal.τ) (Cert.SwiBIdeal.main (F := Ideal))) ⟨m, fun _ => 0, g⟩ (fun r => (∀ c : Dev Cert.SwiBIdeal.nD,
      r.2.mem ((c.tc : Thread Cert.SwiBIdeal.nD Cert.SwiBIdeal.τ).loc Cert.SwiBIdeal.main_arg0) = m ((c.tc : Thread Cert.SwiBIdeal.nD Cert.SwiBIdeal.τ).loc Cert.SwiBIdeal.main_arg0)
      ∧ r.2.mem ((c.tc : Thread Cert.SwiBIdeal.nD Cert.SwiBIdeal.τ).loc Cert.SwiBIdeal.main_arg1) = m ((c.tc : Thread Cert.SwiBIdeal.nD Cert.SwiBIdeal.τ).loc Cert.SwiBIdeal.main_arg1))
      ∧ r.2.sem = fun _ => 0)

def quiescent_SwiBRefIdeal [hSwiBRefIdeal : Cert.SwiBRefIdeal.Facts] : Prop :=
  ∀ (m : (ℓ : Loc Cert.SwiBRefIdeal.nD Cert.SwiBRefIdeal.τ Cert.SwiBRefIdeal.sig) → Buf (Elt Ideal) ℓ) (g : Dev Cert.SwiBRefIdeal.nD → PrngReg), Pre_SwiBRefIdeal m →
    θ_run (Cert.SwiBRefIdeal.defs (F := Ideal)) (onTc (τ := Cert.SwiBRefIdeal.τ) (Cert.SwiBRefIdeal.main (F := Ideal))) ⟨m, fun _ => 0, g⟩ (fun r => (∀ c : Dev Cert.SwiBRefIdeal.nD,
      r.2.mem ((c.tc : Thread Cert.SwiBRefIdeal.nD Cert.SwiBRefIdeal.τ).loc Cert.SwiBRefIdeal.main_arg0) = m ((c.tc : Thread Cert.SwiBRefIdeal.nD Cert.SwiBRefIdeal.τ).loc Cert.SwiBRefIdeal.main_arg0)
      ∧ r.2.mem ((c.tc : Thread Cert.SwiBRefIdeal.nD Cert.SwiBRefIdeal.τ).loc Cert.SwiBRefIdeal.main_arg1) = m ((c.tc : Thread Cert.SwiBRefIdeal.nD Cert.SwiBRefIdeal.τ).loc Cert.SwiBRefIdeal.main_arg1))
      ∧ r.2.sem = fun _ => 0)

def quiescent_SwiBRefIdeal_pre_finite [hSwiBRefIdeal : Cert.SwiBRefIdeal.Facts] [hPre_finite : Cert.Pre_finite.Facts] : Prop :=
  ∀ (m : (ℓ : Loc Cert.SwiBRefIdeal.nD Cert.SwiBRefIdeal.τ Cert.SwiBRefIdeal.sig) → Buf (Elt Ideal) ℓ) (g : Dev Cert.SwiBRefIdeal.nD → PrngReg), Pre_SwiBRefIdeal_finite m →
    θ_run (Cert.SwiBRefIdeal.defs (F := Ideal)) (onTc (τ := Cert.SwiBRefIdeal.τ) (Cert.SwiBRefIdeal.main (F := Ideal))) ⟨m, fun _ => 0, g⟩ (fun r => (∀ c : Dev Cert.SwiBRefIdeal.nD,
      r.2.mem ((c.tc : Thread Cert.SwiBRefIdeal.nD Cert.SwiBRefIdeal.τ).loc Cert.SwiBRefIdeal.main_arg0) = m ((c.tc : Thread Cert.SwiBRefIdeal.nD Cert.SwiBRefIdeal.τ).loc Cert.SwiBRefIdeal.main_arg0)
      ∧ r.2.mem ((c.tc : Thread Cert.SwiBRefIdeal.nD Cert.SwiBRefIdeal.τ).loc Cert.SwiBRefIdeal.main_arg1) = m ((c.tc : Thread Cert.SwiBRefIdeal.nD Cert.SwiBRefIdeal.τ).loc Cert.SwiBRefIdeal.main_arg1))
      ∧ r.2.sem = fun _ => 0)

def quiescent_SwiF [hSwiF : Cert.SwiF.Facts] : Prop :=
  ∀ (m : (ℓ : Loc Cert.SwiF.nD Cert.SwiF.τ Cert.SwiF.sig) → Buf (Elt Bits) ℓ) (g : Dev Cert.SwiF.nD → PrngReg), Pre_SwiF m →
    θ_run (Cert.SwiF.defs (F := Bits)) (onTc (τ := Cert.SwiF.τ) (Cert.SwiF.main (F := Bits))) ⟨m, fun _ => 0, g⟩ (fun r => (∀ c : Dev Cert.SwiF.nD,
      r.2.mem ((c.tc : Thread Cert.SwiF.nD Cert.SwiF.τ).loc Cert.SwiF.main_arg0) = m ((c.tc : Thread Cert.SwiF.nD Cert.SwiF.τ).loc Cert.SwiF.main_arg0))
      ∧ r.2.sem = fun _ => 0)

def quiescent_SwiFIdeal [hSwiFIdeal : Cert.SwiFIdeal.Facts] : Prop :=
  ∀ (m : (ℓ : Loc Cert.SwiFIdeal.nD Cert.SwiFIdeal.τ Cert.SwiFIdeal.sig) → Buf (Elt Ideal) ℓ) (g : Dev Cert.SwiFIdeal.nD → PrngReg), Pre_SwiFIdeal m →
    θ_run (Cert.SwiFIdeal.defs (F := Ideal)) (onTc (τ := Cert.SwiFIdeal.τ) (Cert.SwiFIdeal.main (F := Ideal))) ⟨m, fun _ => 0, g⟩ (fun r => (∀ c : Dev Cert.SwiFIdeal.nD,
      r.2.mem ((c.tc : Thread Cert.SwiFIdeal.nD Cert.SwiFIdeal.τ).loc Cert.SwiFIdeal.main_arg0) = m ((c.tc : Thread Cert.SwiFIdeal.nD Cert.SwiFIdeal.τ).loc Cert.SwiFIdeal.main_arg0))
      ∧ r.2.sem = fun _ => 0)

def quiescent_SwiFRefIdeal [hSwiFRefIdeal : Cert.SwiFRefIdeal.Facts] : Prop :=
  ∀ (m : (ℓ : Loc Cert.SwiFRefIdeal.nD Cert.SwiFRefIdeal.τ Cert.SwiFRefIdeal.sig) → Buf (Elt Ideal) ℓ) (g : Dev Cert.SwiFRefIdeal.nD → PrngReg), Pre_SwiFRefIdeal m →
    θ_run (Cert.SwiFRefIdeal.defs (F := Ideal)) (onTc (τ := Cert.SwiFRefIdeal.τ) (Cert.SwiFRefIdeal.main (F := Ideal))) ⟨m, fun _ => 0, g⟩ (fun r => (∀ c : Dev Cert.SwiFRefIdeal.nD,
      r.2.mem ((c.tc : Thread Cert.SwiFRefIdeal.nD Cert.SwiFRefIdeal.τ).loc Cert.SwiFRefIdeal.main_arg0) = m ((c.tc : Thread Cert.SwiFRefIdeal.nD Cert.SwiFRefIdeal.τ).loc Cert.SwiFRefIdeal.main_arg0))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2)
      ∧ r.2.mem ((c.tc : Thread Cert.MergeFRefIdeal.nD Cert.MergeFRefIdeal.τ).loc Cert.MergeFRefIdeal.main_arg3) = m ((c.tc : Thread Cert.MergeFRefIdeal.nD Cert.MergeFRefIdeal.τ).loc Cert.MergeFRefIdeal.main_arg3)
      ∧ r.2.mem ((c.tc : Thread Cert.MergeFRefIdeal.nD Cert.MergeFRefIdeal.τ).loc Cert.MergeFRefIdeal.main_arg4) = m ((c.tc : Thread Cert.MergeFRefIdeal.nD Cert.MergeFRefIdeal.τ).loc Cert.MergeFRefIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_ChipA [hChipA : Cert.ChipA.Facts] : Prop :=
  ∀ (m : (ℓ : Loc Cert.ChipA.nD Cert.ChipA.τ Cert.ChipA.sig) → Buf (Elt Bits) ℓ) (g : Dev Cert.ChipA.nD → PrngReg), Pre_ChipA m →
    θ_run (Cert.ChipA.defs (F := Bits)) (onTc (τ := Cert.ChipA.τ) (Cert.ChipA.main (F := Bits))) ⟨m, fun _ => 0, g⟩ (fun r => (∀ c : Dev Cert.ChipA.nD,
      r.2.mem ((c.tc : Thread Cert.ChipA.nD Cert.ChipA.τ).loc Cert.ChipA.main_arg0) = m ((c.tc : Thread Cert.ChipA.nD Cert.ChipA.τ).loc Cert.ChipA.main_arg0)
      ∧ r.2.mem ((c.tc : Thread Cert.ChipA.nD Cert.ChipA.τ).loc Cert.ChipA.main_arg1) = m ((c.tc : Thread Cert.ChipA.nD Cert.ChipA.τ).loc Cert.ChipA.main_arg1))
      ∧ r.2.sem = fun _ => 0)

def quiescent_ChipAIdeal [hChipAIdeal : Cert.ChipAIdeal.Facts] : Prop :=
  ∀ (m : (ℓ : Loc Cert.ChipAIdeal.nD Cert.ChipAIdeal.τ Cert.ChipAIdeal.sig) → Buf (Elt Ideal) ℓ) (g : Dev Cert.ChipAIdeal.nD → PrngReg), Pre_ChipAIdeal m →
    θ_run (Cert.ChipAIdeal.defs (F := Ideal)) (onTc (τ := Cert.ChipAIdeal.τ) (Cert.ChipAIdeal.main (F := Ideal))) ⟨m, fun _ => 0, g⟩ (fun r => (∀ c : Dev Cert.ChipAIdeal.nD,
      r.2.mem ((c.tc : Thread Cert.ChipAIdeal.nD Cert.ChipAIdeal.τ).loc Cert.ChipAIdeal.main_arg0) = m ((c.tc : Thread Cert.ChipAIdeal.nD Cert.ChipAIdeal.τ).loc Cert.ChipAIdeal.main_arg0)
      ∧ r.2.mem ((c.tc : Thread Cert.ChipAIdeal.nD Cert.ChipAIdeal.τ).loc Cert.ChipAIdeal.main_arg1) = m ((c.tc : Thread Cert.ChipAIdeal.nD Cert.ChipAIdeal.τ).loc Cert.ChipAIdeal.main_arg1))
      ∧ r.2.sem = fun _ => 0)

def quiescent_ChipARefIdeal [hChipARefIdeal : Cert.ChipARefIdeal.Facts] : Prop :=
  ∀ (m : (ℓ : Loc Cert.ChipARefIdeal.nD Cert.ChipARefIdeal.τ Cert.ChipARefIdeal.sig) → Buf (Elt Ideal) ℓ) (g : Dev Cert.ChipARefIdeal.nD → PrngReg), Pre_ChipARefIdeal m →
    θ_run (Cert.ChipARefIdeal.defs (F := Ideal)) (onTc (τ := Cert.ChipARefIdeal.τ) (Cert.ChipARefIdeal.main (F := Ideal))) ⟨m, fun _ => 0, g⟩ (fun r => (∀ c : Dev Cert.ChipARefIdeal.nD,
      r.2.mem ((c.tc : Thread Cert.ChipARefIdeal.nD Cert.ChipARefIdeal.τ).loc Cert.ChipARefIdeal.main_arg0) = m ((c.tc : Thread Cert.ChipARefIdeal.nD Cert.ChipARefIdeal.τ).loc Cert.ChipARefIdeal.main_arg0)
      ∧ r.2.mem ((c.tc : Thread Cert.ChipARefIdeal.nD Cert.ChipARefIdeal.τ).loc Cert.ChipARefIdeal.main_arg1) = m ((c.tc : Thread Cert.ChipARefIdeal.nD Cert.ChipARefIdeal.τ).loc Cert.ChipARefIdeal.main_arg1))
      ∧ r.2.sem = fun _ => 0)

def quiescent_ChipB [hChipB : Cert.ChipB.Facts] : Prop :=
  ∀ (m : (ℓ : Loc Cert.ChipB.nD Cert.ChipB.τ Cert.ChipB.sig) → Buf (Elt Bits) ℓ) (g : Dev Cert.ChipB.nD → PrngReg), Pre_ChipB m →
    θ_run (Cert.ChipB.defs (F := Bits)) (onTc (τ := Cert.ChipB.τ) (Cert.ChipB.main (F := Bits))) ⟨m, fun _ => 0, g⟩ (fun r => (∀ c : Dev Cert.ChipB.nD,
      r.2.mem ((c.tc : Thread Cert.ChipB.nD Cert.ChipB.τ).loc Cert.ChipB.main_arg0) = m ((c.tc : Thread Cert.ChipB.nD Cert.ChipB.τ).loc Cert.ChipB.main_arg0)
      ∧ r.2.mem ((c.tc : Thread Cert.ChipB.nD Cert.ChipB.τ).loc Cert.ChipB.main_arg1) = m ((c.tc : Thread Cert.ChipB.nD Cert.ChipB.τ).loc Cert.ChipB.main_arg1))
      ∧ r.2.sem = fun _ => 0)

def quiescent_ChipBIdeal [hChipBIdeal : Cert.ChipBIdeal.Facts] : Prop :=
  ∀ (m : (ℓ : Loc Cert.ChipBIdeal.nD Cert.ChipBIdeal.τ Cert.ChipBIdeal.sig) → Buf (Elt Ideal) ℓ) (g : Dev Cert.ChipBIdeal.nD → PrngReg), Pre_ChipBIdeal m →
    θ_run (Cert.ChipBIdeal.defs (F := Ideal)) (onTc (τ := Cert.ChipBIdeal.τ) (Cert.ChipBIdeal.main (F := Ideal))) ⟨m, fun _ => 0, g⟩ (fun r => (∀ c : Dev Cert.ChipBIdeal.nD,
      r.2.mem ((c.tc : Thread Cert.ChipBIdeal.nD Cert.ChipBIdeal.τ).loc Cert.ChipBIdeal.main_arg0) = m ((c.tc : Thread Cert.ChipBIdeal.nD Cert.ChipBIdeal.τ).loc Cert.ChipBIdeal.main_arg0)
      ∧ r.2.mem ((c.tc : Thread Cert.ChipBIdeal.nD Cert.ChipBIdeal.τ).loc Cert.ChipBIdeal.main_arg1) = m ((c.tc : Thread Cert.ChipBIdeal.nD Cert.ChipBIdeal.τ).loc Cert.ChipBIdeal.main_arg1))
      ∧ r.2.sem = fun _ => 0)

def quiescent_ChipBRefIdeal [hChipBRefIdeal : Cert.ChipBRefIdeal.Facts] : Prop :=
  ∀ (m : (ℓ : Loc Cert.ChipBRefIdeal.nD Cert.ChipBRefIdeal.τ Cert.ChipBRefIdeal.sig) → Buf (Elt Ideal) ℓ) (g : Dev Cert.ChipBRefIdeal.nD → PrngReg), Pre_ChipBRefIdeal m →
    θ_run (Cert.ChipBRefIdeal.defs (F := Ideal)) (onTc (τ := Cert.ChipBRefIdeal.τ) (Cert.ChipBRefIdeal.main (F := Ideal))) ⟨m, fun _ => 0, g⟩ (fun r => (∀ c : Dev Cert.ChipBRefIdeal.nD,
      r.2.mem ((c.tc : Thread Cert.ChipBRefIdeal.nD Cert.ChipBRefIdeal.τ).loc Cert.ChipBRefIdeal.main_arg0) = m ((c.tc : Thread Cert.ChipBRefIdeal.nD Cert.ChipBRefIdeal.τ).loc Cert.ChipBRefIdeal.main_arg0)
      ∧ r.2.mem ((c.tc : Thread Cert.ChipBRefIdeal.nD Cert.ChipBRefIdeal.τ).loc Cert.ChipBRefIdeal.main_arg1) = m ((c.tc : Thread Cert.ChipBRefIdeal.nD Cert.ChipBRefIdeal.τ).loc Cert.ChipBRefIdeal.main_arg1))
      ∧ r.2.sem = fun _ => 0)

def quiescent_ChipC [hChipC : Cert.ChipC.Facts] : Prop :=
  ∀ (m : (ℓ : Loc Cert.ChipC.nD Cert.ChipC.τ Cert.ChipC.sig) → Buf (Elt Bits) ℓ) (g : Dev Cert.ChipC.nD → PrngReg), Pre_ChipC m →
    θ_run (Cert.ChipC.defs (F := Bits)) (onTc (τ := Cert.ChipC.τ) (Cert.ChipC.main (F := Bits))) ⟨m, fun _ => 0, g⟩ (fun r => (∀ c : Dev Cert.ChipC.nD,
      r.2.mem ((c.tc : Thread Cert.ChipC.nD Cert.ChipC.τ).loc Cert.ChipC.main_arg0) = m ((c.tc : Thread Cert.ChipC.nD Cert.ChipC.τ).loc Cert.ChipC.main_arg0)
      ∧ r.2.mem ((c.tc : Thread Cert.ChipC.nD Cert.ChipC.τ).loc Cert.ChipC.main_arg1) = m ((c.tc : Thread Cert.ChipC.nD Cert.ChipC.τ).loc Cert.ChipC.main_arg1))
      ∧ r.2.sem = fun _ => 0)

def quiescent_ChipCIdeal [hChipCIdeal : Cert.ChipCIdeal.Facts] : Prop :=
  ∀ (m : (ℓ : Loc Cert.ChipCIdeal.nD Cert.ChipCIdeal.τ Cert.ChipCIdeal.sig) → Buf (Elt Ideal) ℓ) (g : Dev Cert.ChipCIdeal.nD → PrngReg), Pre_ChipCIdeal m →
    θ_run (Cert.ChipCIdeal.defs (F := Ideal)) (onTc (τ := Cert.ChipCIdeal.τ) (Cert.ChipCIdeal.main (F := Ideal))) ⟨m, fun _ => 0, g⟩ (fun r => (∀ c : Dev Cert.ChipCIdeal.nD,
      r.2.mem ((c.tc : Thread Cert.ChipCIdeal.nD Cert.ChipCIdeal.τ).loc Cert.ChipCIdeal.main_arg0) = m ((c.tc : Thread Cert.ChipCIdeal.nD Cert.ChipCIdeal.τ).loc Cert.ChipCIdeal.main_arg0)
      ∧ r.2.mem ((c.tc : Thread Cert.ChipCIdeal.nD Cert.ChipCIdeal.τ).loc Cert.ChipCIdeal.main_arg1) = m ((c.tc : Thread Cert.ChipCIdeal.nD Cert.ChipCIdeal.τ).loc Cert.ChipCIdeal.main_arg1))
      ∧ r.2.sem = fun _ => 0)

def quiescent_ChipCRefIdeal [hChipCRefIdeal : Cert.ChipCRefIdeal.Facts] : Prop :=
  ∀ (m : (ℓ : Loc Cert.ChipCRefIdeal.nD Cert.ChipCRefIdeal.τ Cert.ChipCRefIdeal.sig) → Buf (Elt Ideal) ℓ) (g : Dev Cert.ChipCRefIdeal.nD → PrngReg), Pre_ChipCRefIdeal m →
    θ_run (Cert.ChipCRefIdeal.defs (F := Ideal)) (onTc (τ := Cert.ChipCRefIdeal.τ) (Cert.ChipCRefIdeal.main (F := Ideal))) ⟨m, fun _ => 0, g⟩ (fun r => (∀ c : Dev Cert.ChipCRefIdeal.nD,
      r.2.mem ((c.tc : Thread Cert.ChipCRefIdeal.nD Cert.ChipCRefIdeal.τ).loc Cert.ChipCRefIdeal.main_arg0) = m ((c.tc : Thread Cert.ChipCRefIdeal.nD Cert.ChipCRefIdeal.τ).loc Cert.ChipCRefIdeal.main_arg0)
      ∧ r.2.mem ((c.tc : Thread Cert.ChipCRefIdeal.nD Cert.ChipCRefIdeal.τ).loc Cert.ChipCRefIdeal.main_arg1) = m ((c.tc : Thread Cert.ChipCRefIdeal.nD Cert.ChipCRefIdeal.τ).loc Cert.ChipCRefIdeal.main_arg1))
      ∧ r.2.sem = fun _ => 0)

def quiescent_ChipD [hChipD : Cert.ChipD.Facts] : Prop :=
  ∀ (m : (ℓ : Loc Cert.ChipD.nD Cert.ChipD.τ Cert.ChipD.sig) → Buf (Elt Bits) ℓ) (g : Dev Cert.ChipD.nD → PrngReg), Pre_ChipD m →
    θ_run (Cert.ChipD.defs (F := Bits)) (onTc (τ := Cert.ChipD.τ) (Cert.ChipD.main (F := Bits))) ⟨m, fun _ => 0, g⟩ (fun r => (∀ c : Dev Cert.ChipD.nD,
      r.2.mem ((c.tc : Thread Cert.ChipD.nD Cert.ChipD.τ).loc Cert.ChipD.main_arg0) = m ((c.tc : Thread Cert.ChipD.nD Cert.ChipD.τ).loc Cert.ChipD.main_arg0)
      ∧ r.2.mem ((c.tc : Thread Cert.ChipD.nD Cert.ChipD.τ).loc Cert.ChipD.main_arg1) = m ((c.tc : Thread Cert.ChipD.nD Cert.ChipD.τ).loc Cert.ChipD.main_arg1))
      ∧ r.2.sem = fun _ => 0)

def quiescent_ChipDIdeal [hChipDIdeal : Cert.ChipDIdeal.Facts] : Prop :=
  ∀ (m : (ℓ : Loc Cert.ChipDIdeal.nD Cert.ChipDIdeal.τ Cert.ChipDIdeal.sig) → Buf (Elt Ideal) ℓ) (g : Dev Cert.ChipDIdeal.nD → PrngReg), Pre_ChipDIdeal m →
    θ_run (Cert.ChipDIdeal.defs (F := Ideal)) (onTc (τ := Cert.ChipDIdeal.τ) (Cert.ChipDIdeal.main (F := Ideal))) ⟨m, fun _ => 0, g⟩ (fun r => (∀ c : Dev Cert.ChipDIdeal.nD,
      r.2.mem ((c.tc : Thread Cert.ChipDIdeal.nD Cert.ChipDIdeal.τ).loc Cert.ChipDIdeal.main_arg0) = m ((c.tc : Thread Cert.ChipDIdeal.nD Cert.ChipDIdeal.τ).loc Cert.ChipDIdeal.main_arg0)
      ∧ r.2.mem ((c.tc : Thread Cert.ChipDIdeal.nD Cert.ChipDIdeal.τ).loc Cert.ChipDIdeal.main_arg1) = m ((c.tc : Thread Cert.ChipDIdeal.nD Cert.ChipDIdeal.τ).loc Cert.ChipDIdeal.main_arg1))
      ∧ r.2.sem = fun _ => 0)

def quiescent_ChipDRefIdeal [hChipDRefIdeal : Cert.ChipDRefIdeal.Facts] : Prop :=
  ∀ (m : (ℓ : Loc Cert.ChipDRefIdeal.nD Cert.ChipDRefIdeal.τ Cert.ChipDRefIdeal.sig) → Buf (Elt Ideal) ℓ) (g : Dev Cert.ChipDRefIdeal.nD → PrngReg), Pre_ChipDRefIdeal m →
    θ_run (Cert.ChipDRefIdeal.defs (F := Ideal)) (onTc (τ := Cert.ChipDRefIdeal.τ) (Cert.ChipDRefIdeal.main (F := Ideal))) ⟨m, fun _ => 0, g⟩ (fun r => (∀ c : Dev Cert.ChipDRefIdeal.nD,
      r.2.mem ((c.tc : Thread Cert.ChipDRefIdeal.nD Cert.ChipDRefIdeal.τ).loc Cert.ChipDRefIdeal.main_arg0) = m ((c.tc : Thread Cert.ChipDRefIdeal.nD Cert.ChipDRefIdeal.τ).loc Cert.ChipDRefIdeal.main_arg0)
      ∧ r.2.mem ((c.tc : Thread Cert.ChipDRefIdeal.nD Cert.ChipDRefIdeal.τ).loc Cert.ChipDRefIdeal.main_arg1) = m ((c.tc : Thread Cert.ChipDRefIdeal.nD Cert.ChipDRefIdeal.τ).loc Cert.ChipDRefIdeal.main_arg1))
      ∧ r.2.sem = fun _ => 0)

def quiescent_ChipE [hChipE : Cert.ChipE.Facts] : Prop :=
  ∀ (m : (ℓ : Loc Cert.ChipE.nD Cert.ChipE.τ Cert.ChipE.sig) → Buf (Elt Bits) ℓ) (g : Dev Cert.ChipE.nD → PrngReg), Pre_ChipE m →
    θ_run (Cert.ChipE.defs (F := Bits)) (onTc (τ := Cert.ChipE.τ) (Cert.ChipE.main (F := Bits))) ⟨m, fun _ => 0, g⟩ (fun r => (∀ c : Dev Cert.ChipE.nD,
      r.2.mem ((c.tc : Thread Cert.ChipE.nD Cert.ChipE.τ).loc Cert.ChipE.main_arg0) = m ((c.tc : Thread Cert.ChipE.nD Cert.ChipE.τ).loc Cert.ChipE.main_arg0)
      ∧ r.2.mem ((c.tc : Thread Cert.ChipE.nD Cert.ChipE.τ).loc Cert.ChipE.main_arg1) = m ((c.tc : Thread Cert.ChipE.nD Cert.ChipE.τ).loc Cert.ChipE.main_arg1))
      ∧ r.2.sem = fun _ => 0)

def quiescent_ChipEIdeal [hChipEIdeal : Cert.ChipEIdeal.Facts] : Prop :=
  ∀ (m : (ℓ : Loc Cert.ChipEIdeal.nD Cert.ChipEIdeal.τ Cert.ChipEIdeal.sig) → Buf (Elt Ideal) ℓ) (g : Dev Cert.ChipEIdeal.nD → PrngReg), Pre_ChipEIdeal m →
    θ_run (Cert.ChipEIdeal.defs (F := Ideal)) (onTc (τ := Cert.ChipEIdeal.τ) (Cert.ChipEIdeal.main (F := Ideal))) ⟨m, fun _ => 0, g⟩ (fun r => (∀ c : Dev Cert.ChipEIdeal.nD,
      r.2.mem ((c.tc : Thread Cert.ChipEIdeal.nD Cert.ChipEIdeal.τ).loc Cert.ChipEIdeal.main_arg0) = m ((c.tc : Thread Cert.ChipEIdeal.nD Cert.ChipEIdeal.τ).loc Cert.ChipEIdeal.main_arg0)
      ∧ r.2.mem ((c.tc : Thread Cert.ChipEIdeal.nD Cert.ChipEIdeal.τ).loc Cert.ChipEIdeal.main_arg1) = m ((c.tc : Thread Cert.ChipEIdeal.nD Cert.ChipEIdeal.τ).loc Cert.ChipEIdeal.main_arg1))
      ∧ r.2.sem = fun _ => 0)

def quiescent_ChipERefIdeal [hChipERefIdeal : Cert.ChipERefIdeal.Facts] : Prop :=
  ∀ (m : (ℓ : Loc Cert.ChipERefIdeal.nD Cert.ChipERefIdeal.τ Cert.ChipERefIdeal.sig) → Buf (Elt Ideal) ℓ) (g : Dev Cert.ChipERefIdeal.nD → PrngReg), Pre_ChipERefIdeal m →
    θ_run (Cert.ChipERefIdeal.defs (F := Ideal)) (onTc (τ := Cert.ChipERefIdeal.τ) (Cert.ChipERefIdeal.main (F := Ideal))) ⟨m, fun _ => 0, g⟩ (fun r => (∀ c : Dev Cert.ChipERefIdeal.nD,
      r.2.mem ((c.tc : Thread Cert.ChipERefIdeal.nD Cert.ChipERefIdeal.τ).loc Cert.ChipERefIdeal.main_arg0) = m ((c.tc : Thread Cert.ChipERefIdeal.nD Cert.ChipERefIdeal.τ).loc Cert.ChipERefIdeal.main_arg0)
      ∧ r.2.mem ((c.tc : Thread Cert.ChipERefIdeal.nD Cert.ChipERefIdeal.τ).loc Cert.ChipERefIdeal.main_arg1) = m ((c.tc : Thread Cert.ChipERefIdeal.nD Cert.ChipERefIdeal.τ).loc Cert.ChipERefIdeal.main_arg1))
      ∧ r.2.sem = fun _ => 0)

def quiescent_ChipI [hChipI : Cert.ChipI.Facts] : Prop :=
  ∀ (m : (ℓ : Loc Cert.ChipI.nD Cert.ChipI.τ Cert.ChipI.sig) → Buf (Elt Bits) ℓ) (g : Dev Cert.ChipI.nD → PrngReg), Pre_ChipI m →
    θ_run (Cert.ChipI.defs (F := Bits)) (onTc (τ := Cert.ChipI.τ) (Cert.ChipI.main (F := Bits))) ⟨m, fun _ => 0, g⟩ (fun r => (∀ c : Dev Cert.ChipI.nD,
      r.2.mem ((c.tc : Thread Cert.ChipI.nD Cert.ChipI.τ).loc Cert.ChipI.main_arg0) = m ((c.tc : Thread Cert.ChipI.nD Cert.ChipI.τ).loc Cert.ChipI.main_arg0)
      ∧ r.2.mem ((c.tc : Thread Cert.ChipI.nD Cert.ChipI.τ).loc Cert.ChipI.main_arg1) = m ((c.tc : Thread Cert.ChipI.nD Cert.ChipI.τ).loc Cert.ChipI.main_arg1))
      ∧ r.2.sem = fun _ => 0)

def quiescent_ChipIIdeal [hChipIIdeal : Cert.ChipIIdeal.Facts] : Prop :=
  ∀ (m : (ℓ : Loc Cert.ChipIIdeal.nD Cert.ChipIIdeal.τ Cert.ChipIIdeal.sig) → Buf (Elt Ideal) ℓ) (g : Dev Cert.ChipIIdeal.nD → PrngReg), Pre_ChipIIdeal m →
    θ_run (Cert.ChipIIdeal.defs (F := Ideal)) (onTc (τ := Cert.ChipIIdeal.τ) (Cert.ChipIIdeal.main (F := Ideal))) ⟨m, fun _ => 0, g⟩ (fun r => (∀ c : Dev Cert.ChipIIdeal.nD,
      r.2.mem ((c.tc : Thread Cert.ChipIIdeal.nD Cert.ChipIIdeal.τ).loc Cert.ChipIIdeal.main_arg0) = m ((c.tc : Thread Cert.ChipIIdeal.nD Cert.ChipIIdeal.τ).loc Cert.ChipIIdeal.main_arg0)
      ∧ r.2.mem ((c.tc : Thread Cert.ChipIIdeal.nD Cert.ChipIIdeal.τ).loc Cert.ChipIIdeal.main_arg1) = m ((c.tc : Thread Cert.ChipIIdeal.nD Cert.ChipIIdeal.τ).loc Cert.ChipIIdeal.main_arg1))
      ∧ r.2.sem = fun _ => 0)

def quiescent_ChipIRefIdeal [hChipIRefIdeal : Cert.ChipIRefIdeal.Facts] : Prop :=
  ∀ (m : (ℓ : Loc Cert.ChipIRefIdeal.nD Cert.ChipIRefIdeal.τ Cert.ChipIRefIdeal.sig) → Buf (Elt Ideal) ℓ) (g : Dev Cert.ChipIRefIdeal.nD → PrngReg), Pre_ChipIRefIdeal m →
    θ_run (Cert.ChipIRefIdeal.defs (F := Ideal)) (onTc (τ := Cert.ChipIRefIdeal.τ) (Cert.ChipIRefIdeal.main (F := Ideal))) ⟨m, fun _ => 0, g⟩ (fun r => (∀ c : Dev Cert.ChipIRefIdeal.nD,
      r.2.mem ((c.tc : Thread Cert.ChipIRefIdeal.nD Cert.ChipIRefIdeal.τ).loc Cert.ChipIRefIdeal.main_arg0) = m ((c.tc : Thread Cert.ChipIRefIdeal.nD Cert.ChipIRefIdeal.τ).loc Cert.ChipIRefIdeal.main_arg0)
      ∧ r.2.mem ((c.tc : Thread Cert.ChipIRefIdeal.nD Cert.ChipIRefIdeal.τ).loc Cert.ChipIRefIdeal.main_arg1) = m ((c.tc : Thread Cert.ChipIRefIdeal.nD Cert.ChipIRefIdeal.τ).loc Cert.ChipIRefIdeal.main_arg1))
      ∧ r.2.sem = fun _ => 0)

def quiescent_X1 [hX1 : Cert.X1.Facts] : Prop :=
  ∀ (m : (ℓ : Loc Cert.X1.nD Cert.X1.τ Cert.X1.sig) → Buf (Elt Bits) ℓ) (g : Dev Cert.X1.nD → PrngReg), Pre_X1 m →
    θ_run (Cert.X1.defs (F := Bits)) (onTc (τ := Cert.X1.τ) (Cert.X1.main (F := Bits))) ⟨m, fun _ => 0, g⟩ (fun r => (∀ c : Dev Cert.X1.nD,
      r.2.mem ((c.tc : Thread Cert.X1.nD Cert.X1.τ).loc Cert.X1.main_arg0) = m ((c.tc : Thread Cert.X1.nD Cert.X1.τ).loc Cert.X1.main_arg0)
      ∧ r.2.mem ((c.tc : Thread Cert.X1.nD Cert.X1.τ).loc Cert.X1.main_arg1) = m ((c.tc : Thread Cert.X1.nD Cert.X1.τ).loc Cert.X1.main_arg1)
      ∧ r.2.mem ((c.tc : Thread Cert.X1.nD Cert.X1.τ).loc Cert.X1.main_arg2) = m ((c.tc : Thread Cert.X1.nD Cert.X1.τ).loc Cert.X1.main_arg2)
      ∧ r.2.mem ((c.tc : Thread Cert.X1.nD Cert.X1.τ).loc Cert.X1.main_arg3) = m ((c.tc : Thread Cert.X1.nD Cert.X1.τ).loc Cert.X1.main_arg3))
      ∧ r.2.sem = fun _ => 0)

def quiescent_X1Ideal [hX1Ideal : Cert.X1Ideal.Facts] : Prop :=
  ∀ (m : (ℓ : Loc Cert.X1Ideal.nD Cert.X1Ideal.τ Cert.X1Ideal.sig) → Buf (Elt Ideal) ℓ) (g : Dev Cert.X1Ideal.nD → PrngReg), Pre_X1Ideal m →
    θ_run (Cert.X1Ideal.defs (F := Ideal)) (onTc (τ := Cert.X1Ideal.τ) (Cert.X1Ideal.main (F := Ideal))) ⟨m, fun _ => 0, g⟩ (fun r => (∀ c : Dev Cert.X1Ideal.nD,
      r.2.mem ((c.tc : Thread Cert.X1Ideal.nD Cert.X1Ideal.τ).loc Cert.X1Ideal.main_arg0) = m ((c.tc : Thread Cert.X1Ideal.nD Cert.X1Ideal.τ).loc Cert.X1Ideal.main_arg0)
      ∧ r.2.mem ((c.tc : Thread Cert.X1Ideal.nD Cert.X1Ideal.τ).loc Cert.X1Ideal.main_arg1) = m ((c.tc : Thread Cert.X1Ideal.nD Cert.X1Ideal.τ).loc Cert.X1Ideal.main_arg1)
      ∧ r.2.mem ((c.tc : Thread Cert.X1Ideal.nD Cert.X1Ideal.τ).loc Cert.X1Ideal.main_arg2) = m ((c.tc : Thread Cert.X1Ideal.nD Cert.X1Ideal.τ).loc Cert.X1Ideal.main_arg2)
      ∧ r.2.mem ((c.tc : Thread Cert.X1Ideal.nD Cert.X1Ideal.τ).loc Cert.X1Ideal.main_arg3) = m ((c.tc : Thread Cert.X1Ideal.nD Cert.X1Ideal.τ).loc Cert.X1Ideal.main_arg3))
      ∧ r.2.sem = fun _ => 0)

def quiescent_X1RefIdeal [hX1RefIdeal : Cert.X1RefIdeal.Facts] : Prop :=
  ∀ (m : (ℓ : Loc Cert.X1RefIdeal.nD Cert.X1RefIdeal.τ Cert.X1RefIdeal.sig) → Buf (Elt Ideal) ℓ) (g : Dev Cert.X1RefIdeal.nD → PrngReg), Pre_X1RefIdeal m →
    θ_run (Cert.X1RefIdeal.defs (F := Ideal)) (onTc (τ := Cert.X1RefIdeal.τ) (Cert.X1RefIdeal.main (F := Ideal))) ⟨m, fun _ => 0, g⟩ (fun r => (∀ c : Dev Cert.X1RefIdeal.nD,
      r.2.mem ((c.tc : Thread Cert.X1RefIdeal.nD Cert.X1RefIdeal.τ).loc Cert.X1RefIdeal.main_arg0) = m ((c.tc : Thread Cert.X1RefIdeal.nD Cert.X1RefIdeal.τ).loc Cert.X1RefIdeal.main_arg0)
      ∧ r.2.mem ((c.tc : Thread Cert.X1RefIdeal.nD Cert.X1RefIdeal.τ).loc Cert.X1RefIdeal.main_arg1) = m ((c.tc : Thread Cert.X1RefIdeal.nD Cert.X1RefIdeal.τ).loc Cert.X1RefIdeal.main_arg1)
      ∧ r.2.mem ((c.tc : Thread Cert.X1RefIdeal.nD Cert.X1RefIdeal.τ).loc Cert.X1RefIdeal.main_arg2) = m ((c.tc : Thread Cert.X1RefIdeal.nD Cert.X1RefIdeal.τ).loc Cert.X1RefIdeal.main_arg2)
      ∧ r.2.mem ((c.tc : Thread Cert.X1RefIdeal.nD Cert.X1RefIdeal.τ).loc Cert.X1RefIdeal.main_arg3) = m ((c.tc : Thread Cert.X1RefIdeal.nD Cert.X1RefIdeal.τ).loc Cert.X1RefIdeal.main_arg3))
      ∧ r.2.sem = fun _ => 0)

def quiescent_DwPool [hDwPool : Cert.DwPool.Facts] : Prop :=
  ∀ (m : (ℓ : Loc Cert.DwPool.nD Cert.DwPool.τ Cert.DwPool.sig) → Buf (Elt Bits) ℓ) (g : Dev Cert.DwPool.nD → PrngReg), Pre_DwPool m →
    θ_run (Cert.DwPool.defs (F := Bits)) (onTc (τ := Cert.DwPool.τ) (Cert.DwPool.main (F := Bits))) ⟨m, fun _ => 0, g⟩ (fun r => (∀ c : Dev Cert.DwPool.nD,
      r.2.mem ((c.tc : Thread Cert.DwPool.nD Cert.DwPool.τ).loc Cert.DwPool.main_arg0) = m ((c.tc : Thread Cert.DwPool.nD Cert.DwPool.τ).loc Cert.DwPool.main_arg0)
      ∧ r.2.mem ((c.tc : Thread Cert.DwPool.nD Cert.DwPool.τ).loc Cert.DwPool.main_arg1) = m ((c.tc : Thread Cert.DwPool.nD Cert.DwPool.τ).loc Cert.DwPool.main_arg1))
      ∧ r.2.sem = fun _ => 0)

def quiescent_DwPoolIdeal [hDwPoolIdeal : Cert.DwPoolIdeal.Facts] : Prop :=
  ∀ (m : (ℓ : Loc Cert.DwPoolIdeal.nD Cert.DwPoolIdeal.τ Cert.DwPoolIdeal.sig) → Buf (Elt Ideal) ℓ) (g : Dev Cert.DwPoolIdeal.nD → PrngReg), Pre_DwPoolIdeal m →
    θ_run (Cert.DwPoolIdeal.defs (F := Ideal)) (onTc (τ := Cert.DwPoolIdeal.τ) (Cert.DwPoolIdeal.main (F := Ideal))) ⟨m, fun _ => 0, g⟩ (fun r => (∀ c : Dev Cert.DwPoolIdeal.nD,
      r.2.mem ((c.tc : Thread Cert.DwPoolIdeal.nD Cert.DwPoolIdeal.τ).loc Cert.DwPoolIdeal.main_arg0) = m ((c.tc : Thread Cert.DwPoolIdeal.nD Cert.DwPoolIdeal.τ).loc Cert.DwPoolIdeal.main_arg0)
      ∧ r.2.mem ((c.tc : Thread Cert.DwPoolIdeal.nD Cert.DwPoolIdeal.τ).loc Cert.DwPoolIdeal.main_arg1) = m ((c.tc : Thread Cert.DwPoolIdeal.nD Cert.DwPoolIdeal.τ).loc Cert.DwPoolIdeal.main_arg1))
      ∧ r.2.sem = fun _ => 0)

def quiescent_DwPoolRefIdeal [hDwPoolRefIdeal : Cert.DwPoolRefIdeal.Facts] : Prop :=
  ∀ (m : (ℓ : Loc Cert.DwPoolRefIdeal.nD Cert.DwPoolRefIdeal.τ Cert.DwPoolRefIdeal.sig) → Buf (Elt Ideal) ℓ) (g : Dev Cert.DwPoolRefIdeal.nD → PrngReg), Pre_DwPoolRefIdeal m →
    θ_run (Cert.DwPoolRefIdeal.defs (F := Ideal)) (onTc (τ := Cert.DwPoolRefIdeal.τ) (Cert.DwPoolRefIdeal.main (F := Ideal))) ⟨m, fun _ => 0, g⟩ (fun r => (∀ c : Dev Cert.DwPoolRefIdeal.nD,
      r.2.mem ((c.tc : Thread Cert.DwPoolRefIdeal.nD Cert.DwPoolRefIdeal.τ).loc Cert.DwPoolRefIdeal.main_arg0) = m ((c.tc : Thread Cert.DwPoolRefIdeal.nD Cert.DwPoolRefIdeal.τ).loc Cert.DwPoolRefIdeal.main_arg0)
      ∧ r.2.mem ((c.tc : Thread Cert.DwPoolRefIdeal.nD Cert.DwPoolRefIdeal.τ).loc Cert.DwPoolRefIdeal.main_arg1) = m ((c.tc : Thread Cert.DwPoolRefIdeal.nD Cert.DwPoolRefIdeal.τ).loc Cert.DwPoolRefIdeal.main_arg1))
      ∧ r.2.sem = fun _ => 0)

def quiescent_Dp [hDp : Cert.Dp.Facts] : Prop :=
  ∀ (m : (ℓ : Loc Cert.Dp.nD Cert.Dp.τ Cert.Dp.sig) → Buf (Elt Bits) ℓ) (g : Dev Cert.Dp.nD → PrngReg), Pre_Dp m →
    θ_run (Cert.Dp.defs (F := Bits)) (onTc (τ := Cert.Dp.τ) (Cert.Dp.main (F := Bits))) ⟨m, fun _ => 0, g⟩ (fun r => (∀ c : Dev Cert.Dp.nD,
      r.2.mem ((c.tc : Thread Cert.Dp.nD Cert.Dp.τ).loc Cert.Dp.main_arg0) = m ((c.tc : Thread Cert.Dp.nD Cert.Dp.τ).loc Cert.Dp.main_arg0)
      ∧ r.2.mem ((c.tc : Thread Cert.Dp.nD Cert.Dp.τ).loc Cert.Dp.main_arg1) = m ((c.tc : Thread Cert.Dp.nD Cert.Dp.τ).loc Cert.Dp.main_arg1))
      ∧ r.2.sem = fun _ => 0)

def quiescent_DpIdeal [hDpIdeal : Cert.DpIdeal.Facts] : Prop :=
  ∀ (m : (ℓ : Loc Cert.DpIdeal.nD Cert.DpIdeal.τ Cert.DpIdeal.sig) → Buf (Elt Ideal) ℓ) (g : Dev Cert.DpIdeal.nD → PrngReg), Pre_DpIdeal m →
    θ_run (Cert.DpIdeal.defs (F := Ideal)) (onTc (τ := Cert.DpIdeal.τ) (Cert.DpIdeal.main (F := Ideal))) ⟨m, fun _ => 0, g⟩ (fun r => (∀ c : Dev Cert.DpIdeal.nD,
      r.2.mem ((c.tc : Thread Cert.DpIdeal.nD Cert.DpIdeal.τ).loc Cert.DpIdeal.main_arg0) = m ((c.tc : Thread Cert.DpIdeal.nD Cert.DpIdeal.τ).loc Cert.DpIdeal.main_arg0)
      ∧ r.2.mem ((c.tc : Thread Cert.DpIdeal.nD Cert.DpIdeal.τ).loc Cert.DpIdeal.main_arg1) = m ((c.tc : Thread Cert.DpIdeal.nD Cert.DpIdeal.τ).loc Cert.DpIdeal.main_arg1))
      ∧ r.2.sem = fun _ => 0)

def quiescent_DpRefIdeal [hDpRefIdeal : Cert.DpRefIdeal.Facts] : Prop :=
  ∀ (m : (ℓ : Loc Cert.DpRefIdeal.nD Cert.DpRefIdeal.τ Cert.DpRefIdeal.sig) → Buf (Elt Ideal) ℓ) (g : Dev Cert.DpRefIdeal.nD → PrngReg), Pre_DpRefIdeal m →
    θ_run (Cert.DpRefIdeal.defs (F := Ideal)) (onTc (τ := Cert.DpRefIdeal.τ) (Cert.DpRefIdeal.main (F := Ideal))) ⟨m, fun _ => 0, g⟩ (fun r => (∀ c : Dev Cert.DpRefIdeal.nD,
      r.2.mem ((c.tc : Thread Cert.DpRefIdeal.nD Cert.DpRefIdeal.τ).loc Cert.DpRefIdeal.main_arg0) = m ((c.tc : Thread Cert.DpRefIdeal.nD Cert.DpRefIdeal.τ).loc Cert.DpRefIdeal.main_arg0)
      ∧ r.2.mem ((c.tc : Thread Cert.DpRefIdeal.nD Cert.DpRefIdeal.τ).loc Cert.DpRefIdeal.main_arg1) = m ((c.tc : Thread Cert.DpRefIdeal.nD Cert.DpRefIdeal.τ).loc Cert.DpRefIdeal.main_arg1))
      ∧ r.2.sem = fun _ => 0)

def quiescent_Yp [hYp : Cert.Yp.Facts] : Prop :=
  ∀ (m : (ℓ : Loc Cert.Yp.nD Cert.Yp.τ Cert.Yp.sig) → Buf (Elt Bits) ℓ) (g : Dev Cert.Yp.nD → PrngReg), Pre_Yp m →
    θ_run (Cert.Yp.defs (F := Bits)) (onTc (τ := Cert.Yp.τ) (Cert.Yp.main (F := Bits))) ⟨m, fun _ => 0, g⟩ (fun r => (∀ c : Dev Cert.Yp.nD,
      r.2.mem ((c.tc : Thread Cert.Yp.nD Cert.Yp.τ).loc Cert.Yp.main_arg0) = m ((c.tc : Thread Cert.Yp.nD Cert.Yp.τ).loc Cert.Yp.main_arg0)
      ∧ r.2.mem ((c.tc : Thread Cert.Yp.nD Cert.Yp.τ).loc Cert.Yp.main_arg1) = m ((c.tc : Thread Cert.Yp.nD Cert.Yp.τ).loc Cert.Yp.main_arg1))
      ∧ r.2.sem = fun _ => 0)

def quiescent_YpIdeal [hYpIdeal : Cert.YpIdeal.Facts] : Prop :=
  ∀ (m : (ℓ : Loc Cert.YpIdeal.nD Cert.YpIdeal.τ Cert.YpIdeal.sig) → Buf (Elt Ideal) ℓ) (g : Dev Cert.YpIdeal.nD → PrngReg), Pre_YpIdeal m →
    θ_run (Cert.YpIdeal.defs (F := Ideal)) (onTc (τ := Cert.YpIdeal.τ) (Cert.YpIdeal.main (F := Ideal))) ⟨m, fun _ => 0, g⟩ (fun r => (∀ c : Dev Cert.YpIdeal.nD,
      r.2.mem ((c.tc : Thread Cert.YpIdeal.nD Cert.YpIdeal.τ).loc Cert.YpIdeal.main_arg0) = m ((c.tc : Thread Cert.YpIdeal.nD Cert.YpIdeal.τ).loc Cert.YpIdeal.main_arg0)
      ∧ r.2.mem ((c.tc : Thread Cert.YpIdeal.nD Cert.YpIdeal.τ).loc Cert.YpIdeal.main_arg1) = m ((c.tc : Thread Cert.YpIdeal.nD Cert.YpIdeal.τ).loc Cert.YpIdeal.main_arg1))
      ∧ r.2.sem = fun _ => 0)

def quiescent_YpRefIdeal [hYpRefIdeal : Cert.YpRefIdeal.Facts] : Prop :=
  ∀ (m : (ℓ : Loc Cert.YpRefIdeal.nD Cert.YpRefIdeal.τ Cert.YpRefIdeal.sig) → Buf (Elt Ideal) ℓ) (g : Dev Cert.YpRefIdeal.nD → PrngReg), Pre_YpRefIdeal m →
    θ_run (Cert.YpRefIdeal.defs (F := Ideal)) (onTc (τ := Cert.YpRefIdeal.τ) (Cert.YpRefIdeal.main (F := Ideal))) ⟨m, fun _ => 0, g⟩ (fun r => (∀ c : Dev Cert.YpRefIdeal.nD,
      r.2.mem ((c.tc : Thread Cert.YpRefIdeal.nD Cert.YpRefIdeal.τ).loc Cert.YpRefIdeal.main_arg0) = m ((c.tc : Thread Cert.YpRefIdeal.nD Cert.YpRefIdeal.τ).loc Cert.YpRefIdeal.main_arg0)
      ∧ r.2.mem ((c.tc : Thread Cert.YpRefIdeal.nD Cert.YpRefIdeal.τ).loc Cert.YpRefIdeal.main_arg1) = m ((c.tc : Thread Cert.YpRefIdeal.nD Cert.YpRefIdeal.τ).loc Cert.YpRefIdeal.main_arg1))
      ∧ r.2.sem = fun _ => 0)

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v5) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v8) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v5) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v6) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)) →
    ∃ (v0 : (c : Dev Cert.DmIdeal.nD) → Buf (Elt Ideal) ((c.tc : Thread Cert.DmIdeal.nD Cert.DmIdeal.τ).loc Cert.DmIdeal.main_v0)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v0) = v0 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v5) = v0 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Ya_YaIdeal : Prop :=
  True

def algebraic_YaIdeal_YaRefIdeal [hYaIdeal : Cert.YaIdeal.Facts] [hYaRefIdeal : Cert.YaRefIdeal.Facts] : Prop :=
  ∀ (m : (ℓ : Loc Cert.YaIdeal.nD Cert.YaIdeal.τ Cert.YaIdeal.sig) → Buf (Elt Ideal) ℓ) (g : Dev Cert.YaIdeal.nD → PrngReg)
    (m' : (ℓ : Loc Cert.YaRefIdeal.nD Cert.YaRefIdeal.τ Cert.YaRefIdeal.sig) → Buf (Elt Ideal) ℓ) (g' : Dev Cert.YaRefIdeal.nD → PrngReg), Pre_YaIdeal m →
    (∀ c : Dev Cert.YaIdeal.nD,
      m' ((c.tc : Thread Cert.YaRefIdeal.nD Cert.YaRefIdeal.τ).loc Cert.YaRefIdeal.main_arg0) = m ((c.tc : Thread Cert.YaIdeal.nD Cert.YaIdeal.τ).loc Cert.YaIdeal.main_arg0)
      ∧ m' ((c.tc : Thread Cert.YaRefIdeal.nD Cert.YaRefIdeal.τ).loc Cert.YaRefIdeal.main_arg1) = m ((c.tc : Thread Cert.YaIdeal.nD Cert.YaIdeal.τ).loc Cert.YaIdeal.main_arg1)) →
    ∃ (v0 : (c : Dev Cert.YaIdeal.nD) → Buf (Elt Ideal) ((c.tc : Thread Cert.YaIdeal.nD Cert.YaIdeal.τ).loc Cert.YaIdeal.main_v0)),
      θ_run (Cert.YaIdeal.defs (F := Ideal)) (onTc (τ := Cert.YaIdeal.τ) (Cert.YaIdeal.main (F := Ideal))) ⟨m, fun _ => 0, g⟩ (fun r => ∀ c : Dev Cert.YaIdeal.nD,
          r.2.mem ((c.tc : Thread Cert.YaIdeal.nD Cert.YaIdeal.τ).loc Cert.YaIdeal.main_v0) = v0 c
          ∧ r.2.mem ((c.tc : Thread Cert.YaIdeal.nD Cert.YaIdeal.τ).loc Cert.YaIdeal.main_arg0) = m ((c.tc : Thread Cert.YaIdeal.nD Cert.YaIdeal.τ).loc Cert.YaIdeal.main_arg0)
          ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ θ_run (Cert.YaRefIdeal.defs (F := Ideal)) (onTc (τ := Cert.YaRefIdeal.τ) (Cert.YaRefIdeal.main (F := Ideal))) ⟨m', fun _ => 0, g'⟩ (fun r => ∀ c : Dev Cert.YaRefIdeal.nD,
          r.2.mem ((c.tc : Thread Cert.YaRefIdeal.nD Cert.YaRefIdeal.τ).loc Cert.YaRefIdeal.main_v3) = v0 c
          ∧ r.2.mem ((c.tc : Thread Cert.YaRefIdeal.nD Cert.YaRefIdeal.τ).loc Cert.YaRefIdeal.main_arg0) = m' ((c.tc : Thread Cert.YaRefIdeal.nD Cert.YaRefIdeal.τ).loc Cert.YaRefIdeal.main_arg0)
          ∧ r.2.mem ((c.tc : Thread Cert.YaRefIdeal.nD Cert.YaRefIdeal.τ).loc Cert.YaRefIdeal.main_arg1) = m' ((c.tc : Thread Cert.YaRefIdeal.nD Cert.YaRefIdeal.τ).loc Cert.YaRefIdeal.main_arg1))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v4) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_X2_X2Ideal : Prop :=
  True

def algebraic_X2Ideal_X2RefIdeal [hX2Ideal : Cert.X2Ideal.Facts] [hX2RefIdeal : Cert.X2RefIdeal.Facts] : Prop :=
  ∀ (m : (ℓ : Loc Cert.X2Ideal.nD Cert.X2Ideal.τ Cert.X2Ideal.sig) → Buf (Elt Ideal) ℓ) (g : Dev Cert.X2Ideal.nD → PrngReg)
    (m' : (ℓ : Loc Cert.X2RefIdeal.nD Cert.X2RefIdeal.τ Cert.X2RefIdeal.sig) → Buf (Elt Ideal) ℓ) (g' : Dev Cert.X2RefIdeal.nD → PrngReg), Pre_X2Ideal m →
    (∀ c : Dev Cert.X2Ideal.nD,
      m' ((c.tc : Thread Cert.X2RefIdeal.nD Cert.X2RefIdeal.τ).loc Cert.X2RefIdeal.main_arg0) = m ((c.tc : Thread Cert.X2Ideal.nD Cert.X2Ideal.τ).loc Cert.X2Ideal.main_arg0)
      ∧ m' ((c.tc : Thread Cert.X2RefIdeal.nD Cert.X2RefIdeal.τ).loc Cert.X2RefIdeal.main_arg1) = m ((c.tc : Thread Cert.X2Ideal.nD Cert.X2Ideal.τ).loc Cert.X2Ideal.main_arg1)
      ∧ m' ((c.tc : Thread Cert.X2RefIdeal.nD Cert.X2RefIdeal.τ).loc Cert.X2RefIdeal.main_arg2) = m ((c.tc : Thread Cert.X2Ideal.nD Cert.X2Ideal.τ).loc Cert.X2Ideal.main_arg2)) →
    ∃ (v0 : (c : Dev Cert.X2Ideal.nD) → Buf (Elt Ideal) ((c.tc : Thread Cert.X2Ideal.nD Cert.X2Ideal.τ).loc Cert.X2Ideal.main_v0)),
      θ_run (Cert.X2Ideal.defs (F := Ideal)) (onTc (τ := Cert.X2Ideal.τ) (Cert.X2Ideal.main (F := Ideal))) ⟨m, fun _ => 0, g⟩ (fun r => ∀ c : Dev Cert.X2Ideal.nD,
          r.2.mem ((c.tc : Thread Cert.X2Ideal.nD Cert.X2Ideal.τ).loc Cert.X2Ideal.main_v0) = v0 c
          ∧ r.2.mem ((c.tc : Thread Cert.X2Ideal.nD Cert.X2Ideal.τ).loc Cert.X2Ideal.main_arg0) = m ((c.tc : Thread Cert.X2Ideal.nD Cert.X2Ideal.τ).loc Cert.X2Ideal.main_arg0)
          ∧ r.2.mem ((c.tc : Thread Cert.X2Ideal.nD Cert.X2Ideal.τ).loc Cert.X2Ideal.main_arg1) = m ((c.tc : Thread Cert.X2Ideal.nD Cert.X2Ideal.τ).loc Cert.X2Ideal.main_arg1)
          ∧ r.2.mem ((c.tc : Thread Cert.X2Ideal.nD Cert.X2Ideal.τ).loc Cert.X2Ideal.main_arg2) = m ((c.tc : Thread Cert.X2Ideal.nD Cert.X2Ideal.τ).loc Cert.X2Ideal.main_arg2))
      ∧ θ_run (Cert.X2RefIdeal.defs (F := Ideal)) (onTc (τ := Cert.X2RefIdeal.τ) (Cert.X2RefIdeal.main (F := Ideal))) ⟨m', fun _ => 0, g'⟩ (fun r => ∀ c : Dev Cert.X2RefIdeal.nD,
          r.2.mem ((c.tc : Thread Cert.X2RefIdeal.nD Cert.X2RefIdeal.τ).loc Cert.X2RefIdeal.main_v3) = v0 c
          ∧ r.2.mem ((c.tc : Thread Cert.X2RefIdeal.nD Cert.X2RefIdeal.τ).loc Cert.X2RefIdeal.main_arg0) = m' ((c.tc : Thread Cert.X2RefIdeal.nD Cert.X2RefIdeal.τ).loc Cert.X2RefIdeal.main_arg0)
          ∧ r.2.mem ((c.tc : Thread Cert.X2RefIdeal.nD Cert.X2RefIdeal.τ).loc Cert.X2RefIdeal.main_arg1) = m' ((c.tc : Thread Cert.X2RefIdeal.nD Cert.X2RefIdeal.τ).loc Cert.X2RefIdeal.main_arg1)
          ∧ r.2.mem ((c.tc : Thread Cert.X2RefIdeal.nD Cert.X2RefIdeal.τ).loc Cert.X2RefIdeal.main_arg2) = m' ((c.tc : Thread Cert.X2RefIdeal.nD Cert.X2RefIdeal.τ).loc Cert.X2RefIdeal.main_arg2))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v5)) (v1 : (c : Dev Cert.AdInIdeal.nD) → Buf (Elt Ideal) ((c.tc : Thread Cert.AdInIdeal.nD Cert.AdInIdeal.τ).loc Cert.AdInIdeal.main_v6)) (v2 : (c : Dev Cert.AdInIdeal.nD) → Buf (Elt Ideal) ((c.tc : Thread Cert.AdInIdeal.nD Cert.AdInIdeal.τ).loc Cert.AdInIdeal.main_v7)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v5) = v0 c
          ∧ r.2.mem ((c.tc : Thread Cert.AdInIdeal.nD Cert.AdInIdeal.τ).loc Cert.AdInIdeal.main_v6) = v1 c
          ∧ r.2.mem ((c.tc : Thread Cert.AdInIdeal.nD Cert.AdInIdeal.τ).loc Cert.AdInIdeal.main_v7) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdConv_AdConvIdeal : Prop :=
  True

def algebraic_AdConvIdeal_AdConvRefIdeal [hAdConvIdeal : Cert.AdConvIdeal.Facts] [hAdConvRefIdeal : Cert.AdConvRefIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.AdConvRefIdeal.nD Cert.AdConvRefIdeal.τ Cert.AdConvRefIdeal.sig) → Buf (Elt Ideal) ℓ) (g' : Dev Cert.AdConvRefIdeal.nD → PrngReg), Pre_AdConvIdeal m →
    (∀ c : Dev Cert.AdConvIdeal.nD,
      m' ((c.tc : Thread Cert.AdConvRefIdeal.nD Cert.AdConvRefIdeal.τ).loc Cert.AdConvRefIdeal.main_arg0) = m ((c.tc : Thread Cert.AdConvIdeal.nD Cert.AdConvIdeal.τ).loc Cert.AdConvIdeal.main_arg0)
      ∧ m' ((c.tc : Thread Cert.AdConvRefIdeal.nD Cert.AdConvRefIdeal.τ).loc Cert.AdConvRefIdeal.main_arg1) = m ((c.tc : Thread Cert.AdConvIdeal.nD Cert.AdConvIdeal.τ).loc Cert.AdConvIdeal.main_arg1)
      ∧ m' ((c.tc : Thread Cert.AdConvRefIdeal.nD Cert.AdConvRefIdeal.τ).loc Cert.AdConvRefIdeal.main_arg2) = m ((c.tc : Thread Cert.AdConvIdeal.nD Cert.AdConvIdeal.τ).loc Cert.AdConvIdeal.main_arg2)
      ∧ m' ((c.tc : Thread Cert.AdConvRefIdeal.nD Cert.AdConvRefIdeal.τ).loc Cert.AdConvRefIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v5)) (v1 : (c : Dev Cert.AdConvIdeal.nD) → Buf (Elt Ideal) ((c.tc : Thread Cert.AdConvIdeal.nD Cert.AdConvIdeal.τ).loc Cert.AdConvIdeal.main_v6)) (v2 : (c : Dev Cert.AdConvIdeal.nD) → Buf (Elt Ideal) ((c.tc : Thread Cert.AdConvIdeal.nD Cert.AdConvIdeal.τ).loc Cert.AdConvIdeal.main_v7)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v5) = v0 c
          ∧ r.2.mem ((c.tc : Thread Cert.AdConvIdeal.nD Cert.AdConvIdeal.τ).loc Cert.AdConvIdeal.main_v6) = v1 c
          ∧ r.2.mem ((c.tc : Thread Cert.AdConvIdeal.nD Cert.AdConvIdeal.τ).loc Cert.AdConvIdeal.main_v7) = v2 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.AdConvRefIdeal.defs (F := Ideal)) (onTc (τ := Cert.AdConvRefIdeal.τ) (Cert.AdConvRefIdeal.main (F := Ideal))) ⟨m', fun _ => 0, g'⟩ (fun r => ∀ c : Dev Cert.AdConvRefIdeal.nD,
          r.2.mem ((c.tc : Thread Cert.AdConvRefIdeal.nD Cert.AdConvRefIdeal.τ).loc Cert.AdConvRefIdeal.main_v23) = v0 c
          ∧ r.2.mem ((c.tc : Thread Cert.AdConvRefIdeal.nD Cert.AdConvRefIdeal.τ).loc Cert.AdConvRefIdeal.main_v4) = v1 c
          ∧ r.2.mem ((c.tc : Thread Cert.AdConvRefIdeal.nD Cert.AdConvRefIdeal.τ).loc Cert.AdConvRefIdeal.main_v10) = v2 c
          ∧ r.2.mem ((c.tc : Thread Cert.AdConvRefIdeal.nD Cert.AdConvRefIdeal.τ).loc Cert.AdConvRefIdeal.main_arg0) = m' ((c.tc : Thread Cert.AdConvRefIdeal.nD Cert.AdConvRefIdeal.τ).loc Cert.AdConvRefIdeal.main_arg0)
          ∧ r.2.mem ((c.tc : Thread Cert.AdConvRefIdeal.nD Cert.AdConvRefIdeal.τ).loc Cert.AdConvRefIdeal.main_arg1) = m' ((c.tc : Thread Cert.AdConvRefIdeal.nD Cert.AdConvRefIdeal.τ).loc Cert.AdConvRefIdeal.main_arg1)
          ∧ r.2.mem ((c.tc : Thread Cert.AdConvRefIdeal.nD Cert.AdConvRefIdeal.τ).loc Cert.AdConvRefIdeal.main_arg2) = m' ((c.tc : Thread Cert.AdConvRefIdeal.nD Cert.AdConvRefIdeal.τ).loc Cert.AdConvRefIdeal.main_arg2)
          ∧ r.2.mem ((c.tc : Thread Cert.AdConvRefIdeal.nD Cert.AdConvRefIdeal.τ).loc Cert.AdConvRefIdeal.main_arg3) = m' ((c.tc : Thread Cert.AdConvRefIdeal.nD Cert.AdConvRefIdeal.τ).loc Cert.AdConvRefIdeal.main_arg3))

def preserves_AdSq_AdSqIdeal : Prop :=
  True

def algebraic_AdSqIdeal_AdSqRefIdeal [hAdSqIdeal : Cert.AdSqIdeal.Facts] [hAdSqRefIdeal : Cert.AdSqRefIdeal.Facts] : Prop :=
  ∀ (m : (ℓ : Loc Cert.AdSqIdeal.nD Cert.AdSqIdeal.τ Cert.AdSqIdeal.sig) → Buf (Elt Ideal) ℓ) (g : Dev Cert.AdSqIdeal.nD → PrngReg)
    (m' : (ℓ : Loc Cert.AdSqRefIdeal.nD Cert.AdSqRefIdeal.τ Cert.AdSqRefIdeal.sig) → Buf (Elt Ideal) ℓ) (g' : Dev Cert.AdSqRefIdeal.nD → PrngReg), Pre_AdSqIdeal m →
    (∀ c : Dev Cert.AdSqIdeal.nD,
      m' ((c.tc : Thread Cert.AdSqRefIdeal.nD Cert.AdSqRefIdeal.τ).loc Cert.AdSqRefIdeal.main_arg0) = m ((c.tc : Thread Cert.AdSqIdeal.nD Cert.AdSqIdeal.τ).loc Cert.AdSqIdeal.main_arg0)
      ∧ m' ((c.tc : Thread Cert.AdSqRefIdeal.nD Cert.AdSqRefIdeal.τ).loc Cert.AdSqRefIdeal.main_arg1) = m ((c.tc : Thread Cert.AdSqIdeal.nD Cert.AdSqIdeal.τ).loc Cert.AdSqIdeal.main_arg1)
      ∧ m' ((c.tc : Thread Cert.AdSqRefIdeal.nD Cert.AdSqRefIdeal.τ).loc Cert.AdSqRefIdeal.main_arg2) = m ((c.tc : Thread Cert.AdSqIdeal.nD Cert.AdSqIdeal.τ).loc Cert.AdSqIdeal.main_arg2)
      ∧ m' ((c.tc : Thread Cert.AdSqRefIdeal.nD Cert.AdSqRefIdeal.τ).loc Cert.AdSqRefIdeal.main_arg3) = m ((c.tc : Thread Cert.AdSqIdeal.nD Cert.AdSqIdeal.τ).loc Cert.AdSqIdeal.main_arg3)) →
    ∃ (v0 : (c : Dev Cert.AdSqIdeal.nD) → Buf (Elt Ideal) ((c.tc : Thread Cert.AdSqIdeal.nD Cert.AdSqIdeal.τ).loc Cert.AdSqIdeal.main_v5)) (v1 : (c : Dev Cert.AdSqIdeal.nD) → Buf (Elt Ideal) ((c.tc : Thread Cert.AdSqIdeal.nD Cert.AdSqIdeal.τ).loc Cert.AdSqIdeal.main_v6)) (v2 : (c : Dev Cert.AdSqIdeal.nD) → Buf (Elt Ideal) ((c.tc : Thread Cert.AdSqIdeal.nD Cert.AdSqIdeal.τ).loc Cert.AdSqIdeal.main_v7)),
      θ_run (Cert.AdSqIdeal.defs (F := Ideal)) (onTc (τ := Cert.AdSqIdeal.τ) (Cert.AdSqIdeal.main (F := Ideal))) ⟨m, fun _ => 0, g⟩ (fun r => ∀ c : Dev Cert.AdSqIdeal.nD,
          r.2.mem ((c.tc : Thread Cert.AdSqIdeal.nD Cert.AdSqIdeal.τ).loc Cert.AdSqIdeal.main_v5) = v0 c
          ∧ r.2.mem ((c.tc : Thread Cert.AdSqIdeal.nD Cert.AdSqIdeal.τ).loc Cert.AdSqIdeal.main_v6) = v1 c
          ∧ r.2.mem ((c.tc : Thread Cert.AdSqIdeal.nD Cert.AdSqIdeal.τ).loc Cert.AdSqIdeal.main_v7) = v2 c
          ∧ r.2.mem ((c.tc : Thread Cert.AdSqIdeal.nD Cert.AdSqIdeal.τ).loc Cert.AdSqIdeal.main_arg0) = m ((c.tc : Thread Cert.AdSqIdeal.nD Cert.AdSqIdeal.τ).loc Cert.AdSqIdeal.main_arg0)
          ∧ r.2.mem ((c.tc : Thread Cert.AdSqIdeal.nD Cert.AdSqIdeal.τ).loc Cert.AdSqIdeal.main_arg1) = m ((c.tc : Thread Cert.AdSqIdeal.nD Cert.AdSqIdeal.τ).loc Cert.AdSqIdeal.main_arg1)
          ∧ r.2.mem ((c.tc : Thread Cert.AdSqIdeal.nD Cert.AdSqIdeal.τ).loc Cert.AdSqIdeal.main_arg2) = m ((c.tc : Thread Cert.AdSqIdeal.nD Cert.AdSqIdeal.τ).loc Cert.AdSqIdeal.main_arg2)
          ∧ r.2.mem ((c.tc : Thread Cert.AdSqIdeal.nD Cert.AdSqIdeal.τ).loc Cert.AdSqIdeal.main_arg3) = m ((c.tc : Thread Cert.AdSqIdeal.nD Cert.AdSqIdeal.τ).loc Cert.AdSqIdeal.main_arg3))
      ∧ θ_run (Cert.AdSqRefIdeal.defs (F := Ideal)) (onTc (τ := Cert.AdSqRefIdeal.τ) (Cert.AdSqRefIdeal.main (F := Ideal))) ⟨m', fun _ => 0, g'⟩ (fun r => ∀ c : Dev Cert.AdSqRefIdeal.nD,
          r.2.mem ((c.tc : Thread Cert.AdSqRefIdeal.nD Cert.AdSqRefIdeal.τ).loc Cert.AdSqRefIdeal.main_v23) = v0 c
          ∧ r.2.mem ((c.tc : Thread Cert.AdSqRefIdeal.nD Cert.AdSqRefIdeal.τ).loc Cert.AdSqRefIdeal.main_v4) = v1 c
          ∧ r.2.mem ((c.tc : Thread Cert.AdSqRefIdeal.nD Cert.AdSqRefIdeal.τ).loc Cert.AdSqRefIdeal.main_v10) = v2 c
          ∧ r.2.mem ((c.tc : Thread Cert.AdSqRefIdeal.nD Cert.AdSqRefIdeal.τ).loc Cert.AdSqRefIdeal.main_arg0) = m' ((c.tc : Thread Cert.AdSqRefIdeal.nD Cert.AdSqRefIdeal.τ).loc Cert.AdSqRefIdeal.main_arg0)
          ∧ r.2.mem ((c.tc : Thread Cert.AdSqRefIdeal.nD Cert.AdSqRefIdeal.τ).loc Cert.AdSqRefIdeal.main_arg1) = m' ((c.tc : Thread Cert.AdSqRefIdeal.nD Cert.AdSqRefIdeal.τ).loc Cert.AdSqRefIdeal.main_arg1)
          ∧ r.2.mem ((c.tc : Thread Cert.AdSqRefIdeal.nD Cert.AdSqRefIdeal.τ).loc Cert.AdSqRefIdeal.main_arg2) = m' ((c.tc : Thread Cert.AdSqRefIdeal.nD Cert.AdSqRefIdeal.τ).loc Cert.AdSqRefIdeal.main_arg2)
          ∧ r.2.mem ((c.tc : Thread Cert.AdSqRefIdeal.nD Cert.AdSqRefIdeal.τ).loc Cert.AdSqRefIdeal.main_arg3) = m' ((c.tc : Thread Cert.AdSqRefIdeal.nD Cert.AdSqRefIdeal.τ).loc Cert.AdSqRefIdeal.main_arg3))

def preserves_AdPool_AdPoolIdeal : Prop :=
  True

def algebraic_AdPoolIdeal_AdPoolRefIdeal [hAdPoolIdeal : Cert.AdPoolIdeal.Facts] [hAdPoolRefIdeal : Cert.AdPoolRefIdeal.Facts] : Prop :=
  ∀ (m : (ℓ : Loc Cert.AdPoolIdeal.nD Cert.AdPoolIdeal.τ Cert.AdPoolIdeal.sig) → Buf (Elt Ideal) ℓ) (g : Dev Cert.AdPoolIdeal.nD → PrngReg)
    (m' : (ℓ : Loc Cert.AdPoolRefIdeal.nD Cert.AdPoolRefIdeal.τ Cert.AdPoolRefIdeal.sig) → Buf (Elt Ideal) ℓ) (g' : Dev Cert.AdPoolRefIdeal.nD → PrngReg), Pre_AdPoolIdeal m →
    (∀ c : Dev Cert.AdPoolIdeal.nD,
      m' ((c.tc : Thread Cert.AdPoolRefIdeal.nD Cert.AdPoolRefIdeal.τ).loc Cert.AdPoolRefIdeal.main_arg0) = m ((c.tc : Thread Cert.AdPoolIdeal.nD Cert.AdPoolIdeal.τ).loc Cert.AdPoolIdeal.main_arg0)
      ∧ m' ((c.tc : Thread Cert.AdPoolRefIdeal.nD Cert.AdPoolRefIdeal.τ).loc Cert.AdPoolRefIdeal.main_arg1) = m ((c.tc : Thread Cert.AdPoolIdeal.nD Cert.AdPoolIdeal.τ).loc Cert.AdPoolIdeal.main_arg1)
      ∧ m' ((c.tc : Thread Cert.AdPoolRefIdeal.nD Cert.AdPoolRefIdeal.τ).loc Cert.AdPoolRefIdeal.main_arg2) = m ((c.tc : Thread Cert.AdPoolIdeal.nD Cert.AdPoolIdeal.τ).loc Cert.AdPoolIdeal.main_arg2)
      ∧ m' ((c.tc : Thread Cert.AdPoolRefIdeal.nD Cert.AdPoolRefIdeal.τ).loc Cert.AdPoolRefIdeal.main_arg3) = m ((c.tc : Thread Cert.AdPoolIdeal.nD Cert.AdPoolIdeal.τ).loc Cert.AdPoolIdeal.main_arg3)) →
    ∃ (v0 : (c : Dev Cert.AdPoolIdeal.nD) → Buf (Elt Ideal) ((c.tc : Thread Cert.AdPoolIdeal.nD Cert.AdPoolIdeal.τ).loc Cert.AdPoolIdeal.main_v5)) (v1 : (c : Dev Cert.AdPoolIdeal.nD) → Buf (Elt Ideal) ((c.tc : Thread Cert.AdPoolIdeal.nD Cert.AdPoolIdeal.τ).loc Cert.AdPoolIdeal.main_v6)) (v2 : (c : Dev Cert.AdPoolIdeal.nD) → Buf (Elt Ideal) ((c.tc : Thread Cert.AdPoolIdeal.nD Cert.AdPoolIdeal.τ).loc Cert.AdPoolIdeal.main_v7)),
      θ_run (Cert.AdPoolIdeal.defs (F := Ideal)) (onTc (τ := Cert.AdPoolIdeal.τ) (Cert.AdPoolIdeal.main (F := Ideal))) ⟨m, fun _ => 0, g⟩ (fun r => ∀ c : Dev Cert.AdPoolIdeal.nD,
          r.2.mem ((c.tc : Thread Cert.AdPoolIdeal.nD Cert.AdPoolIdeal.τ).loc Cert.AdPoolIdeal.main_v5) = v0 c
          ∧ r.2.mem ((c.tc : Thread Cert.AdPoolIdeal.nD Cert.AdPoolIdeal.τ).loc Cert.AdPoolIdeal.main_v6) = v1 c
          ∧ r.2.mem ((c.tc : Thread Cert.AdPoolIdeal.nD Cert.AdPoolIdeal.τ).loc Cert.AdPoolIdeal.main_v7) = v2 c
          ∧ r.2.mem ((c.tc : Thread Cert.AdPoolIdeal.nD Cert.AdPoolIdeal.τ).loc Cert.AdPoolIdeal.main_arg0) = m ((c.tc : Thread Cert.AdPoolIdeal.nD Cert.AdPoolIdeal.τ).loc Cert.AdPoolIdeal.main_arg0)
          ∧ r.2.mem ((c.tc : Thread Cert.AdPoolIdeal.nD Cert.AdPoolIdeal.τ).loc Cert.AdPoolIdeal.main_arg1) = m ((c.tc : Thread Cert.AdPoolIdeal.nD Cert.AdPoolIdeal.τ).loc Cert.AdPoolIdeal.main_arg1)
          ∧ r.2.mem ((c.tc : Thread Cert.AdPoolIdeal.nD Cert.AdPoolIdeal.τ).loc Cert.AdPoolIdeal.main_arg2) = m ((c.tc : Thread Cert.AdPoolIdeal.nD Cert.AdPoolIdeal.τ).loc Cert.AdPoolIdeal.main_arg2)
          ∧ r.2.mem ((c.tc : Thread Cert.AdPoolIdeal.nD Cert.AdPoolIdeal.τ).loc Cert.AdPoolIdeal.main_arg3) = m ((c.tc : Thread Cert.AdPoolIdeal.nD Cert.AdPoolIdeal.τ).loc Cert.AdPoolIdeal.main_arg3))
      ∧ θ_run (Cert.AdPoolRefIdeal.defs (F := Ideal)) (onTc (τ := Cert.AdPoolRefIdeal.τ) (Cert.AdPoolRefIdeal.main (F := Ideal))) ⟨m', fun _ => 0, g'⟩ (fun r => ∀ c : Dev Cert.AdPoolRefIdeal.nD,
          r.2.mem ((c.tc : Thread Cert.AdPoolRefIdeal.nD Cert.AdPoolRefIdeal.τ).loc Cert.AdPoolRefIdeal.main_v23) = v0 c
          ∧ r.2.mem ((c.tc : Thread Cert.AdPoolRefIdeal.nD Cert.AdPoolRefIdeal.τ).loc Cert.AdPoolRefIdeal.main_v4) = v1 c
          ∧ r.2.mem ((c.tc : Thread Cert.AdPoolRefIdeal.nD Cert.AdPoolRefIdeal.τ).loc Cert.AdPoolRefIdeal.main_v10) = v2 c
          ∧ r.2.mem ((c.tc : Thread Cert.AdPoolRefIdeal.nD Cert.AdPoolRefIdeal.τ).loc Cert.AdPoolRefIdeal.main_arg0) = m' ((c.tc : Thread Cert.AdPoolRefIdeal.nD Cert.AdPoolRefIdeal.τ).loc Cert.AdPoolRefIdeal.main_arg0)
          ∧ r.2.mem ((c.tc : Thread Cert.AdPoolRefIdeal.nD Cert.AdPoolRefIdeal.τ).loc Cert.AdPoolRefIdeal.main_arg1) = m' ((c.tc : Thread Cert.AdPoolRefIdeal.nD Cert.AdPoolRefIdeal.τ).loc Cert.AdPoolRefIdeal.main_arg1)
          ∧ r.2.mem ((c.tc : Thread Cert.AdPoolRefIdeal.nD Cert.AdPoolRefIdeal.τ).loc Cert.AdPoolRefIdeal.main_arg2) = m' ((c.tc : Thread Cert.AdPoolRefIdeal.nD Cert.AdPoolRefIdeal.τ).loc Cert.AdPoolRefIdeal.main_arg2)
          ∧ r.2.mem ((c.tc : Thread Cert.AdPoolRefIdeal.nD Cert.AdPoolRefIdeal.τ).loc Cert.AdPoolRefIdeal.main_arg3) = m' ((c.tc : Thread Cert.AdPoolRefIdeal.nD Cert.AdPoolRefIdeal.τ).loc Cert.AdPoolRefIdeal.main_arg3))

def preserves_AdRow_AdRowIdeal : Prop :=
  True

def algebraic_AdRowIdeal_AdRowRefIdeal [hAdRowIdeal : Cert.AdRowIdeal.Facts] [hAdRowRefIdeal : Cert.AdRowRefIdeal.Facts] : Prop :=
  ∀ (m : (ℓ : Loc Cert.AdRowIdeal.nD Cert.AdRowIdeal.τ Cert.AdRowIdeal.sig) → Buf (Elt Ideal) ℓ) (g : Dev Cert.AdRowIdeal.nD → PrngReg)
    (m' : (ℓ : Loc Cert.AdRowRefIdeal.nD Cert.AdRowRefIdeal.τ Cert.AdRowRefIdeal.sig) → Buf (Elt Ideal) ℓ) (g' : Dev Cert.AdRowRefIdeal.nD → PrngReg), Pre_AdRowIdeal m →
    (∀ c : Dev Cert.AdRowIdeal.nD,
      m' ((c.tc : Thread Cert.AdRowRefIdeal.nD Cert.AdRowRefIdeal.τ).loc Cert.AdRowRefIdeal.main_arg0) = m ((c.tc : Thread Cert.AdRowIdeal.nD Cert.AdRowIdeal.τ).loc Cert.AdRowIdeal.main_arg0)
      ∧ m' ((c.tc : Thread Cert.AdRowRefIdeal.nD Cert.AdRowRefIdeal.τ).loc Cert.AdRowRefIdeal.main_arg1) = m ((c.tc : Thread Cert.AdRowIdeal.nD Cert.AdRowIdeal.τ).loc Cert.AdRowIdeal.main_arg1)
      ∧ m' ((c.tc : Thread Cert.AdRowRefIdeal.nD Cert.AdRowRefIdeal.τ).loc Cert.AdRowRefIdeal.main_arg2) = m ((c.tc : Thread Cert.AdRowIdeal.nD Cert.AdRowIdeal.τ).loc Cert.AdRowIdeal.main_arg2)
      ∧ m' ((c.tc : Thread Cert.AdRowRefIdeal.nD Cert.AdRowRefIdeal.τ).loc Cert.AdRowRefIdeal.main_arg3) = m ((c.tc : Thread Cert.AdRowIdeal.nD Cert.AdRowIdeal.τ).loc Cert.AdRowIdeal.main_arg3)) →
    ∃ (v0 : (c : Dev Cert.AdRowIdeal.nD) → Buf (Elt Ideal) ((c.tc : Thread Cert.AdRowIdeal.nD Cert.AdRowIdeal.τ).loc Cert.AdRowIdeal.main_v0_0)) (v1 : (c : Dev Cert.AdRowIdeal.nD) → Buf (Elt Ideal) ((c.tc : Thread Cert.AdRowIdeal.nD Cert.AdRowIdeal.τ).loc Cert.AdRowIdeal.main_v0_1)) (v2 : (c : Dev Cert.AdRowIdeal.nD) → Buf (Elt Ideal) ((c.tc : Thread Cert.AdRowIdeal.nD Cert.AdRowIdeal.τ).loc Cert.AdRowIdeal.main_v0_2)),
      θ_run (Cert.AdRowIdeal.defs (F := Ideal)) (onTc (τ := Cert.AdRowIdeal.τ) (Cert.AdRowIdeal.main (F := Ideal))) ⟨m, fun _ => 0, g⟩ (fun r => ∀ c : Dev Cert.AdRowIdeal.nD,
          r.2.mem ((c.tc : Thread Cert.AdRowIdeal.nD Cert.AdRowIdeal.τ).loc Cert.AdRowIdeal.main_v0_0) = v0 c
          ∧ r.2.mem ((c.tc : Thread Cert.AdRowIdeal.nD Cert.AdRowIdeal.τ).loc Cert.AdRowIdeal.main_v0_1) = v1 c
          ∧ r.2.mem ((c.tc : Thread Cert.AdRowIdeal.nD Cert.AdRowIdeal.τ).loc Cert.AdRowIdeal.main_v0_2) = v2 c
          ∧ r.2.mem ((c.tc : Thread Cert.AdRowIdeal.nD Cert.AdRowIdeal.τ).loc Cert.AdRowIdeal.main_arg0) = m ((c.tc : Thread Cert.AdRowIdeal.nD Cert.AdRowIdeal.τ).loc Cert.AdRowIdeal.main_arg0)
          ∧ r.2.mem ((c.tc : Thread Cert.AdRowIdeal.nD Cert.AdRowIdeal.τ).loc Cert.AdRowIdeal.main_arg1) = m ((c.tc : Thread Cert.AdRowIdeal.nD Cert.AdRowIdeal.τ).loc Cert.AdRowIdeal.main_arg1)
          ∧ r.2.mem ((c.tc : Thread Cert.AdRowIdeal.nD Cert.AdRowIdeal.τ).loc Cert.AdRowIdeal.main_arg2) = m ((c.tc : Thread Cert.AdRowIdeal.nD Cert.AdRowIdeal.τ).loc Cert.AdRowIdeal.main_arg2)
          ∧ r.2.mem ((c.tc : Thread Cert.AdRowIdeal.nD Cert.AdRowIdeal.τ).loc Cert.AdRowIdeal.main_arg3) = m ((c.tc : Thread Cert.AdRowIdeal.nD Cert.AdRowIdeal.τ).loc Cert.AdRowIdeal.main_arg3))
      ∧ θ_run (Cert.AdRowRefIdeal.defs (F := Ideal)) (onTc (τ := Cert.AdRowRefIdeal.τ) (Cert.AdRowRefIdeal.main (F := Ideal))) ⟨m', fun _ => 0, g'⟩ (fun r => ∀ c : Dev Cert.AdRowRefIdeal.nD,
          r.2.mem ((c.tc : Thread Cert.AdRowRefIdeal.nD Cert.AdRowRefIdeal.τ).loc Cert.AdRowRefIdeal.main_v23) = v0 c
          ∧ r.2.mem ((c.tc : Thread Cert.AdRowRefIdeal.nD Cert.AdRowRefIdeal.τ).loc Cert.AdRowRefIdeal.main_v4) = v1 c
          ∧ r.2.mem ((c.tc : Thread Cert.AdRowRefIdeal.nD Cert.AdRowRefIdeal.τ).loc Cert.AdRowRefIdeal.main_v10) = v2 c
          ∧ r.2.mem ((c.tc : Thread Cert.AdRowRefIdeal.nD Cert.AdRowRefIdeal.τ).loc Cert.AdRowRefIdeal.main_arg0) = m' ((c.tc : Thread Cert.AdRowRefIdeal.nD Cert.AdRowRefIdeal.τ).loc Cert.AdRowRefIdeal.main_arg0)
          ∧ r.2.mem ((c.tc : Thread Cert.AdRowRefIdeal.nD Cert.AdRowRefIdeal.τ).loc Cert.AdRowRefIdeal.main_arg1) = m' ((c.tc : Thread Cert.AdRowRefIdeal.nD Cert.AdRowRefIdeal.τ).loc Cert.AdRowRefIdeal.main_arg1)
          ∧ r.2.mem ((c.tc : Thread Cert.AdRowRefIdeal.nD Cert.AdRowRefIdeal.τ).loc Cert.AdRowRefIdeal.main_arg2) = m' ((c.tc : Thread Cert.AdRowRefIdeal.nD Cert.AdRowRefIdeal.τ).loc Cert.AdRowRefIdeal.main_arg2)
          ∧ r.2.mem ((c.tc : Thread Cert.AdRowRefIdeal.nD Cert.AdRowRefIdeal.τ).loc Cert.AdRowRefIdeal.main_arg3) = m' ((c.tc : Thread Cert.AdRowRefIdeal.nD Cert.AdRowRefIdeal.τ).loc Cert.AdRowRefIdeal.main_arg3))

def preserves_AdSink_AdSinkIdeal : Prop :=
  True

def algebraic_AdSinkIdeal_AdSinkRefIdeal [hAdSinkIdeal : Cert.AdSinkIdeal.Facts] [hAdSinkRefIdeal : Cert.AdSinkRefIdeal.Facts] : Prop :=
  ∀ (m : (ℓ : Loc Cert.AdSinkIdeal.nD Cert.AdSinkIdeal.τ Cert.AdSinkIdeal.sig) → Buf (Elt Ideal) ℓ) (g : Dev Cert.AdSinkIdeal.nD → PrngReg)
    (m' : (ℓ : Loc Cert.AdSinkRefIdeal.nD Cert.AdSinkRefIdeal.τ Cert.AdSinkRefIdeal.sig) → Buf (Elt Ideal) ℓ) (g' : Dev Cert.AdSinkRefIdeal.nD → PrngReg), Pre_AdSinkIdeal m →
    (∀ c : Dev Cert.AdSinkIdeal.nD,
      m' ((c.tc : Thread Cert.AdSinkRefIdeal.nD Cert.AdSinkRefIdeal.τ).loc Cert.AdSinkRefIdeal.main_arg0) = m ((c.tc : Thread Cert.AdSinkIdeal.nD Cert.AdSinkIdeal.τ).loc Cert.AdSinkIdeal.main_arg0)
      ∧ m' ((c.tc : Thread Cert.AdSinkRefIdeal.nD Cert.AdSinkRefIdeal.τ).loc Cert.AdSinkRefIdeal.main_arg1) = m ((c.tc : Thread Cert.AdSinkIdeal.nD Cert.AdSinkIdeal.τ).loc Cert.AdSinkIdeal.main_arg1)
      ∧ m' ((c.tc : Thread Cert.AdSinkRefIdeal.nD Cert.AdSinkRefIdeal.τ).loc Cert.AdSinkRefIdeal.main_arg2) = m ((c.tc : Thread Cert.AdSinkIdeal.nD Cert.AdSinkIdeal.τ).loc Cert.AdSinkIdeal.main_arg2)
      ∧ m' ((c.tc : Thread Cert.AdSinkRefIdeal.nD Cert.AdSinkRefIdeal.τ).loc Cert.AdSinkRefIdeal.main_arg3) = m ((c.tc : Thread Cert.AdSinkIdeal.nD Cert.AdSinkIdeal.τ).loc Cert.AdSinkIdeal.main_arg3)) →
    ∃ (v0 : (c : Dev Cert.AdSinkIdeal.nD) → Buf (Elt Ideal) ((c.tc : Thread Cert.AdSinkIdeal.nD Cert.AdSinkIdeal.τ).loc Cert.AdSinkIdeal.main_v0_0)) (v1 : (c : Dev Cert.AdSinkIdeal.nD) → Buf (Elt Ideal) ((c.tc : Thread Cert.AdSinkIdeal.nD Cert.AdSinkIdeal.τ).loc Cert.AdSinkIdeal.main_v0_1)) (v2 : (c : Dev Cert.AdSinkIdeal.nD) → Buf (Elt Ideal) ((c.tc : Thread Cert.AdSinkIdeal.nD Cert.AdSinkIdeal.τ).loc Cert.AdSinkIdeal.main_v0_2)),
      θ_run (Cert.AdSinkIdeal.defs (F := Ideal)) (onTc (τ := Cert.AdSinkIdeal.τ) (Cert.AdSinkIdeal.main (F := Ideal))) ⟨m, fun _ => 0, g⟩ (fun r => ∀ c : Dev Cert.AdSinkIdeal.nD,
          r.2.mem ((c.tc : Thread Cert.AdSinkIdeal.nD Cert.AdSinkIdeal.τ).loc Cert.AdSinkIdeal.main_v0_0) = v0 c
          ∧ r.2.mem ((c.tc : Thread Cert.AdSinkIdeal.nD Cert.AdSinkIdeal.τ).loc Cert.AdSinkIdeal.main_v0_1) = v1 c
          ∧ r.2.mem ((c.tc : Thread Cert.AdSinkIdeal.nD Cert.AdSinkIdeal.τ).loc Cert.AdSinkIdeal.main_v0_2) = v2 c
          ∧ r.2.mem ((c.tc : Thread Cert.AdSinkIdeal.nD Cert.AdSinkIdeal.τ).loc Cert.AdSinkIdeal.main_arg0) = m ((c.tc : Thread Cert.AdSinkIdeal.nD Cert.AdSinkIdeal.τ).loc Cert.AdSinkIdeal.main_arg0)
          ∧ r.2.mem ((c.tc : Thread Cert.AdSinkIdeal.nD Cert.AdSinkIdeal.τ).loc Cert.AdSinkIdeal.main_arg1) = m ((c.tc : Thread Cert.AdSinkIdeal.nD Cert.AdSinkIdeal.τ).loc Cert.AdSinkIdeal.main_arg1)
          ∧ r.2.mem ((c.tc : Thread Cert.AdSinkIdeal.nD Cert.AdSinkIdeal.τ).loc Cert.AdSinkIdeal.main_arg2) = m ((c.tc : Thread Cert.AdSinkIdeal.nD Cert.AdSinkIdeal.τ).loc Cert.AdSinkIdeal.main_arg2)
          ∧ r.2.mem ((c.tc : Thread Cert.AdSinkIdeal.nD Cert.AdSinkIdeal.τ).loc Cert.AdSinkIdeal.main_arg3) = m ((c.tc : Thread Cert.AdSinkIdeal.nD Cert.AdSinkIdeal.τ).loc Cert.AdSinkIdeal.main_arg3))
      ∧ θ_run (Cert.AdSinkRefIdeal.defs (F := Ideal)) (onTc (τ := Cert.AdSinkRefIdeal.τ) (Cert.AdSinkRefIdeal.main (F := Ideal))) ⟨m', fun _ => 0, g'⟩ (fun r => ∀ c : Dev Cert.AdSinkRefIdeal.nD,
          r.2.mem ((c.tc : Thread Cert.AdSinkRefIdeal.nD Cert.AdSinkRefIdeal.τ).loc Cert.AdSinkRefIdeal.main_v23) = v0 c
          ∧ r.2.mem ((c.tc : Thread Cert.AdSinkRefIdeal.nD Cert.AdSinkRefIdeal.τ).loc Cert.AdSinkRefIdeal.main_v4) = v1 c
          ∧ r.2.mem ((c.tc : Thread Cert.AdSinkRefIdeal.nD Cert.AdSinkRefIdeal.τ).loc Cert.AdSinkRefIdeal.main_v10) = v2 c
          ∧ r.2.mem ((c.tc : Thread Cert.AdSinkRefIdeal.nD Cert.AdSinkRefIdeal.τ).loc Cert.AdSinkRefIdeal.main_arg0) = m' ((c.tc : Thread Cert.AdSinkRefIdeal.nD Cert.AdSinkRefIdeal.τ).loc Cert.AdSinkRefIdeal.main_arg0)
          ∧ r.2.mem ((c.tc : Thread Cert.AdSinkRefIdeal.nD Cert.AdSinkRefIdeal.τ).loc Cert.AdSinkRefIdeal.main_arg1) = m' ((c.tc : Thread Cert.AdSinkRefIdeal.nD Cert.AdSinkRefIdeal.τ).loc Cert.AdSinkRefIdeal.main_arg1)
          ∧ r.2.mem ((c.tc : Thread Cert.AdSinkRefIdeal.nD Cert.AdSinkRefIdeal.τ).loc Cert.AdSinkRefIdeal.main_arg2) = m' ((c.tc : Thread Cert.AdSinkRefIdeal.nD Cert.AdSinkRefIdeal.τ).loc Cert.AdSinkRefIdeal.main_arg2)
          ∧ r.2.mem ((c.tc : Thread Cert.AdSinkRefIdeal.nD Cert.AdSinkRefIdeal.τ).loc Cert.AdSinkRefIdeal.main_arg3) = m' ((c.tc : Thread Cert.AdSinkRefIdeal.nD Cert.AdSinkRefIdeal.τ).loc Cert.AdSinkRefIdeal.main_arg3))

def preserves_AdGu_AdGuIdeal : Prop :=
  True

def algebraic_AdGuIdeal_AdGuRefIdeal [hAdGuIdeal : Cert.AdGuIdeal.Facts] [hAdGuRefIdeal : Cert.AdGuRefIdeal.Facts] : Prop :=
  ∀ (m : (ℓ : Loc Cert.AdGuIdeal.nD Cert.AdGuIdeal.τ Cert.AdGuIdeal.sig) → Buf (Elt Ideal) ℓ) (g : Dev Cert.AdGuIdeal.nD → PrngReg)
    (m' : (ℓ : Loc Cert.AdGuRefIdeal.nD Cert.AdGuRefIdeal.τ Cert.AdGuRefIdeal.sig) → Buf (Elt Ideal) ℓ) (g' : Dev Cert.AdGuRefIdeal.nD → PrngReg), Pre_AdGuIdeal m →
    (∀ c : Dev Cert.AdGuIdeal.nD,
      m' ((c.tc : Thread Cert.AdGuRefIdeal.nD Cert.AdGuRefIdeal.τ).loc Cert.AdGuRefIdeal.main_arg0) = m ((c.tc : Thread Cert.AdGuIdeal.nD Cert.AdGuIdeal.τ).loc Cert.AdGuIdeal.main_arg0)
      ∧ m' ((c.tc : Thread Cert.AdGuRefIdeal.nD Cert.AdGuRefIdeal.τ).loc Cert.AdGuRefIdeal.main_arg1) = m ((c.tc : Thread Cert.AdGuIdeal.nD Cert.AdGuIdeal.τ).loc Cert.AdGuIdeal.main_arg1)
      ∧ m' ((c.tc : Thread Cert.AdGuRefIdeal.nD Cert.AdGuRefIdeal.τ).loc Cert.AdGuRefIdeal.main_arg2) = m ((c.tc : Thread Cert.AdGuIdeal.nD Cert.AdGuIdeal.τ).loc Cert.AdGuIdeal.main_arg2)
      ∧ m' ((c.tc : Thread Cert.AdGuRefIdeal.nD Cert.AdGuRefIdeal.τ).loc Cert.AdGuRefIdeal.main_arg3) = m ((c.tc : Thread Cert.AdGuIdeal.nD Cert.AdGuIdeal.τ).loc Cert.AdGuIdeal.main_arg3)) →
    ∃ (v0 : (c : Dev Cert.AdGuIdeal.nD) → Buf (Elt Ideal) ((c.tc : Thread Cert.AdGuIdeal.nD Cert.AdGuIdeal.τ).loc Cert.AdGuIdeal.main_v5)) (v1 : (c : Dev Cert.AdGuIdeal.nD) → Buf (Elt Ideal) ((c.tc : Thread Cert.AdGuIdeal.nD Cert.AdGuIdeal.τ).loc Cert.AdGuIdeal.main_v6)) (v2 : (c : Dev Cert.AdGuIdeal.nD) → Buf (Elt Ideal) ((c.tc : Thread Cert.AdGuIdeal.nD Cert.AdGuIdeal.τ).loc Cert.AdGuIdeal.main_v7)),
      θ_run (Cert.AdGuIdeal.defs (F := Ideal)) (onTc (τ := Cert.AdGuIdeal.τ) (Cert.AdGuIdeal.main (F := Ideal))) ⟨m, fun _ => 0, g⟩ (fun r => ∀ c : Dev Cert.AdGuIdeal.nD,
          r.2.mem ((c.tc : Thread Cert.AdGuIdeal.nD Cert.AdGuIdeal.τ).loc Cert.AdGuIdeal.main_v5) = v0 c
          ∧ r.2.mem ((c.tc : Thread Cert.AdGuIdeal.nD Cert.AdGuIdeal.τ).loc Cert.AdGuIdeal.main_v6) = v1 c
          ∧ r.2.mem ((c.tc : Thread Cert.AdGuIdeal.nD Cert.AdGuIdeal.τ).loc Cert.AdGuIdeal.main_v7) = v2 c
          ∧ r.2.mem ((c.tc : Thread Cert.AdGuIdeal.nD Cert.AdGuIdeal.τ).loc Cert.AdGuIdeal.main_arg0) = m ((c.tc : Thread Cert.AdGuIdeal.nD Cert.AdGuIdeal.τ).loc Cert.AdGuIdeal.main_arg0)
          ∧ r.2.mem ((c.tc : Thread Cert.AdGuIdeal.nD Cert.AdGuIdeal.τ).loc Cert.AdGuIdeal.main_arg1) = m ((c.tc : Thread Cert.AdGuIdeal.nD Cert.AdGuIdeal.τ).loc Cert.AdGuIdeal.main_arg1)
          ∧ r.2.mem ((c.tc : Thread Cert.AdGuIdeal.nD Cert.AdGuIdeal.τ).loc Cert.AdGuIdeal.main_arg2) = m ((c.tc : Thread Cert.AdGuIdeal.nD Cert.AdGuIdeal.τ).loc Cert.AdGuIdeal.main_arg2)
          ∧ r.2.mem ((c.tc : Thread Cert.AdGuIdeal.nD Cert.AdGuIdeal.τ).loc Cert.AdGuIdeal.main_arg3) = m ((c.tc : Thread Cert.AdGuIdeal.nD Cert.AdGuIdeal.τ).loc Cert.AdGuIdeal.main_arg3))
      ∧ θ_run (Cert.AdGuRefIdeal.defs (F := Ideal)) (onTc (τ := Cert.AdGuRefIdeal.τ) (Cert.AdGuRefIdeal.main (F := Ideal))) ⟨m', fun _ => 0, g'⟩ (fun r => ∀ c : Dev Cert.AdGuRefIdeal.nD,
          r.2.mem ((c.tc : Thread Cert.AdGuRefIdeal.nD Cert.AdGuRefIdeal.τ).loc Cert.AdGuRefIdeal.main_v23) = v0 c
          ∧ r.2.mem ((c.tc : Thread Cert.AdGuRefIdeal.nD Cert.AdGuRefIdeal.τ).loc Cert.AdGuRefIdeal.main_v4) = v1 c
          ∧ r.2.mem ((c.tc : Thread Cert.AdGuRefIdeal.nD Cert.AdGuRefIdeal.τ).loc Cert.AdGuRefIdeal.main_v10) = v2 c
          ∧ r.2.mem ((c.tc : Thread Cert.AdGuRefIdeal.nD Cert.AdGuRefIdeal.τ).loc Cert.AdGuRefIdeal.main_arg0) = m' ((c.tc : Thread Cert.AdGuRefIdeal.nD Cert.AdGuRefIdeal.τ).loc Cert.AdGuRefIdeal.main_arg0)
          ∧ r.2.mem ((c.tc : Thread Cert.AdGuRefIdeal.nD Cert.AdGuRefIdeal.τ).loc Cert.AdGuRefIdeal.main_arg1) = m' ((c.tc : Thread Cert.AdGuRefIdeal.nD Cert.AdGuRefIdeal.τ).loc Cert.AdGuRefIdeal.main_arg1)
          ∧ r.2.mem ((c.tc : Thread Cert.AdGuRefIdeal.nD Cert.AdGuRefIdeal.τ).loc Cert.AdGuRefIdeal.main_arg2) = m' ((c.tc : Thread Cert.AdGuRefIdeal.nD Cert.AdGuRefIdeal.τ).loc Cert.AdGuRefIdeal.main_arg2)
          ∧ r.2.mem ((c.tc : Thread Cert.AdGuRefIdeal.nD Cert.AdGuRefIdeal.τ).loc Cert.AdGuRefIdeal.main_arg3) = m' ((c.tc : Thread Cert.AdGuRefIdeal.nD Cert.AdGuRefIdeal.τ).loc Cert.AdGuRefIdeal.main_arg3))

def preserves_AdDown_AdDownIdeal : Prop :=
  True

def algebraic_AdDownIdeal_AdDownRefIdeal [hAdDownIdeal : Cert.AdDownIdeal.Facts] [hAdDownRefIdeal : Cert.AdDownRefIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownRefIdeal.nD Cert.AdDownRefIdeal.τ Cert.AdDownRefIdeal.sig) → Buf (Elt Ideal) ℓ) (g' : Dev Cert.AdDownRefIdeal.nD → PrngReg), Pre_AdDownIdeal m →
    (∀ c : Dev Cert.AdDownIdeal.nD,
      m' ((c.tc : Thread Cert.AdDownRefIdeal.nD Cert.AdDownRefIdeal.τ).loc Cert.AdDownRefIdeal.main_arg0) = m ((c.tc : Thread Cert.AdDownIdeal.nD Cert.AdDownIdeal.τ).loc Cert.AdDownIdeal.main_arg0)
      ∧ m' ((c.tc : Thread Cert.AdDownRefIdeal.nD Cert.AdDownRefIdeal.τ).loc Cert.AdDownRefIdeal.main_arg1) = m ((c.tc : Thread Cert.AdDownIdeal.nD Cert.AdDownIdeal.τ).loc Cert.AdDownIdeal.main_arg1)
      ∧ m' ((c.tc : Thread Cert.AdDownRefIdeal.nD Cert.AdDownRefIdeal.τ).loc Cert.AdDownRefIdeal.main_arg2) = m ((c.tc : Thread Cert.AdDownIdeal.nD Cert.AdDownIdeal.τ).loc Cert.AdDownIdeal.main_arg2)
      ∧ m' ((c.tc : Thread Cert.AdDownRefIdeal.nD Cert.AdDownRefIdeal.τ).loc Cert.AdDownRefIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v5)) (v1 : (c : Dev Cert.AdDownIdeal.nD) → Buf (Elt Ideal) ((c.tc : Thread Cert.AdDownIdeal.nD Cert.AdDownIdeal.τ).loc Cert.AdDownIdeal.main_v6)) (v2 : (c : Dev Cert.AdDownIdeal.nD) → Buf (Elt Ideal) ((c.tc : Thread Cert.AdDownIdeal.nD Cert.AdDownIdeal.τ).loc Cert.AdDownIdeal.main_v7)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v5) = v0 c
          ∧ r.2.mem ((c.tc : Thread Cert.AdDownIdeal.nD Cert.AdDownIdeal.τ).loc Cert.AdDownIdeal.main_v6) = v1 c
          ∧ r.2.mem ((c.tc : Thread Cert.AdDownIdeal.nD Cert.AdDownIdeal.τ).loc Cert.AdDownIdeal.main_v7) = v2 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownRefIdeal.defs (F := Ideal)) (onTc (τ := Cert.AdDownRefIdeal.τ) (Cert.AdDownRefIdeal.main (F := Ideal))) ⟨m', fun _ => 0, g'⟩ (fun r => ∀ c : Dev Cert.AdDownRefIdeal.nD,
          r.2.mem ((c.tc : Thread Cert.AdDownRefIdeal.nD Cert.AdDownRefIdeal.τ).loc Cert.AdDownRefIdeal.main_v23) = v0 c
          ∧ r.2.mem ((c.tc : Thread Cert.AdDownRefIdeal.nD Cert.AdDownRefIdeal.τ).loc Cert.AdDownRefIdeal.main_v4) = v1 c
          ∧ r.2.mem ((c.tc : Thread Cert.AdDownRefIdeal.nD Cert.AdDownRefIdeal.τ).loc Cert.AdDownRefIdeal.main_v10) = v2 c
          ∧ r.2.mem ((c.tc : Thread Cert.AdDownRefIdeal.nD Cert.AdDownRefIdeal.τ).loc Cert.AdDownRefIdeal.main_arg0) = m' ((c.tc : Thread Cert.AdDownRefIdeal.nD Cert.AdDownRefIdeal.τ).loc Cert.AdDownRefIdeal.main_arg0)
          ∧ r.2.mem ((c.tc : Thread Cert.AdDownRefIdeal.nD Cert.AdDownRefIdeal.τ).loc Cert.AdDownRefIdeal.main_arg1) = m' ((c.tc : Thread Cert.AdDownRefIdeal.nD Cert.AdDownRefIdeal.τ).loc Cert.AdDownRefIdeal.main_arg1)
          ∧ r.2.mem ((c.tc : Thread Cert.AdDownRefIdeal.nD Cert.AdDownRefIdeal.τ).loc Cert.AdDownRefIdeal.main_arg2) = m' ((c.tc : Thread Cert.AdDownRefIdeal.nD Cert.AdDownRefIdeal.τ).loc Cert.AdDownRefIdeal.main_arg2)
          ∧ r.2.mem ((c.tc : Thread Cert.AdDownRefIdeal.nD Cert.AdDownRefIdeal.τ).loc Cert.AdDownRefIdeal.main_arg3) = m' ((c.tc : Thread Cert.AdDownRefIdeal.nD Cert.AdDownRefIdeal.τ).loc Cert.AdDownRefIdeal.main_arg3))

def preserves_AdRel_AdRelIdeal : Prop :=
  True

def algebraic_AdRelIdeal_AdRelRefIdeal [hAdRelIdeal : Cert.AdRelIdeal.Facts] [hAdRelRefIdeal : Cert.AdRelRefIdeal.Facts] : Prop :=
  ∀ (m : (ℓ : Loc Cert.AdRelIdeal.nD Cert.AdRelIdeal.τ Cert.AdRelIdeal.sig) → Buf (Elt Ideal) ℓ) (g : Dev Cert.AdRelIdeal.nD → PrngReg)
    (m' : (ℓ : Loc Cert.AdRelRefIdeal.nD Cert.AdRelRefIdeal.τ Cert.AdRelRefIdeal.sig) → Buf (Elt Ideal) ℓ) (g' : Dev Cert.AdRelRefIdeal.nD → PrngReg), Pre_AdRelIdeal m →
    (∀ c : Dev Cert.AdRelIdeal.nD,
      m' ((c.tc : Thread Cert.AdRelRefIdeal.nD Cert.AdRelRefIdeal.τ).loc Cert.AdRelRefIdeal.main_arg0) = m ((c.tc : Thread Cert.AdRelIdeal.nD Cert.AdRelIdeal.τ).loc Cert.AdRelIdeal.main_arg0)
      ∧ m' ((c.tc : Thread Cert.AdRelRefIdeal.nD Cert.AdRelRefIdeal.τ).loc Cert.AdRelRefIdeal.main_arg1) = m ((c.tc : Thread Cert.AdRelIdeal.nD Cert.AdRelIdeal.τ).loc Cert.AdRelIdeal.main_arg1)
      ∧ m' ((c.tc : Thread Cert.AdRelRefIdeal.nD Cert.AdRelRefIdeal.τ).loc Cert.AdRelRefIdeal.main_arg2) = m ((c.tc : Thread Cert.AdRelIdeal.nD Cert.AdRelIdeal.τ).loc Cert.AdRelIdeal.main_arg2)
      ∧ m' ((c.tc : Thread Cert.AdRelRefIdeal.nD Cert.AdRelRefIdeal.τ).loc Cert.AdRelRefIdeal.main_arg3) = m ((c.tc : Thread Cert.AdRelIdeal.nD Cert.AdRelIdeal.τ).loc Cert.AdRelIdeal.main_arg3)) →
    ∃ (v0 : (c : Dev Cert.AdRelIdeal.nD) → Buf (Elt Ideal) ((c.tc : Thread Cert.AdRelIdeal.nD Cert.AdRelIdeal.τ).loc Cert.AdRelIdeal.main_v0_0)) (v1 : (c : Dev Cert.AdRelIdeal.nD) → Buf (Elt Ideal) ((c.tc : Thread Cert.AdRelIdeal.nD Cert.AdRelIdeal.τ).loc Cert.AdRelIdeal.main_v0_1)) (v2 : (c : Dev Cert.AdRelIdeal.nD) → Buf (Elt Ideal) ((c.tc : Thread Cert.AdRelIdeal.nD Cert.AdRelIdeal.τ).loc Cert.AdRelIdeal.main_v0_2)),
      θ_run (Cert.AdRelIdeal.defs (F := Ideal)) (onTc (τ := Cert.AdRelIdeal.τ) (Cert.AdRelIdeal.main (F := Ideal))) ⟨m, fun _ => 0, g⟩ (fun r => ∀ c : Dev Cert.AdRelIdeal.nD,
          r.2.mem ((c.tc : Thread Cert.AdRelIdeal.nD Cert.AdRelIdeal.τ).loc Cert.AdRelIdeal.main_v0_0) = v0 c
          ∧ r.2.mem ((c.tc : Thread Cert.AdRelIdeal.nD Cert.AdRelIdeal.τ).loc Cert.AdRelIdeal.main_v0_1) = v1 c
          ∧ r.2.mem ((c.tc : Thread Cert.AdRelIdeal.nD Cert.AdRelIdeal.τ).loc Cert.AdRelIdeal.main_v0_2) = v2 c
          ∧ r.2.mem ((c.tc : Thread Cert.AdRelIdeal.nD Cert.AdRelIdeal.τ).loc Cert.AdRelIdeal.main_arg0) = m ((c.tc : Thread Cert.AdRelIdeal.nD Cert.AdRelIdeal.τ).loc Cert.AdRelIdeal.main_arg0)
          ∧ r.2.mem ((c.tc : Thread Cert.AdRelIdeal.nD Cert.AdRelIdeal.τ).loc Cert.AdRelIdeal.main_arg1) = m ((c.tc : Thread Cert.AdRelIdeal.nD Cert.AdRelIdeal.τ).loc Cert.AdRelIdeal.main_arg1)
          ∧ r.2.mem ((c.tc : Thread Cert.AdRelIdeal.nD Cert.AdRelIdeal.τ).loc Cert.AdRelIdeal.main_arg2) = m ((c.tc : Thread Cert.AdRelIdeal.nD Cert.AdRelIdeal.τ).loc Cert.AdRelIdeal.main_arg2)
          ∧ r.2.mem ((c.tc : Thread Cert.AdRelIdeal.nD Cert.AdRelIdeal.τ).loc Cert.AdRelIdeal.main_arg3) = m ((c.tc : Thread Cert.AdRelIdeal.nD Cert.AdRelIdeal.τ).loc Cert.AdRelIdeal.main_arg3))
      ∧ θ_run (Cert.AdRelRefIdeal.defs (F := Ideal)) (onTc (τ := Cert.AdRelRefIdeal.τ) (Cert.AdRelRefIdeal.main (F := Ideal))) ⟨m', fun _ => 0, g'⟩ (fun r => ∀ c : Dev Cert.AdRelRefIdeal.nD,
          r.2.mem ((c.tc : Thread Cert.AdRelRefIdeal.nD Cert.AdRelRefIdeal.τ).loc Cert.AdRelRefIdeal.main_v23) = v0 c
          ∧ r.2.mem ((c.tc : Thread Cert.AdRelRefIdeal.nD Cert.AdRelRefIdeal.τ).loc Cert.AdRelRefIdeal.main_v4) = v1 c
          ∧ r.2.mem ((c.tc : Thread Cert.AdRelRefIdeal.nD Cert.AdRelRefIdeal.τ).loc Cert.AdRelRefIdeal.main_v10) = v2 c
          ∧ r.2.mem ((c.tc : Thread Cert.AdRelRefIdeal.nD Cert.AdRelRefIdeal.τ).loc Cert.AdRelRefIdeal.main_arg0) = m' ((c.tc : Thread Cert.AdRelRefIdeal.nD Cert.AdRelRefIdeal.τ).loc Cert.AdRelRefIdeal.main_arg0)
          ∧ r.2.mem ((c.tc : Thread Cert.AdRelRefIdeal.nD Cert.AdRelRefIdeal.τ).loc Cert.AdRelRefIdeal.main_arg1) = m' ((c.tc : Thread Cert.AdRelRefIdeal.nD Cert.AdRelRefIdeal.τ).loc Cert.AdRelRefIdeal.main_arg1)
          ∧ r.2.mem ((c.tc : Thread Cert.AdRelRefIdeal.nD Cert.AdRelRefIdeal.τ).loc Cert.AdRelRefIdeal.main_arg2) = m' ((c.tc : Thread Cert.AdRelRefIdeal.nD Cert.AdRelRefIdeal.τ).loc Cert.AdRelRefIdeal.main_arg2)
          ∧ r.2.mem ((c.tc : Thread Cert.AdRelRefIdeal.nD Cert.AdRelRefIdeal.τ).loc Cert.AdRelRefIdeal.main_arg3) = m' ((c.tc : Thread Cert.AdRelRefIdeal.nD Cert.AdRelRefIdeal.τ).loc Cert.AdRelRefIdeal.main_arg3))

def preserves_AdFinal_AdFinalIdeal : Prop :=
  True

def algebraic_AdFinalIdeal_AdFinalRefIdeal [hAdFinalIdeal : Cert.AdFinalIdeal.Facts] [hAdFinalRefIdeal : Cert.AdFinalRefIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg)
    (m' : (ℓ : Loc Cert.AdFinalRefIdeal.nD Cert.AdFinalRefIdeal.τ Cert.AdFinalRefIdeal.sig) → Buf (Elt Ideal) ℓ) (g' : Dev Cert.AdFinalRefIdeal.nD → PrngReg), Pre_AdFinalIdeal m →
    (∀ c : Dev Cert.AdFinalIdeal.nD,
      m' ((c.tc : Thread Cert.AdFinalRefIdeal.nD Cert.AdFinalRefIdeal.τ).loc Cert.AdFinalRefIdeal.main_arg0) = m ((c.tc : Thread Cert.AdFinalIdeal.nD Cert.AdFinalIdeal.τ).loc Cert.AdFinalIdeal.main_arg0)
      ∧ m' ((c.tc : Thread Cert.AdFinalRefIdeal.nD Cert.AdFinalRefIdeal.τ).loc Cert.AdFinalRefIdeal.main_arg1) = m ((c.tc : Thread Cert.AdFinalIdeal.nD Cert.AdFinalIdeal.τ).loc Cert.AdFinalIdeal.main_arg1)
      ∧ m' ((c.tc : Thread Cert.AdFinalRefIdeal.nD Cert.AdFinalRefIdeal.τ).loc Cert.AdFinalRefIdeal.main_arg2) = m ((c.tc : Thread Cert.AdFinalIdeal.nD Cert.AdFinalIdeal.τ).loc Cert.AdFinalIdeal.main_arg2)
      ∧ m' ((c.tc : Thread Cert.AdFinalRefIdeal.nD Cert.AdFinalRefIdeal.τ).loc Cert.AdFinalRefIdeal.main_arg3) = m ((c.tc : Thread Cert.AdFinalIdeal.nD Cert.AdFinalIdeal.τ).loc Cert.AdFinalIdeal.main_arg3)) →
    ∃ (v0 : (c : Dev Cert.AdFinalIdeal.nD) → Buf (Elt Ideal) ((c.tc : Thread Cert.AdFinalIdeal.nD Cert.AdFinalIdeal.τ).loc Cert.AdFinalIdeal.main_v5)) (v1 : (c : Dev Cert.AdFinalIdeal.nD) → Buf (Elt Ideal) ((c.tc : Thread Cert.AdFinalIdeal.nD Cert.AdFinalIdeal.τ).loc Cert.AdFinalIdeal.main_v6)) (v2 : (c : Dev Cert.AdFinalIdeal.nD) → Buf (Elt Ideal) ((c.tc : Thread Cert.AdFinalIdeal.nD Cert.AdFinalIdeal.τ).loc Cert.AdFinalIdeal.main_v7)),
      θ_run (Cert.AdFinalIdeal.defs (F := Ideal)) (onTc (τ := Cert.AdFinalIdeal.τ) (Cert.AdFinalIdeal.main (F := Ideal))) ⟨m, fun _ => 0, g⟩ (fun r => ∀ c : Dev Cert.AdFinalIdeal.nD,
          r.2.mem ((c.tc : Thread Cert.AdFinalIdeal.nD Cert.AdFinalIdeal.τ).loc Cert.AdFinalIdeal.main_v5) = v0 c
          ∧ r.2.mem ((c.tc : Thread Cert.AdFinalIdeal.nD Cert.AdFinalIdeal.τ).loc Cert.AdFinalIdeal.main_v6) = v1 c
          ∧ r.2.mem ((c.tc : Thread Cert.AdFinalIdeal.nD Cert.AdFinalIdeal.τ).loc Cert.AdFinalIdeal.main_v7) = v2 c
          ∧ r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
          ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
          ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
          ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ θ_run (Cert.AdFinalRefIdeal.defs (F := Ideal)) (onTc (τ := Cert.AdFinalRefIdeal.τ) (Cert.AdFinalRefIdeal.main (F := Ideal))) ⟨m', fun _ => 0, g'⟩ (fun r => ∀ c : Dev Cert.AdFinalRefIdeal.nD,
          r.2.mem ((c.tc : Thread Cert.AdFinalRefIdeal.nD Cert.AdFinalRefIdeal.τ).loc Cert.AdFinalRefIdeal.main_v23) = v0 c
          ∧ r.2.mem ((c.tc : Thread Cert.AdFinalRefIdeal.nD Cert.AdFinalRefIdeal.τ).loc Cert.AdFinalRefIdeal.main_v4) = v1 c
          ∧ r.2.mem ((c.tc : Thread Cert.AdFinalRefIdeal.nD Cert.AdFinalRefIdeal.τ).loc Cert.AdFinalRefIdeal.main_v10) = v2 c
          ∧ r.2.mem ((c.tc : Thread Cert.AdFinalRefIdeal.nD Cert.AdFinalRefIdeal.τ).loc Cert.AdFinalRefIdeal.main_arg0) = m' ((c.tc : Thread Cert.AdFinalRefIdeal.nD Cert.AdFinalRefIdeal.τ).loc Cert.AdFinalRefIdeal.main_arg0)
          ∧ r.2.mem ((c.tc : Thread Cert.AdFinalRefIdeal.nD Cert.AdFinalRefIdeal.τ).loc Cert.AdFinalRefIdeal.main_arg1) = m' ((c.tc : Thread Cert.AdFinalRefIdeal.nD Cert.AdFinalRefIdeal.τ).loc Cert.AdFinalRefIdeal.main_arg1)
          ∧ r.2.mem ((c.tc : Thread Cert.AdFinalRefIdeal.nD Cert.AdFinalRefIdeal.τ).loc Cert.AdFinalRefIdeal.main_arg2) = m' ((c.tc : Thread Cert.AdFinalRefIdeal.nD Cert.AdFinalRefIdeal.τ).loc Cert.AdFinalRefIdeal.main_arg2)
          ∧ r.2.mem ((c.tc : Thread Cert.AdFinalRefIdeal.nD Cert.AdFinalRefIdeal.τ).loc Cert.AdFinalRefIdeal.main_arg3) = m' ((c.tc : Thread Cert.AdFinalRefIdeal.nD Cert.AdFinalRefIdeal.τ).loc Cert.AdFinalRefIdeal.main_arg3))

def preserves_RmsB_RmsBIdeal : Prop :=
  True

def algebraic_RmsBIdeal_RmsBRefIdeal [hRmsBIdeal : Cert.RmsBIdeal.Facts] [hRmsBRefIdeal : Cert.RmsBRefIdeal.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)) →
    ∃ (v0 : (c : Dev Cert.RmsBIdeal.nD) → Buf (Elt Ideal) ((c.tc : Thread Cert.RmsBIdeal.nD Cert.RmsBIdeal.τ).loc Cert.RmsBIdeal.main_v0_0)) (v1 : (c : Dev Cert.RmsBIdeal.nD) → Buf (Elt Ideal) ((c.tc : Thread Cert.RmsBIdeal.nD Cert.RmsBIdeal.τ).loc Cert.RmsBIdeal.main_v0_1)) (v2 : (c : Dev Cert.RmsBIdeal.nD) → Buf (Elt Ideal) ((c.tc : Thread Cert.RmsBIdeal.nD Cert.RmsBIdeal.τ).loc Cert.RmsBIdeal.main_v0_2)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v0_0) = v0 c
          ∧ r.2.mem ((c.tc : Thread Cert.RmsBIdeal.nD Cert.RmsBIdeal.τ).loc Cert.RmsBIdeal.main_v0_1) = v1 c
          ∧ r.2.mem ((c.tc : Thread Cert.RmsBIdeal.nD Cert.RmsBIdeal.τ).loc Cert.RmsBIdeal.main_v0_2) = v2 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v34) = v0 c
          ∧ r.2.mem ((c.tc : Thread Cert.RmsBRefIdeal.nD Cert.RmsBRefIdeal.τ).loc Cert.RmsBRefIdeal.main_v35) = v1 c
          ∧ r.2.mem ((c.tc : Thread Cert.RmsBRefIdeal.nD Cert.RmsBRefIdeal.τ).loc Cert.RmsBRefIdeal.main_v17) = v2 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v12) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_LossH_LossHIdeal : Prop :=
  True

def algebraic_LossHIdeal_LossHRefIdeal [hLossHIdeal : Cert.LossHIdeal.Facts] [hLossHRefIdeal : Cert.LossHRefIdeal.Facts] : Prop :=
  ∀ (m : (ℓ : Loc Cert.LossHIdeal.nD Cert.LossHIdeal.τ Cert.LossHIdeal.sig) → Buf (Elt Ideal) ℓ) (g : Dev Cert.LossHIdeal.nD → PrngReg)
    (m' : (ℓ : Loc Cert.LossHRefIdeal.nD Cert.LossHRefIdeal.τ Cert.LossHRefIdeal.sig) → Buf (Elt Ideal) ℓ) (g' : Dev Cert.LossHRefIdeal.nD → PrngReg), Pre_LossHIdeal m →
    (∀ c : Dev Cert.LossHIdeal.nD,
      m' ((c.tc : Thread Cert.LossHRefIdeal.nD Cert.LossHRefIdeal.τ).loc Cert.LossHRefIdeal.main_arg0) = m ((c.tc : Thread Cert.LossHIdeal.nD Cert.LossHIdeal.τ).loc Cert.LossHIdeal.main_arg0)
      ∧ m' ((c.tc : Thread Cert.LossHRefIdeal.nD Cert.LossHRefIdeal.τ).loc Cert.LossHRefIdeal.main_arg1) = m ((c.tc : Thread Cert.LossHIdeal.nD Cert.LossHIdeal.τ).loc Cert.LossHIdeal.main_arg1)
      ∧ m' ((c.tc : Thread Cert.LossHRefIdeal.nD Cert.LossHRefIdeal.τ).loc Cert.LossHRefIdeal.main_arg2) = m ((c.tc : Thread Cert.LossHIdeal.nD Cert.LossHIdeal.τ).loc Cert.LossHIdeal.main_arg2)) →
    ∃ (v0 : (c : Dev Cert.LossHIdeal.nD) → Buf (Elt Ideal) ((c.tc : Thread Cert.LossHIdeal.nD Cert.LossHIdeal.τ).loc Cert.LossHIdeal.main_v0_0)) (v1 : (c : Dev Cert.LossHIdeal.nD) → Buf (Elt Ideal) ((c.tc : Thread Cert.LossHIdeal.nD Cert.LossHIdeal.τ).loc Cert.LossHIdeal.main_v0_1)) (v2 : (c : Dev Cert.LossHIdeal.nD) → Buf (Elt Ideal) ((c.tc : Thread Cert.LossHIdeal.nD Cert.LossHIdeal.τ).loc Cert.LossHIdeal.main_v0_2)) (v3 : (c : Dev Cert.LossHIdeal.nD) → Buf (Elt Ideal) ((c.tc : Thread Cert.LossHIdeal.nD Cert.LossHIdeal.τ).loc Cert.LossHIdeal.main_v0_3)),
      θ_run (Cert.LossHIdeal.defs (F := Ideal)) (onTc (τ := Cert.LossHIdeal.τ) (Cert.LossHIdeal.main (F := Ideal))) ⟨m, fun _ => 0, g⟩ (fun r => ∀ c : Dev Cert.LossHIdeal.nD,
          r.2.mem ((c.tc : Thread Cert.LossHIdeal.nD Cert.LossHIdeal.τ).loc Cert.LossHIdeal.main_v0_0) = v0 c
          ∧ r.2.mem ((c.tc : Thread Cert.LossHIdeal.nD Cert.LossHIdeal.τ).loc Cert.LossHIdeal.main_v0_1) = v1 c
          ∧ r.2.mem ((c.tc : Thread Cert.LossHIdeal.nD Cert.LossHIdeal.τ).loc Cert.LossHIdeal.main_v0_2) = v2 c
          ∧ r.2.mem ((c.tc : Thread Cert.LossHIdeal.nD Cert.LossHIdeal.τ).loc Cert.LossHIdeal.main_v0_3) = v3 c
          ∧ r.2.mem ((c.tc : Thread Cert.LossHIdeal.nD Cert.LossHIdeal.τ).loc Cert.LossHIdeal.main_arg0) = m ((c.tc : Thread Cert.LossHIdeal.nD Cert.LossHIdeal.τ).loc Cert.LossHIdeal.main_arg0)
          ∧ r.2.mem ((c.tc : Thread Cert.LossHIdeal.nD Cert.LossHIdeal.τ).loc Cert.LossHIdeal.main_arg1) = m ((c.tc : Thread Cert.LossHIdeal.nD Cert.LossHIdeal.τ).loc Cert.LossHIdeal.main_arg1)
          ∧ r.2.mem ((c.tc : Thread Cert.LossHIdeal.nD Cert.LossHIdeal.τ).loc Cert.LossHIdeal.main_arg2) = m ((c.tc : Thread Cert.LossHIdeal.nD Cert.LossHIdeal.τ).loc Cert.LossHIdeal.main_arg2))
      ∧ θ_run (Cert.LossHRefIdeal.defs (F := Ideal)) (onTc (τ := Cert.LossHRefIdeal.τ) (Cert.LossHRefIdeal.main (F := Ideal))) ⟨m', fun _ => 0, g'⟩ (fun r => ∀ c : Dev Cert.LossHRefIdeal.nD,
          r.2.mem ((c.tc : Thread Cert.LossHRefIdeal.nD Cert.LossHRefIdeal.τ).loc Cert.LossHRefIdeal.main_v49) = v0 c
          ∧ r.2.mem ((c.tc : Thread Cert.LossHRefIdeal.nD Cert.LossHRefIdeal.τ).loc Cert.LossHRefIdeal.main_v48) = v1 c
          ∧ r.2.mem ((c.tc : Thread Cert.LossHRefIdeal.nD Cert.LossHRefIdeal.τ).loc Cert.LossHRefIdeal.main_v50) = v2 c
          ∧ r.2.mem ((c.tc : Thread Cert.LossHRefIdeal.nD Cert.LossHRefIdeal.τ).loc Cert.LossHRefIdeal.main_v32) = v3 c
          ∧ r.2.mem ((c.tc : Thread Cert.LossHRefIdeal.nD Cert.LossHRefIdeal.τ).loc Cert.LossHRefIdeal.main_arg0) = m' ((c.tc : Thread Cert.LossHRefIdeal.nD Cert.LossHRefIdeal.τ).loc Cert.LossHRefIdeal.main_arg0)
          ∧ r.2.mem ((c.tc : Thread Cert.LossHRefIdeal.nD Cert.LossHRefIdeal.τ).loc Cert.LossHRefIdeal.main_arg1) = m' ((c.tc : Thread Cert.LossHRefIdeal.nD Cert.LossHRefIdeal.τ).loc Cert.LossHRefIdeal.main_arg1)
          ∧ r.2.mem ((c.tc : Thread Cert.LossHRefIdeal.nD Cert.LossHRefIdeal.τ).loc Cert.LossHRefIdeal.main_arg2) = m' ((c.tc : Thread Cert.LossHRefIdeal.nD Cert.LossHRefIdeal.τ).loc Cert.LossHRefIdeal.main_arg2))

def preserves_SwiB_SwiBIdeal : Prop :=
  True

def algebraic_SwiBIdeal_SwiBRefIdeal_pre_finite [hSwiBIdeal : Cert.SwiBIdeal.Facts] [hSwiBRefIdeal : Cert.SwiBRefIdeal.Facts] [hPre_finite : Cert.Pre_finite.Facts] : Prop :=
  ∀ (m : (ℓ : Loc Cert.SwiBIdeal.nD Cert.SwiBIdeal.τ Cert.SwiBIdeal.sig) → Buf (Elt Ideal) ℓ) (g : Dev Cert.SwiBIdeal.nD → PrngReg)
    (m' : (ℓ : Loc Cert.SwiBRefIdeal.nD Cert.SwiBRefIdeal.τ Cert.SwiBRefIdeal.sig) → Buf (Elt Ideal) ℓ) (g' : Dev Cert.SwiBRefIdeal.nD → PrngReg), Pre_SwiBIdeal_finite m →
    (∀ c : Dev Cert.SwiBIdeal.nD,
      m' ((c.tc : Thread Cert.SwiBRefIdeal.nD Cert.SwiBRefIdeal.τ).loc Cert.SwiBRefIdeal.main_arg0) = m ((c.tc : Thread Cert.SwiBIdeal.nD Cert.SwiBIdeal.τ).loc Cert.SwiBIdeal.main_arg0)
      ∧ m' ((c.tc : Thread Cert.SwiBRefIdeal.nD Cert.SwiBRefIdeal.τ).loc Cert.SwiBRefIdeal.main_arg1) = m ((c.tc : Thread Cert.SwiBIdeal.nD Cert.SwiBIdeal.τ).loc Cert.SwiBIdeal.main_arg1)) →
    ∃ (v0 : (c : Dev Cert.SwiBIdeal.nD) → Buf (Elt Ideal) ((c.tc : Thread Cert.SwiBIdeal.nD Cert.SwiBIdeal.τ).loc Cert.SwiBIdeal.main_v0)),
      θ_run (Cert.SwiBIdeal.defs (F := Ideal)) (onTc (τ := Cert.SwiBIdeal.τ) (Cert.SwiBIdeal.main (F := Ideal))) ⟨m, fun _ => 0, g⟩ (fun r => ∀ c : Dev Cert.SwiBIdeal.nD,
          r.2.mem ((c.tc : Thread Cert.SwiBIdeal.nD Cert.SwiBIdeal.τ).loc Cert.SwiBIdeal.main_v0) = v0 c
          ∧ r.2.mem ((c.tc : Thread Cert.SwiBIdeal.nD Cert.SwiBIdeal.τ).loc Cert.SwiBIdeal.main_arg0) = m ((c.tc : Thread Cert.SwiBIdeal.nD Cert.SwiBIdeal.τ).loc Cert.SwiBIdeal.main_arg0)
          ∧ r.2.mem ((c.tc : Thread Cert.SwiBIdeal.nD Cert.SwiBIdeal.τ).loc Cert.SwiBIdeal.main_arg1) = m ((c.tc : Thread Cert.SwiBIdeal.nD Cert.SwiBIdeal.τ).loc Cert.SwiBIdeal.main_arg1))
      ∧ θ_run (Cert.SwiBRefIdeal.defs (F := Ideal)) (onTc (τ := Cert.SwiBRefIdeal.τ) (Cert.SwiBRefIdeal.main (F := Ideal))) ⟨m', fun _ => 0, g'⟩ (fun r => ∀ c : Dev Cert.SwiBRefIdeal.nD,
          r.2.mem ((c.tc : Thread Cert.SwiBRefIdeal.nD Cert.SwiBRefIdeal.τ).loc Cert.SwiBRefIdeal.main_v10) = v0 c
          ∧ r.2.mem ((c.tc : Thread Cert.SwiBRefIdeal.nD Cert.SwiBRefIdeal.τ).loc Cert.SwiBRefIdeal.main_arg0) = m' ((c.tc : Thread Cert.SwiBRefIdeal.nD Cert.SwiBRefIdeal.τ).loc Cert.SwiBRefIdeal.main_arg0)
          ∧ r.2.mem ((c.tc : Thread Cert.SwiBRefIdeal.nD Cert.SwiBRefIdeal.τ).loc Cert.SwiBRefIdeal.main_arg1) = m' ((c.tc : Thread Cert.SwiBRefIdeal.nD Cert.SwiBRefIdeal.τ).loc Cert.SwiBRefIdeal.main_arg1))

def preserves_SwiF_SwiFIdeal : Prop :=
  True

def algebraic_SwiFIdeal_SwiFRefIdeal [hSwiFIdeal : Cert.SwiFIdeal.Facts] [hSwiFRefIdeal : Cert.SwiFRefIdeal.Facts] : Prop :=
  ∀ (m : (ℓ : Loc Cert.SwiFIdeal.nD Cert.SwiFIdeal.τ Cert.SwiFIdeal.sig) → Buf (Elt Ideal) ℓ) (g : Dev Cert.SwiFIdeal.nD → PrngReg)
    (m' : (ℓ : Loc Cert.SwiFRefIdeal.nD Cert.SwiFRefIdeal.τ Cert.SwiFRefIdeal.sig) → Buf (Elt Ideal) ℓ) (g' : Dev Cert.SwiFRefIdeal.nD → PrngReg), Pre_SwiFIdeal m →
    (∀ c : Dev Cert.SwiFIdeal.nD,
      m' ((c.tc : Thread Cert.SwiFRefIdeal.nD Cert.SwiFRefIdeal.τ).loc Cert.SwiFRefIdeal.main_arg0) = m ((c.tc : Thread Cert.SwiFIdeal.nD Cert.SwiFIdeal.τ).loc Cert.SwiFIdeal.main_arg0)) →
    ∃ (v0 : (c : Dev Cert.SwiFIdeal.nD) → Buf (Elt Ideal) ((c.tc : Thread Cert.SwiFIdeal.nD Cert.SwiFIdeal.τ).loc Cert.SwiFIdeal.main_v0)),
      θ_run (Cert.SwiFIdeal.defs (F := Ideal)) (onTc (τ := Cert.SwiFIdeal.τ) (Cert.SwiFIdeal.main (F := Ideal))) ⟨m, fun _ => 0, g⟩ (fun r => ∀ c : Dev Cert.SwiFIdeal.nD,
          r.2.mem ((c.tc : Thread Cert.SwiFIdeal.nD Cert.SwiFIdeal.τ).loc Cert.SwiFIdeal.main_v0) = v0 c
          ∧ r.2.mem ((c.tc : Thread Cert.SwiFIdeal.nD Cert.SwiFIdeal.τ).loc Cert.SwiFIdeal.main_arg0) = m ((c.tc : Thread Cert.SwiFIdeal.nD Cert.SwiFIdeal.τ).loc Cert.SwiFIdeal.main_arg0))
      ∧ θ_run (Cert.SwiFRefIdeal.defs (F := Ideal)) (onTc (τ := Cert.SwiFRefIdeal.τ) (Cert.SwiFRefIdeal.main (F := Ideal))) ⟨m', fun _ => 0, g'⟩ (fun r => ∀ c : Dev Cert.SwiFRefIdeal.nD,
          r.2.mem ((c.tc : Thread Cert.SwiFRefIdeal.nD Cert.SwiFRefIdeal.τ).loc Cert.SwiFRefIdeal.main_v5) = v0 c
          ∧ r.2.mem ((c.tc : Thread Cert.SwiFRefIdeal.nD Cert.SwiFRefIdeal.τ).loc Cert.SwiFRefIdeal.main_arg0) = m' ((c.tc : Thread Cert.SwiFRefIdeal.nD Cert.SwiFRefIdeal.τ).loc Cert.SwiFRefIdeal.main_arg0))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)
      ∧ m' ((c.tc : Thread Cert.MergeFRefIdeal.nD Cert.MergeFRefIdeal.τ).loc Cert.MergeFRefIdeal.main_arg3) = m ((c.tc : Thread Cert.MergeFIdeal.nD Cert.MergeFIdeal.τ).loc Cert.MergeFIdeal.main_arg3)
      ∧ m' ((c.tc : Thread Cert.MergeFRefIdeal.nD Cert.MergeFRefIdeal.τ).loc Cert.MergeFRefIdeal.main_arg4) = m ((c.tc : Thread Cert.MergeFIdeal.nD Cert.MergeFIdeal.τ).loc Cert.MergeFIdeal.main_arg4)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
          ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v33) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2)
          ∧ r.2.mem ((c.tc : Thread Cert.MergeFRefIdeal.nD Cert.MergeFRefIdeal.τ).loc Cert.MergeFRefIdeal.main_arg3) = m' ((c.tc : Thread Cert.MergeFRefIdeal.nD Cert.MergeFRefIdeal.τ).loc Cert.MergeFRefIdeal.main_arg3)
          ∧ r.2.mem ((c.tc : Thread Cert.MergeFRefIdeal.nD Cert.MergeFRefIdeal.τ).loc Cert.MergeFRefIdeal.main_arg4) = m' ((c.tc : Thread Cert.MergeFRefIdeal.nD Cert.MergeFRefIdeal.τ).loc Cert.MergeFRefIdeal.main_arg4))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v2)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v2) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_ChipA_ChipAIdeal : Prop :=
  True

def algebraic_ChipAIdeal_ChipARefIdeal [hChipAIdeal : Cert.ChipAIdeal.Facts] [hChipARefIdeal : Cert.ChipARefIdeal.Facts] : Prop :=
  ∀ (m : (ℓ : Loc Cert.ChipAIdeal.nD Cert.ChipAIdeal.τ Cert.ChipAIdeal.sig) → Buf (Elt Ideal) ℓ) (g : Dev Cert.ChipAIdeal.nD → PrngReg)
    (m' : (ℓ : Loc Cert.ChipARefIdeal.nD Cert.ChipARefIdeal.τ Cert.ChipARefIdeal.sig) → Buf (Elt Ideal) ℓ) (g' : Dev Cert.ChipARefIdeal.nD → PrngReg), Pre_ChipAIdeal m →
    (∀ c : Dev Cert.ChipAIdeal.nD,
      m' ((c.tc : Thread Cert.ChipARefIdeal.nD Cert.ChipARefIdeal.τ).loc Cert.ChipARefIdeal.main_arg0) = m ((c.tc : Thread Cert.ChipAIdeal.nD Cert.ChipAIdeal.τ).loc Cert.ChipAIdeal.main_arg0)
      ∧ m' ((c.tc : Thread Cert.ChipARefIdeal.nD Cert.ChipARefIdeal.τ).loc Cert.ChipARefIdeal.main_arg1) = m ((c.tc : Thread Cert.ChipAIdeal.nD Cert.ChipAIdeal.τ).loc Cert.ChipAIdeal.main_arg1)) →
    ∃ (v0 : (c : Dev Cert.ChipAIdeal.nD) → Buf (Elt Ideal) ((c.tc : Thread Cert.ChipAIdeal.nD Cert.ChipAIdeal.τ).loc Cert.ChipAIdeal.main_v1)),
      θ_run (Cert.ChipAIdeal.defs (F := Ideal)) (onTc (τ := Cert.ChipAIdeal.τ) (Cert.ChipAIdeal.main (F := Ideal))) ⟨m, fun _ => 0, g⟩ (fun r => ∀ c : Dev Cert.ChipAIdeal.nD,
          r.2.mem ((c.tc : Thread Cert.ChipAIdeal.nD Cert.ChipAIdeal.τ).loc Cert.ChipAIdeal.main_v1) = v0 c
          ∧ r.2.mem ((c.tc : Thread Cert.ChipAIdeal.nD Cert.ChipAIdeal.τ).loc Cert.ChipAIdeal.main_arg0) = m ((c.tc : Thread Cert.ChipAIdeal.nD Cert.ChipAIdeal.τ).loc Cert.ChipAIdeal.main_arg0)
          ∧ r.2.mem ((c.tc : Thread Cert.ChipAIdeal.nD Cert.ChipAIdeal.τ).loc Cert.ChipAIdeal.main_arg1) = m ((c.tc : Thread Cert.ChipAIdeal.nD Cert.ChipAIdeal.τ).loc Cert.ChipAIdeal.main_arg1))
      ∧ θ_run (Cert.ChipARefIdeal.defs (F := Ideal)) (onTc (τ := Cert.ChipARefIdeal.τ) (Cert.ChipARefIdeal.main (F := Ideal))) ⟨m', fun _ => 0, g'⟩ (fun r => ∀ c : Dev Cert.ChipARefIdeal.nD,
          r.2.mem ((c.tc : Thread Cert.ChipARefIdeal.nD Cert.ChipARefIdeal.τ).loc Cert.ChipARefIdeal.main_v5) = v0 c
          ∧ r.2.mem ((c.tc : Thread Cert.ChipARefIdeal.nD Cert.ChipARefIdeal.τ).loc Cert.ChipARefIdeal.main_arg0) = m' ((c.tc : Thread Cert.ChipARefIdeal.nD Cert.ChipARefIdeal.τ).loc Cert.ChipARefIdeal.main_arg0)
          ∧ r.2.mem ((c.tc : Thread Cert.ChipARefIdeal.nD Cert.ChipARefIdeal.τ).loc Cert.ChipARefIdeal.main_arg1) = m' ((c.tc : Thread Cert.ChipARefIdeal.nD Cert.ChipARefIdeal.τ).loc Cert.ChipARefIdeal.main_arg1))

def preserves_ChipB_ChipBIdeal : Prop :=
  True

def algebraic_ChipBIdeal_ChipBRefIdeal [hChipBIdeal : Cert.ChipBIdeal.Facts] [hChipBRefIdeal : Cert.ChipBRefIdeal.Facts] : Prop :=
  ∀ (m : (ℓ : Loc Cert.ChipBIdeal.nD Cert.ChipBIdeal.τ Cert.ChipBIdeal.sig) → Buf (Elt Ideal) ℓ) (g : Dev Cert.ChipBIdeal.nD → PrngReg)
    (m' : (ℓ : Loc Cert.ChipBRefIdeal.nD Cert.ChipBRefIdeal.τ Cert.ChipBRefIdeal.sig) → Buf (Elt Ideal) ℓ) (g' : Dev Cert.ChipBRefIdeal.nD → PrngReg), Pre_ChipBIdeal m →
    (∀ c : Dev Cert.ChipBIdeal.nD,
      m' ((c.tc : Thread Cert.ChipBRefIdeal.nD Cert.ChipBRefIdeal.τ).loc Cert.ChipBRefIdeal.main_arg0) = m ((c.tc : Thread Cert.ChipBIdeal.nD Cert.ChipBIdeal.τ).loc Cert.ChipBIdeal.main_arg0)
      ∧ m' ((c.tc : Thread Cert.ChipBRefIdeal.nD Cert.ChipBRefIdeal.τ).loc Cert.ChipBRefIdeal.main_arg1) = m ((c.tc : Thread Cert.ChipBIdeal.nD Cert.ChipBIdeal.τ).loc Cert.ChipBIdeal.main_arg1)) →
    ∃ (v0 : (c : Dev Cert.ChipBIdeal.nD) → Buf (Elt Ideal) ((c.tc : Thread Cert.ChipBIdeal.nD Cert.ChipBIdeal.τ).loc Cert.ChipBIdeal.main_v1)),
      θ_run (Cert.ChipBIdeal.defs (F := Ideal)) (onTc (τ := Cert.ChipBIdeal.τ) (Cert.ChipBIdeal.main (F := Ideal))) ⟨m, fun _ => 0, g⟩ (fun r => ∀ c : Dev Cert.ChipBIdeal.nD,
          r.2.mem ((c.tc : Thread Cert.ChipBIdeal.nD Cert.ChipBIdeal.τ).loc Cert.ChipBIdeal.main_v1) = v0 c
          ∧ r.2.mem ((c.tc : Thread Cert.ChipBIdeal.nD Cert.ChipBIdeal.τ).loc Cert.ChipBIdeal.main_arg0) = m ((c.tc : Thread Cert.ChipBIdeal.nD Cert.ChipBIdeal.τ).loc Cert.ChipBIdeal.main_arg0)
          ∧ r.2.mem ((c.tc : Thread Cert.ChipBIdeal.nD Cert.ChipBIdeal.τ).loc Cert.ChipBIdeal.main_arg1) = m ((c.tc : Thread Cert.ChipBIdeal.nD Cert.ChipBIdeal.τ).loc Cert.ChipBIdeal.main_arg1))
      ∧ θ_run (Cert.ChipBRefIdeal.defs (F := Ideal)) (onTc (τ := Cert.ChipBRefIdeal.τ) (Cert.ChipBRefIdeal.main (F := Ideal))) ⟨m', fun _ => 0, g'⟩ (fun r => ∀ c : Dev Cert.ChipBRefIdeal.nD,
          r.2.mem ((c.tc : Thread Cert.ChipBRefIdeal.nD Cert.ChipBRefIdeal.τ).loc Cert.ChipBRefIdeal.main_v5) = v0 c
          ∧ r.2.mem ((c.tc : Thread Cert.ChipBRefIdeal.nD Cert.ChipBRefIdeal.τ).loc Cert.ChipBRefIdeal.main_arg0) = m' ((c.tc : Thread Cert.ChipBRefIdeal.nD Cert.ChipBRefIdeal.τ).loc Cert.ChipBRefIdeal.main_arg0)
          ∧ r.2.mem ((c.tc : Thread Cert.ChipBRefIdeal.nD Cert.ChipBRefIdeal.τ).loc Cert.ChipBRefIdeal.main_arg1) = m' ((c.tc : Thread Cert.ChipBRefIdeal.nD Cert.ChipBRefIdeal.τ).loc Cert.ChipBRefIdeal.main_arg1))

def preserves_ChipC_ChipCIdeal : Prop :=
  True

def algebraic_ChipCIdeal_ChipCRefIdeal [hChipCIdeal : Cert.ChipCIdeal.Facts] [hChipCRefIdeal : Cert.ChipCRefIdeal.Facts] : Prop :=
  ∀ (m : (ℓ : Loc Cert.ChipCIdeal.nD Cert.ChipCIdeal.τ Cert.ChipCIdeal.sig) → Buf (Elt Ideal) ℓ) (g : Dev Cert.ChipCIdeal.nD → PrngReg)
    (m' : (ℓ : Loc Cert.ChipCRefIdeal.nD Cert.ChipCRefIdeal.τ Cert.ChipCRefIdeal.sig) → Buf (Elt Ideal) ℓ) (g' : Dev Cert.ChipCRefIdeal.nD → PrngReg), Pre_ChipCIdeal m →
    (∀ c : Dev Cert.ChipCIdeal.nD,
      m' ((c.tc : Thread Cert.ChipCRefIdeal.nD Cert.ChipCRefIdeal.τ).loc Cert.ChipCRefIdeal.main_arg0) = m ((c.tc : Thread Cert.ChipCIdeal.nD Cert.ChipCIdeal.τ).loc Cert.ChipCIdeal.main_arg0)
      ∧ m' ((c.tc : Thread Cert.ChipCRefIdeal.nD Cert.ChipCRefIdeal.τ).loc Cert.ChipCRefIdeal.main_arg1) = m ((c.tc : Thread Cert.ChipCIdeal.nD Cert.ChipCIdeal.τ).loc Cert.ChipCIdeal.main_arg1)) →
    ∃ (v0 : (c : Dev Cert.ChipCIdeal.nD) → Buf (Elt Ideal) ((c.tc : Thread Cert.ChipCIdeal.nD Cert.ChipCIdeal.τ).loc Cert.ChipCIdeal.main_v1)),
      θ_run (Cert.ChipCIdeal.defs (F := Ideal)) (onTc (τ := Cert.ChipCIdeal.τ) (Cert.ChipCIdeal.main (F := Ideal))) ⟨m, fun _ => 0, g⟩ (fun r => ∀ c : Dev Cert.ChipCIdeal.nD,
          r.2.mem ((c.tc : Thread Cert.ChipCIdeal.nD Cert.ChipCIdeal.τ).loc Cert.ChipCIdeal.main_v1) = v0 c
          ∧ r.2.mem ((c.tc : Thread Cert.ChipCIdeal.nD Cert.ChipCIdeal.τ).loc Cert.ChipCIdeal.main_arg0) = m ((c.tc : Thread Cert.ChipCIdeal.nD Cert.ChipCIdeal.τ).loc Cert.ChipCIdeal.main_arg0)
          ∧ r.2.mem ((c.tc : Thread Cert.ChipCIdeal.nD Cert.ChipCIdeal.τ).loc Cert.ChipCIdeal.main_arg1) = m ((c.tc : Thread Cert.ChipCIdeal.nD Cert.ChipCIdeal.τ).loc Cert.ChipCIdeal.main_arg1))
      ∧ θ_run (Cert.ChipCRefIdeal.defs (F := Ideal)) (onTc (τ := Cert.ChipCRefIdeal.τ) (Cert.ChipCRefIdeal.main (F := Ideal))) ⟨m', fun _ => 0, g'⟩ (fun r => ∀ c : Dev Cert.ChipCRefIdeal.nD,
          r.2.mem ((c.tc : Thread Cert.ChipCRefIdeal.nD Cert.ChipCRefIdeal.τ).loc Cert.ChipCRefIdeal.main_v5) = v0 c
          ∧ r.2.mem ((c.tc : Thread Cert.ChipCRefIdeal.nD Cert.ChipCRefIdeal.τ).loc Cert.ChipCRefIdeal.main_arg0) = m' ((c.tc : Thread Cert.ChipCRefIdeal.nD Cert.ChipCRefIdeal.τ).loc Cert.ChipCRefIdeal.main_arg0)
          ∧ r.2.mem ((c.tc : Thread Cert.ChipCRefIdeal.nD Cert.ChipCRefIdeal.τ).loc Cert.ChipCRefIdeal.main_arg1) = m' ((c.tc : Thread Cert.ChipCRefIdeal.nD Cert.ChipCRefIdeal.τ).loc Cert.ChipCRefIdeal.main_arg1))

def preserves_ChipD_ChipDIdeal : Prop :=
  True

def algebraic_ChipDIdeal_ChipDRefIdeal [hChipDIdeal : Cert.ChipDIdeal.Facts] [hChipDRefIdeal : Cert.ChipDRefIdeal.Facts] : Prop :=
  ∀ (m : (ℓ : Loc Cert.ChipDIdeal.nD Cert.ChipDIdeal.τ Cert.ChipDIdeal.sig) → Buf (Elt Ideal) ℓ) (g : Dev Cert.ChipDIdeal.nD → PrngReg)
    (m' : (ℓ : Loc Cert.ChipDRefIdeal.nD Cert.ChipDRefIdeal.τ Cert.ChipDRefIdeal.sig) → Buf (Elt Ideal) ℓ) (g' : Dev Cert.ChipDRefIdeal.nD → PrngReg), Pre_ChipDIdeal m →
    (∀ c : Dev Cert.ChipDIdeal.nD,
      m' ((c.tc : Thread Cert.ChipDRefIdeal.nD Cert.ChipDRefIdeal.τ).loc Cert.ChipDRefIdeal.main_arg0) = m ((c.tc : Thread Cert.ChipDIdeal.nD Cert.ChipDIdeal.τ).loc Cert.ChipDIdeal.main_arg0)
      ∧ m' ((c.tc : Thread Cert.ChipDRefIdeal.nD Cert.ChipDRefIdeal.τ).loc Cert.ChipDRefIdeal.main_arg1) = m ((c.tc : Thread Cert.ChipDIdeal.nD Cert.ChipDIdeal.τ).loc Cert.ChipDIdeal.main_arg1)) →
    ∃ (v0 : (c : Dev Cert.ChipDIdeal.nD) → Buf (Elt Ideal) ((c.tc : Thread Cert.ChipDIdeal.nD Cert.ChipDIdeal.τ).loc Cert.ChipDIdeal.main_v1)),
      θ_run (Cert.ChipDIdeal.defs (F := Ideal)) (onTc (τ := Cert.ChipDIdeal.τ) (Cert.ChipDIdeal.main (F := Ideal))) ⟨m, fun _ => 0, g⟩ (fun r => ∀ c : Dev Cert.ChipDIdeal.nD,
          r.2.mem ((c.tc : Thread Cert.ChipDIdeal.nD Cert.ChipDIdeal.τ).loc Cert.ChipDIdeal.main_v1) = v0 c
          ∧ r.2.mem ((c.tc : Thread Cert.ChipDIdeal.nD Cert.ChipDIdeal.τ).loc Cert.ChipDIdeal.main_arg0) = m ((c.tc : Thread Cert.ChipDIdeal.nD Cert.ChipDIdeal.τ).loc Cert.ChipDIdeal.main_arg0)
          ∧ r.2.mem ((c.tc : Thread Cert.ChipDIdeal.nD Cert.ChipDIdeal.τ).loc Cert.ChipDIdeal.main_arg1) = m ((c.tc : Thread Cert.ChipDIdeal.nD Cert.ChipDIdeal.τ).loc Cert.ChipDIdeal.main_arg1))
      ∧ θ_run (Cert.ChipDRefIdeal.defs (F := Ideal)) (onTc (τ := Cert.ChipDRefIdeal.τ) (Cert.ChipDRefIdeal.main (F := Ideal))) ⟨m', fun _ => 0, g'⟩ (fun r => ∀ c : Dev Cert.ChipDRefIdeal.nD,
          r.2.mem ((c.tc : Thread Cert.ChipDRefIdeal.nD Cert.ChipDRefIdeal.τ).loc Cert.ChipDRefIdeal.main_v5) = v0 c
          ∧ r.2.mem ((c.tc : Thread Cert.ChipDRefIdeal.nD Cert.ChipDRefIdeal.τ).loc Cert.ChipDRefIdeal.main_arg0) = m' ((c.tc : Thread Cert.ChipDRefIdeal.nD Cert.ChipDRefIdeal.τ).loc Cert.ChipDRefIdeal.main_arg0)
          ∧ r.2.mem ((c.tc : Thread Cert.ChipDRefIdeal.nD Cert.ChipDRefIdeal.τ).loc Cert.ChipDRefIdeal.main_arg1) = m' ((c.tc : Thread Cert.ChipDRefIdeal.nD Cert.ChipDRefIdeal.τ).loc Cert.ChipDRefIdeal.main_arg1))

def preserves_ChipE_ChipEIdeal : Prop :=
  True

def algebraic_ChipEIdeal_ChipERefIdeal [hChipEIdeal : Cert.ChipEIdeal.Facts] [hChipERefIdeal : Cert.ChipERefIdeal.Facts] : Prop :=
  ∀ (m : (ℓ : Loc Cert.ChipEIdeal.nD Cert.ChipEIdeal.τ Cert.ChipEIdeal.sig) → Buf (Elt Ideal) ℓ) (g : Dev Cert.ChipEIdeal.nD → PrngReg)
    (m' : (ℓ : Loc Cert.ChipERefIdeal.nD Cert.ChipERefIdeal.τ Cert.ChipERefIdeal.sig) → Buf (Elt Ideal) ℓ) (g' : Dev Cert.ChipERefIdeal.nD → PrngReg), Pre_ChipEIdeal m →
    (∀ c : Dev Cert.ChipEIdeal.nD,
      m' ((c.tc : Thread Cert.ChipERefIdeal.nD Cert.ChipERefIdeal.τ).loc Cert.ChipERefIdeal.main_arg0) = m ((c.tc : Thread Cert.ChipEIdeal.nD Cert.ChipEIdeal.τ).loc Cert.ChipEIdeal.main_arg0)
      ∧ m' ((c.tc : Thread Cert.ChipERefIdeal.nD Cert.ChipERefIdeal.τ).loc Cert.ChipERefIdeal.main_arg1) = m ((c.tc : Thread Cert.ChipEIdeal.nD Cert.ChipEIdeal.τ).loc Cert.ChipEIdeal.main_arg1)) →
    ∃ (v0 : (c : Dev Cert.ChipEIdeal.nD) → Buf (Elt Ideal) ((c.tc : Thread Cert.ChipEIdeal.nD Cert.ChipEIdeal.τ).loc Cert.ChipEIdeal.main_v1)),
      θ_run (Cert.ChipEIdeal.defs (F := Ideal)) (onTc (τ := Cert.ChipEIdeal.τ) (Cert.ChipEIdeal.main (F := Ideal))) ⟨m, fun _ => 0, g⟩ (fun r => ∀ c : Dev Cert.ChipEIdeal.nD,
          r.2.mem ((c.tc : Thread Cert.ChipEIdeal.nD Cert.ChipEIdeal.τ).loc Cert.ChipEIdeal.main_v1) = v0 c
          ∧ r.2.mem ((c.tc : Thread Cert.ChipEIdeal.nD Cert.ChipEIdeal.τ).loc Cert.ChipEIdeal.main_arg0) = m ((c.tc : Thread Cert.ChipEIdeal.nD Cert.ChipEIdeal.τ).loc Cert.ChipEIdeal.main_arg0)
          ∧ r.2.mem ((c.tc : Thread Cert.ChipEIdeal.nD Cert.ChipEIdeal.τ).loc Cert.ChipEIdeal.main_arg1) = m ((c.tc : Thread Cert.ChipEIdeal.nD Cert.ChipEIdeal.τ).loc Cert.ChipEIdeal.main_arg1))
      ∧ θ_run (Cert.ChipERefIdeal.defs (F := Ideal)) (onTc (τ := Cert.ChipERefIdeal.τ) (Cert.ChipERefIdeal.main (F := Ideal))) ⟨m', fun _ => 0, g'⟩ (fun r => ∀ c : Dev Cert.ChipERefIdeal.nD,
          r.2.mem ((c.tc : Thread Cert.ChipERefIdeal.nD Cert.ChipERefIdeal.τ).loc Cert.ChipERefIdeal.main_v5) = v0 c
          ∧ r.2.mem ((c.tc : Thread Cert.ChipERefIdeal.nD Cert.ChipERefIdeal.τ).loc Cert.ChipERefIdeal.main_arg0) = m' ((c.tc : Thread Cert.ChipERefIdeal.nD Cert.ChipERefIdeal.τ).loc Cert.ChipERefIdeal.main_arg0)
          ∧ r.2.mem ((c.tc : Thread Cert.ChipERefIdeal.nD Cert.ChipERefIdeal.τ).loc Cert.ChipERefIdeal.main_arg1) = m' ((c.tc : Thread Cert.ChipERefIdeal.nD Cert.ChipERefIdeal.τ).loc Cert.ChipERefIdeal.main_arg1))

def preserves_ChipI_ChipIIdeal : Prop :=
  True

def algebraic_ChipIIdeal_ChipIRefIdeal [hChipIIdeal : Cert.ChipIIdeal.Facts] [hChipIRefIdeal : Cert.ChipIRefIdeal.Facts] : Prop :=
  ∀ (m : (ℓ : Loc Cert.ChipIIdeal.nD Cert.ChipIIdeal.τ Cert.ChipIIdeal.sig) → Buf (Elt Ideal) ℓ) (g : Dev Cert.ChipIIdeal.nD → PrngReg)
    (m' : (ℓ : Loc Cert.ChipIRefIdeal.nD Cert.ChipIRefIdeal.τ Cert.ChipIRefIdeal.sig) → Buf (Elt Ideal) ℓ) (g' : Dev Cert.ChipIRefIdeal.nD → PrngReg), Pre_ChipIIdeal m →
    (∀ c : Dev Cert.ChipIIdeal.nD,
      m' ((c.tc : Thread Cert.ChipIRefIdeal.nD Cert.ChipIRefIdeal.τ).loc Cert.ChipIRefIdeal.main_arg0) = m ((c.tc : Thread Cert.ChipIIdeal.nD Cert.ChipIIdeal.τ).loc Cert.ChipIIdeal.main_arg0)
      ∧ m' ((c.tc : Thread Cert.ChipIRefIdeal.nD Cert.ChipIRefIdeal.τ).loc Cert.ChipIRefIdeal.main_arg1) = m ((c.tc : Thread Cert.ChipIIdeal.nD Cert.ChipIIdeal.τ).loc Cert.ChipIIdeal.main_arg1)) →
    ∃ (v0 : (c : Dev Cert.ChipIIdeal.nD) → Buf (Elt Ideal) ((c.tc : Thread Cert.ChipIIdeal.nD Cert.ChipIIdeal.τ).loc Cert.ChipIIdeal.main_v1)),
      θ_run (Cert.ChipIIdeal.defs (F := Ideal)) (onTc (τ := Cert.ChipIIdeal.τ) (Cert.ChipIIdeal.main (F := Ideal))) ⟨m, fun _ => 0, g⟩ (fun r => ∀ c : Dev Cert.ChipIIdeal.nD,
          r.2.mem ((c.tc : Thread Cert.ChipIIdeal.nD Cert.ChipIIdeal.τ).loc Cert.ChipIIdeal.main_v1) = v0 c
          ∧ r.2.mem ((c.tc : Thread Cert.ChipIIdeal.nD Cert.ChipIIdeal.τ).loc Cert.ChipIIdeal.main_arg0) = m ((c.tc : Thread Cert.ChipIIdeal.nD Cert.ChipIIdeal.τ).loc Cert.ChipIIdeal.main_arg0)
          ∧ r.2.mem ((c.tc : Thread Cert.ChipIIdeal.nD Cert.ChipIIdeal.τ).loc Cert.ChipIIdeal.main_arg1) = m ((c.tc : Thread Cert.ChipIIdeal.nD Cert.ChipIIdeal.τ).loc Cert.ChipIIdeal.main_arg1))
      ∧ θ_run (Cert.ChipIRefIdeal.defs (F := Ideal)) (onTc (τ := Cert.ChipIRefIdeal.τ) (Cert.ChipIRefIdeal.main (F := Ideal))) ⟨m', fun _ => 0, g'⟩ (fun r => ∀ c : Dev Cert.ChipIRefIdeal.nD,
          r.2.mem ((c.tc : Thread Cert.ChipIRefIdeal.nD Cert.ChipIRefIdeal.τ).loc Cert.ChipIRefIdeal.main_v5) = v0 c
          ∧ r.2.mem ((c.tc : Thread Cert.ChipIRefIdeal.nD Cert.ChipIRefIdeal.τ).loc Cert.ChipIRefIdeal.main_arg0) = m' ((c.tc : Thread Cert.ChipIRefIdeal.nD Cert.ChipIRefIdeal.τ).loc Cert.ChipIRefIdeal.main_arg0)
          ∧ r.2.mem ((c.tc : Thread Cert.ChipIRefIdeal.nD Cert.ChipIRefIdeal.τ).loc Cert.ChipIRefIdeal.main_arg1) = m' ((c.tc : Thread Cert.ChipIRefIdeal.nD Cert.ChipIRefIdeal.τ).loc Cert.ChipIRefIdeal.main_arg1))

def preserves_X1_X1Ideal : Prop :=
  True

def algebraic_X1Ideal_X1RefIdeal [hX1Ideal : Cert.X1Ideal.Facts] [hX1RefIdeal : Cert.X1RefIdeal.Facts] : Prop :=
  ∀ (m : (ℓ : Loc Cert.X1Ideal.nD Cert.X1Ideal.τ Cert.X1Ideal.sig) → Buf (Elt Ideal) ℓ) (g : Dev Cert.X1Ideal.nD → PrngReg)
    (m' : (ℓ : Loc Cert.X1RefIdeal.nD Cert.X1RefIdeal.τ Cert.X1RefIdeal.sig) → Buf (Elt Ideal) ℓ) (g' : Dev Cert.X1RefIdeal.nD → PrngReg), Pre_X1Ideal m →
    (∀ c : Dev Cert.X1Ideal.nD,
      m' ((c.tc : Thread Cert.X1RefIdeal.nD Cert.X1RefIdeal.τ).loc Cert.X1RefIdeal.main_arg0) = m ((c.tc : Thread Cert.X1Ideal.nD Cert.X1Ideal.τ).loc Cert.X1Ideal.main_arg0)
      ∧ m' ((c.tc : Thread Cert.X1RefIdeal.nD Cert.X1RefIdeal.τ).loc Cert.X1RefIdeal.main_arg1) = m ((c.tc : Thread Cert.X1Ideal.nD Cert.X1Ideal.τ).loc Cert.X1Ideal.main_arg1)
      ∧ m' ((c.tc : Thread Cert.X1RefIdeal.nD Cert.X1RefIdeal.τ).loc Cert.X1RefIdeal.main_arg2) = m ((c.tc : Thread Cert.X1Ideal.nD Cert.X1Ideal.τ).loc Cert.X1Ideal.main_arg2)
      ∧ m' ((c.tc : Thread Cert.X1RefIdeal.nD Cert.X1RefIdeal.τ).loc Cert.X1RefIdeal.main_arg3) = m ((c.tc : Thread Cert.X1Ideal.nD Cert.X1Ideal.τ).loc Cert.X1Ideal.main_arg3)) →
    ∃ (v0 : (c : Dev Cert.X1Ideal.nD) → Buf (Elt Ideal) ((c.tc : Thread Cert.X1Ideal.nD Cert.X1Ideal.τ).loc Cert.X1Ideal.main_v0_0)) (v1 : (c : Dev Cert.X1Ideal.nD) → Buf (Elt Ideal) ((c.tc : Thread Cert.X1Ideal.nD Cert.X1Ideal.τ).loc Cert.X1Ideal.main_v0_1)),
      θ_run (Cert.X1Ideal.defs (F := Ideal)) (onTc (τ := Cert.X1Ideal.τ) (Cert.X1Ideal.main (F := Ideal))) ⟨m, fun _ => 0, g⟩ (fun r => ∀ c : Dev Cert.X1Ideal.nD,
          r.2.mem ((c.tc : Thread Cert.X1Ideal.nD Cert.X1Ideal.τ).loc Cert.X1Ideal.main_v0_0) = v0 c
          ∧ r.2.mem ((c.tc : Thread Cert.X1Ideal.nD Cert.X1Ideal.τ).loc Cert.X1Ideal.main_v0_1) = v1 c
          ∧ r.2.mem ((c.tc : Thread Cert.X1Ideal.nD Cert.X1Ideal.τ).loc Cert.X1Ideal.main_arg0) = m ((c.tc : Thread Cert.X1Ideal.nD Cert.X1Ideal.τ).loc Cert.X1Ideal.main_arg0)
          ∧ r.2.mem ((c.tc : Thread Cert.X1Ideal.nD Cert.X1Ideal.τ).loc Cert.X1Ideal.main_arg1) = m ((c.tc : Thread Cert.X1Ideal.nD Cert.X1Ideal.τ).loc Cert.X1Ideal.main_arg1)
          ∧ r.2.mem ((c.tc : Thread Cert.X1Ideal.nD Cert.X1Ideal.τ).loc Cert.X1Ideal.main_arg2) = m ((c.tc : Thread Cert.X1Ideal.nD Cert.X1Ideal.τ).loc Cert.X1Ideal.main_arg2)
          ∧ r.2.mem ((c.tc : Thread Cert.X1Ideal.nD Cert.X1Ideal.τ).loc Cert.X1Ideal.main_arg3) = m ((c.tc : Thread Cert.X1Ideal.nD Cert.X1Ideal.τ).loc Cert.X1Ideal.main_arg3))
      ∧ θ_run (Cert.X1RefIdeal.defs (F := Ideal)) (onTc (τ := Cert.X1RefIdeal.τ) (Cert.X1RefIdeal.main (F := Ideal))) ⟨m', fun _ => 0, g'⟩ (fun r => ∀ c : Dev Cert.X1RefIdeal.nD,
          r.2.mem ((c.tc : Thread Cert.X1RefIdeal.nD Cert.X1RefIdeal.τ).loc Cert.X1RefIdeal.main_v3) = v0 c
          ∧ r.2.mem ((c.tc : Thread Cert.X1RefIdeal.nD Cert.X1RefIdeal.τ).loc Cert.X1RefIdeal.main_v16) = v1 c
          ∧ r.2.mem ((c.tc : Thread Cert.X1RefIdeal.nD Cert.X1RefIdeal.τ).loc Cert.X1RefIdeal.main_arg0) = m' ((c.tc : Thread Cert.X1RefIdeal.nD Cert.X1RefIdeal.τ).loc Cert.X1RefIdeal.main_arg0)
          ∧ r.2.mem ((c.tc : Thread Cert.X1RefIdeal.nD Cert.X1RefIdeal.τ).loc Cert.X1RefIdeal.main_arg1) = m' ((c.tc : Thread Cert.X1RefIdeal.nD Cert.X1RefIdeal.τ).loc Cert.X1RefIdeal.main_arg1)
          ∧ r.2.mem ((c.tc : Thread Cert.X1RefIdeal.nD Cert.X1RefIdeal.τ).loc Cert.X1RefIdeal.main_arg2) = m' ((c.tc : Thread Cert.X1RefIdeal.nD Cert.X1RefIdeal.τ).loc Cert.X1RefIdeal.main_arg2)
          ∧ r.2.mem ((c.tc : Thread Cert.X1RefIdeal.nD Cert.X1RefIdeal.τ).loc Cert.X1RefIdeal.main_arg3) = m' ((c.tc : Thread Cert.X1RefIdeal.nD Cert.X1RefIdeal.τ).loc Cert.X1RefIdeal.main_arg3))

def preserves_DwPool_DwPoolIdeal : Prop :=
  True

def algebraic_DwPoolIdeal_DwPoolRefIdeal [hDwPoolIdeal : Cert.DwPoolIdeal.Facts] [hDwPoolRefIdeal : Cert.DwPoolRefIdeal.Facts] : Prop :=
  ∀ (m : (ℓ : Loc Cert.DwPoolIdeal.nD Cert.DwPoolIdeal.τ Cert.DwPoolIdeal.sig) → Buf (Elt Ideal) ℓ) (g : Dev Cert.DwPoolIdeal.nD → PrngReg)
    (m' : (ℓ : Loc Cert.DwPoolRefIdeal.nD Cert.DwPoolRefIdeal.τ Cert.DwPoolRefIdeal.sig) → Buf (Elt Ideal) ℓ) (g' : Dev Cert.DwPoolRefIdeal.nD → PrngReg), Pre_DwPoolIdeal m →
    (∀ c : Dev Cert.DwPoolIdeal.nD,
      m' ((c.tc : Thread Cert.DwPoolRefIdeal.nD Cert.DwPoolRefIdeal.τ).loc Cert.DwPoolRefIdeal.main_arg0) = m ((c.tc : Thread Cert.DwPoolIdeal.nD Cert.DwPoolIdeal.τ).loc Cert.DwPoolIdeal.main_arg0)
      ∧ m' ((c.tc : Thread Cert.DwPoolRefIdeal.nD Cert.DwPoolRefIdeal.τ).loc Cert.DwPoolRefIdeal.main_arg1) = m ((c.tc : Thread Cert.DwPoolIdeal.nD Cert.DwPoolIdeal.τ).loc Cert.DwPoolIdeal.main_arg1)) →
    ∃ (v0 : (c : Dev Cert.DwPoolIdeal.nD) → Buf (Elt Ideal) ((c.tc : Thread Cert.DwPoolIdeal.nD Cert.DwPoolIdeal.τ).loc Cert.DwPoolIdeal.main_v0)),
      θ_run (Cert.DwPoolIdeal.defs (F := Ideal)) (onTc (τ := Cert.DwPoolIdeal.τ) (Cert.DwPoolIdeal.main (F := Ideal))) ⟨m, fun _ => 0, g⟩ (fun r => ∀ c : Dev Cert.DwPoolIdeal.nD,
          r.2.mem ((c.tc : Thread Cert.DwPoolIdeal.nD Cert.DwPoolIdeal.τ).loc Cert.DwPoolIdeal.main_v0) = v0 c
          ∧ r.2.mem ((c.tc : Thread Cert.DwPoolIdeal.nD Cert.DwPoolIdeal.τ).loc Cert.DwPoolIdeal.main_arg0) = m ((c.tc : Thread Cert.DwPoolIdeal.nD Cert.DwPoolIdeal.τ).loc Cert.DwPoolIdeal.main_arg0)
          ∧ r.2.mem ((c.tc : Thread Cert.DwPoolIdeal.nD Cert.DwPoolIdeal.τ).loc Cert.DwPoolIdeal.main_arg1) = m ((c.tc : Thread Cert.DwPoolIdeal.nD Cert.DwPoolIdeal.τ).loc Cert.DwPoolIdeal.main_arg1))
      ∧ θ_run (Cert.DwPoolRefIdeal.defs (F := Ideal)) (onTc (τ := Cert.DwPoolRefIdeal.τ) (Cert.DwPoolRefIdeal.main (F := Ideal))) ⟨m', fun _ => 0, g'⟩ (fun r => ∀ c : Dev Cert.DwPoolRefIdeal.nD,
          r.2.mem ((c.tc : Thread Cert.DwPoolRefIdeal.nD Cert.DwPoolRefIdeal.τ).loc Cert.DwPoolRefIdeal.main_v10) = v0 c
          ∧ r.2.mem ((c.tc : Thread Cert.DwPoolRefIdeal.nD Cert.DwPoolRefIdeal.τ).loc Cert.DwPoolRefIdeal.main_arg0) = m' ((c.tc : Thread Cert.DwPoolRefIdeal.nD Cert.DwPoolRefIdeal.τ).loc Cert.DwPoolRefIdeal.main_arg0)
          ∧ r.2.mem ((c.tc : Thread Cert.DwPoolRefIdeal.nD Cert.DwPoolRefIdeal.τ).loc Cert.DwPoolRefIdeal.main_arg1) = m' ((c.tc : Thread Cert.DwPoolRefIdeal.nD Cert.DwPoolRefIdeal.τ).loc Cert.DwPoolRefIdeal.main_arg1))

def preserves_Dp_DpIdeal : Prop :=
  True

def algebraic_DpIdeal_DpRefIdeal [hDpIdeal : Cert.DpIdeal.Facts] [hDpRefIdeal : Cert.DpRefIdeal.Facts] : Prop :=
  ∀ (m : (ℓ : Loc Cert.DpIdeal.nD Cert.DpIdeal.τ Cert.DpIdeal.sig) → Buf (Elt Ideal) ℓ) (g : Dev Cert.DpIdeal.nD → PrngReg)
    (m' : (ℓ : Loc Cert.DpRefIdeal.nD Cert.DpRefIdeal.τ Cert.DpRefIdeal.sig) → Buf (Elt Ideal) ℓ) (g' : Dev Cert.DpRefIdeal.nD → PrngReg), Pre_DpIdeal m →
    (∀ c : Dev Cert.DpIdeal.nD,
      m' ((c.tc : Thread Cert.DpRefIdeal.nD Cert.DpRefIdeal.τ).loc Cert.DpRefIdeal.main_arg0) = m ((c.tc : Thread Cert.DpIdeal.nD Cert.DpIdeal.τ).loc Cert.DpIdeal.main_arg0)
      ∧ m' ((c.tc : Thread Cert.DpRefIdeal.nD Cert.DpRefIdeal.τ).loc Cert.DpRefIdeal.main_arg1) = m ((c.tc : Thread Cert.DpIdeal.nD Cert.DpIdeal.τ).loc Cert.DpIdeal.main_arg1)) →
    ∃ (v0 : (c : Dev Cert.DpIdeal.nD) → Buf (Elt Ideal) ((c.tc : Thread Cert.DpIdeal.nD Cert.DpIdeal.τ).loc Cert.DpIdeal.main_v0)),
      θ_run (Cert.DpIdeal.defs (F := Ideal)) (onTc (τ := Cert.DpIdeal.τ) (Cert.DpIdeal.main (F := Ideal))) ⟨m, fun _ => 0, g⟩ (fun r => ∀ c : Dev Cert.DpIdeal.nD,
          r.2.mem ((c.tc : Thread Cert.DpIdeal.nD Cert.DpIdeal.τ).loc Cert.DpIdeal.main_v0) = v0 c
          ∧ r.2.mem ((c.tc : Thread Cert.DpIdeal.nD Cert.DpIdeal.τ).loc Cert.DpIdeal.main_arg0) = m ((c.tc : Thread Cert.DpIdeal.nD Cert.DpIdeal.τ).loc Cert.DpIdeal.main_arg0)
          ∧ r.2.mem ((c.tc : Thread Cert.DpIdeal.nD Cert.DpIdeal.τ).loc Cert.DpIdeal.main_arg1) = m ((c.tc : Thread Cert.DpIdeal.nD Cert.DpIdeal.τ).loc Cert.DpIdeal.main_arg1))
      ∧ θ_run (Cert.DpRefIdeal.defs (F := Ideal)) (onTc (τ := Cert.DpRefIdeal.τ) (Cert.DpRefIdeal.main (F := Ideal))) ⟨m', fun _ => 0, g'⟩ (fun r => ∀ c : Dev Cert.DpRefIdeal.nD,
          r.2.mem ((c.tc : Thread Cert.DpRefIdeal.nD Cert.DpRefIdeal.τ).loc Cert.DpRefIdeal.main_v12) = v0 c
          ∧ r.2.mem ((c.tc : Thread Cert.DpRefIdeal.nD Cert.DpRefIdeal.τ).loc Cert.DpRefIdeal.main_arg0) = m' ((c.tc : Thread Cert.DpRefIdeal.nD Cert.DpRefIdeal.τ).loc Cert.DpRefIdeal.main_arg0)
          ∧ r.2.mem ((c.tc : Thread Cert.DpRefIdeal.nD Cert.DpRefIdeal.τ).loc Cert.DpRefIdeal.main_arg1) = m' ((c.tc : Thread Cert.DpRefIdeal.nD Cert.DpRefIdeal.τ).loc Cert.DpRefIdeal.main_arg1))

def preserves_Yp_YpIdeal : Prop :=
  True

def algebraic_YpIdeal_YpRefIdeal [hYpIdeal : Cert.YpIdeal.Facts] [hYpRefIdeal : Cert.YpRefIdeal.Facts] : Prop :=
  ∀ (m : (ℓ : Loc Cert.YpIdeal.nD Cert.YpIdeal.τ Cert.YpIdeal.sig) → Buf (Elt Ideal) ℓ) (g : Dev Cert.YpIdeal.nD → PrngReg)
    (m' : (ℓ : Loc Cert.YpRefIdeal.nD Cert.YpRefIdeal.τ Cert.YpRefIdeal.sig) → Buf (Elt Ideal) ℓ) (g' : Dev Cert.YpRefIdeal.nD → PrngReg), Pre_YpIdeal m →
    (∀ c : Dev Cert.YpIdeal.nD,
      m' ((c.tc : Thread Cert.YpRefIdeal.nD Cert.YpRefIdeal.τ).loc Cert.YpRefIdeal.main_arg0) = m ((c.tc : Thread Cert.YpIdeal.nD Cert.YpIdeal.τ).loc Cert.YpIdeal.main_arg0)
      ∧ m' ((c.tc : Thread Cert.YpRefIdeal.nD Cert.YpRefIdeal.τ).loc Cert.YpRefIdeal.main_arg1) = m ((c.tc : Thread Cert.YpIdeal.nD Cert.YpIdeal.τ).loc Cert.YpIdeal.main_arg1)) →
    ∃ (v0 : (c : Dev Cert.YpIdeal.nD) → Buf (Elt Ideal) ((c.tc : Thread Cert.YpIdeal.nD Cert.YpIdeal.τ).loc Cert.YpIdeal.main_v0)),
      θ_run (Cert.YpIdeal.defs (F := Ideal)) (onTc (τ := Cert.YpIdeal.τ) (Cert.YpIdeal.main (F := Ideal))) ⟨m, fun _ => 0, g⟩ (fun r => ∀ c : Dev Cert.YpIdeal.nD,
          r.2.mem ((c.tc : Thread Cert.YpIdeal.nD Cert.YpIdeal.τ).loc Cert.YpIdeal.main_v0) = v0 c
          ∧ r.2.mem ((c.tc : Thread Cert.YpIdeal.nD Cert.YpIdeal.τ).loc Cert.YpIdeal.main_arg0) = m ((c.tc : Thread Cert.YpIdeal.nD Cert.YpIdeal.τ).loc Cert.YpIdeal.main_arg0)
          ∧ r.2.mem ((c.tc : Thread Cert.YpIdeal.nD Cert.YpIdeal.τ).loc Cert.YpIdeal.main_arg1) = m ((c.tc : Thread Cert.YpIdeal.nD Cert.YpIdeal.τ).loc Cert.YpIdeal.main_arg1))
      ∧ θ_run (Cert.YpRefIdeal.defs (F := Ideal)) (onTc (τ := Cert.YpRefIdeal.τ) (Cert.YpRefIdeal.main (F := Ideal))) ⟨m', fun _ => 0, g'⟩ (fun r => ∀ c : Dev Cert.YpRefIdeal.nD,
          r.2.mem ((c.tc : Thread Cert.YpRefIdeal.nD Cert.YpRefIdeal.τ).loc Cert.YpRefIdeal.main_v6) = v0 c
          ∧ r.2.mem ((c.tc : Thread Cert.YpRefIdeal.nD Cert.YpRefIdeal.τ).loc Cert.YpRefIdeal.main_arg0) = m' ((c.tc : Thread Cert.YpRefIdeal.nD Cert.YpRefIdeal.τ).loc Cert.YpRefIdeal.main_arg0)
          ∧ r.2.mem ((c.tc : Thread Cert.YpRefIdeal.nD Cert.YpRefIdeal.τ).loc Cert.YpRefIdeal.main_arg1) = m' ((c.tc : Thread Cert.YpRefIdeal.nD Cert.YpRefIdeal.τ).loc Cert.YpRefIdeal.main_arg1))

def Claim : Prop :=
  ∃ (hDwDown : Cert.DwDown.Facts) (hDwDownIdeal : Cert.DwDownIdeal.Facts) (hDwDownRefIdeal : Cert.DwDownRefIdeal.Facts) (hDact : Cert.Dact.Facts) (hDactIdeal : Cert.DactIdeal.Facts) (hDactRefIdeal : Cert.DactRefIdeal.Facts) (hDwGu : Cert.DwGu.Facts) (hDwGuIdeal : Cert.DwGuIdeal.Facts) (hDwGuRefIdeal : Cert.DwGuRefIdeal.Facts) (hDh2 : Cert.Dh2.Facts) (hDh2Ideal : Cert.Dh2Ideal.Facts) (hDh2RefIdeal : Cert.Dh2RefIdeal.Facts) (hDwO : Cert.DwO.Facts) (hDwOIdeal : Cert.DwOIdeal.Facts) (hDwORefIdeal : Cert.DwORefIdeal.Facts) (hDm : Cert.Dm.Facts) (hDmIdeal : Cert.DmIdeal.Facts) (hDmRefIdeal : Cert.DmRefIdeal.Facts) (hDwIn : Cert.DwIn.Facts) (hDwInIdeal : Cert.DwInIdeal.Facts) (hDwInRefIdeal : Cert.DwInRefIdeal.Facts) (hDh : Cert.Dh.Facts) (hDhIdeal : Cert.DhIdeal.Facts) (hDhRefIdeal : Cert.DhRefIdeal.Facts) (hProj : Cert.Proj.Facts) (hProjIdeal : Cert.ProjIdeal.Facts) (hProjRefIdeal : Cert.ProjRefIdeal.Facts) (hYa : Cert.Ya.Facts) (hYaIdeal : Cert.YaIdeal.Facts) (hYaRefIdeal : Cert.YaRefIdeal.Facts) (hGu : Cert.Gu.Facts) (hGuIdeal : Cert.GuIdeal.Facts) (hGuRefIdeal : Cert.GuRefIdeal.Facts) (hX2 : Cert.X2.Facts) (hX2Ideal : Cert.X2Ideal.Facts) (hX2RefIdeal : Cert.X2RefIdeal.Facts) (hAdIn : Cert.AdIn.Facts) (hAdInIdeal : Cert.AdInIdeal.Facts) (hAdInRefIdeal : Cert.AdInRefIdeal.Facts) (hAdConv : Cert.AdConv.Facts) (hAdConvIdeal : Cert.AdConvIdeal.Facts) (hAdConvRefIdeal : Cert.AdConvRefIdeal.Facts) (hAdSq : Cert.AdSq.Facts) (hAdSqIdeal : Cert.AdSqIdeal.Facts) (hAdSqRefIdeal : Cert.AdSqRefIdeal.Facts) (hAdPool : Cert.AdPool.Facts) (hAdPoolIdeal : Cert.AdPoolIdeal.Facts) (hAdPoolRefIdeal : Cert.AdPoolRefIdeal.Facts) (hAdRow : Cert.AdRow.Facts) (hAdRowIdeal : Cert.AdRowIdeal.Facts) (hAdRowRefIdeal : Cert.AdRowRefIdeal.Facts) (hAdSink : Cert.AdSink.Facts) (hAdSinkIdeal : Cert.AdSinkIdeal.Facts) (hAdSinkRefIdeal : Cert.AdSinkRefIdeal.Facts) (hAdGu : Cert.AdGu.Facts) (hAdGuIdeal : Cert.AdGuIdeal.Facts) (hAdGuRefIdeal : Cert.AdGuRefIdeal.Facts) (hAdDown : Cert.AdDown.Facts) (hAdDownIdeal : Cert.AdDownIdeal.Facts) (hAdDownRefIdeal : Cert.AdDownRefIdeal.Facts) (hAdRel : Cert.AdRel.Facts) (hAdRelIdeal : Cert.AdRelIdeal.Facts) (hAdRelRefIdeal : Cert.AdRelRefIdeal.Facts) (hAdFinal : Cert.AdFinal.Facts) (hAdFinalIdeal : Cert.AdFinalIdeal.Facts) (hAdFinalRefIdeal : Cert.AdFinalRefIdeal.Facts) (hRmsB : Cert.RmsB.Facts) (hRmsBIdeal : Cert.RmsBIdeal.Facts) (hRmsBRefIdeal : Cert.RmsBRefIdeal.Facts) (hRmsF : Cert.RmsF.Facts) (hRmsFIdeal : Cert.RmsFIdeal.Facts) (hRmsFRefIdeal : Cert.RmsFRefIdeal.Facts) (hLossH : Cert.LossH.Facts) (hLossHIdeal : Cert.LossHIdeal.Facts) (hLossHRefIdeal : Cert.LossHRefIdeal.Facts) (hSwiB : Cert.SwiB.Facts) (hSwiBIdeal : Cert.SwiBIdeal.Facts) (hSwiBRefIdeal : Cert.SwiBRefIdeal.Facts) (hSwiF : Cert.SwiF.Facts) (hSwiFIdeal : Cert.SwiFIdeal.Facts) (hSwiFRefIdeal : Cert.SwiFRefIdeal.Facts) (hMergeF : Cert.MergeF.Facts) (hMergeFIdeal : Cert.MergeFIdeal.Facts) (hMergeFRefIdeal : Cert.MergeFRefIdeal.Facts) (hSumSmall : Cert.SumSmall.Facts) (hSumSmallIdeal : Cert.SumSmallIdeal.Facts) (hSumSmallRefIdeal : Cert.SumSmallRefIdeal.Facts) (hChipA : Cert.ChipA.Facts) (hChipAIdeal : Cert.ChipAIdeal.Facts) (hChipARefIdeal : Cert.ChipARefIdeal.Facts) (hChipB : Cert.ChipB.Facts) (hChipBIdeal : Cert.ChipBIdeal.Facts) (hChipBRefIdeal : Cert.ChipBRefIdeal.Facts) (hChipC : Cert.ChipC.Facts) (hChipCIdeal : Cert.ChipCIdeal.Facts) (hChipCRefIdeal : Cert.ChipCRefIdeal.Facts) (hChipD : Cert.ChipD.Facts) (hChipDIdeal : Cert.ChipDIdeal.Facts) (hChipDRefIdeal : Cert.ChipDRefIdeal.Facts) (hChipE : Cert.ChipE.Facts) (hChipEIdeal : Cert.ChipEIdeal.Facts) (hChipERefIdeal : Cert.ChipERefIdeal.Facts) (hChipI : Cert.ChipI.Facts) (hChipIIdeal : Cert.ChipIIdeal.Facts) (hChipIRefIdeal : Cert.ChipIRefIdeal.Facts) (hX1 : Cert.X1.Facts) (hX1Ideal : Cert.X1Ideal.Facts) (hX1RefIdeal : Cert.X1RefIdeal.Facts) (hDwPool : Cert.DwPool.Facts) (hDwPoolIdeal : Cert.DwPoolIdeal.Facts) (hDwPoolRefIdeal : Cert.DwPoolRefIdeal.Facts) (hDp : Cert.Dp.Facts) (hDpIdeal : Cert.DpIdeal.Facts) (hDpRefIdeal : Cert.DpRefIdeal.Facts) (hYp : Cert.Yp.Facts) (hYpIdeal : Cert.YpIdeal.Facts) (hYpRefIdeal : Cert.YpRefIdeal.Facts) (hPre_finite : Cert.Pre_finite.Facts),
    quiescent_DwDown (hDwDown := hDwDown)
    ∧ quiescent_DwDownIdeal (hDwDownIdeal := hDwDownIdeal)
    ∧ quiescent_DwDownRefIdeal (hDwDownRefIdeal := hDwDownRefIdeal)
    ∧ quiescent_Dact (hDact := hDact)
    ∧ quiescent_DactIdeal (hDactIdeal := hDactIdeal)
    ∧ quiescent_DactRefIdeal (hDactRefIdeal := hDactRefIdeal)
    ∧ quiescent_DwGu (hDwGu := hDwGu)
    ∧ quiescent_DwGuIdeal (hDwGuIdeal := hDwGuIdeal)
    ∧ quiescent_DwGuRefIdeal (hDwGuRefIdeal := hDwGuRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_DwO (hDwO := hDwO)
    ∧ quiescent_DwOIdeal (hDwOIdeal := hDwOIdeal)
    ∧ quiescent_DwORefIdeal (hDwORefIdeal := hDwORefIdeal)
    ∧ quiescent_Dm (hDm := hDm)
    ∧ quiescent_DmIdeal (hDmIdeal := hDmIdeal)
    ∧ quiescent_DmRefIdeal (hDmRefIdeal := hDmRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh (hDh := hDh)
    ∧ quiescent_DhIdeal (hDhIdeal := hDhIdeal)
    ∧ quiescent_DhRefIdeal (hDhRefIdeal := hDhRefIdeal)
    ∧ quiescent_Proj (hProj := hProj)
    ∧ quiescent_ProjIdeal (hProjIdeal := hProjIdeal)
    ∧ quiescent_ProjRefIdeal (hProjRefIdeal := hProjRefIdeal)
    ∧ quiescent_Ya (hYa := hYa)
    ∧ quiescent_YaIdeal (hYaIdeal := hYaIdeal)
    ∧ quiescent_YaRefIdeal (hYaRefIdeal := hYaRefIdeal)
    ∧ quiescent_Gu (hGu := hGu)
    ∧ quiescent_GuIdeal (hGuIdeal := hGuIdeal)
    ∧ quiescent_GuRefIdeal (hGuRefIdeal := hGuRefIdeal)
    ∧ quiescent_X2 (hX2 := hX2)
    ∧ quiescent_X2Ideal (hX2Ideal := hX2Ideal)
    ∧ quiescent_X2RefIdeal (hX2RefIdeal := hX2RefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdConv (hAdConv := hAdConv)
    ∧ quiescent_AdConvIdeal (hAdConvIdeal := hAdConvIdeal)
    ∧ quiescent_AdConvRefIdeal (hAdConvRefIdeal := hAdConvRefIdeal)
    ∧ quiescent_AdSq (hAdSq := hAdSq)
    ∧ quiescent_AdSqIdeal (hAdSqIdeal := hAdSqIdeal)
    ∧ quiescent_AdSqRefIdeal (hAdSqRefIdeal := hAdSqRefIdeal)
    ∧ quiescent_AdPool (hAdPool := hAdPool)
    ∧ quiescent_AdPoolIdeal (hAdPoolIdeal := hAdPoolIdeal)
    ∧ quiescent_AdPoolRefIdeal (hAdPoolRefIdeal := hAdPoolRefIdeal)
    ∧ quiescent_AdRow (hAdRow := hAdRow)
    ∧ quiescent_AdRowIdeal (hAdRowIdeal := hAdRowIdeal)
    ∧ quiescent_AdRowRefIdeal (hAdRowRefIdeal := hAdRowRefIdeal)
    ∧ quiescent_AdSink (hAdSink := hAdSink)
    ∧ quiescent_AdSinkIdeal (hAdSinkIdeal := hAdSinkIdeal)
    ∧ quiescent_AdSinkRefIdeal (hAdSinkRefIdeal := hAdSinkRefIdeal)
    ∧ quiescent_AdGu (hAdGu := hAdGu)
    ∧ quiescent_AdGuIdeal (hAdGuIdeal := hAdGuIdeal)
    ∧ quiescent_AdGuRefIdeal (hAdGuRefIdeal := hAdGuRefIdeal)
    ∧ quiescent_AdDown (hAdDown := hAdDown)
    ∧ quiescent_AdDownIdeal (hAdDownIdeal := hAdDownIdeal)
    ∧ quiescent_AdDownRefIdeal (hAdDownRefIdeal := hAdDownRefIdeal)
    ∧ quiescent_AdRel (hAdRel := hAdRel)
    ∧ quiescent_AdRelIdeal (hAdRelIdeal := hAdRelIdeal)
    ∧ quiescent_AdRelRefIdeal (hAdRelRefIdeal := hAdRelRefIdeal)
    ∧ quiescent_AdFinal (hAdFinal := hAdFinal)
    ∧ quiescent_AdFinalIdeal (hAdFinalIdeal := hAdFinalIdeal)
    ∧ quiescent_AdFinalRefIdeal (hAdFinalRefIdeal := hAdFinalRefIdeal)
    ∧ quiescent_RmsB (hRmsB := hRmsB)
    ∧ quiescent_RmsBIdeal (hRmsBIdeal := hRmsBIdeal)
    ∧ quiescent_RmsBRefIdeal (hRmsBRefIdeal := hRmsBRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_LossH (hLossH := hLossH)
    ∧ quiescent_LossHIdeal (hLossHIdeal := hLossHIdeal)
    ∧ quiescent_LossHRefIdeal (hLossHRefIdeal := hLossHRefIdeal)
    ∧ quiescent_SwiB (hSwiB := hSwiB)
    ∧ quiescent_SwiBIdeal (hSwiBIdeal := hSwiBIdeal)
    ∧ quiescent_SwiBIdeal_pre_finite (hSwiBIdeal := hSwiBIdeal) (hPre_finite := hPre_finite)
    ∧ quiescent_SwiBRefIdeal (hSwiBRefIdeal := hSwiBRefIdeal)
    ∧ quiescent_SwiBRefIdeal_pre_finite (hSwiBRefIdeal := hSwiBRefIdeal) (hPre_finite := hPre_finite)
    ∧ quiescent_SwiF (hSwiF := hSwiF)
    ∧ quiescent_SwiFIdeal (hSwiFIdeal := hSwiFIdeal)
    ∧ quiescent_SwiFRefIdeal (hSwiFRefIdeal := hSwiFRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_ChipA (hChipA := hChipA)
    ∧ quiescent_ChipAIdeal (hChipAIdeal := hChipAIdeal)
    ∧ quiescent_ChipARefIdeal (hChipARefIdeal := hChipARefIdeal)
    ∧ quiescent_ChipB (hChipB := hChipB)
    ∧ quiescent_ChipBIdeal (hChipBIdeal := hChipBIdeal)
    ∧ quiescent_ChipBRefIdeal (hChipBRefIdeal := hChipBRefIdeal)
    ∧ quiescent_ChipC (hChipC := hChipC)
    ∧ quiescent_ChipCIdeal (hChipCIdeal := hChipCIdeal)
    ∧ quiescent_ChipCRefIdeal (hChipCRefIdeal := hChipCRefIdeal)
    ∧ quiescent_ChipD (hChipD := hChipD)
    ∧ quiescent_ChipDIdeal (hChipDIdeal := hChipDIdeal)
    ∧ quiescent_ChipDRefIdeal (hChipDRefIdeal := hChipDRefIdeal)
    ∧ quiescent_ChipE (hChipE := hChipE)
    ∧ quiescent_ChipEIdeal (hChipEIdeal := hChipEIdeal)
    ∧ quiescent_ChipERefIdeal (hChipERefIdeal := hChipERefIdeal)
    ∧ quiescent_ChipI (hChipI := hChipI)
    ∧ quiescent_ChipIIdeal (hChipIIdeal := hChipIIdeal)
    ∧ quiescent_ChipIRefIdeal (hChipIRefIdeal := hChipIRefIdeal)
    ∧ quiescent_X1 (hX1 := hX1)
    ∧ quiescent_X1Ideal (hX1Ideal := hX1Ideal)
    ∧ quiescent_X1RefIdeal (hX1RefIdeal := hX1RefIdeal)
    ∧ quiescent_DwPool (hDwPool := hDwPool)
    ∧ quiescent_DwPoolIdeal (hDwPoolIdeal := hDwPoolIdeal)
    ∧ quiescent_DwPoolRefIdeal (hDwPoolRefIdeal := hDwPoolRefIdeal)
    ∧ quiescent_Dp (hDp := hDp)
    ∧ quiescent_DpIdeal (hDpIdeal := hDpIdeal)
    ∧ quiescent_DpRefIdeal (hDpRefIdeal := hDpRefIdeal)
    ∧ quiescent_Yp (hYp := hYp)
    ∧ quiescent_YpIdeal (hYpIdeal := hYpIdeal)
    ∧ quiescent_YpRefIdeal (hYpRefIdeal := hYpRefIdeal)
    ∧ preserves_DwDown_DwDownIdeal
    ∧ algebraic_DwDownIdeal_DwDownRefIdeal (hDwDownIdeal := hDwDownIdeal) (hDwDownRefIdeal := hDwDownRefIdeal)
    ∧ preserves_Dact_DactIdeal
    ∧ algebraic_DactIdeal_DactRefIdeal (hDactIdeal := hDactIdeal) (hDactRefIdeal := hDactRefIdeal)
    ∧ preserves_DwGu_DwGuIdeal
    ∧ algebraic_DwGuIdeal_DwGuRefIdeal (hDwGuIdeal := hDwGuIdeal) (hDwGuRefIdeal := hDwGuRefIdeal)
    ∧ preserves_Dh2_Dh2Ideal
    ∧ algebraic_Dh2Ideal_Dh2RefIdeal (hDh2Ideal := hDh2Ideal) (hDh2RefIdeal := hDh2RefIdeal)
    ∧ preserves_DwO_DwOIdeal
    ∧ algebraic_DwOIdeal_DwORefIdeal (hDwOIdeal := hDwOIdeal) (hDwORefIdeal := hDwORefIdeal)
    ∧ preserves_Dm_DmIdeal
    ∧ algebraic_DmIdeal_DmRefIdeal (hDmIdeal := hDmIdeal) (hDmRefIdeal := hDmRefIdeal)
    ∧ preserves_DwIn_DwInIdeal
    ∧ algebraic_DwInIdeal_DwInRefIdeal (hDwInIdeal := hDwInIdeal) (hDwInRefIdeal := hDwInRefIdeal)
    ∧ preserves_Dh_DhIdeal
    ∧ algebraic_DhIdeal_DhRefIdeal (hDhIdeal := hDhIdeal) (hDhRefIdeal := hDhRefIdeal)
    ∧ preserves_Proj_ProjIdeal
    ∧ algebraic_ProjIdeal_ProjRefIdeal (hProjIdeal := hProjIdeal) (hProjRefIdeal := hProjRefIdeal)
    ∧ preserves_Ya_YaIdeal
    ∧ algebraic_YaIdeal_YaRefIdeal (hYaIdeal := hYaIdeal) (hYaRefIdeal := hYaRefIdeal)
    ∧ preserves_Gu_GuIdeal
    ∧ algebraic_GuIdeal_GuRefIdeal (hGuIdeal := hGuIdeal) (hGuRefIdeal := hGuRefIdeal)
    ∧ preserves_X2_X2Ideal
    ∧ algebraic_X2Ideal_X2RefIdeal (hX2Ideal := hX2Ideal) (hX2RefIdeal := hX2RefIdeal)
    ∧ preserves_AdIn_AdInIdeal
    ∧ algebraic_AdInIdeal_AdInRefIdeal (hAdInIdeal := hAdInIdeal) (hAdInRefIdeal := hAdInRefIdeal)
    ∧ preserves_AdConv_AdConvIdeal
    ∧ algebraic_AdConvIdeal_AdConvRefIdeal (hAdConvIdeal := hAdConvIdeal) (hAdConvRefIdeal := hAdConvRefIdeal)
    ∧ preserves_AdSq_AdSqIdeal
    ∧ algebraic_AdSqIdeal_AdSqRefIdeal (hAdSqIdeal := hAdSqIdeal) (hAdSqRefIdeal := hAdSqRefIdeal)
    ∧ preserves_AdPool_AdPoolIdeal
    ∧ algebraic_AdPoolIdeal_AdPoolRefIdeal (hAdPoolIdeal := hAdPoolIdeal) (hAdPoolRefIdeal := hAdPoolRefIdeal)
    ∧ preserves_AdRow_AdRowIdeal
    ∧ algebraic_AdRowIdeal_AdRowRefIdeal (hAdRowIdeal := hAdRowIdeal) (hAdRowRefIdeal := hAdRowRefIdeal)
    ∧ preserves_AdSink_AdSinkIdeal
    ∧ algebraic_AdSinkIdeal_AdSinkRefIdeal (hAdSinkIdeal := hAdSinkIdeal) (hAdSinkRefIdeal := hAdSinkRefIdeal)
    ∧ preserves_AdGu_AdGuIdeal
    ∧ algebraic_AdGuIdeal_AdGuRefIdeal (hAdGuIdeal := hAdGuIdeal) (hAdGuRefIdeal := hAdGuRefIdeal)
    ∧ preserves_AdDown_AdDownIdeal
    ∧ algebraic_AdDownIdeal_AdDownRefIdeal (hAdDownIdeal := hAdDownIdeal) (hAdDownRefIdeal := hAdDownRefIdeal)
    ∧ preserves_AdRel_AdRelIdeal
    ∧ algebraic_AdRelIdeal_AdRelRefIdeal (hAdRelIdeal := hAdRelIdeal) (hAdRelRefIdeal := hAdRelRefIdeal)
    ∧ preserves_AdFinal_AdFinalIdeal
    ∧ algebraic_AdFinalIdeal_AdFinalRefIdeal (hAdFinalIdeal := hAdFinalIdeal) (hAdFinalRefIdeal := hAdFinalRefIdeal)
    ∧ preserves_RmsB_RmsBIdeal
    ∧ algebraic_RmsBIdeal_RmsBRefIdeal (hRmsBIdeal := hRmsBIdeal) (hRmsBRefIdeal := hRmsBRefIdeal)
    ∧ preserves_RmsF_RmsFIdeal
    ∧ algebraic_RmsFIdeal_RmsFRefIdeal (hRmsFIdeal := hRmsFIdeal) (hRmsFRefIdeal := hRmsFRefIdeal)
    ∧ preserves_LossH_LossHIdeal
    ∧ algebraic_LossHIdeal_LossHRefIdeal (hLossHIdeal := hLossHIdeal) (hLossHRefIdeal := hLossHRefIdeal)
    ∧ preserves_SwiB_SwiBIdeal
    ∧ algebraic_SwiBIdeal_SwiBRefIdeal_pre_finite (hSwiBIdeal := hSwiBIdeal) (hSwiBRefIdeal := hSwiBRefIdeal) (hPre_finite := hPre_finite)
    ∧ preserves_SwiF_SwiFIdeal
    ∧ algebraic_SwiFIdeal_SwiFRefIdeal (hSwiFIdeal := hSwiFIdeal) (hSwiFRefIdeal := hSwiFRefIdeal)
    ∧ preserves_MergeF_MergeFIdeal
    ∧ algebraic_MergeFIdeal_MergeFRefIdeal (hMergeFIdeal := hMergeFIdeal) (hMergeFRefIdeal := hMergeFRefIdeal)
    ∧ preserves_SumSmall_SumSmallIdeal
    ∧ algebraic_SumSmallIdeal_SumSmallRefIdeal (hSumSmallIdeal := hSumSmallIdeal) (hSumSmallRefIdeal := hSumSmallRefIdeal)
    ∧ preserves_ChipA_ChipAIdeal
    ∧ algebraic_ChipAIdeal_ChipARefIdeal (hChipAIdeal := hChipAIdeal) (hChipARefIdeal := hChipARefIdeal)
    ∧ preserves_ChipB_ChipBIdeal
    ∧ algebraic_ChipBIdeal_ChipBRefIdeal (hChipBIdeal := hChipBIdeal) (hChipBRefIdeal := hChipBRefIdeal)
    ∧ preserves_ChipC_ChipCIdeal
    ∧ algebraic_ChipCIdeal_ChipCRefIdeal (hChipCIdeal := hChipCIdeal) (hChipCRefIdeal := hChipCRefIdeal)
    ∧ preserves_ChipD_ChipDIdeal
    ∧ algebraic_ChipDIdeal_ChipDRefIdeal (hChipDIdeal := hChipDIdeal) (hChipDRefIdeal := hChipDRefIdeal)
    ∧ preserves_ChipE_ChipEIdeal
    ∧ algebraic_ChipEIdeal_ChipERefIdeal (hChipEIdeal := hChipEIdeal) (hChipERefIdeal := hChipERefIdeal)
    ∧ preserves_ChipI_ChipIIdeal
    ∧ algebraic_ChipIIdeal_ChipIRefIdeal (hChipIIdeal := hChipIIdeal) (hChipIRefIdeal := hChipIRefIdeal)
    ∧ preserves_X1_X1Ideal
    ∧ algebraic_X1Ideal_X1RefIdeal (hX1Ideal := hX1Ideal) (hX1RefIdeal := hX1RefIdeal)
    ∧ preserves_DwPool_DwPoolIdeal
    ∧ algebraic_DwPoolIdeal_DwPoolRefIdeal (hDwPoolIdeal := hDwPoolIdeal) (hDwPoolRefIdeal := hDwPoolRefIdeal)
    ∧ preserves_Dp_DpIdeal
    ∧ algebraic_DpIdeal_DpRefIdeal (hDpIdeal := hDpIdeal) (hDpRefIdeal := hDpRefIdeal)
    ∧ preserves_Yp_YpIdeal
    ∧ algebraic_YpIdeal_YpRefIdeal (hYpIdeal := hYpIdeal) (hYpRefIdeal := hYpRefIdeal)
-- ==== Pre_finite.lean ====
abbrev S4096x5632 : Shape := ⟨2, ![4096, 5632]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bitsLt_bf16_f32 : FTy.bits .bf16 < FTy.bits .f32
  bcast_S_S4096x2816 : S_.BroadcastsInDim S4096x2816 (![] : Fin 0 → Fin S4096x2816.rank)

variable [Facts]

def fn {F : FTy → Type} [FloatOps F] (main_arg0 : FVec F S4096x5632 .bf16) (main_arg1 : FVec F S4096x2816 .bf16) : IVec S4096x2816 1 :=
  let main_v0 : FVec F S4096x2816 .bf16 := (extractStridedSlice S4096x2816 ![0, 2816] · slices_S4096x5632_S4096x2816_0_2816) main_arg0
  let main_v1 : FVec F S4096x2816 .f32 := (extf .f32 · bitsLt_bf16_f32) main_v0
  let main_v2 : FVec F S4096x2816 .f32 := Host.absf main_v1
  let main_cst : FVec F S_ .f32 := constant S_ .f32 0x7F800000#32
  let main_v3 : FVec F S4096x2816 .f32 := broadcastInDim S4096x2816 ![] bcast_S_S4096x2816 main_cst
  let main_v4 : IVec S4096x2816 1 := cmpf .olt main_v2 main_v3
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_v9 : IVec S4096x2816 1 := andi main_v4 main_v8
  main_v9
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDownIdeal.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactIdeal.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGu.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGuIdeal.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGuRefIdeal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S5632x1024, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh2.lean ====
abbrev S4096x5632 : Shape := ⟨2, ![4096, 5632]⟩
abbrev S5632x1024 : Shape := ⟨2, ![5632, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2Ideal.lean ====
abbrev S4096x5632 : Shape := ⟨2, ![4096, 5632]⟩
abbrev S5632x1024 : Shape := ⟨2, ![5632, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S4096x5632 : Shape := ⟨2, ![4096, 5632]⟩
abbrev S5632x1024 : Shape := ⟨2, ![5632, 1024]⟩
abbrev S_ : Shape := ⟨0, ![]⟩
abbrev S4096x1024 : Shape := ⟨2, ![4096, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S_, .f32⟩
  | .hbm, ⟨3, _⟩ => ⟨S4096x1024, .f32⟩
  | .hbm, ⟨4, _⟩ => ⟨S5632x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwO.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwORefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dm.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S4096x8704 : Shape := ⟨2, ![4096, 8704]⟩
abbrev S4096x1024 : Shape := ⟨2, ![4096, 1024]⟩
abbrev S8704x1024 : Shape := ⟨2, ![8704, 1024]⟩
abbrev S1024x2176 : Shape := ⟨2, ![1024, 2176]⟩
abbrev S1024x1024 : Shape := ⟨2, ![1024, 1024]⟩
abbrev S2176x1024 : Shape := ⟨2, ![2176, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S8704x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInIdeal.lean ====
abbrev S4096x8704 : Shape := ⟨2, ![4096, 8704]⟩
abbrev S4096x1024 : Shape := ⟨2, ![4096, 1024]⟩
abbrev S8704x1024 : Shape := ⟨2, ![8704, 1024]⟩
abbrev S1024x2176 : Shape := ⟨2, ![1024, 2176]⟩
abbrev S1024x1024 : Shape := ⟨2, ![1024, 1024]⟩
abbrev S2176x1024 : Shape := ⟨2, ![2176, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S8704x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x8704 : Shape := ⟨2, ![4096, 8704]⟩
abbrev S4096x1024 : Shape := ⟨2, ![4096, 1024]⟩
abbrev S_ : Shape := ⟨0, ![]⟩
abbrev S8704x1024 : Shape := ⟨2, ![8704, 1024]⟩
abbrev S1024x8704 : Shape := ⟨2, ![1024, 8704]⟩

abbrev nBuf : Space → Nat
  | .hbm => 12
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S_, .f32⟩
  | .hbm, ⟨3, _⟩ => ⟨S8704x1024, .f32⟩
  | .hbm, ⟨4, _⟩ => ⟨S4096x1024, .f32⟩
  | .hbm, ⟨5, _⟩ => ⟨S1024x8704, .f32⟩
  | .hbm, ⟨6, _⟩ => ⟨S4096x8704, .f32⟩
  | .hbm, ⟨7, _⟩ => ⟨S4096x8704, .f32⟩
  | .hbm, ⟨8, _⟩ => ⟨S8704x1024, .f32⟩
  | .hbm, ⟨9, _⟩ => ⟨S1024x8704, .f32⟩
  | .hbm, ⟨10, _⟩ => ⟨S8704x1024, .f32⟩
  | .hbm, ⟨11, _⟩ => ⟨S8704x1024, .bf16⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S4096x8704 : Shape := ⟨2, ![4096, 8704]⟩
abbrev S8704x1024 : Shape := ⟨2, ![8704, 1024]⟩
abbrev S4096x1024 : Shape := ⟨2, ![4096, 1024]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhIdeal.lean ====
abbrev S4096x8704 : Shape := ⟨2, ![4096, 8704]⟩
abbrev S8704x1024 : Shape := ⟨2, ![8704, 1024]⟩
abbrev S4096x1024 : Shape := ⟨2, ![4096, 1024]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S4096x8704 : Shape := ⟨2, ![4096, 8704]⟩
abbrev S8704x1024 : Shape := ⟨2, ![8704, 1024]⟩
abbrev S_ : Shape := ⟨0, ![]⟩
abbrev S4096x1024 : Shape := ⟨2, ![4096, 1024]⟩
abbrev S1024x8704 : Shape := ⟨2, ![1024, 8704]⟩

abbrev nBuf : Space → Nat
  | .hbm => 9
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S_, .f32⟩
  | .hbm, ⟨3, _⟩ => ⟨S4096x1024, .f32⟩
  | .hbm, ⟨4, _⟩ => ⟨S8704x1024, .f32⟩
  | .hbm, ⟨5, _⟩ => ⟨S1024x8704, .f32⟩
  | .hbm, ⟨6, _⟩ => ⟨S4096x8704, .f32⟩
  | .hbm, ⟨7, _⟩ => ⟨S4096x8704, .f32⟩
  | .hbm, ⟨8, _⟩ => ⟨S4096x1024, .f32⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proj.lean ====
abbrev S4096x1024 : Shape := ⟨2, ![4096, 1024]⟩
abbrev S8704x1024 : Shape := ⟨2, ![8704, 1024]⟩
abbrev S4096x8704 : Shape := ⟨2, ![4096, 8704]⟩
abbrev S1024x1024 : Shape := ⟨2, ![1024, 1024]⟩
abbrev S2176x1024 : Shape := ⟨2, ![2176, 1024]⟩
abbrev S1024x2176 : Shape := ⟨2, ![1024, 2176]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x8704, .bf16⟩
  | .local _ .vmem, ⟨0, _⟩ => ⟨S1024x1024, .bf16⟩
  | .local _ .vmem, ⟨1, _⟩ => ⟨S1024x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjIdeal.lean ====
abbrev S4096x1024 : Shape := ⟨2, ![4096, 1024]⟩
abbrev S8704x1024 : Shape := ⟨2, ![8704, 1024]⟩
abbrev S4096x8704 : Shape := ⟨2, ![4096, 8704]⟩
abbrev S1024x1024 : Shape := ⟨2, ![1024, 1024]⟩
abbrev S2176x1024 : Shape := ⟨2, ![2176, 1024]⟩
abbrev S1024x2176 : Shape := ⟨2, ![1024, 2176]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x8704, .bf16⟩
  | .local _ .vmem, ⟨0, _⟩ => ⟨S1024x1024, .bf16⟩
  | .local _ .vmem, ⟨1, _⟩ => ⟨S1024x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S8704x1024 : Shape := ⟨2, ![8704, 1024]⟩
abbrev S1024x8704 : Shape := ⟨2, ![1024, 8704]⟩
abbrev S4096x8704 : Shape := ⟨2, ![4096, 8704]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x1024, .f32⟩
  | .hbm, ⟨3, _⟩ => ⟨S8704x1024, .f32⟩
  | .hbm, ⟨4, _⟩ => ⟨S1024x8704, .f32⟩
  | .hbm, ⟨5, _⟩ => ⟨S4096x8704, .f32⟩
  | .hbm, ⟨6, _⟩ => ⟨S4096x8704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ya.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YaIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YaRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gu.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuIdeal.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuRefIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== X2.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== X2Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== X2RefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdIn.lean ====
abbrev S4x1024x1088 : Shape := ⟨3, ![4, 1024, 1088]⟩
abbrev S4096x1088 : Shape := ⟨2, ![4096, 1088]⟩
abbrev S256x1088 : Shape := ⟨2, ![256, 1088]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1088, .f32⟩
  | .hbm, ⟨1, _⟩ => ⟨S4x1024x1088, .f32⟩
  | .hbm, ⟨2, _⟩ => ⟨S4x1024x1088, .f32⟩
  | .hbm, ⟨3, _⟩ => ⟨S4x1024x1088, .f32⟩
  | .hbm, ⟨4, _⟩ => ⟨S4096x1088, .f32⟩
  | .hbm, ⟨5, _⟩ => ⟨S4096x1088, .f32⟩
  | .hbm, ⟨6, _⟩ => ⟨S4096x1088, .f32⟩
  | .hbm, ⟨7, _⟩ => ⟨S4096x1088, .f32⟩
  | .hbm, ⟨8, _⟩ => ⟨S4096x1088, .f32⟩
  | .hbm, ⟨9, _⟩ => ⟨S4096x1088, .f32⟩
  | .hbm, ⟨10, _⟩ => ⟨S4096x1088, .f32⟩
  | .hbm, ⟨11, _⟩ => ⟨S4x1024x1088, .f32⟩
  | .hbm, ⟨12, _⟩ => ⟨S4x1024x1088, .f32⟩
  | .hbm, ⟨13, _⟩ => ⟨S4x1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S4x1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInIdeal.lean ====
abbrev S4x1024x1088 : Shape := ⟨3, ![4, 1024, 1088]⟩
abbrev S4096x1088 : Shape := ⟨2, ![4096, 1088]⟩
abbrev S256x1088 : Shape := ⟨2, ![256, 1088]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1088, .f32⟩
  | .hbm, ⟨1, _⟩ => ⟨S4x1024x1088, .f32⟩
  | .hbm, ⟨2, _⟩ => ⟨S4x1024x1088, .f32⟩
  | .hbm, ⟨3, _⟩ => ⟨S4x1024x1088, .f32⟩
  | .hbm, ⟨4, _⟩ => ⟨S4096x1088, .f32⟩
  | .hbm, ⟨5, _⟩ => ⟨S4096x1088, .f32⟩
  | .hbm, ⟨6, _⟩ => ⟨S4096x1088, .f32⟩
  | .hbm, ⟨7, _⟩ => ⟨S4096x1088, .f32⟩
  | .hbm, ⟨8, _⟩ => ⟨S4096x1088, .f32⟩
  | .hbm, ⟨9, _⟩ => ⟨S4096x1088, .f32⟩
  | .hbm, ⟨10, _⟩ => ⟨S4096x1088, .f32⟩
  | .hbm, ⟨11, _⟩ => ⟨S4x1024x1088, .f32⟩
  | .hbm, ⟨12, _⟩ => ⟨S4x1024x1088, .f32⟩
  | .hbm, ⟨13, _⟩ => ⟨S4x1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S4x1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInRefIdeal.lean ====
abbrev S4x1024x1088 : Shape := ⟨3, ![4, 1024, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1088, .f32⟩
  | .hbm, ⟨1, _⟩ => ⟨S4x1024x1088, .f32⟩
  | .hbm, ⟨2, _⟩ => ⟨S4x1024x1088, .f32⟩
  | .hbm, ⟨3, _⟩ => ⟨S4x1024x1088, .f32⟩
  | .hbm, ⟨4, _⟩ => ⟨S_, .f32⟩
  | .hbm, ⟨5, _⟩ => ⟨S4x1024x1088, .f32⟩
  | .hbm, ⟨6, _⟩ => ⟨S4x1024x1088, .f32⟩
  | .hbm, ⟨7, _⟩ => ⟨S_, .f32⟩
  | .hbm, ⟨8, _⟩ => ⟨S4x1024x1088, .f32⟩
  | .hbm, ⟨9, _⟩ => ⟨S4x1024x1088, .f32⟩
  | .hbm, ⟨10, _⟩ => ⟨S4x1024x1088, .f32⟩
  | .hbm, ⟨11, _⟩ => ⟨S_, .f32⟩
  | .hbm, ⟨12, _⟩ => ⟨S4x1024x1088, .f32⟩
  | .hbm, ⟨13, _⟩ => ⟨S4x1024x1088, .f32⟩
  | .hbm, ⟨14, _⟩ => ⟨S4x1024x1088, .f32⟩
  | .hbm, ⟨15, _⟩ => ⟨S_, .f32⟩
  | .hbm, ⟨16, _⟩ => ⟨S4x1024x1088, .f32⟩
  | .hbm, ⟨17, _⟩ => ⟨S4x1024x1088, .f32⟩
  | .hbm, ⟨18, _⟩ => ⟨S4x1024x1088, .f32⟩
  | .hbm, ⟨19, _⟩ => ⟨S_, .f32⟩
  | .hbm, ⟨20, _⟩ => ⟨S4x1024x1088, .f32⟩
  | .hbm, ⟨21, _⟩ => ⟨S4x1024x1088, .f32⟩
  | .hbm, ⟨22, _⟩ => ⟨S_, .f32⟩
  | .hbm, ⟨23, _⟩ => ⟨S4x1024x1088, .f32⟩
  | .hbm, ⟨24, _⟩ => ⟨S4x1024x1088, .f32⟩
  | .hbm, ⟨25, _⟩ => ⟨S4x1024x1088, .f32⟩
  | .hbm, ⟨26, _⟩ => ⟨S_, .f32⟩
  | .hbm, ⟨27, _⟩ => ⟨S4x1024x1088, .f32⟩
  | .hbm, ⟨28, _⟩ => ⟨S4x1024x1088, .f32⟩
  | .hbm, ⟨29, _⟩ => ⟨S4x1024x1088, .f32⟩
  | .hbm, ⟨30, _⟩ => ⟨S_, .f32⟩
  | .hbm, ⟨31, _⟩ => ⟨S4x1024x1088, .f32⟩
  | .hbm, ⟨32, _⟩ => ⟨S4x1024x1088, .f32⟩
  | .hbm, ⟨33, _⟩ => ⟨S4x1024x1088, .f32⟩
  | .hbm, ⟨34, _⟩ => ⟨S_, .f32⟩
  | .hbm, ⟨35, _⟩ => ⟨S4x1024x1088, .f32⟩
  | .hbm, ⟨36, _⟩ => ⟨S4x1024x1088, .f32⟩
  | _, _ => ⟨S4x1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdConv.lean ====
abbrev S4x3x1x128 : Shape := ⟨4, ![4, 3, 1, 128]⟩
abbrev S12x128 : Shape := ⟨2, ![12, 128]⟩

abbrev nBuf : Space → Nat
  | .hbm => 14
  | .vmem => 7
  | .smem => 0
  | _ => 0

abbrev bufTy : (tb : Table) → Fin (tcTables nBuf tb) → BufTy
  | .hbm, ⟨0, _⟩ => ⟨S4x3x1x128, .f32⟩
  | .hbm, ⟨1, _⟩ => ⟨S4x3x1x128, .f32⟩
  | .hbm, ⟨2, _⟩ => ⟨S4x3x1x128, .f32⟩
  | .hbm, ⟨3, _⟩ => ⟨S4x3x1x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S4x3x1x128, .f32⟩
  | .hbm, ⟨12, _⟩ => ⟨S4x3x1x128, .f32⟩
  | .hbm, ⟨13, _⟩ => ⟨S4x3x1x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S4x3x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvIdeal.lean ====
abbrev S4x3x1x128 : Shape := ⟨4, ![4, 3, 1, 128]⟩
abbrev S12x128 : Shape := ⟨2, ![12, 128]⟩

abbrev nBuf : Space → Nat
  | .hbm => 14
  | .vmem => 7
  | .smem => 0
  | _ => 0

abbrev bufTy : (tb : Table) → Fin (tcTables nBuf tb) → BufTy
  | .hbm, ⟨0, _⟩ => ⟨S4x3x1x128, .f32⟩
  | .hbm, ⟨1, _⟩ => ⟨S4x3x1x128, .f32⟩
  | .hbm, ⟨2, _⟩ => ⟨S4x3x1x128, .f32⟩
  | .hbm, ⟨3, _⟩ => ⟨S4x3x1x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S4x3x1x128, .f32⟩
  | .hbm, ⟨12, _⟩ => ⟨S4x3x1x128, .f32⟩
  | .hbm, ⟨13, _⟩ => ⟨S4x3x1x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S4x3x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvRefIdeal.lean ====
abbrev S4x3x1x128 : Shape := ⟨4, ![4, 3, 1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3x1x128, .f32⟩
  | .hbm, ⟨1, _⟩ => ⟨S4x3x1x128, .f32⟩
  | .hbm, ⟨2, _⟩ => ⟨S4x3x1x128, .f32⟩
  | .hbm, ⟨3, _⟩ => ⟨S4x3x1x128, .f32⟩
  | .hbm, ⟨4, _⟩ => ⟨S_, .f32⟩
  | .hbm, ⟨5, _⟩ => ⟨S4x3x1x128, .f32⟩
  | .hbm, ⟨6, _⟩ => ⟨S4x3x1x128, .f32⟩
  | .hbm, ⟨7, _⟩ => ⟨S_, .f32⟩
  | .hbm, ⟨8, _⟩ => ⟨S4x3x1x128, .f32⟩
  | .hbm, ⟨9, _⟩ => ⟨S4x3x1x128, .f32⟩
  | .hbm, ⟨10, _⟩ => ⟨S4x3x1x128, .f32⟩
  | .hbm, ⟨11, _⟩ => ⟨S_, .f32⟩
  | .hbm, ⟨12, _⟩ => ⟨S4x3x1x128, .f32⟩
  | .hbm, ⟨13, _⟩ => ⟨S4x3x1x128, .f32⟩
  | .hbm, ⟨14, _⟩ => ⟨S4x3x1x128, .f32⟩
  | .hbm, ⟨15, _⟩ => ⟨S_, .f32⟩
  | .hbm, ⟨16, _⟩ => ⟨S4x3x1x128, .f32⟩
  | .hbm, ⟨17, _⟩ => ⟨S4x3x1x128, .f32⟩
  | .hbm, ⟨18, _⟩ => ⟨S4x3x1x128, .f32⟩
  | .hbm, ⟨19, _⟩ => ⟨S_, .f32⟩
  | .hbm, ⟨20, _⟩ => ⟨S4x3x1x128, .f32⟩
  | .hbm, ⟨21, _⟩ => ⟨S4x3x1x128, .f32⟩
  | .hbm, ⟨22, _⟩ => ⟨S_, .f32⟩
  | .hbm, ⟨23, _⟩ => ⟨S4x3x1x128, .f32⟩
  | .hbm, ⟨24, _⟩ => ⟨S4x3x1x128, .f32⟩
  | .hbm, ⟨25, _⟩ => ⟨S4x3x1x128, .f32⟩
  | .hbm, ⟨26, _⟩ => ⟨S_, .f32⟩
  | .hbm, ⟨27, _⟩ => ⟨S4x3x1x128, .f32⟩
  | .hbm, ⟨28, _⟩ => ⟨S4x3x1x128, .f32⟩
  | .hbm, ⟨29, _⟩ => ⟨S4x3x1x128, .f32⟩
  | .hbm, ⟨30, _⟩ => ⟨S_, .f32⟩
  | .hbm, ⟨31, _⟩ => ⟨S4x3x1x128, .f32⟩
  | .hbm, ⟨32, _⟩ => ⟨S4x3x1x128, .f32⟩
  | .hbm, ⟨33, _⟩ => ⟨S4x3x1x128, .f32⟩
  | .hbm, ⟨34, _⟩ => ⟨S_, .f32⟩
  | .hbm, ⟨35, _⟩ => ⟨S4x3x1x128, .f32⟩
  | .hbm, ⟨36, _⟩ => ⟨S4x3x1x128, .f32⟩
  | _, _ => ⟨S4x3x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdSq.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdSqIdeal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdSqRefIdeal.lean ====
abbrev S4x128x1024 : Shape := ⟨3, ![4, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdPool.lean ====
abbrev S4x4x32x256 : Shape := ⟨4, ![4, 4, 32, 256]⟩
abbrev S512x256 : Shape := ⟨2, ![512, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x4x32x256, .f32⟩
  | .hbm, ⟨1, _⟩ => ⟨S4x4x32x256, .f32⟩
  | .hbm, ⟨2, _⟩ => ⟨S4x4x32x256, .f32⟩
  | .hbm, ⟨3, _⟩ => ⟨S4x4x32x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S4x4x32x256, .f32⟩
  | .hbm, ⟨12, _⟩ => ⟨S4x4x32x256, .f32⟩
  | .hbm, ⟨13, _⟩ => ⟨S4x4x32x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdPoolIdeal.lean ====
abbrev S4x4x32x256 : Shape := ⟨4, ![4, 4, 32, 256]⟩
abbrev S512x256 : Shape := ⟨2, ![512, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x4x32x256, .f32⟩
  | .hbm, ⟨1, _⟩ => ⟨S4x4x32x256, .f32⟩
  | .hbm, ⟨2, _⟩ => ⟨S4x4x32x256, .f32⟩
  | .hbm, ⟨3, _⟩ => ⟨S4x4x32x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S4x4x32x256, .f32⟩
  | .hbm, ⟨12, _⟩ => ⟨S4x4x32x256, .f32⟩
  | .hbm, ⟨13, _⟩ => ⟨S4x4x32x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdPoolRefIdeal.lean ====
abbrev S4x4x32x256 : Shape := ⟨4, ![4, 4, 32, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x32x256, .f32⟩
  | .hbm, ⟨1, _⟩ => ⟨S4x4x32x256, .f32⟩
  | .hbm, ⟨2, _⟩ => ⟨S4x4x32x256, .f32⟩
  | .hbm, ⟨3, _⟩ => ⟨S4x4x32x256, .f32⟩
  | .hbm, ⟨4, _⟩ => ⟨S_, .f32⟩
  | .hbm, ⟨5, _⟩ => ⟨S4x4x32x256, .f32⟩
  | .hbm, ⟨6, _⟩ => ⟨S4x4x32x256, .f32⟩
  | .hbm, ⟨7, _⟩ => ⟨S_, .f32⟩
  | .hbm, ⟨8, _⟩ => ⟨S4x4x32x256, .f32⟩
  | .hbm, ⟨9, _⟩ => ⟨S4x4x32x256, .f32⟩
  | .hbm, ⟨10, _⟩ => ⟨S4x4x32x256, .f32⟩
  | .hbm, ⟨11, _⟩ => ⟨S_, .f32⟩
  | .hbm, ⟨12, _⟩ => ⟨S4x4x32x256, .f32⟩
  | .hbm, ⟨13, _⟩ => ⟨S4x4x32x256, .f32⟩
  | .hbm, ⟨14, _⟩ => ⟨S4x4x32x256, .f32⟩
  | .hbm, ⟨15, _⟩ => ⟨S_, .f32⟩
  | .hbm, ⟨16, _⟩ => ⟨S4x4x32x256, .f32⟩
  | .hbm, ⟨17, _⟩ => ⟨S4x4x32x256, .f32⟩
  | .hbm, ⟨18, _⟩ => ⟨S4x4x32x256, .f32⟩
  | .hbm, ⟨19, _⟩ => ⟨S_, .f32⟩
  | .hbm, ⟨20, _⟩ => ⟨S4x4x32x256, .f32⟩
  | .hbm, ⟨21, _⟩ => ⟨S4x4x32x256, .f32⟩
  | .hbm, ⟨22, _⟩ => ⟨S_, .f32⟩
  | .hbm, ⟨23, _⟩ => ⟨S4x4x32x256, .f32⟩
  | .hbm, ⟨24, _⟩ => ⟨S4x4x32x256, .f32⟩
  | .hbm, ⟨25, _⟩ => ⟨S4x4x32x256, .f32⟩
  | .hbm, ⟨26, _⟩ => ⟨S_, .f32⟩
  | .hbm, ⟨27, _⟩ => ⟨S4x4x32x256, .f32⟩
  | .hbm, ⟨28, _⟩ => ⟨S4x4x32x256, .f32⟩
  | .hbm, ⟨29, _⟩ => ⟨S4x4x32x256, .f32⟩
  | .hbm, ⟨30, _⟩ => ⟨S_, .f32⟩
  | .hbm, ⟨31, _⟩ => ⟨S4x4x32x256, .f32⟩
  | .hbm, ⟨32, _⟩ => ⟨S4x4x32x256, .f32⟩
  | .hbm, ⟨33, _⟩ => ⟨S4x4x32x256, .f32⟩
  | .hbm, ⟨34, _⟩ => ⟨S_, .f32⟩
  | .hbm, ⟨35, _⟩ => ⟨S4x4x32x256, .f32⟩
  | .hbm, ⟨36, _⟩ => ⟨S4x4x32x256, .f32⟩
  | _, _ => ⟨S4x4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdRow.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRowIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRowRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdSink.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdSinkIdeal.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdSinkRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGu.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdGuIdeal.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdGuRefIdeal.lean ====
abbrev S4x1024x704 : Shape := ⟨3, ![4, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdDown.lean ====
abbrev S4x352x1024 : Shape := ⟨3, ![4, 352, 1024]⟩
abbrev S1408x1024 : Shape := ⟨2, ![1408, 1024]⟩
abbrev S176x1024 : Shape := ⟨2, ![176, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownIdeal.lean ====
abbrev S4x352x1024 : Shape := ⟨3, ![4, 352, 1024]⟩
abbrev S1408x1024 : Shape := ⟨2, ![1408, 1024]⟩
abbrev S176x1024 : Shape := ⟨2, ![176, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownRefIdeal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdRel.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRelIdeal.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRelRefIdeal.lean ====
abbrev S32x16 : Shape := ⟨2, ![32, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S_, .f32⟩
  | .hbm, ⟨5, _⟩ => ⟨S32x16, .f32⟩
  | .hbm, ⟨6, _⟩ => ⟨S32x16, .f32⟩
  | .hbm, ⟨7, _⟩ => ⟨S_, .f32⟩
  | .hbm, ⟨8, _⟩ => ⟨S32x16, .f32⟩
  | .hbm, ⟨9, _⟩ => ⟨S32x16, .f32⟩
  | .hbm, ⟨10, _⟩ => ⟨S32x16, .f32⟩
  | .hbm, ⟨11, _⟩ => ⟨S_, .f32⟩
  | .hbm, ⟨12, _⟩ => ⟨S32x16, .f32⟩
  | .hbm, ⟨13, _⟩ => ⟨S32x16, .f32⟩
  | .hbm, ⟨14, _⟩ => ⟨S32x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S_, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x16, .f32⟩
  | .hbm, ⟨34, _⟩ => ⟨S_, .f32⟩
  | .hbm, ⟨35, _⟩ => ⟨S32x16, .f32⟩
  | .hbm, ⟨36, _⟩ => ⟨S32x16, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFinal.lean ====
abbrev S1024 : Shape := ⟨1, ![1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFinalIdeal.lean ====
abbrev S1024 : Shape := ⟨1, ![1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFinalRefIdeal.lean ====
abbrev S1024 : Shape := ⟨1, ![1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsB.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBIdeal.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== RmsF.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFIdeal.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossH.lean ====
abbrev S4096x1024 : Shape := ⟨2, ![4096, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_19 : BitVec 32 := 0#32
  let v47 : BitVec 1 := Scalar.cmpi .ne v46 c0_i32_19
  v47

def k0_cond3 (i : grid0.Coords) : BitVec 1 :=
  let arg0 : BitVec 32 := BitVec.ofNat 32 (i 0).val
  let c0_i32_21 : BitVec 32 := 0#32
  let v51 : BitVec 1 := Scalar.cmpi .eq arg0 c0_i32_21
  let v52 : BitVec 32 := Scalar.extui v51
  let c0_i32_22 : BitVec 32 := 0#32
  let v53 : BitVec 1 := Scalar.cmpi .ne v52 c0_i32_22
  v53

def k0_cond4 (i : grid0.Coords) : BitVec 1 :=
  let arg0 : BitVec 32 := BitVec.ofNat 32 (i 0).val
  let c0_i32_21 : BitVec 32 := 0#32
  let v51 : BitVec 1 := Scalar.cmpi .eq arg0 c0_i32_21
  let true_23 : BitVec 1 := 1#1
  let v54 : BitVec 1 := Scalar.xori v51 true_23
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHIdeal.lean ====
abbrev S4096x1024 : Shape := ⟨2, ![4096, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_19 : BitVec 32 := 0#32
  let v47 : BitVec 1 := Scalar.cmpi .ne v46 c0_i32_19
  v47

def k0_cond3 (i : grid0.Coords) : BitVec 1 :=
  let arg0 : BitVec 32 := BitVec.ofNat 32 (i 0).val
  let c0_i32_21 : BitVec 32 := 0#32
  let v51 : BitVec 1 := Scalar.cmpi .eq arg0 c0_i32_21
  let v52 : BitVec 32 := Scalar.extui v51
  let c0_i32_22 : BitVec 32 := 0#32
  let v53 : BitVec 1 := Scalar.cmpi .ne v52 c0_i32_22
  v53

def k0_cond4 (i : grid0.Coords) : BitVec 1 :=
  let arg0 : BitVec 32 := BitVec.ofNat 32 (i 0).val
  let c0_i32_21 : BitVec 32 := 0#32
  let v51 : BitVec 1 := Scalar.cmpi .eq arg0 c0_i32_21
  let true_23 : BitVec 1 := 1#1
  let v54 : BitVec 1 := Scalar.xori v51 true_23
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== SwiB.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwiBIdeal.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwiBRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== SwiF.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwiFIdeal.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwiFRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== MergeF.lean ====
abbrev S4096x8704 : Shape := ⟨2, ![4096, 8704]⟩
abbrev S4096x1024 : Shape := ⟨2, ![4096, 1024]⟩
abbrev S1x1024 : Shape := ⟨2, ![1, 1024]⟩
abbrev S256x512 : Shape := ⟨2, ![256, 512]⟩
abbrev S256x1024 : Shape := ⟨2, ![256, 1024]⟩
abbrev S1x512 : Shape := ⟨2, ![1, 512]⟩

abbrev nBuf : Space → Nat
  | .hbm => 6
  | .vmem => 21
  | .smem => 0
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeFIdeal.lean ====
abbrev S4096x8704 : Shape := ⟨2, ![4096, 8704]⟩
abbrev S4096x1024 : Shape := ⟨2, ![4096, 1024]⟩
abbrev S1x1024 : Shape := ⟨2, ![1, 1024]⟩
abbrev S256x512 : Shape := ⟨2, ![256, 512]⟩
abbrev S256x1024 : Shape := ⟨2, ![256, 1024]⟩
abbrev S1x512 : Shape := ⟨2, ![1, 512]⟩

abbrev nBuf : Space → Nat
  | .hbm => 6
  | .vmem => 21
  | .smem => 0
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeFRefIdeal.lean ====
abbrev S4096x8704 : Shape := ⟨2, ![4096, 8704]⟩
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S4096x3072, .bf16⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== SumSmall.lean ====
abbrev S8x32x1024 : Shape := ⟨3, ![8, 32, 1024]⟩
abbrev S7x32x1024 : Shape := ⟨3, ![7, 32, 1024]⟩
abbrev S_ : Shape := ⟨0, ![]⟩
abbrev S1 : Shape := ⟨1, ![1]⟩
abbrev S32x1024 : Shape := ⟨2, ![32, 1024]⟩
abbrev S1x32x1024 : Shape := ⟨3, ![1, 32, 1024]⟩

abbrev nBuf : Space → Nat
  | .hbm => 4
  | .vmem => 9
  | .smem => 1
  | _ => 0

abbrev bufTy : (tb : Table) → Fin (tcTables nBuf tb) → BufTy
  | .hbm, ⟨0, _⟩ => ⟨S8x32x1024, .f32⟩
  | .hbm, ⟨1, _⟩ => ⟨S7x32x1024, .f32⟩
  | .hbm, ⟨2, _⟩ => ⟨S_, .i32⟩
  | .hbm, ⟨3, _⟩ => ⟨S32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .smem, ⟨0, _⟩ => ⟨S1, .i32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v2 : Ref sig .tc := ⟨.hbm, 3, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumSmallIdeal.lean ====
abbrev S8x32x1024 : Shape := ⟨3, ![8, 32, 1024]⟩
abbrev S7x32x1024 : Shape := ⟨3, ![7, 32, 1024]⟩
abbrev S_ : Shape := ⟨0, ![]⟩
abbrev S1 : Shape := ⟨1, ![1]⟩
abbrev S32x1024 : Shape := ⟨2, ![32, 1024]⟩
abbrev S1x32x1024 : Shape := ⟨3, ![1, 32, 1024]⟩

abbrev nBuf : Space → Nat
  | .hbm => 4
  | .vmem => 9
  | .smem => 1
  | _ => 0

abbrev bufTy : (tb : Table) → Fin (tcTables nBuf tb) → BufTy
  | .hbm, ⟨0, _⟩ => ⟨S8x32x1024, .f32⟩
  | .hbm, ⟨1, _⟩ => ⟨S7x32x1024, .f32⟩
  | .hbm, ⟨2, _⟩ => ⟨S_, .i32⟩
  | .hbm, ⟨3, _⟩ => ⟨S32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .smem, ⟨0, _⟩ => ⟨S1, .i32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v2 : Ref sig .tc := ⟨.hbm, 3, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_7 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumSmallRefIdeal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ChipA.lean ====
abbrev S4x2560x1024 : Shape := ⟨3, ![4, 2560, 1024]⟩
abbrev S3x640x1024 : Shape := ⟨3, ![3, 640, 1024]⟩
abbrev S_ : Shape := ⟨0, ![]⟩
abbrev S1 : Shape := ⟨1, ![1]⟩
abbrev S640x1024 : Shape := ⟨2, ![640, 1024]⟩
abbrev S1x320x1024 : Shape := ⟨3, ![1, 320, 1024]⟩
abbrev S320x1024 : Shape := ⟨2, ![320, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x2560x1024, .bf16⟩
  | .hbm, ⟨1, _⟩ => ⟨S3x640x1024, .bf16⟩
  | .hbm, ⟨2, _⟩ => ⟨S_, .i32⟩
  | .hbm, ⟨3, _⟩ => ⟨S640x1024, .f32⟩
  | .local _ .vmem, ⟨0, _⟩ => ⟨S1x320x1024, .bf16⟩
  | .local _ .vmem, ⟨1, _⟩ => ⟨S1x320x1024, .bf16⟩
  | .local _ .vmem, ⟨2, _⟩ => ⟨S1x320x1024, .bf16⟩
  | .local _ .vmem, ⟨3, _⟩ => ⟨S1x320x1024, .bf16⟩
  | .local _ .vmem, ⟨4, _⟩ => ⟨S1x320x1024, .bf16⟩
  | .local _ .vmem, ⟨5, _⟩ => ⟨S1x320x1024, .bf16⟩
  | .local _ .vmem, ⟨6, _⟩ => ⟨S1x320x1024, .bf16⟩
  | .local _ .vmem, ⟨7, _⟩ => ⟨S1x320x1024, .bf16⟩
  | .local _ .vmem, ⟨8, _⟩ => ⟨S320x1024, .f32⟩
  | .local _ .vmem, ⟨9, _⟩ => ⟨S320x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipAIdeal.lean ====
abbrev S4x2560x1024 : Shape := ⟨3, ![4, 2560, 1024]⟩
abbrev S3x640x1024 : Shape := ⟨3, ![3, 640, 1024]⟩
abbrev S_ : Shape := ⟨0, ![]⟩
abbrev S1 : Shape := ⟨1, ![1]⟩
abbrev S640x1024 : Shape := ⟨2, ![640, 1024]⟩
abbrev S1x320x1024 : Shape := ⟨3, ![1, 320, 1024]⟩
abbrev S320x1024 : Shape := ⟨2, ![320, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x2560x1024, .bf16⟩
  | .hbm, ⟨1, _⟩ => ⟨S3x640x1024, .bf16⟩
  | .hbm, ⟨2, _⟩ => ⟨S_, .i32⟩
  | .hbm, ⟨3, _⟩ => ⟨S640x1024, .f32⟩
  | .local _ .vmem, ⟨0, _⟩ => ⟨S1x320x1024, .bf16⟩
  | .local _ .vmem, ⟨1, _⟩ => ⟨S1x320x1024, .bf16⟩
  | .local _ .vmem, ⟨2, _⟩ => ⟨S1x320x1024, .bf16⟩
  | .local _ .vmem, ⟨3, _⟩ => ⟨S1x320x1024, .bf16⟩
  | .local _ .vmem, ⟨4, _⟩ => ⟨S1x320x1024, .bf16⟩
  | .local _ .vmem, ⟨5, _⟩ => ⟨S1x320x1024, .bf16⟩
  | .local _ .vmem, ⟨6, _⟩ => ⟨S1x320x1024, .bf16⟩
  | .local _ .vmem, ⟨7, _⟩ => ⟨S1x320x1024, .bf16⟩
  | .local _ .vmem, ⟨8, _⟩ => ⟨S320x1024, .f32⟩
  | .local _ .vmem, ⟨9, _⟩ => ⟨S320x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipARefIdeal.lean ====
abbrev S4x2560x1024 : Shape := ⟨3, ![4, 2560, 1024]⟩
abbrev S3x640x1024 : Shape := ⟨3, ![3, 640, 1024]⟩
abbrev S1x640x1024 : Shape := ⟨3, ![1, 640, 1024]⟩
abbrev S640x1024 : Shape := ⟨2, ![640, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2560x1024, .bf16⟩
  | .hbm, ⟨1, _⟩ => ⟨S3x640x1024, .bf16⟩
  | .hbm, ⟨2, _⟩ => ⟨S1x640x1024, .bf16⟩
  | .hbm, ⟨3, _⟩ => ⟨S640x1024, .bf16⟩
  | .hbm, ⟨4, _⟩ => ⟨S640x1024, .f32⟩
  | .hbm, ⟨5, _⟩ => ⟨S3x640x1024, .f32⟩
  | .hbm, ⟨6, _⟩ => ⟨S_, .f32⟩
  | .hbm, ⟨7, _⟩ => ⟨S640x1024, .f32⟩
  | .hbm, ⟨8, _⟩ => ⟨S640x1024, .f32⟩
  | _, _ => ⟨S4x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ChipB.lean ====
abbrev S4x2560x1024 : Shape := ⟨3, ![4, 2560, 1024]⟩
abbrev S3x640x1024 : Shape := ⟨3, ![3, 640, 1024]⟩
abbrev S_ : Shape := ⟨0, ![]⟩
abbrev S1 : Shape := ⟨1, ![1]⟩
abbrev S640x1024 : Shape := ⟨2, ![640, 1024]⟩
abbrev S1x320x1024 : Shape := ⟨3, ![1, 320, 1024]⟩
abbrev S320x1024 : Shape := ⟨2, ![320, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x2560x1024, .bf16⟩
  | .hbm, ⟨1, _⟩ => ⟨S3x640x1024, .bf16⟩
  | .hbm, ⟨2, _⟩ => ⟨S_, .i32⟩
  | .hbm, ⟨3, _⟩ => ⟨S640x1024, .f32⟩
  | .local _ .vmem, ⟨0, _⟩ => ⟨S1x320x1024, .bf16⟩
  | .local _ .vmem, ⟨1, _⟩ => ⟨S1x320x1024, .bf16⟩
  | .local _ .vmem, ⟨2, _⟩ => ⟨S1x320x1024, .bf16⟩
  | .local _ .vmem, ⟨3, _⟩ => ⟨S1x320x1024, .bf16⟩
  | .local _ .vmem, ⟨4, _⟩ => ⟨S1x320x1024, .bf16⟩
  | .local _ .vmem, ⟨5, _⟩ => ⟨S1x320x1024, .bf16⟩
  | .local _ .vmem, ⟨6, _⟩ => ⟨S1x320x1024, .bf16⟩
  | .local _ .vmem, ⟨7, _⟩ => ⟨S1x320x1024, .bf16⟩
  | .local _ .vmem, ⟨8, _⟩ => ⟨S320x1024, .f32⟩
  | .local _ .vmem, ⟨9, _⟩ => ⟨S320x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi c2_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipBIdeal.lean ====
abbrev S4x2560x1024 : Shape := ⟨3, ![4, 2560, 1024]⟩
abbrev S3x640x1024 : Shape := ⟨3, ![3, 640, 1024]⟩
abbrev S_ : Shape := ⟨0, ![]⟩
abbrev S1 : Shape := ⟨1, ![1]⟩
abbrev S640x1024 : Shape := ⟨2, ![640, 1024]⟩
abbrev S1x320x1024 : Shape := ⟨3, ![1, 320, 1024]⟩
abbrev S320x1024 : Shape := ⟨2, ![320, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x2560x1024, .bf16⟩
  | .hbm, ⟨1, _⟩ => ⟨S3x640x1024, .bf16⟩
  | .hbm, ⟨2, _⟩ => ⟨S_, .i32⟩
  | .hbm, ⟨3, _⟩ => ⟨S640x1024, .f32⟩
  | .local _ .vmem, ⟨0, _⟩ => ⟨S1x320x1024, .bf16⟩
  | .local _ .vmem, ⟨1, _⟩ => ⟨S1x320x1024, .bf16⟩
  | .local _ .vmem, ⟨2, _⟩ => ⟨S1x320x1024, .bf16⟩
  | .local _ .vmem, ⟨3, _⟩ => ⟨S1x320x1024, .bf16⟩
  | .local _ .vmem, ⟨4, _⟩ => ⟨S1x320x1024, .bf16⟩
  | .local _ .vmem, ⟨5, _⟩ => ⟨S1x320x1024, .bf16⟩
  | .local _ .vmem, ⟨6, _⟩ => ⟨S1x320x1024, .bf16⟩
  | .local _ .vmem, ⟨7, _⟩ => ⟨S1x320x1024, .bf16⟩
  | .local _ .vmem, ⟨8, _⟩ => ⟨S320x1024, .f32⟩
  | .local _ .vmem, ⟨9, _⟩ => ⟨S320x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi c2_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipBRefIdeal.lean ====
abbrev S4x2560x1024 : Shape := ⟨3, ![4, 2560, 1024]⟩
abbrev S3x640x1024 : Shape := ⟨3, ![3, 640, 1024]⟩
abbrev S1x640x1024 : Shape := ⟨3, ![1, 640, 1024]⟩
abbrev S640x1024 : Shape := ⟨2, ![640, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2560x1024, .bf16⟩
  | .hbm, ⟨1, _⟩ => ⟨S3x640x1024, .bf16⟩
  | .hbm, ⟨2, _⟩ => ⟨S1x640x1024, .bf16⟩
  | .hbm, ⟨3, _⟩ => ⟨S640x1024, .bf16⟩
  | .hbm, ⟨4, _⟩ => ⟨S640x1024, .f32⟩
  | .hbm, ⟨5, _⟩ => ⟨S3x640x1024, .f32⟩
  | .hbm, ⟨6, _⟩ => ⟨S_, .f32⟩
  | .hbm, ⟨7, _⟩ => ⟨S640x1024, .f32⟩
  | .hbm, ⟨8, _⟩ => ⟨S640x1024, .f32⟩
  | _, _ => ⟨S4x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ChipC.lean ====
abbrev S4x2560x1024 : Shape := ⟨3, ![4, 2560, 1024]⟩
abbrev S3x768x1024 : Shape := ⟨3, ![3, 768, 1024]⟩
abbrev S_ : Shape := ⟨0, ![]⟩
abbrev S1 : Shape := ⟨1, ![1]⟩
abbrev S768x1024 : Shape := ⟨2, ![768, 1024]⟩
abbrev S1x256x1024 : Shape := ⟨3, ![1, 256, 1024]⟩
abbrev S256x1024 : Shape := ⟨2, ![256, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x2560x1024, .bf16⟩
  | .hbm, ⟨1, _⟩ => ⟨S3x768x1024, .bf16⟩
  | .hbm, ⟨2, _⟩ => ⟨S_, .i32⟩
  | .hbm, ⟨3, _⟩ => ⟨S768x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.addi c5_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipCIdeal.lean ====
abbrev S4x2560x1024 : Shape := ⟨3, ![4, 2560, 1024]⟩
abbrev S3x768x1024 : Shape := ⟨3, ![3, 768, 1024]⟩
abbrev S_ : Shape := ⟨0, ![]⟩
abbrev S1 : Shape := ⟨1, ![1]⟩
abbrev S768x1024 : Shape := ⟨2, ![768, 1024]⟩
abbrev S1x256x1024 : Shape := ⟨3, ![1, 256, 1024]⟩
abbrev S256x1024 : Shape := ⟨2, ![256, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x2560x1024, .bf16⟩
  | .hbm, ⟨1, _⟩ => ⟨S3x768x1024, .bf16⟩
  | .hbm, ⟨2, _⟩ => ⟨S_, .i32⟩
  | .hbm, ⟨3, _⟩ => ⟨S768x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.addi c5_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipCRefIdeal.lean ====
abbrev S4x2560x1024 : Shape := ⟨3, ![4, 2560, 1024]⟩
abbrev S3x768x1024 : Shape := ⟨3, ![3, 768, 1024]⟩
abbrev S1x768x1024 : Shape := ⟨3, ![1, 768, 1024]⟩
abbrev S768x1024 : Shape := ⟨2, ![768, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2560x1024, .bf16⟩
  | .hbm, ⟨1, _⟩ => ⟨S3x768x1024, .bf16⟩
  | .hbm, ⟨2, _⟩ => ⟨S1x768x1024, .bf16⟩
  | .hbm, ⟨3, _⟩ => ⟨S768x1024, .bf16⟩
  | .hbm, ⟨4, _⟩ => ⟨S768x1024, .f32⟩
  | .hbm, ⟨5, _⟩ => ⟨S3x768x1024, .f32⟩
  | .hbm, ⟨6, _⟩ => ⟨S_, .f32⟩
  | .hbm, ⟨7, _⟩ => ⟨S768x1024, .f32⟩
  | .hbm, ⟨8, _⟩ => ⟨S768x1024, .f32⟩
  | _, _ => ⟨S4x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ChipD.lean ====
abbrev S4x2560x1024 : Shape := ⟨3, ![4, 2560, 1024]⟩
abbrev S3x512x1024 : Shape := ⟨3, ![3, 512, 1024]⟩
abbrev S_ : Shape := ⟨0, ![]⟩
abbrev S1 : Shape := ⟨1, ![1]⟩
abbrev S512x1024 : Shape := ⟨2, ![512, 1024]⟩
abbrev S1x512x1024 : Shape := ⟨3, ![1, 512, 1024]⟩

abbrev nBuf : Space → Nat
  | .hbm => 4
  | .vmem => 5
  | .smem => 1
  | _ => 0

abbrev bufTy : (tb : Table) → Fin (tcTables nBuf tb) → BufTy
  | .hbm, ⟨0, _⟩ => ⟨S4x2560x1024, .bf16⟩
  | .hbm, ⟨1, _⟩ => ⟨S3x512x1024, .bf16⟩
  | .hbm, ⟨2, _⟩ => ⟨S_, .i32⟩
  | .hbm, ⟨3, _⟩ => ⟨S512x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.addi c4_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ChipDIdeal.lean ====
abbrev S4x2560x1024 : Shape := ⟨3, ![4, 2560, 1024]⟩
abbrev S3x512x1024 : Shape := ⟨3, ![3, 512, 1024]⟩
abbrev S_ : Shape := ⟨0, ![]⟩
abbrev S1 : Shape := ⟨1, ![1]⟩
abbrev S512x1024 : Shape := ⟨2, ![512, 1024]⟩
abbrev S1x512x1024 : Shape := ⟨3, ![1, 512, 1024]⟩

abbrev nBuf : Space → Nat
  | .hbm => 4
  | .vmem => 5
  | .smem => 1
  | _ => 0

abbrev bufTy : (tb : Table) → Fin (tcTables nBuf tb) → BufTy
  | .hbm, ⟨0, _⟩ => ⟨S4x2560x1024, .bf16⟩
  | .hbm, ⟨1, _⟩ => ⟨S3x512x1024, .bf16⟩
  | .hbm, ⟨2, _⟩ => ⟨S_, .i32⟩
  | .hbm, ⟨3, _⟩ => ⟨S512x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .smem, ⟨0, _⟩ => ⟨S1, .i32⟩
  | _, _ => ⟨S4x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.addi c4_i32 arg0
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ChipDRefIdeal.lean ====
abbrev S4x2560x1024 : Shape := ⟨3, ![4, 2560, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2560x1024, .bf16⟩
  | .hbm, ⟨1, _⟩ => ⟨S3x512x1024, .bf16⟩
  | .hbm, ⟨2, _⟩ => ⟨S1x512x1024, .bf16⟩
  | .hbm, ⟨3, _⟩ => ⟨S512x1024, .bf16⟩
  | .hbm, ⟨4, _⟩ => ⟨S512x1024, .f32⟩
  | .hbm, ⟨5, _⟩ => ⟨S3x512x1024, .f32⟩
  | .hbm, ⟨6, _⟩ => ⟨S_, .f32⟩
  | .hbm, ⟨7, _⟩ => ⟨S512x1024, .f32⟩
  | .hbm, ⟨8, _⟩ => ⟨S512x1024, .f32⟩
  | _, _ => ⟨S4x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ChipE.lean ====
abbrev S4x1536x1024 : Shape := ⟨3, ![4, 1536, 1024]⟩
abbrev S3x1536x1024 : Shape := ⟨3, ![3, 1536, 1024]⟩
abbrev S_ : Shape := ⟨0, ![]⟩
abbrev S1 : Shape := ⟨1, ![1]⟩
abbrev S1536x1024 : Shape := ⟨2, ![1536, 1024]⟩
abbrev S1x512x1024 : Shape := ⟨3, ![1, 512, 1024]⟩
abbrev S512x1024 : Shape := ⟨2, ![512, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x1536x1024, .bf16⟩
  | .hbm, ⟨1, _⟩ => ⟨S3x1536x1024, .bf16⟩
  | .hbm, ⟨2, _⟩ => ⟨S_, .i32⟩
  | .hbm, ⟨3, _⟩ => ⟨S1536x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .smem, ⟨0, _⟩ => ⟨S1, .i32⟩
  | _, _ => ⟨S4x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipEIdeal.lean ====
abbrev S4x1536x1024 : Shape := ⟨3, ![4, 1536, 1024]⟩
abbrev S3x1536x1024 : Shape := ⟨3, ![3, 1536, 1024]⟩
abbrev S_ : Shape := ⟨0, ![]⟩
abbrev S1 : Shape := ⟨1, ![1]⟩
abbrev S1536x1024 : Shape := ⟨2, ![1536, 1024]⟩
abbrev S1x512x1024 : Shape := ⟨3, ![1, 512, 1024]⟩
abbrev S512x1024 : Shape := ⟨2, ![512, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x1536x1024, .bf16⟩
  | .hbm, ⟨1, _⟩ => ⟨S3x1536x1024, .bf16⟩
  | .hbm, ⟨2, _⟩ => ⟨S_, .i32⟩
  | .hbm, ⟨3, _⟩ => ⟨S1536x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .smem, ⟨0, _⟩ => ⟨S1, .i32⟩
  | _, _ => ⟨S4x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipERefIdeal.lean ====
abbrev S4x1536x1024 : Shape := ⟨3, ![4, 1536, 1024]⟩
abbrev S3x1536x1024 : Shape := ⟨3, ![3, 1536, 1024]⟩
abbrev S1x1536x1024 : Shape := ⟨3, ![1, 1536, 1024]⟩
abbrev S1536x1024 : Shape := ⟨2, ![1536, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1536x1024, .bf16⟩
  | .hbm, ⟨1, _⟩ => ⟨S3x1536x1024, .bf16⟩
  | .hbm, ⟨2, _⟩ => ⟨S1x1536x1024, .bf16⟩
  | .hbm, ⟨3, _⟩ => ⟨S1536x1024, .bf16⟩
  | .hbm, ⟨4, _⟩ => ⟨S1536x1024, .f32⟩
  | .hbm, ⟨5, _⟩ => ⟨S3x1536x1024, .f32⟩
  | .hbm, ⟨6, _⟩ => ⟨S_, .f32⟩
  | .hbm, ⟨7, _⟩ => ⟨S1536x1024, .f32⟩
  | .hbm, ⟨8, _⟩ => ⟨S1536x1024, .f32⟩
  | _, _ => ⟨S4x1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ChipI.lean ====
abbrev S4x1088x1024 : Shape := ⟨3, ![4, 1088, 1024]⟩
abbrev S3x1088x1024 : Shape := ⟨3, ![3, 1088, 1024]⟩
abbrev S_ : Shape := ⟨0, ![]⟩
abbrev S1 : Shape := ⟨1, ![1]⟩
abbrev S1088x1024 : Shape := ⟨2, ![1088, 1024]⟩
abbrev S1x544x1024 : Shape := ⟨3, ![1, 544, 1024]⟩
abbrev S544x1024 : Shape := ⟨2, ![544, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x1088x1024, .bf16⟩
  | .hbm, ⟨1, _⟩ => ⟨S3x1088x1024, .bf16⟩
  | .hbm, ⟨2, _⟩ => ⟨S_, .i32⟩
  | .hbm, ⟨3, _⟩ => ⟨S1088x1024, .f32⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1x544x1024, .bf16⟩
  | .local _ .vmem, ⟨5, _⟩ => ⟨S1x544x1024, .bf16⟩
  | .local _ .vmem, ⟨6, _⟩ => ⟨S1x544x1024, .bf16⟩
  | .local _ .vmem, ⟨7, _⟩ => ⟨S1x544x1024, .bf16⟩
  | .local _ .vmem, ⟨8, _⟩ => ⟨S544x1024, .f32⟩
  | .local _ .vmem, ⟨9, _⟩ => ⟨S544x1024, .f32⟩
  | .local _ .smem, ⟨0, _⟩ => ⟨S1, .i32⟩
  | _, _ => ⟨S4x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipIIdeal.lean ====
abbrev S4x1088x1024 : Shape := ⟨3, ![4, 1088, 1024]⟩
abbrev S3x1088x1024 : Shape := ⟨3, ![3, 1088, 1024]⟩
abbrev S_ : Shape := ⟨0, ![]⟩
abbrev S1 : Shape := ⟨1, ![1]⟩
abbrev S1088x1024 : Shape := ⟨2, ![1088, 1024]⟩
abbrev S1x544x1024 : Shape := ⟨3, ![1, 544, 1024]⟩
abbrev S544x1024 : Shape := ⟨2, ![544, 1024]⟩

abbrev nBuf : Space → Nat
  | .hbm => 4
  | .vmem => 10
  | .smem => 1
  | _ => 0

abbrev bufTy : (tb : Table) → Fin (tcTables nBuf tb) → BufTy
  | .hbm, ⟨0, _⟩ => ⟨S4x1088x1024, .bf16⟩
  | .hbm, ⟨1, _⟩ => ⟨S3x1088x1024, .bf16⟩
  | .hbm, ⟨2, _⟩ => ⟨S_, .i32⟩
  | .hbm, ⟨3, _⟩ => ⟨S1088x1024, .f32⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .bf16⟩
  | .local _ .vmem, ⟨3, _⟩ => ⟨S1x544x1024, .bf16⟩
  | .local _ .vmem, ⟨4, _⟩ => ⟨S1x544x1024, .bf16⟩
  | .local _ .vmem, ⟨5, _⟩ => ⟨S1x544x1024, .bf16⟩
  | .local _ .vmem, ⟨6, _⟩ => ⟨S1x544x1024, .bf16⟩
  | .local _ .vmem, ⟨7, _⟩ => ⟨S1x544x1024, .bf16⟩
  | .local _ .vmem, ⟨8, _⟩ => ⟨S544x1024, .f32⟩
  | .local _ .vmem, ⟨9, _⟩ => ⟨S544x1024, .f32⟩
  | .local _ .smem, ⟨0, _⟩ => ⟨S1, .i32⟩
  | _, _ => ⟨S4x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipIRefIdeal.lean ====
abbrev S4x1088x1024 : Shape := ⟨3, ![4, 1088, 1024]⟩
abbrev S3x1088x1024 : Shape := ⟨3, ![3, 1088, 1024]⟩
abbrev S1x1088x1024 : Shape := ⟨3, ![1, 1088, 1024]⟩
abbrev S1088x1024 : Shape := ⟨2, ![1088, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1088x1024, .bf16⟩
  | .hbm, ⟨1, _⟩ => ⟨S3x1088x1024, .bf16⟩
  | .hbm, ⟨2, _⟩ => ⟨S1x1088x1024, .bf16⟩
  | .hbm, ⟨3, _⟩ => ⟨S1088x1024, .bf16⟩
  | .hbm, ⟨4, _⟩ => ⟨S1088x1024, .f32⟩
  | .hbm, ⟨5, _⟩ => ⟨S3x1088x1024, .f32⟩
  | .hbm, ⟨6, _⟩ => ⟨S_, .f32⟩
  | .hbm, ⟨7, _⟩ => ⟨S1088x1024, .f32⟩
  | .hbm, ⟨8, _⟩ => ⟨S1088x1024, .f32⟩
  | _, _ => ⟨S4x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== X1.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== X1Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== X1RefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwPool.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwPoolIdeal.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwPoolRefIdeal.lean ====
abbrev S4096x1024 : Shape := ⟨2, ![4096, 1024]⟩
abbrev S_ : Shape := ⟨0, ![]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4x256x256, .f32⟩
  | .hbm, ⟨4, _⟩ => ⟨S4096x1024, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x256x256, .f32⟩
  | .hbm, ⟨13, _⟩ => ⟨S4x256x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Dp.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1024x256, .bf16⟩
  | .local _ .vmem, ⟨5, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DpRefIdeal.lean ====
abbrev S4096x1024 : Shape := ⟨2, ![4096, 1024]⟩
abbrev S4x256x256 : Shape := ⟨3, ![4, 256, 256]⟩
abbrev S_ : Shape := ⟨0, ![]⟩
abbrev S4096x4x256 : Shape := ⟨3, ![4096, 4, 256]⟩
abbrev S4x256x4096 : Shape := ⟨3, ![4, 256, 4096]⟩
abbrev S4x4096x256 : Shape := ⟨3, ![4, 4096, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S_, .f32⟩
  | .hbm, ⟨3, _⟩ => ⟨S4096x1024, .f32⟩
  | .hbm, ⟨4, _⟩ => ⟨S4x256x256, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x4096x256, .f32⟩
  | .hbm, ⟨13, _⟩ => ⟨S4096x4x256, .f32⟩
  | .hbm, ⟨14, _⟩ => ⟨S4096x1024, .f32⟩
  | .hbm, ⟨15, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Yp.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1024x256, .bf16⟩
  | .local _ .vmem, ⟨5, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== YpRefIdeal.lean ====
abbrev S4096x1024 : Shape := ⟨2, ![4096, 1024]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S4096x1024, .f32⟩
  | .hbm, ⟨3, _⟩ => ⟨S4x256x256, .f32⟩
  | .hbm, ⟨4, _⟩ => ⟨S4096x4x256, .f32⟩
  | .hbm, ⟨5, _⟩ => ⟨S4x256x4096, .f32⟩
  | .hbm, ⟨6, _⟩ => ⟨S4096x4x256, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Blocks.lean ====
/-
  Sums over blocks. A blocked product visits, for every block of the result, the blocks of the contracted axis one
  after another, adding each block's product to a running sum. Here are the facts about sums that this uses, with
  nothing of a particular kernel in them: an array read at a pair of naturals, the sum a run of points has gathered,
  and the whole sum at the run's last point.
-/
module

public import Idealize.ShloMosaic.Lib.ValueIdx
public import Idealize.ShloMosaic.PureOps.Ideal
public import Idealize.ShloMosaic.Lib.Pipeline.Value

@[expose] public section

noncomputable section

namespace Cert.Blocks

open Idealize.ShloMosaic
open scoped BigOperators

/-- A matrix read at a row and a column given as naturals; zero outside the matrix. -/
def cell {M N : ℕ} (v : (⟨2, ![M, N]⟩ : Shape).Idx → EReal) (a b : ℕ) : EReal :=
  if h : a < M ∧ b < N then v (ValueIdx.ix2 ⟨a, h.1⟩ ⟨b, h.2⟩) else 0

/-- Inside the matrix `cell` reads the element whose coordinates are the two naturals. -/
theorem cell_eq {M N : ℕ} (v : (⟨2, ![M, N]⟩ : Shape).Idx → EReal) (a b : ℕ) (j : (⟨2, ![M, N]⟩ : Shape).Idx)
    (h0 : (j 0).val = a) (h1 : (j 1).val = b) : v j = cell v a b := by
  subst h0 h1
  unfold cell
  rw [dif_pos ⟨(j 0).isLt, (j 1).isLt⟩]
  exact congrArg v (ValueIdx.eq_ix2 j)

/-- The sum over the first `p + 1` blocks of length `w`: the first `p` blocks, then the next one. -/
theorem sum_next (g : ℕ → EReal) (w p : ℕ) :
    ∑ k ∈ Finset.range (w * (p + 1)), g k = ∑ k ∈ Finset.range (w * p), g k + ∑ x : Fin w, g (w * p + x.val) := by
  rw [Nat.mul_add, Nat.mul_one, Finset.sum_range_add, Finset.sum_range fun x => g (w * p + x)]

/-- A running sum `s` which starts over at the first point of every run of `L` points and adds one block at each later
    point but the last holds, after each such point, the sum over the blocks of the run so far. -/
theorem running {N : ℕ} (L w : ℕ) (s : ∀ n, n < N → EReal) (g : ℕ → ℕ → EReal)
    (first : ∀ n (h : n < N), n % L = 0 → s n h = ∑ x : Fin w, g (n / L) (w * (n % L) + x.val))
    (next : ∀ n (h : n + 1 < N), (n + 1) % L ≠ 0 → (n + 1) % L ≠ L - 1 →
      s (n + 1) h = s n (Nat.lt_of_succ_lt h) + ∑ x : Fin w, g ((n + 1) / L) (w * ((n + 1) % L) + x.val)) :
    ∀ n (h : n < N), n % L = 0 ∨ n % L ≠ L - 1 → s n h = ∑ k ∈ Finset.range (w * (n % L + 1)), g (n / L) k := by
  intro n
  induction n with
  | zero =>
    intro h _
    rw [first 0 h (Nat.zero_mod L), sum_next]
    simp
  | succ n ih =>
    intro h hL
    by_cases h0 : (n + 1) % L = 0
    · rw [first (n + 1) h h0, sum_next, h0]
      simp
    · have h1 : (n + 1) % L ≠ L - 1 := hL.resolve_left h0
      rcases Nat.eq_zero_or_pos L with hz | hz
      · subst hz
        simp only [Nat.mod_zero] at h0 h1 hL ⊢
        rw [next n h (by simpa using h0) (by simpa using h1), ih _ (by simp only [Nat.mod_zero]; omega)]
        simp only [Nat.mod_zero, Nat.div_zero]
        rw [sum_next _ w (n + 1)]
      · have hm : (n + 1) % L = n % L + 1 ∧ (n + 1) / L = n / L := by
          have hlt := Nat.mod_lt n hz
          have hd := Nat.div_add_mod n L
          by_cases hw : n % L + 1 = L
          · exfalso
            apply h0
            have : n + 1 = L * (n / L + 1) := by rw [Nat.mul_add]; omega
            rw [this, Nat.mul_mod_right]
          · have e : n + 1 = (n % L + 1) + L * (n / L) := by omega
            constructor
            · rw [e, Nat.add_mul_mod_self_left, Nat.mod_eq_of_lt (by omega)]
            · rw [e, Nat.add_mul_div_left _ _ hz, Nat.div_eq_of_lt (by omega)]; omega
        rw [next n h h0 h1, ih _ (by have := Nat.mod_lt (n + 1) hz; omega), hm.1, hm.2, sum_next _ w (n % L + 1)]

/-- … and at the last point of a run of at least two points, the value taken there is the whole run's sum. -/
theorem closing {N : ℕ} (L w : ℕ) (hL : 2 ≤ L) (s : ∀ n, n < N → EReal) (g : ℕ → ℕ → EReal)
    (first : ∀ n (h : n < N), n % L = 0 → s n h = ∑ x : Fin w, g (n / L) (w * (n % L) + x.val))
    (next : ∀ n (h : n + 1 < N), (n + 1) % L ≠ 0 → (n + 1) % L ≠ L - 1 →
      s (n + 1) h = s n (Nat.lt_of_succ_lt h) + ∑ x : Fin w, g ((n + 1) / L) (w * ((n + 1) % L) + x.val))
    (n : ℕ) (h : n + 1 < N) (hl : (n + 1) % L = L - 1) :
    s n (Nat.lt_of_succ_lt h) + ∑ x : Fin w, g ((n + 1) / L) (w * ((n + 1) % L) + x.val)
      = ∑ k : Fin (w * L), g ((n + 1) / L) k.val := by
  have hd := Nat.div_add_mod (n + 1) L
  have e : n = (L - 2) + L * ((n + 1) / L) := by omega
  have hm : n % L = L - 2 := by rw [e, Nat.add_mul_mod_self_left, Nat.mod_eq_of_lt (by omega)]
  have hq : n / L = (n + 1) / L := by
    conv_lhs => rw [e]
    rw [Nat.add_mul_div_left _ _ (by omega), Nat.div_eq_of_lt (by omega), Nat.zero_add]
  rw [running L w s g first next n _ (by omega), hm, hq, hl, ← Finset.sum_range fun k => g ((n + 1) / L) k]
  conv_rhs => rw [show L = (L - 1) + 1 by omega, sum_next]
  rw [show L - 2 + 1 = L - 1 by omega, show L - 1 + 1 = L by omega]

end Cert.Blocks

end
-- ==== Proof.DwDownValue.lean ====
/-
  DwDown: the transpose of the left operand times the right operand, 2816 by 1024 with 4096 summands an element.
  The grid visits each block of the result in a run of 8 points, one for each block of the contracted axis; the
  running sum lies in a scratch buffer from the run's first point on, and the run's last point writes the block. Here: what
  each point leaves, and, over the reals, that the array after the run is the whole product.
-/
module

public import proofs.«01_k».proof.Proof.Blocks
public import Idealize.ShloMosaic.PureOps.Ideal.Laws
public import proofs.«01_k».proof.Proof.Gen.DwDownIdeal.Value
public import proofs.«01_k».proof.Proof.Gen.DwDownIdeal.Skeleton

@[expose] public section

set_option maxRecDepth 16384

noncomputable section

namespace Cert.DwDownIdeal.Sum

open Cert.DwDownIdeal Cert.DwDownIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- At the first point of a run the scratch takes the product of the two blocks. -/
theorem first (c : Dev nD) (t : Fin cfg0.N) (h : t.val % 8 = 0) :
    (outsAt0 m c t.val t.isLt).2 = k0_pay1 (iblk m c 0 t) (iblk m c 1 t) := by
  have hN := lt_of_lt_of_eq t.isLt (show cfg0.N = 8 from N_0)
  rw [outsAt0_A m c t h (by omega) (by omega)]
  dsimp only
  unfold sout0_A_0
  rw [View.read_writes_eq_canon _ _ _ (scover0_A_0 c _ _ _ _ _ _ _ _ _ _ _ _ _ _)]
  unfold kernelRun0_A
  dsimp only
  rw [View.canon_unit_zero corner]
  unfold k0_pay2
  simp only [View.readAt_eq_ld, (hs0_0 t).read_unread, (hs0_1 t).read_unread, View.ld_unit_zero (S := S512x2816) corner, View.ld_unit_zero (S := S512x1024) corner, View.ld_unit_zero (S := S2816x1024) corner, shapeCast_self]

/-- At a later point that is not the last the scratch takes the product of the two blocks on top of what it held. -/
theorem next (c : Dev nD) (n : ℕ) (hn : n + 1 < cfg0.N) (h : (n + 1) % 8 ≠ 0) (h' : (n + 1) % 8 ≠ 7) :
    (outsAt0 m c (n + 1) hn).2
      = addf (outsAt0 m c n (Nat.lt_of_succ_lt hn)).2 (k0_pay1 (iblk m c 0 ⟨n + 1, hn⟩) (iblk m c 1 ⟨n + 1, hn⟩)) := by
  rw [outsAt0_B m c ⟨n + 1, hn⟩ h (by dsimp only; omega) h']
  dsimp only
  unfold sout0_B_0
  rw [View.read_writes_eq_canon _ _ _ (scover0_B_0 c _ _ _ _ _ _ _ _ _ _ _ _ _ _ _)]
  unfold kernelRun0_B
  dsimp only
  rw [View.canon_unit_zero corner]
  unfold k0_pay3
  simp only [View.readAt_eq_ld, (hs0_0 _).read_unread, (hs0_1 _).read_unread, (Memref.isWhole_whole _).read_unread,
    View.ld_unit_zero (S := S512x2816) corner, View.ld_unit_zero (S := S512x1024) corner, View.ld_unit_zero (S := S2816x1024) corner, shapeCast_self]
  rfl

/-- At the last point of a run the result's block is the scratch with the last product on top, rounded. -/
theorem last (c : Dev nD) (n : ℕ) (hn : n + 1 < cfg0.N) (h : (n + 1) % 8 = 7) :
    (outsAt0 m c (n + 1) hn).1
      = truncf .bf16 (addf (outsAt0 m c n (Nat.lt_of_succ_lt hn)).2 (k0_pay1 (iblk m c 0 ⟨n + 1, hn⟩) (iblk m c 1 ⟨n + 1, hn⟩))) bitsLt_bf16_f32 := by
  rw [outsAt0_C m c ⟨n + 1, hn⟩ (by dsimp only; omega) (by dsimp only; omega) h]
  dsimp only
  unfold out0_C_2
  rw [View.read_writes_eq_canon _ _ _ (cover0_C_2 c _ _ _ _ _ _ _ _ _ _ _ _ _ _ _)]
  unfold kernelRun0_C
  dsimp only
  rw [View.canon_unit_zero corner]
  unfold k0_pay4
  dsimp only
  sl_unfold_words
  rw [View.readCov_unit_zero (S := S2816x1024) _ corner]
  unfold k0_pay3
  simp only [View.readAt_eq_ld, (hs0_0 _).read_unread, (hs0_1 _).read_unread, (Memref.isWhole_whole _).read_unread,
    View.ld_unit_zero (S := S512x2816) corner, View.ld_unit_zero (S := S512x1024) corner, View.ld_unit_zero (S := S2816x1024) corner, shapeCast_self]
  rfl

end AnyFloats

/-! ## Over the reals -/

variable (m : (ℓ : Loc nD τ sig) → Buf (Elt Ideal) ℓ)

/-- One product of two blocks, element by element. -/
theorem product (x0 : Vec Ideal S512x2816 .bf16) (x1 : Vec Ideal S512x1024 .bf16) (j : S2816x1024.Idx) :
    k0_pay1 x0 x1 j = ∑ x : Fin 512, x0 (ix2 x (j 0)) * x1 (ix2 x (j 1)) := by
  unfold k0_pay1
  show FloatOps.matmul (F := Ideal) (φ₁ := .bf16) (φ₂ := .bf16) dot_S512x2816_S512x1024_S2816x1024_0_0_1_1_n_n none x0 x1
    (constant S2816x1024 .f32 0x00000000#32) j = _
  rw [Ideal.matmul_constant_zero_apply,
    ← Equiv.sum_comp (ValueIdx.contrEquiv1 dot_S512x2816_S512x1024_S2816x1024_0_0_1_1_n_n 512 rfl rfl).symm]
  refine Finset.sum_congr rfl fun k _ => ?_
  have hk := ValueIdx.contrEquiv1_symm_val dot_S512x2816_S512x1024_S2816x1024_0_0_1_1_n_n 512 rfl rfl k
  refine congrArg₂ (· * ·) (congrArg x0 (funext fun a => Fin.ext ?_)) (congrArg x1 (funext fun a => Fin.ext ?_))
  · match a with
    | ⟨0, _⟩ => exact (DotDims.lhsIdx_val_of_single _ rfl _ _).trans hk
    | ⟨1, _⟩ => rfl
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val % 8 ∧ win0_0.index t (1 : Fin 2) = t.val / 8 / 1
    ∧ win0_1.index t (0 : Fin 2) = t.val % 8 ∧ win0_1.index t (1 : Fin 2) = t.val / 8 % 1
    ∧ win0_2.index t (0 : Fin 2) = t.val / 8 / 1 ∧ win0_2.index t (1 : Fin 2) = t.val / 8 % 1 :=
  (by decide +kernel : ∀ t : Fin grid0.N, _)

/-- The two operands as matrices. -/
abbrev argA (c : Dev nD) : S4096x2816.Idx → EReal := m ((c : Thread nD τ).loc main_arg0)
abbrev argB (c : Dev nD) : S4096x1024.Idx → EReal := m ((c : Thread nD τ).loc main_arg1)

/-- The left operand's block at a point, inside the whole operand. -/
theorem left_block (c : Dev nD) (t : Fin cfg0.N) (j : S512x2816.Idx) :
    (iblk m c 0 t : Vec Ideal S512x2816 .bf16) j
      = Blocks.cell (argA m c) (512 * (t.val % 8) + (j 0).val) (2816 * (t.val / 8 / 1) + (j 1).val) := by
  obtain ⟨e0, e1, -⟩ := visits t
  unfold iblk
  rw [View.read_apply]
  refine Blocks.cell_eq (argA m c) _ _ _ ?_ ?_
  · show win0_0.index t (0 : Fin 2) * 512 + 1 * (j 0).val = _; rw [e0]; omega
  · show win0_0.index t (1 : Fin 2) * 2816 + 1 * (j 1).val = _; rw [e1]; omega

/-- The right operand's block at a point, inside the whole operand. -/
theorem right_block (c : Dev nD) (t : Fin cfg0.N) (j : S512x1024.Idx) :
    (iblk m c 1 t : Vec Ideal S512x1024 .bf16) j
      = Blocks.cell (argB m c) (512 * (t.val % 8) + (j 0).val) (1024 * (t.val / 8 % 1) + (j 1).val) := by
  obtain ⟨-, -, e0, e1, -⟩ := visits t
  unfold iblk
  rw [View.read_apply]
  refine Blocks.cell_eq (argB m c) _ _ _ ?_ ?_
  · show win0_1.index t (0 : Fin 2) * 512 + 1 * (j 0).val = _; rw [e0]; omega
  · show win0_1.index t (1 : Fin 2) * 1024 + 1 * (j 1).val = _; rw [e1]; omega

/-- The `k`-th summand of the element that lies at `j` in the result's block number `q`. -/
def summand (c : Dev nD) (j : S2816x1024.Idx) (q k : ℕ) : EReal :=
  Blocks.cell (argA m c) k (2816 * (q / 1) + (j 0).val) * Blocks.cell (argB m c) k (1024 * (q % 1) + (j 1).val)

/-- The product of the blocks visited at a point is one block of summands. -/
theorem product_at (c : Dev nD) (t : Fin cfg0.N) (j : S2816x1024.Idx) :
    k0_pay1 (iblk m c 0 t) (iblk m c 1 t) j = ∑ x : Fin 512, summand m c j (t.val / 8) (512 * (t.val % 8) + x.val) := by
  rw [product]
  refine Finset.sum_congr rfl fun x _ => ?_
  rw [left_block, right_block]
  rfl

/-- What the last point of a run leaves in the result's block. -/
theorem block_sum (c : Dev nD) (t : Fin cfg0.N) (h : t.val % 8 = 7) (j : S2816x1024.Idx) :
    (outsAt0 m c t.val t.isLt).1 j = ∑ k : Fin 4096, summand m c j (t.val / 8) k.val := by
  obtain ⟨_ | n, hn⟩ := t
  · exact absurd (show (0 : ℕ) % 8 = 7 from h) (by decide)
  have hc := Blocks.closing 8 512 (by decide) (fun n h => (outsAt0 m c n h).2 j) (summand m c j)
    (fun n h h0 => by rw [first m c ⟨n, h⟩ h0]; exact product_at m c ⟨n, h⟩ j)
    (fun n h h0 h1 => by
      rw [next m c n h h0 h1]
      show (outsAt0 m c n _).2 j + k0_pay1 (iblk m c 0 ⟨n + 1, h⟩) (iblk m c 1 ⟨n + 1, h⟩) j = _
      rw [product_at])
    n hn h
  rw [← product_at m c ⟨n + 1, hn⟩ j] at hc
  dsimp only at h ⊢
  rw [last m c n hn h]
  exact hc

/-- The whole product, element by element. -/
def whole (c : Dev nD) : S2816x1024.Idx → EReal := fun i =>
  ∑ k : Fin 4096, argA m c (ix2 k (i 0)) * argB m c (ix2 k (i 1))

/-- The array the run leaves in the result. -/
theorem array (c : Dev nD) : (dats m 0 c).arrAt 2 cfg0.N = whole m c :=
  (dats m 0 c).arrAt_eq_of_cover 2 _ (fun t hf => by
    have ht := (flush0_2 t).mp hf
    rw [Value.flushed2]
    funext y
    rw [View.read_apply]
    show (outsAt0 m c t.val t.isLt).1 y = _
    rw [block_sum m c t ht y]
    obtain ⟨-, -, -, -, e0, e1⟩ := visits t
    unfold whole summand
    refine Finset.sum_congr rfl fun k _ => ?_
    refine congrArg₂ (· * ·) (Blocks.cell_eq (argA m c) k.val _ (ix2 k (((cfg0.win 2).blk t).view.emb y 0)) rfl ?_).symm
      (Blocks.cell_eq (argB m c) k.val _ (ix2 k (((cfg0.win 2).blk t).view.emb y 1)) rfl ?_).symm
    · show win0_2.index t (0 : Fin 2) * 2816 + 1 * (y 0).val = _; rw [e0]; omega
    · show win0_2.index t (1 : Fin 2) * 1024 + 1 * (y 1).val = _; rw [e1]; omega)
  (fun i => (Value.covered_iff2 i).2 (by
    have h0 : (i 0).val < 2816 := (i 0).isLt
    have h1 : (i 1).val < 1024 := (i 1).isLt
    omega))

end Cert.DwDownIdeal.Sum

end
-- ==== Proof.DwDownClaim.lean ====
/-
  DwDown: the reference's result element by element, and the claims about the kernel, its reading over the reals and the
  reference.
-/
module

public import proofs.«01_k».proof.Proof.DwDownValue
public import proofs.«01_k».proof.Proof.Gen.DwDown.Frame
public import proofs.«01_k».proof.Proof.Gen.DwDownRefIdeal.Run
public import proofs.«01_k».proof.Proof.Gen.DwDownRefIdeal.Read
public import proofs.«01_k».proof.Defs

@[expose] public section

set_option maxRecDepth 16384

noncomputable section

namespace Cert.Proof.DwDown

open Idealize.ShloMosaic Idealize.ShloMosaic.TcCoe Idealize.SL.Sem
open Idealize.ShloMosaic.ValueIdx (ix2)
open scoped BigOperators

/-- The reference's result, element by element. -/
theorem reference (x0 : (⟨Cert.DwDownRefIdeal.S4096x2816, .bf16⟩ : BufTy).Contents (Elt Ideal))
    (x1 : (⟨Cert.DwDownRefIdeal.S4096x1024, .bf16⟩ : BufTy).Contents (Elt Ideal)) (i : Cert.DwDownRefIdeal.S2816x1024.Idx) :
    Cert.DwDownRefIdeal.Read.val_main_v6 (F := Ideal) x0 x1 i
      = (∑ k : Fin 4096, (x0 (ix2 k (i 0)) : EReal) * (x1 (ix2 k (i 1)) : EReal) : EReal) := by
  show Cert.DwDownRefIdeal.Read.val_main_v5 (F := Ideal) x0 x1 i = _
  rw [Cert.DwDownRefIdeal.Read.val_main_v5_apply, Cert.DwDownRefIdeal.Read.val_main_v4_apply]
  refine Finset.sum_congr rfl fun k _ => (mul_comm _ _).trans ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_DwDown := fun m ρ _ => Cert.DwDown.Gen.frame m ρ

theorem frame_ideal : Cert.quiescent_DwDownIdeal := fun m ρ _ => Cert.DwDownIdeal.Gen.frame m ρ

theorem frame_reference : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

/-- The kernel's result is the reference's. -/
theorem algebraic : Cert.algebraic_DwDownIdeal_DwDownRefIdeal := by
  intro m ρ m' ρ' _ hagree
  refine ⟨fun c => Cert.DwDownIdeal.Sum.whole m c, ?_, ?_⟩
  · refine (θ_run Cert.DwDownIdeal.defs _ _).mono (fun _ h c => ?_) (Cert.DwDownIdeal.Value.run_blocks (F := Ideal) m ρ)
    exact ⟨(h c).1.trans (Cert.DwDownIdeal.Sum.array m c), (h c).2⟩
  · refine (θ_run Cert.DwDownRefIdeal.defs _ _).mono (fun _ h c => ?_) (Cert.DwDownRefIdeal.Value.run (F := Ideal) m' ρ')
    refine ⟨((h c).1.trans (Cert.DwDownRefIdeal.Read.val_main_v6_eq _ _)).trans ?_, (h c).2⟩
    funext i
    rw [reference, (hagree c).1, (hagree c).2]
    rfl

end Cert.Proof.DwDown

end
-- ==== Proof.DactValue.lean ====
/-
  Dact: the left operand times the transpose of the right operand, 4096 by 2816 with 1024 summands an element.
  Every point of the grid writes one block of the result, with the whole contracted axis in one product. Here: what a
  point leaves, and, over the reals, that the array after the run is the whole product.
-/
module

public import proofs.«01_k».proof.Proof.Blocks
public import Idealize.ShloMosaic.PureOps.Ideal.Laws
public import proofs.«01_k».proof.Proof.Gen.DactIdeal.Value
public import proofs.«01_k».proof.Proof.Gen.DactIdeal.Skeleton

@[expose] public section

set_option maxRecDepth 16384

noncomputable section

namespace Cert.DactIdeal.Sum

open Cert.DactIdeal Cert.DactIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- What a point leaves in the result's block. -/
theorem point (c : Dev nD) (t : Fin cfg0.N) :
    outsAt0 m c t = truncf .bf16 (k0_pay1 (iblk m c 0 t) (iblk m c 1 t)) bitsLt_bf16_f32 := by
  unfold outsAt0 out0_A_2
  rw [View.read_writes_eq_canon _ _ _ (cover0_A_2 c _ _ _ _ _ _ _ _ _ _ _ _ _ _)]
  unfold kernelRun0_A
  dsimp only
  rw [View.canon_unit_zero corner]
  unfold k0_pay4
  dsimp only
  sl_unfold_words
  rw [View.readCov_unit_zero (S := S512x2816) _ corner]
  unfold k0_pay2
  simp only [View.readAt_eq_ld, (hs0_0 t).read_unread, (hs0_1 t).read_unread, View.ld_unit_zero (S := S512x1024) corner, View.ld_unit_zero (S := S2816x1024) corner, View.ld_unit_zero (S := S512x2816) corner, shapeCast_self]

end AnyFloats

/-! ## Over the reals -/

variable (m : (ℓ : Loc nD τ sig) → Buf (Elt Ideal) ℓ)

/-- One product of two blocks, element by element. -/
theorem product (x0 : Vec Ideal S512x1024 .bf16) (x1 : Vec Ideal S2816x1024 .bf16) (j : S512x2816.Idx) :
    k0_pay1 x0 x1 j = ∑ x : Fin 1024, x0 (ix2 (j 0) x) * x1 (ix2 (j 1) x) := by
  unfold k0_pay1
  show FloatOps.matmul (F := Ideal) (φ₁ := .bf16) (φ₂ := .bf16) dot_S512x1024_S2816x1024_S512x2816_1_1_0_0_n_n none x0 x1
    (constant S512x2816 .f32 0x00000000#32) j = _
  rw [Ideal.matmul_constant_zero_apply,
    ← Equiv.sum_comp (ValueIdx.contrEquiv1 dot_S512x1024_S2816x1024_S512x2816_1_1_0_0_n_n 1024 rfl rfl).symm]
  refine Finset.sum_congr rfl fun k _ => ?_
  have hk := ValueIdx.contrEquiv1_symm_val dot_S512x1024_S2816x1024_S512x2816_1_1_0_0_n_n 1024 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => rfl
    | ⟨1, _⟩ => exact (DotDims.rhsIdx_val_of_single _ rfl _ _).trans hk

/-- The block each window visits at a point. -/
theorem visits : ∀ t : Fin cfg0.N, win0_0.index t (0 : Fin 2) = t.val / 1 / 1 ∧ win0_0.index t (1 : Fin 2) = t.val % 1
    ∧ win0_1.index t (0 : Fin 2) = t.val / 1 % 1 ∧ win0_1.index t (1 : Fin 2) = t.val % 1
    ∧ win0_2.index t (0 : Fin 2) = t.val / 1 / 1 ∧ win0_2.index t (1 : Fin 2) = t.val / 1 % 1 :=
  (by decide +kernel : ∀ t : Fin grid0.N, _)

/-- The two operands as matrices. -/
abbrev argA (c : Dev nD) : S4096x1024.Idx → EReal := m ((c : Thread nD τ).loc main_arg0)
abbrev argB (c : Dev nD) : S2816x1024.Idx → EReal := m ((c : Thread nD τ).loc main_arg1)

/-- The left operand's block at a point, inside the whole operand. -/
theorem left_block (c : Dev nD) (t : Fin cfg0.N) (j : S512x1024.Idx) :
    (iblk m c 0 t : Vec Ideal S512x1024 .bf16) j
      = Blocks.cell (argA m c) (512 * (t.val / 1 / 1) + (j 0).val) (1024 * (t.val % 1) + (j 1).val) := by
  obtain ⟨e0, e1, -⟩ := visits t
  unfold iblk
  rw [View.read_apply]
  refine Blocks.cell_eq (argA m c) _ _ _ ?_ ?_
  · show win0_0.index t (0 : Fin 2) * 512 + 1 * (j 0).val = _; rw [e0]; omega
  · show win0_0.index t (1 : Fin 2) * 1024 + 1 * (j 1).val = _; rw [e1]; omega

/-- The right operand's block at a point, inside the whole operand. -/
theorem right_block (c : Dev nD) (t : Fin cfg0.N) (j : S2816x1024.Idx) :
    (iblk m c 1 t : Vec Ideal S2816x1024 .bf16) j
      = Blocks.cell (argB m c) (2816 * (t.val / 1 % 1) + (j 0).val) (1024 * (t.val % 1) + (j 1).val) := by
  obtain ⟨-, -, e0, e1, -⟩ := visits t
  unfold iblk
  rw [View.read_apply]
  refine Blocks.cell_eq (argB m c) _ _ _ ?_ ?_
  · show win0_1.index t (0 : Fin 2) * 2816 + 1 * (j 0).val = _; rw [e0]; omega
  · show win0_1.index t (1 : Fin 2) * 1024 + 1 * (j 1).val = _; rw [e1]; omega

/-- The `k`-th summand of the element that lies at `j` in the result's block number `q`. -/
def summand (c : Dev nD) (j : S512x2816.Idx) (q k : ℕ) : EReal :=
  Blocks.cell (argA m c) (512 * (q / 1) + (j 0).val) k * Blocks.cell (argB m c) (2816 * (q % 1) + (j 1).val) k

/-- The product of the blocks visited at a point is one block of summands. -/
theorem product_at (c : Dev nD) (t : Fin cfg0.N) (j : S512x2816.Idx) :
    k0_pay1 (iblk m c 0 t) (iblk m c 1 t) j = ∑ x : Fin 1024, summand m c j (t.val / 1) (1024 * (t.val % 1) + x.val) := by
  rw [product]
  refine Finset.sum_congr rfl fun x _ => ?_
  rw [left_block, right_block]
  rfl

/-- What a point leaves in the result's block, element by element. -/
theorem block_sum (c : Dev nD) (t : Fin cfg0.N) (j : S512x2816.Idx) :
    outsAt0 m c t j = ∑ k : Fin 1024, summand m c j (t.val / 1) k.val := by
  rw [point]
  show k0_pay1 (iblk m c 0 t) (iblk m c 1 t) j = _
  rw [product_at]
  refine Finset.sum_congr rfl fun x _ => ?_
  rw [Nat.mod_one, Nat.mul_zero, Nat.zero_add]

theorem mem_block (t : Fin cfg0.N) (i : S4096x2816.Idx) :
    i ∈ ((cfg0.win 2).blk t).view.set ↔ ∀ a : Fin 2, win0_2.index t a * S512x2816.size a ≤ (i a).val
      ∧ (i a).val < win0_2.index t a * S512x2816.size a + S512x2816.size a := by
  show i ∈ ((View.whole main_v0).slice (win0_2.rect t)).set ↔ _
  rw [View.set_slice_whole, Rect.mem_set_unit]
  exact Iff.rfl

/-- The blocks written back fill the result. -/
theorem filled (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  have hlt : (i 0).val / 512 * 1 + (i 1).val / 2816 < 8 := by omega
  refine ⟨⟨(i 0).val / 512 * 1 + (i 1).val / 2816, lt_of_lt_of_eq hlt N_0.symm⟩,
    (by decide +kernel : ∀ t : Fin grid0.N, win0_2.flush t = true) _, ?_⟩
  rw [mem_block]
  obtain ⟨-, -, -, -, e0, e1⟩ := visits ⟨(i 0).val / 512 * 1 + (i 1).val / 2816, lt_of_lt_of_eq hlt N_0.symm⟩
  dsimp only at e0 e1
  intro a
  match a with
  | ⟨0, _⟩ =>
    show win0_2.index _ (0 : Fin 2) * 512 ≤ (i 0).val ∧ (i 0).val < win0_2.index _ (0 : Fin 2) * 512 + 512
    rw [e0]; omega
  | ⟨1, _⟩ =>
    show win0_2.index _ (1 : Fin 2) * 2816 ≤ (i 1).val ∧ (i 1).val < win0_2.index _ (1 : Fin 2) * 2816 + 2816
    rw [e1]; omega

/-- The whole product, element by element. -/
def whole (c : Dev nD) : S4096x2816.Idx → EReal := fun i =>
  ∑ k : Fin 1024, argA m c (ix2 (i 0) k) * argB m c (ix2 (i 1) k)

/-- The array the run leaves in the result. -/
theorem array (c : Dev nD) : (dats m 0 c).arrAt 2 cfg0.N = whole m c :=
  (dats m 0 c).arrAt_eq_of_cover 2 _ (fun t hf => by
    rw [Value.flushed2]
    funext y
    rw [View.read_apply]
    show outsAt0 m c t y = _
    rw [block_sum m c t y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) _ k.val (ix2 (((cfg0.win 2).blk t).view.emb y 1) k) ?_ rfl).symm
    · show win0_2.index t (0 : Fin 2) * 512 + 1 * (y 0).val = _; rw [e0]; omega
    · show win0_2.index t (1 : Fin 2) * 2816 + 1 * (y 1).val = _; rw [e1]; omega)
  filled

end Cert.DactIdeal.Sum

end
-- ==== Proof.DactClaim.lean ====
/-
  Dact: the reference's result element by element, and the claims about the kernel, its reading over the reals and the
  reference.
-/
module

public import proofs.«01_k».proof.Proof.DactValue
public import proofs.«01_k».proof.Proof.Gen.Dact.Frame
public import proofs.«01_k».proof.Proof.Gen.DactRefIdeal.Run
public import proofs.«01_k».proof.Proof.Gen.DactRefIdeal.Read
public import proofs.«01_k».proof.Defs

@[expose] public section

set_option maxRecDepth 16384

noncomputable section

namespace Cert.Proof.Dact

open Idealize.ShloMosaic Idealize.ShloMosaic.TcCoe Idealize.SL.Sem
open Idealize.ShloMosaic.ValueIdx (ix2)
open scoped BigOperators

/-- The reference's result, element by element. -/
theorem reference (x0 : (⟨Cert.DactRefIdeal.S4096x1024, .bf16⟩ : BufTy).Contents (Elt Ideal))
    (x1 : (⟨Cert.DactRefIdeal.S2816x1024, .bf16⟩ : BufTy).Contents (Elt Ideal)) (i : Cert.DactRefIdeal.S4096x2816.Idx) :
    Cert.DactRefIdeal.Read.val_main_v5 (F := Ideal) x0 x1 i
      = (∑ k : Fin 1024, (x0 (ix2 (i 0) k) : EReal) * (x1 (ix2 (i 1) k) : EReal) : EReal) := by
  show Cert.DactRefIdeal.Read.val_main_v4 (F := Ideal) x0 x1 _ = _
  rw [Cert.DactRefIdeal.Read.val_main_v4_apply]
  refine Finset.sum_congr rfl fun k _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Dact := fun m ρ _ => Cert.Dact.Gen.frame m ρ

theorem frame_ideal : Cert.quiescent_DactIdeal := fun m ρ _ => Cert.DactIdeal.Gen.frame m ρ

theorem frame_reference : Cert.quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

/-- The kernel's result is the reference's. -/
theorem algebraic : Cert.algebraic_DactIdeal_DactRefIdeal := by
  intro m ρ m' ρ' _ hagree
  refine ⟨fun c => Cert.DactIdeal.Sum.whole m c, ?_, ?_⟩
  · refine (θ_run Cert.DactIdeal.defs _ _).mono (fun _ h c => ?_) (Cert.DactIdeal.Value.run_blocks (F := Ideal) m ρ)
    exact ⟨(h c).1.trans (Cert.DactIdeal.Sum.array m c), (h c).2⟩
  · refine (θ_run Cert.DactRefIdeal.defs _ _).mono (fun _ h c => ?_) (Cert.DactRefIdeal.Value.run (F := Ideal) m' ρ')
    refine ⟨((h c).1.trans (Cert.DactRefIdeal.Read.val_main_v5_eq _ _)).trans ?_, (h c).2⟩
    funext i
    rw [reference, (hagree c).1, (hagree c).2]
    rfl

end Cert.Proof.Dact

end
-- ==== Proof.DwGuValue.lean ====
/-
  DwGu: the transpose of the left operand times the right operand, 5632 by 1024 with 4096 summands an element.
  The grid visits each block of the result in a run of 4 points, one for each block of the contracted axis; the
  running sum lies in a scratch buffer from the run's first point on, and the run's last point writes the block. Here: what
  each point leaves, and, over the reals, that the array after the run is the whole product.
-/
module

public import proofs.«01_k».proof.Proof.Blocks
public import Idealize.ShloMosaic.PureOps.Ideal.Laws
public import proofs.«01_k».proof.Proof.Gen.DwGuIdeal.Value
public import proofs.«01_k».proof.Proof.Gen.DwGuIdeal.Skeleton

@[expose] public section

set_option maxRecDepth 16384

noncomputable section

namespace Cert.DwGuIdeal.Sum

open Cert.DwGuIdeal Cert.DwGuIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- At the first point of a run the scratch takes the product of the two blocks. -/
theorem first (c : Dev nD) (t : Fin cfg0.N) (h : t.val % 4 = 0) :
    (outsAt0 m c t.val t.isLt).2 = k0_pay1 (iblk m c 0 t) (iblk m c 1 t) := by
  have hN := lt_of_lt_of_eq t.isLt (show cfg0.N = 16 from N_0)
  rw [outsAt0_A m c t h (by omega) (by omega)]
  dsimp only
  unfold sout0_A_0
  rw [View.read_writes_eq_canon _ _ _ (scover0_A_0 c _ _ _ _ _ _ _ _ _ _ _ _ _ _)]
  unfold kernelRun0_A
  dsimp only
  rw [View.canon_unit_zero corner]
  unfold k0_pay2
  simp only [View.readAt_eq_ld, (hs0_0 t).read_unread, (hs0_1 t).read_unread, View.ld_unit_zero (S := S1024x1408) corner, View.ld_unit_zero (S := S1024x1024) corner, View.ld_unit_zero (S := S1408x1024) corner, shapeCast_self]

/-- At a later point that is not the last the scratch takes the product of the two blocks on top of what it held. -/
theorem next (c : Dev nD) (n : ℕ) (hn : n + 1 < cfg0.N) (h : (n + 1) % 4 ≠ 0) (h' : (n + 1) % 4 ≠ 3) :
    (outsAt0 m c (n + 1) hn).2
      = addf (outsAt0 m c n (Nat.lt_of_succ_lt hn)).2 (k0_pay1 (iblk m c 0 ⟨n + 1, hn⟩) (iblk m c 1 ⟨n + 1, hn⟩)) := by
  rw [outsAt0_B m c ⟨n + 1, hn⟩ h (by dsimp only; omega) h']
  dsimp only
  unfold sout0_B_0
  rw [View.read_writes_eq_canon _ _ _ (scover0_B_0 c _ _ _ _ _ _ _ _ _ _ _ _ _ _ _)]
  unfold kernelRun0_B
  dsimp only
  rw [View.canon_unit_zero corner]
  unfold k0_pay3
  simp only [View.readAt_eq_ld, (hs0_0 _).read_unread, (hs0_1 _).read_unread, (Memref.isWhole_whole _).read_unread,
    View.ld_unit_zero (S := S1024x1408) corner, View.ld_unit_zero (S := S1024x1024) corner, View.ld_unit_zero (S := S1408x1024) corner, shapeCast_self]
  rfl

/-- At the last point of a run the result's block is the scratch with the last product on top, rounded. -/
theorem last (c : Dev nD) (n : ℕ) (hn : n + 1 < cfg0.N) (h : (n + 1) % 4 = 3) :
    (outsAt0 m c (n + 1) hn).1
      = truncf .bf16 (addf (outsAt0 m c n (Nat.lt_of_succ_lt hn)).2 (k0_pay1 (iblk m c 0 ⟨n + 1, hn⟩) (iblk m c 1 ⟨n + 1, hn⟩))) bitsLt_bf16_f32 := by
  rw [outsAt0_C m c ⟨n + 1, hn⟩ (by dsimp only; omega) (by dsimp only; omega) h]
  dsimp only
  unfold out0_C_2
  rw [View.read_writes_eq_canon _ _ _ (cover0_C_2 c _ _ _ _ _ _ _ _ _ _ _ _ _ _ _)]
  unfold kernelRun0_C
  dsimp only
  rw [View.canon_unit_zero corner]
  unfold k0_pay4
  dsimp only
  sl_unfold_words
  rw [View.readCov_unit_zero (S := S1408x1024) _ corner]
  unfold k0_pay3
  simp only [View.readAt_eq_ld, (hs0_0 _).read_unread, (hs0_1 _).read_unread, (Memref.isWhole_whole _).read_unread,
    View.ld_unit_zero (S := S1024x1408) corner, View.ld_unit_zero (S := S1024x1024) corner, View.ld_unit_zero (S := S1408x1024) corner, shapeCast_self]
  rfl

end AnyFloats

/-! ## Over the reals -/

variable (m : (ℓ : Loc nD τ sig) → Buf (Elt Ideal) ℓ)

/-- One product of two blocks, element by element. -/
theorem product (x0 : Vec Ideal S1024x1408 .bf16) (x1 : Vec Ideal S1024x1024 .bf16) (j : S1408x1024.Idx) :
    k0_pay1 x0 x1 j = ∑ x : Fin 1024, x0 (ix2 x (j 0)) * x1 (ix2 x (j 1)) := by
  unfold k0_pay1
  show FloatOps.matmul (F := Ideal) (φ₁ := .bf16) (φ₂ := .bf16) dot_S1024x1408_S1024x1024_S1408x1024_0_0_1_1_n_n none x0 x1
    (constant S1408x1024 .f32 0x00000000#32) j = _
  rw [Ideal.matmul_constant_zero_apply,
    ← Equiv.sum_comp (ValueIdx.contrEquiv1 dot_S1024x1408_S1024x1024_S1408x1024_0_0_1_1_n_n 1024 rfl rfl).symm]
  refine Finset.sum_congr rfl fun k _ => ?_
  have hk := ValueIdx.contrEquiv1_symm_val dot_S1024x1408_S1024x1024_S1408x1024_0_0_1_1_n_n 1024 rfl rfl k
  refine congrArg₂ (· * ·) (congrArg x0 (funext fun a => Fin.ext ?_)) (congrArg x1 (funext fun a => Fin.ext ?_))
  · match a with
    | ⟨0, _⟩ => exact (DotDims.lhsIdx_val_of_single _ rfl _ _).trans hk
    | ⟨1, _⟩ => rfl
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val % 4 ∧ win0_0.index t (1 : Fin 2) = t.val / 4 / 1
    ∧ win0_1.index t (0 : Fin 2) = t.val % 4 ∧ win0_1.index t (1 : Fin 2) = t.val / 4 % 1
    ∧ win0_2.index t (0 : Fin 2) = t.val / 4 / 1 ∧ win0_2.index t (1 : Fin 2) = t.val / 4 % 1 :=
  (by decide +kernel : ∀ t : Fin grid0.N, _)

/-- The two operands as matrices. -/
abbrev argA (c : Dev nD) : S4096x5632.Idx → EReal := m ((c : Thread nD τ).loc main_arg0)
abbrev argB (c : Dev nD) : S4096x1024.Idx → EReal := m ((c : Thread nD τ).loc main_arg1)

/-- The left operand's block at a point, inside the whole operand. -/
theorem left_block (c : Dev nD) (t : Fin cfg0.N) (j : S1024x1408.Idx) :
    (iblk m c 0 t : Vec Ideal S1024x1408 .bf16) j
      = Blocks.cell (argA m c) (1024 * (t.val % 4) + (j 0).val) (1408 * (t.val / 4 / 1) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 1408 + 1 * (j 1).val = _; rw [e1]; omega

/-- The right operand's block at a point, inside the whole operand. -/
theorem right_block (c : Dev nD) (t : Fin cfg0.N) (j : S1024x1024.Idx) :
    (iblk m c 1 t : Vec Ideal S1024x1024 .bf16) j
      = Blocks.cell (argB m c) (1024 * (t.val % 4) + (j 0).val) (1024 * (t.val / 4 % 1) + (j 1).val) := by
  obtain ⟨-, -, e0, e1, -⟩ := visits t
  unfold iblk
  rw [View.read_apply]
  refine Blocks.cell_eq (argB m c) _ _ _ ?_ ?_
  · show win0_1.index t (0 : Fin 2) * 1024 + 1 * (j 0).val = _; rw [e0]; omega
  · show win0_1.index t (1 : Fin 2) * 1024 + 1 * (j 1).val = _; rw [e1]; omega

/-- The `k`-th summand of the element that lies at `j` in the result's block number `q`. -/
def summand (c : Dev nD) (j : S1408x1024.Idx) (q k : ℕ) : EReal :=
  Blocks.cell (argA m c) k (1408 * (q / 1) + (j 0).val) * Blocks.cell (argB m c) k (1024 * (q % 1) + (j 1).val)

/-- The product of the blocks visited at a point is one block of summands. -/
theorem product_at (c : Dev nD) (t : Fin cfg0.N) (j : S1408x1024.Idx) :
    k0_pay1 (iblk m c 0 t) (iblk m c 1 t) j = ∑ x : Fin 1024, summand m c j (t.val / 4) (1024 * (t.val % 4) + x.val) := by
  rw [product]
  refine Finset.sum_congr rfl fun x _ => ?_
  rw [left_block, right_block]
  rfl

/-- What the last point of a run leaves in the result's block. -/
theorem block_sum (c : Dev nD) (t : Fin cfg0.N) (h : t.val % 4 = 3) (j : S1408x1024.Idx) :
    (outsAt0 m c t.val t.isLt).1 j = ∑ k : Fin 4096, summand m c j (t.val / 4) k.val := by
  obtain ⟨_ | n, hn⟩ := t
  · exact absurd (show (0 : ℕ) % 4 = 3 from h) (by decide)
  have hc := Blocks.closing 4 1024 (by decide) (fun n h => (outsAt0 m c n h).2 j) (summand m c j)
    (fun n h h0 => by rw [first m c ⟨n, h⟩ h0]; exact product_at m c ⟨n, h⟩ j)
    (fun n h h0 h1 => by
      rw [next m c n h h0 h1]
      show (outsAt0 m c n _).2 j + k0_pay1 (iblk m c 0 ⟨n + 1, h⟩) (iblk m c 1 ⟨n + 1, h⟩) j = _
      rw [product_at])
    n hn h
  rw [← product_at m c ⟨n + 1, hn⟩ j] at hc
  dsimp only at h ⊢
  rw [last m c n hn h]
  exact hc

/-- The whole product, element by element. -/
def whole (c : Dev nD) : S5632x1024.Idx → EReal := fun i =>
  ∑ k : Fin 4096, argA m c (ix2 k (i 0)) * argB m c (ix2 k (i 1))

/-- The array the run leaves in the result. -/
theorem array (c : Dev nD) : (dats m 0 c).arrAt 2 cfg0.N = whole m c :=
  (dats m 0 c).arrAt_eq_of_cover 2 _ (fun t hf => by
    have ht := (flush0_2 t).mp hf
    rw [Value.flushed2]
    funext y
    rw [View.read_apply]
    show (outsAt0 m c t.val t.isLt).1 y = _
    rw [block_sum m c t ht y]
    obtain ⟨-, -, -, -, e0, e1⟩ := visits t
    unfold whole summand
    refine Finset.sum_congr rfl fun k _ => ?_
    refine congrArg₂ (· * ·) (Blocks.cell_eq (argA m c) k.val _ (ix2 k (((cfg0.win 2).blk t).view.emb y 0)) rfl ?_).symm
      (Blocks.cell_eq (argB m c) k.val _ (ix2 k (((cfg0.win 2).blk t).view.emb y 1)) rfl ?_).symm
    · show win0_2.index t (0 : Fin 2) * 1408 + 1 * (y 0).val = _; rw [e0]; omega
    · show win0_2.index t (1 : Fin 2) * 1024 + 1 * (y 1).val = _; rw [e1]; omega)
  (fun i => (Value.covered_iff2 i).2 (by
    have h0 : (i 0).val < 5632 := (i 0).isLt
    have h1 : (i 1).val < 1024 := (i 1).isLt
    omega))

end Cert.DwGuIdeal.Sum

end
-- ==== Proof.DwGuClaim.lean ====
/-
  DwGu: the reference's result element by element, and the claims about the kernel, its reading over the reals and the
  reference.
-/
module

public import proofs.«01_k».proof.Proof.DwGuValue
public import proofs.«01_k».proof.Proof.Gen.DwGu.Frame
public import proofs.«01_k».proof.Proof.Gen.DwGuRefIdeal.Run
public import proofs.«01_k».proof.Proof.Gen.DwGuRefIdeal.Read
public import proofs.«01_k».proof.Defs

@[expose] public section

set_option maxRecDepth 16384

noncomputable section

namespace Cert.Proof.DwGu

open Idealize.ShloMosaic Idealize.ShloMosaic.TcCoe Idealize.SL.Sem
open Idealize.ShloMosaic.ValueIdx (ix2)
open scoped BigOperators

/-- The reference's result, element by element. -/
theorem reference (x0 : (⟨Cert.DwGuRefIdeal.S4096x5632, .bf16⟩ : BufTy).Contents (Elt Ideal))
    (x1 : (⟨Cert.DwGuRefIdeal.S4096x1024, .bf16⟩ : BufTy).Contents (Elt Ideal)) (i : Cert.DwGuRefIdeal.S5632x1024.Idx) :
    Cert.DwGuRefIdeal.Read.val_main_v8 (F := Ideal) x0 x1 i
      = (∑ k : Fin 4096, (x0 (ix2 k (i 0)) : EReal) * (x1 (ix2 k (i 1)) : EReal) : EReal) := by
  show Cert.DwGuRefIdeal.Read.val_main_v7 (F := Ideal) x0 x1 i = _
  rw [Cert.DwGuRefIdeal.Read.val_main_v7_apply, Cert.DwGuRefIdeal.Read.val_main_v6_apply, Cert.DwGuRefIdeal.Read.val_main_v5_apply]
  refine Finset.sum_congr rfl fun k _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_DwGu := fun m ρ _ => Cert.DwGu.Gen.frame m ρ

theorem frame_ideal : Cert.quiescent_DwGuIdeal := fun m ρ _ => Cert.DwGuIdeal.Gen.frame m ρ

theorem frame_reference : Cert.quiescent_DwGuRefIdeal := fun m ρ _ =>
  (θ_run Cert.DwGuRefIdeal.defs _ _).mono (fun r h => ⟨fun c => (h c).2, sem_eq_zero_of_no_sems (by decide) r.2⟩)
    (Cert.DwGuRefIdeal.Value.run (F := Ideal) m ρ)

/-- The kernel's result is the reference's. -/
theorem algebraic : Cert.algebraic_DwGuIdeal_DwGuRefIdeal := by
  intro m ρ m' ρ' _ hagree
  refine ⟨fun c => Cert.DwGuIdeal.Sum.whole m c, ?_, ?_⟩
  · refine (θ_run Cert.DwGuIdeal.defs _ _).mono (fun _ h c => ?_) (Cert.DwGuIdeal.Value.run_blocks (F := Ideal) m ρ)
    exact ⟨(h c).1.trans (Cert.DwGuIdeal.Sum.array m c), (h c).2⟩
  · refine (θ_run Cert.DwGuRefIdeal.defs _ _).mono (fun _ h c => ?_) (Cert.DwGuRefIdeal.Value.run (F := Ideal) m' ρ')
    refine ⟨((h c).1.trans (Cert.DwGuRefIdeal.Read.val_main_v8_eq _ _)).trans ?_, (h c).2⟩
    funext i
    rw [reference, (hagree c).1, (hagree c).2]
    rfl

end Cert.Proof.DwGu

end
-- ==== Proof.Dh2Value.lean ====
/-
  Dh2: the left operand times the right operand, 4096 by 1024 with 5632 summands an element.
  The grid visits each block of the result in a run of 2 points, one for each block of the contracted axis; the
  running sum lies in a scratch buffer from the run's first point on, and the run's last point writes the block. Here: what
  each point leaves, and, over the reals, that the array after the run is the whole product.
-/
module

public import proofs.«01_k».proof.Proof.Blocks
public import Idealize.ShloMosaic.PureOps.Ideal.Laws
public import proofs.«01_k».proof.Proof.Gen.Dh2Ideal.Value
public import proofs.«01_k».proof.Proof.Gen.Dh2Ideal.Skeleton

@[expose] public section

set_option maxRecDepth 16384

noncomputable section

namespace Cert.Dh2Ideal.Sum

open Cert.Dh2Ideal Cert.Dh2Ideal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- At the first point of a run the scratch takes the product of the two blocks. -/
theorem first (c : Dev nD) (t : Fin cfg0.N) (h : t.val % 2 = 0) :
    (outsAt0 m c t.val t.isLt).2 = k0_pay1 (iblk m c 0 t) (iblk m c 1 t) := by
  have hN := lt_of_lt_of_eq t.isLt (show cfg0.N = 16 from N_0)
  rw [outsAt0_A m c t h (by omega) (by omega)]
  dsimp only
  unfold sout0_A_0
  rw [View.read_writes_eq_canon _ _ _ (scover0_A_0 c _ _ _ _ _ _ _ _ _ _ _ _ _ _)]
  unfold kernelRun0_A
  dsimp only
  rw [View.canon_unit_zero corner]
  unfold k0_pay2
  simp only [View.readAt_eq_ld, (hs0_0 t).read_unread, (hs0_1 t).read_unread, View.ld_unit_zero (S := S1024x2816) corner, View.ld_unit_zero (S := S2816x512) corner, View.ld_unit_zero (S := S1024x512) corner, shapeCast_self]

/-- At the last point of a run the result's block is the scratch with the last product on top. -/
theorem last (c : Dev nD) (n : ℕ) (hn : n + 1 < cfg0.N) (h : (n + 1) % 2 = 1) :
    (outsAt0 m c (n + 1) hn).1
      = addf (outsAt0 m c n (Nat.lt_of_succ_lt hn)).2 (k0_pay1 (iblk m c 0 ⟨n + 1, hn⟩) (iblk m c 1 ⟨n + 1, hn⟩)) := by
  rw [outsAt0_B m c ⟨n + 1, hn⟩ (by dsimp only; omega) (by dsimp only; omega) h]
  dsimp only
  unfold out0_B_2
  rw [View.read_writes_eq_canon _ _ _ (cover0_B_2 c _ _ _ _ _ _ _ _ _ _ _ _ _ _ _)]
  unfold kernelRun0_B
  dsimp only
  rw [View.canon_unit_zero corner]
  sl_unfold_words
  rw [View.readCov_unit_zero (S := S1024x512) _ corner]
  unfold k0_pay3
  simp only [View.readAt_eq_ld, (hs0_0 _).read_unread, (hs0_1 _).read_unread, (Memref.isWhole_whole _).read_unread,
    View.ld_unit_zero (S := S1024x2816) corner, View.ld_unit_zero (S := S2816x512) corner, View.ld_unit_zero (S := S1024x512) corner, shapeCast_self]
  rfl

end AnyFloats

/-! ## Over the reals -/

variable (m : (ℓ : Loc nD τ sig) → Buf (Elt Ideal) ℓ)

/-- One product of two blocks, element by element. -/
theorem product (x0 : Vec Ideal S1024x2816 .bf16) (x1 : Vec Ideal S2816x512 .bf16) (j : S1024x512.Idx) :
    k0_pay1 x0 x1 j = ∑ x : Fin 2816, x0 (ix2 (j 0) x) * x1 (ix2 x (j 1)) := by
  unfold k0_pay1
  show FloatOps.matmul (F := Ideal) (φ₁ := .bf16) (φ₂ := .bf16) dot_S1024x2816_S2816x512_S1024x512_1_0_0_1_n_n none x0 x1
    (constant S1024x512 .f32 0x00000000#32) j = _
  rw [Ideal.matmul_constant_zero_apply,
    ← Equiv.sum_comp (ValueIdx.contrEquiv1 dot_S1024x2816_S2816x512_S1024x512_1_0_0_1_n_n 2816 rfl rfl).symm]
  refine Finset.sum_congr rfl fun k _ => ?_
  have hk := ValueIdx.contrEquiv1_symm_val dot_S1024x2816_S2816x512_S1024x512_1_0_0_1_n_n 2816 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val / 2 / 2 ∧ win0_0.index t (1 : Fin 2) = t.val % 2
    ∧ win0_1.index t (0 : Fin 2) = t.val % 2 ∧ win0_1.index t (1 : Fin 2) = t.val / 2 % 2
    ∧ win0_2.index t (0 : Fin 2) = t.val / 2 / 2 ∧ win0_2.index t (1 : Fin 2) = t.val / 2 % 2 :=
  (by decide +kernel : ∀ t : Fin grid0.N, _)

/-- The two operands as matrices. -/
abbrev argA (c : Dev nD) : S4096x5632.Idx → EReal := m ((c : Thread nD τ).loc main_arg0)
abbrev argB (c : Dev nD) : S5632x1024.Idx → EReal := m ((c : Thread nD τ).loc main_arg1)

/-- The left operand's block at a point, inside the whole operand. -/
theorem left_block (c : Dev nD) (t : Fin cfg0.N) (j : S1024x2816.Idx) :
    (iblk m c 0 t : Vec Ideal S1024x2816 .bf16) j
      = Blocks.cell (argA m c) (1024 * (t.val / 2 / 2) + (j 0).val) (2816 * (t.val % 2) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 2816 + 1 * (j 1).val = _; rw [e1]; omega

/-- The right operand's block at a point, inside the whole operand. -/
theorem right_block (c : Dev nD) (t : Fin cfg0.N) (j : S2816x512.Idx) :
    (iblk m c 1 t : Vec Ideal S2816x512 .bf16) j
      = Blocks.cell (argB m c) (2816 * (t.val % 2) + (j 0).val) (512 * (t.val / 2 % 2) + (j 1).val) := by
  obtain ⟨-, -, e0, e1, -⟩ := visits t
  unfold iblk
  rw [View.read_apply]
  refine Blocks.cell_eq (argB m c) _ _ _ ?_ ?_
  · show win0_1.index t (0 : Fin 2) * 2816 + 1 * (j 0).val = _; rw [e0]; omega
  · show win0_1.index t (1 : Fin 2) * 512 + 1 * (j 1).val = _; rw [e1]; omega

/-- The `k`-th summand of the element that lies at `j` in the result's block number `q`. -/
def summand (c : Dev nD) (j : S1024x512.Idx) (q k : ℕ) : EReal :=
  Blocks.cell (argA m c) (1024 * (q / 2) + (j 0).val) k * Blocks.cell (argB m c) k (512 * (q % 2) + (j 1).val)

/-- The product of the blocks visited at a point is one block of summands. -/
theorem product_at (c : Dev nD) (t : Fin cfg0.N) (j : S1024x512.Idx) :
    k0_pay1 (iblk m c 0 t) (iblk m c 1 t) j = ∑ x : Fin 2816, summand m c j (t.val / 2) (2816 * (t.val % 2) + x.val) := by
  rw [product]
  refine Finset.sum_congr rfl fun x _ => ?_
  rw [left_block, right_block]
  rfl

/-- What the last point of a run leaves in the result's block. -/
theorem block_sum (c : Dev nD) (t : Fin cfg0.N) (h : t.val % 2 = 1) (j : S1024x512.Idx) :
    (outsAt0 m c t.val t.isLt).1 j = ∑ k : Fin 5632, summand m c j (t.val / 2) k.val := by
  obtain ⟨_ | n, hn⟩ := t
  · exact absurd (show (0 : ℕ) % 2 = 1 from h) (by decide)
  have hc := Blocks.closing 2 2816 (by decide) (fun n h => (outsAt0 m c n h).2 j) (summand m c j)
    (fun n h h0 => by rw [first m c ⟨n, h⟩ h0]; exact product_at m c ⟨n, h⟩ j)
    (fun n h h0 h1 => by omega)
    n hn h
  rw [← product_at m c ⟨n + 1, hn⟩ j] at hc
  dsimp only at h ⊢
  rw [last m c n hn h]
  exact hc

/-- The whole product, element by element. -/
def whole (c : Dev nD) : S4096x1024.Idx → EReal := fun i =>
  ∑ k : Fin 5632, argA m c (ix2 (i 0) k) * argB m c (ix2 k (i 1))

/-- The array the run leaves in the result. -/
theorem array (c : Dev nD) : (dats m 0 c).arrAt 2 cfg0.N = whole m c :=
  (dats m 0 c).arrAt_eq_of_cover 2 _ (fun t hf => by
    have ht := (flush0_2 t).mp hf
    rw [Value.flushed2]
    funext y
    rw [View.read_apply]
    show (outsAt0 m c t.val t.isLt).1 y = _
    rw [block_sum m c t ht y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) k.val _ (ix2 k (((cfg0.win 2).blk t).view.emb y 1)) rfl ?_).symm
    · show win0_2.index t (0 : Fin 2) * 1024 + 1 * (y 0).val = _; rw [e0]; omega
    · show win0_2.index t (1 : Fin 2) * 512 + 1 * (y 1).val = _; rw [e1]; omega)
  (fun i => (Value.covered_iff2 i).2 (by
    have h0 : (i 0).val < 4096 := (i 0).isLt
    have h1 : (i 1).val < 1024 := (i 1).isLt
    omega))

end Cert.Dh2Ideal.Sum

end
-- ==== Proof.Dh2Claim.lean ====
/-
  Dh2: the reference's result element by element, and the claims about the kernel, its reading over the reals and the
  reference.
-/
module

public import proofs.«01_k».proof.Proof.Dh2Value
public import proofs.«01_k».proof.Proof.Gen.Dh2.Frame
public import proofs.«01_k».proof.Proof.Gen.Dh2RefIdeal.Run
public import proofs.«01_k».proof.Proof.Gen.Dh2RefIdeal.Read
public import proofs.«01_k».proof.Defs

@[expose] public section

set_option maxRecDepth 16384

noncomputable section

namespace Cert.Proof.Dh2

open Idealize.ShloMosaic Idealize.ShloMosaic.TcCoe Idealize.SL.Sem
open Idealize.ShloMosaic.ValueIdx (ix2)
open scoped BigOperators

/-- The reference's result, element by element. -/
theorem reference (x0 : (⟨Cert.Dh2RefIdeal.S4096x5632, .bf16⟩ : BufTy).Contents (Elt Ideal))
    (x1 : (⟨Cert.Dh2RefIdeal.S5632x1024, .bf16⟩ : BufTy).Contents (Elt Ideal)) (i : Cert.Dh2RefIdeal.S4096x1024.Idx) :
    Cert.Dh2RefIdeal.Read.val_main_v5 (F := Ideal) x0 x1 i
      = (∑ k : Fin 5632, (x0 (ix2 (i 0) k) : EReal) * (x1 (ix2 k (i 1)) : EReal) : EReal) := by
  show Cert.Dh2RefIdeal.Read.val_main_v5 (F := Ideal) x0 x1 _ = _
  rw [Cert.Dh2RefIdeal.Read.val_main_v5_apply]
  refine Finset.sum_congr rfl fun k _ => ?_
  simp only [Cert.Dh2RefIdeal.Read.val_main_v2_apply]
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Dh2 := fun m ρ _ => Cert.Dh2.Gen.frame m ρ

theorem frame_ideal : Cert.quiescent_Dh2Ideal := fun m ρ _ => Cert.Dh2Ideal.Gen.frame m ρ

theorem frame_reference : Cert.quiescent_Dh2RefIdeal := fun m ρ _ =>
  (θ_run Cert.Dh2RefIdeal.defs _ _).mono (fun r h => ⟨fun c => (h c).2, sem_eq_zero_of_no_sems (by decide) r.2⟩)
    (Cert.Dh2RefIdeal.Value.run (F := Ideal) m ρ)

/-- The kernel's result is the reference's. -/
theorem algebraic : Cert.algebraic_Dh2Ideal_Dh2RefIdeal := by
  intro m ρ m' ρ' _ hagree
  refine ⟨fun c => Cert.Dh2Ideal.Sum.whole m c, ?_, ?_⟩
  · refine (θ_run Cert.Dh2Ideal.defs _ _).mono (fun _ h c => ?_) (Cert.Dh2Ideal.Value.run_blocks (F := Ideal) m ρ)
    exact ⟨(h c).1.trans (Cert.Dh2Ideal.Sum.array m c), (h c).2⟩
  · refine (θ_run Cert.Dh2RefIdeal.defs _ _).mono (fun _ h c => ?_) (Cert.Dh2RefIdeal.Value.run (F := Ideal) m' ρ')
    refine ⟨((h c).1.trans (Cert.Dh2RefIdeal.Read.val_main_v5_eq _ _)).trans ?_, (h c).2⟩
    funext i
    rw [reference, (hagree c).1, (hagree c).2]
    rfl

end Cert.Proof.Dh2

end
-- ==== Proof.DwOValue.lean ====
/-
  DwO: the transpose of the left operand times the right operand, 1024 by 1024 with 4096 summands an element.
  The grid visits each block of the result in a run of 4 points, one for each block of the contracted axis; the
  running sum lies in a scratch buffer from the run's first point on, and the run's last point writes the block. Here: what
  each point leaves, and, over the reals, that the array after the run is the whole product.
-/
module

public import proofs.«01_k».proof.Proof.Blocks
public import Idealize.ShloMosaic.PureOps.Ideal.Laws
public import proofs.«01_k».proof.Proof.Gen.DwOIdeal.Value
public import proofs.«01_k».proof.Proof.Gen.DwOIdeal.Skeleton

@[expose] public section

set_option maxRecDepth 16384

noncomputable section

namespace Cert.DwOIdeal.Sum

open Cert.DwOIdeal Cert.DwOIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- At the first point of a run the scratch takes the product of the two blocks. -/
theorem first (c : Dev nD) (t : Fin cfg0.N) (h : t.val % 4 = 0) :
    (outsAt0 m c t.val t.isLt).2 = k0_pay1 (iblk m c 0 t) (iblk m c 1 t) := by
  have hN := lt_of_lt_of_eq t.isLt (show cfg0.N = 4 from N_0)
  rw [outsAt0_A m c t h (by omega) (by omega)]
  dsimp only
  unfold sout0_A_0
  rw [View.read_writes_eq_canon _ _ _ (scover0_A_0 c _ _ _ _ _ _ _ _ _ _ _ _ _ _)]
  unfold kernelRun0_A
  dsimp only
  rw [View.canon_unit_zero corner]
  unfold k0_pay2
  simp only [View.readAt_eq_ld, (hs0_0 t).read_unread, (hs0_1 t).read_unread, View.ld_unit_zero (S := S1024x1024) corner, shapeCast_self]

/-- At a later point that is not the last the scratch takes the product of the two blocks on top of what it held. -/
theorem next (c : Dev nD) (n : ℕ) (hn : n + 1 < cfg0.N) (h : (n + 1) % 4 ≠ 0) (h' : (n + 1) % 4 ≠ 3) :
    (outsAt0 m c (n + 1) hn).2
      = addf (outsAt0 m c n (Nat.lt_of_succ_lt hn)).2 (k0_pay1 (iblk m c 0 ⟨n + 1, hn⟩) (iblk m c 1 ⟨n + 1, hn⟩)) := by
  rw [outsAt0_B m c ⟨n + 1, hn⟩ h (by dsimp only; omega) h']
  dsimp only
  unfold sout0_B_0
  rw [View.read_writes_eq_canon _ _ _ (scover0_B_0 c _ _ _ _ _ _ _ _ _ _ _ _ _ _ _)]
  unfold kernelRun0_B
  dsimp only
  rw [View.canon_unit_zero corner]
  unfold k0_pay3
  simp only [View.readAt_eq_ld, (hs0_0 _).read_unread, (hs0_1 _).read_unread, (Memref.isWhole_whole _).read_unread,
    View.ld_unit_zero (S := S1024x1024) corner, shapeCast_self]
  rfl

/-- At the last point of a run the result's block is the scratch with the last product on top, rounded. -/
theorem last (c : Dev nD) (n : ℕ) (hn : n + 1 < cfg0.N) (h : (n + 1) % 4 = 3) :
    (outsAt0 m c (n + 1) hn).1
      = truncf .bf16 (addf (outsAt0 m c n (Nat.lt_of_succ_lt hn)).2 (k0_pay1 (iblk m c 0 ⟨n + 1, hn⟩) (iblk m c 1 ⟨n + 1, hn⟩))) bitsLt_bf16_f32 := by
  rw [outsAt0_C m c ⟨n + 1, hn⟩ (by dsimp only; omega) (by dsimp only; omega) h]
  dsimp only
  unfold out0_C_2
  rw [View.read_writes_eq_canon _ _ _ (cover0_C_2 c _ _ _ _ _ _ _ _ _ _ _ _ _ _ _)]
  unfold kernelRun0_C
  dsimp only
  rw [View.canon_unit_zero corner]
  unfold k0_pay4
  dsimp only
  sl_unfold_words
  rw [View.readCov_unit_zero (S := S1024x1024) _ corner]
  unfold k0_pay3
  simp only [View.readAt_eq_ld, (hs0_0 _).read_unread, (hs0_1 _).read_unread, (Memref.isWhole_whole _).read_unread,
    View.ld_unit_zero (S := S1024x1024) corner, shapeCast_self]
  rfl

end AnyFloats

/-! ## Over the reals -/

variable (m : (ℓ : Loc nD τ sig) → Buf (Elt Ideal) ℓ)

/-- One product of two blocks, element by element. -/
theorem product (x0 : Vec Ideal S1024x1024 .bf16) (x1 : Vec Ideal S1024x1024 .bf16) (j : S1024x1024.Idx) :
    k0_pay1 x0 x1 j = ∑ x : Fin 1024, x0 (ix2 x (j 0)) * x1 (ix2 x (j 1)) := by
  unfold k0_pay1
  show FloatOps.matmul (F := Ideal) (φ₁ := .bf16) (φ₂ := .bf16) dot_S1024x1024_S1024x1024_S1024x1024_0_0_1_1_n_n none x0 x1
    (constant S1024x1024 .f32 0x00000000#32) j = _
  rw [Ideal.matmul_constant_zero_apply,
    ← Equiv.sum_comp (ValueIdx.contrEquiv1 dot_S1024x1024_S1024x1024_S1024x1024_0_0_1_1_n_n 1024 rfl rfl).symm]
  refine Finset.sum_congr rfl fun k _ => ?_
  have hk := ValueIdx.contrEquiv1_symm_val dot_S1024x1024_S1024x1024_S1024x1024_0_0_1_1_n_n 1024 rfl rfl k
  refine congrArg₂ (· * ·) (congrArg x0 (funext fun a => Fin.ext ?_)) (congrArg x1 (funext fun a => Fin.ext ?_))
  · match a with
    | ⟨0, _⟩ => exact (DotDims.lhsIdx_val_of_single _ rfl _ _).trans hk
    | ⟨1, _⟩ => rfl
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val % 4 ∧ win0_0.index t (1 : Fin 2) = t.val / 4 / 1
    ∧ win0_1.index t (0 : Fin 2) = t.val % 4 ∧ win0_1.index t (1 : Fin 2) = t.val / 4 % 1
    ∧ win0_2.index t (0 : Fin 2) = t.val / 4 / 1 ∧ win0_2.index t (1 : Fin 2) = t.val / 4 % 1 :=
  (by decide +kernel : ∀ t : Fin grid0.N, _)

/-- The two operands as matrices. -/
abbrev argA (c : Dev nD) : S4096x1024.Idx → EReal := m ((c : Thread nD τ).loc main_arg0)
abbrev argB (c : Dev nD) : S4096x1024.Idx → EReal := m ((c : Thread nD τ).loc main_arg1)

/-- The left operand's block at a point, inside the whole operand. -/
theorem left_block (c : Dev nD) (t : Fin cfg0.N) (j : S1024x1024.Idx) :
    (iblk m c 0 t : Vec Ideal S1024x1024 .bf16) j
      = Blocks.cell (argA m c) (1024 * (t.val % 4) + (j 0).val) (1024 * (t.val / 4 / 1) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 1024 + 1 * (j 1).val = _; rw [e1]; omega

/-- The right operand's block at a point, inside the whole operand. -/
theorem right_block (c : Dev nD) (t : Fin cfg0.N) (j : S1024x1024.Idx) :
    (iblk m c 1 t : Vec Ideal S1024x1024 .bf16) j
      = Blocks.cell (argB m c) (1024 * (t.val % 4) + (j 0).val) (1024 * (t.val / 4 % 1) + (j 1).val) := by
  obtain ⟨-, -, e0, e1, -⟩ := visits t
  unfold iblk
  rw [View.read_apply]
  refine Blocks.cell_eq (argB m c) _ _ _ ?_ ?_
  · show win0_1.index t (0 : Fin 2) * 1024 + 1 * (j 0).val = _; rw [e0]; omega
  · show win0_1.index t (1 : Fin 2) * 1024 + 1 * (j 1).val = _; rw [e1]; omega

/-- The `k`-th summand of the element that lies at `j` in the result's block number `q`. -/
def summand (c : Dev nD) (j : S1024x1024.Idx) (q k : ℕ) : EReal :=
  Blocks.cell (argA m c) k (1024 * (q / 1) + (j 0).val) * Blocks.cell (argB m c) k (1024 * (q % 1) + (j 1).val)

/-- The product of the blocks visited at a point is one block of summands. -/
theorem product_at (c : Dev nD) (t : Fin cfg0.N) (j : S1024x1024.Idx) :
    k0_pay1 (iblk m c 0 t) (iblk m c 1 t) j = ∑ x : Fin 1024, summand m c j (t.val / 4) (1024 * (t.val % 4) + x.val) := by
  rw [product]
  refine Finset.sum_congr rfl fun x _ => ?_
  rw [left_block, right_block]
  rfl

/-- What the last point of a run leaves in the result's block. -/
theorem block_sum (c : Dev nD) (t : Fin cfg0.N) (h : t.val % 4 = 3) (j : S1024x1024.Idx) :
    (outsAt0 m c t.val t.isLt).1 j = ∑ k : Fin 4096, summand m c j (t.val / 4) k.val := by
  obtain ⟨_ | n, hn⟩ := t
  · exact absurd (show (0 : ℕ) % 4 = 3 from h) (by decide)
  have hc := Blocks.closing 4 1024 (by decide) (fun n h => (outsAt0 m c n h).2 j) (summand m c j)
    (fun n h h0 => by rw [first m c ⟨n, h⟩ h0]; exact product_at m c ⟨n, h⟩ j)
    (fun n h h0 h1 => by
      rw [next m c n h h0 h1]
      show (outsAt0 m c n _).2 j + k0_pay1 (iblk m c 0 ⟨n + 1, h⟩) (iblk m c 1 ⟨n + 1, h⟩) j = _
      rw [product_at])
    n hn h
  rw [← product_at m c ⟨n + 1, hn⟩ j] at hc
  dsimp only at h ⊢
  rw [last m c n hn h]
  exact hc

/-- The whole product, element by element. -/
def whole (c : Dev nD) : S1024x1024.Idx → EReal := fun i =>
  ∑ k : Fin 4096, argA m c (ix2 k (i 0)) * argB m c (ix2 k (i 1))

/-- The array the run leaves in the result. -/
theorem array (c : Dev nD) : (dats m 0 c).arrAt 2 cfg0.N = whole m c :=
  (dats m 0 c).arrAt_eq_of_cover 2 _ (fun t hf => by
    have ht := (flush0_2 t).mp hf
    rw [Value.flushed2]
    funext y
    rw [View.read_apply]
    show (outsAt0 m c t.val t.isLt).1 y = _
    rw [block_sum m c t ht y]
    obtain ⟨-, -, -, -, e0, e1⟩ := visits t
    unfold whole summand
    refine Finset.sum_congr rfl fun k _ => ?_
    refine congrArg₂ (· * ·) (Blocks.cell_eq (argA m c) k.val _ (ix2 k (((cfg0.win 2).blk t).view.emb y 0)) rfl ?_).symm
      (Blocks.cell_eq (argB m c) k.val _ (ix2 k (((cfg0.win 2).blk t).view.emb y 1)) rfl ?_).symm
    · show win0_2.index t (0 : Fin 2) * 1024 + 1 * (y 0).val = _; rw [e0]; omega
    · show win0_2.index t (1 : Fin 2) * 1024 + 1 * (y 1).val = _; rw [e1]; omega)
  (fun i => (Value.covered_iff2 i).2 (by
    have h0 : (i 0).val < 1024 := (i 0).isLt
    have h1 : (i 1).val < 1024 := (i 1).isLt
    omega))

end Cert.DwOIdeal.Sum

end
-- ==== Proof.DwOClaim.lean ====
/-
  DwO: the reference's result element by element, and the claims about the kernel, its reading over the reals and the
  reference.
-/
module

public import proofs.«01_k».proof.Proof.DwOValue
public import proofs.«01_k».proof.Proof.Gen.DwO.Frame
public import proofs.«01_k».proof.Proof.Gen.DwORefIdeal.Run
public import proofs.«01_k».proof.Proof.Gen.DwORefIdeal.Read
public import proofs.«01_k».proof.Defs

@[expose] public section

set_option maxRecDepth 16384

noncomputable section

namespace Cert.Proof.DwO

open Idealize.ShloMosaic Idealize.ShloMosaic.TcCoe Idealize.SL.Sem
open Idealize.ShloMosaic.ValueIdx (ix2)
open scoped BigOperators

/-- The reference's result, element by element. -/
theorem reference (x0 : (⟨Cert.DwORefIdeal.S4096x1024, .bf16⟩ : BufTy).Contents (Elt Ideal))
    (x1 : (⟨Cert.DwORefIdeal.S4096x1024, .bf16⟩ : BufTy).Contents (Elt Ideal)) (i : Cert.DwORefIdeal.S1024x1024.Idx) :
    Cert.DwORefIdeal.Read.val_main_v6 (F := Ideal) x0 x1 i
      = (∑ k : Fin 4096, (x0 (ix2 k (i 0)) : EReal) * (x1 (ix2 k (i 1)) : EReal) : EReal) := by
  show Cert.DwORefIdeal.Read.val_main_v5 (F := Ideal) x0 x1 i = _
  rw [Cert.DwORefIdeal.Read.val_main_v5_apply, Cert.DwORefIdeal.Read.val_main_v4_apply]
  refine Finset.sum_congr rfl fun k _ => (mul_comm _ _).trans ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_DwO := fun m ρ _ => Cert.DwO.Gen.frame m ρ

theorem frame_ideal : Cert.quiescent_DwOIdeal := fun m ρ _ => Cert.DwOIdeal.Gen.frame m ρ

theorem frame_reference : Cert.quiescent_DwORefIdeal := fun m ρ _ =>
  (θ_run Cert.DwORefIdeal.defs _ _).mono (fun r h => ⟨fun c => (h c).2, sem_eq_zero_of_no_sems (by decide) r.2⟩)
    (Cert.DwORefIdeal.Value.run (F := Ideal) m ρ)

/-- The kernel's result is the reference's. -/
theorem algebraic : Cert.algebraic_DwOIdeal_DwORefIdeal := by
  intro m ρ m' ρ' _ hagree
  refine ⟨fun c => Cert.DwOIdeal.Sum.whole m c, ?_, ?_⟩
  · refine (θ_run Cert.DwOIdeal.defs _ _).mono (fun _ h c => ?_) (Cert.DwOIdeal.Value.run_blocks (F := Ideal) m ρ)
    exact ⟨(h c).1.trans (Cert.DwOIdeal.Sum.array m c), (h c).2⟩
  · refine (θ_run Cert.DwORefIdeal.defs _ _).mono (fun _ h c => ?_) (Cert.DwORefIdeal.Value.run (F := Ideal) m' ρ')
    refine ⟨((h c).1.trans (Cert.DwORefIdeal.Read.val_main_v6_eq _ _)).trans ?_, (h c).2⟩
    funext i
    rw [reference, (hagree c).1, (hagree c).2]
    rfl

end Cert.Proof.DwO

end
-- ==== Proof.DmValue.lean ====
/-
  Dm: the left operand times the transpose of the right operand, 4096 by 1024 with 1024 summands an element.
  Every point of the grid writes one block of the result, with the whole contracted axis in one product. Here: what a
  point leaves, and, over the reals, that the array after the run is the whole product.
-/
module

public import proofs.«01_k».proof.Proof.Blocks
public import Idealize.ShloMosaic.PureOps.Ideal.Laws
public import proofs.«01_k».proof.Proof.Gen.DmIdeal.Value
public import proofs.«01_k».proof.Proof.Gen.DmIdeal.Skeleton

@[expose] public section

set_option maxRecDepth 16384

noncomputable section

namespace Cert.DmIdeal.Sum

open Cert.DmIdeal Cert.DmIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- What a point leaves in the result's block. -/
theorem point (c : Dev nD) (t : Fin cfg0.N) :
    outsAt0 m c t = truncf .bf16 (k0_pay1 (iblk m c 0 t) (iblk m c 1 t)) bitsLt_bf16_f32 := by
  unfold outsAt0 out0_A_2
  rw [View.read_writes_eq_canon _ _ _ (cover0_A_2 c _ _ _ _ _ _ _ _ _ _ _ _ _ _)]
  unfold kernelRun0_A
  dsimp only
  rw [View.canon_unit_zero corner]
  unfold k0_pay4
  dsimp only
  sl_unfold_words
  rw [View.readCov_unit_zero (S := S2048x1024) _ corner]
  unfold k0_pay2
  simp only [View.readAt_eq_ld, (hs0_0 t).read_unread, (hs0_1 t).read_unread, View.ld_unit_zero (S := S2048x1024) corner, View.ld_unit_zero (S := S1024x1024) corner, shapeCast_self]

end AnyFloats

/-! ## Over the reals -/

variable (m : (ℓ : Loc nD τ sig) → Buf (Elt Ideal) ℓ)

/-- One product of two blocks, element by element. -/
theorem product (x0 : Vec Ideal S2048x1024 .bf16) (x1 : Vec Ideal S1024x1024 .bf16) (j : S2048x1024.Idx) :
    k0_pay1 x0 x1 j = ∑ x : Fin 1024, x0 (ix2 (j 0) x) * x1 (ix2 (j 1) x) := by
  unfold k0_pay1
  show FloatOps.matmul (F := Ideal) (φ₁ := .bf16) (φ₂ := .bf16) dot_S2048x1024_S1024x1024_S2048x1024_1_1_0_0_n_n none x0 x1
    (constant S2048x1024 .f32 0x00000000#32) j = _
  rw [Ideal.matmul_constant_zero_apply,
    ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => rfl
    | ⟨1, _⟩ => exact (DotDims.rhsIdx_val_of_single _ rfl _ _).trans hk

/-- The block each window visits at a point. -/
theorem visits : ∀ t : Fin cfg0.N, win0_0.index t (0 : Fin 2) = t.val / 1 / 1 ∧ win0_0.index t (1 : Fin 2) = t.val % 1
    ∧ win0_1.index t (0 : Fin 2) = t.val / 1 % 1 ∧ win0_1.index t (1 : Fin 2) = t.val % 1
    ∧ win0_2.index t (0 : Fin 2) = t.val / 1 / 1 ∧ win0_2.index t (1 : Fin 2) = t.val / 1 % 1 :=
  (by decide +kernel : ∀ t : Fin grid0.N, _)

/-- The two operands as matrices. -/
abbrev argA (c : Dev nD) : S4096x1024.Idx → EReal := m ((c : Thread nD τ).loc main_arg0)
abbrev argB (c : Dev nD) : S1024x1024.Idx → EReal := m ((c : Thread nD τ).loc main_arg1)

/-- The left operand's block at a point, inside the whole operand. -/
theorem left_block (c : Dev nD) (t : Fin cfg0.N) (j : S2048x1024.Idx) :
    (iblk m c 0 t : Vec Ideal S2048x1024 .bf16) j
      = Blocks.cell (argA m c) (2048 * (t.val / 1 / 1) + (j 0).val) (1024 * (t.val % 1) + (j 1).val) := by
  obtain ⟨e0, e1, -⟩ := visits t
  unfold iblk
  rw [View.read_apply]
  refine Blocks.cell_eq (argA m c) _ _ _ ?_ ?_
  · show win0_0.index t (0 : Fin 2) * 2048 + 1 * (j 0).val = _; rw [e0]; omega
  · show win0_0.index t (1 : Fin 2) * 1024 + 1 * (j 1).val = _; rw [e1]; omega

/-- The right operand's block at a point, inside the whole operand. -/
theorem right_block (c : Dev nD) (t : Fin cfg0.N) (j : S1024x1024.Idx) :
    (iblk m c 1 t : Vec Ideal S1024x1024 .bf16) j
      = Blocks.cell (argB m c) (1024 * (t.val / 1 % 1) + (j 0).val) (1024 * (t.val % 1) + (j 1).val) := by
  obtain ⟨-, -, e0, e1, -⟩ := visits t
  unfold iblk
  rw [View.read_apply]
  refine Blocks.cell_eq (argB m c) _ _ _ ?_ ?_
  · show win0_1.index t (0 : Fin 2) * 1024 + 1 * (j 0).val = _; rw [e0]; omega
  · show win0_1.index t (1 : Fin 2) * 1024 + 1 * (j 1).val = _; rw [e1]; omega

/-- The `k`-th summand of the element that lies at `j` in the result's block number `q`. -/
def summand (c : Dev nD) (j : S2048x1024.Idx) (q k : ℕ) : EReal :=
  Blocks.cell (argA m c) (2048 * (q / 1) + (j 0).val) k * Blocks.cell (argB m c) (1024 * (q % 1) + (j 1).val) k

/-- The product of the blocks visited at a point is one block of summands. -/
theorem product_at (c : Dev nD) (t : Fin cfg0.N) (j : S2048x1024.Idx) :
    k0_pay1 (iblk m c 0 t) (iblk m c 1 t) j = ∑ x : Fin 1024, summand m c j (t.val / 1) (1024 * (t.val % 1) + x.val) := by
  rw [product]
  refine Finset.sum_congr rfl fun x _ => ?_
  rw [left_block, right_block]
  rfl

/-- What a point leaves in the result's block, element by element. -/
theorem block_sum (c : Dev nD) (t : Fin cfg0.N) (j : S2048x1024.Idx) :
    outsAt0 m c t j = ∑ k : Fin 1024, summand m c j (t.val / 1) k.val := by
  rw [point]
  show k0_pay1 (iblk m c 0 t) (iblk m c 1 t) j = _
  rw [product_at]
  refine Finset.sum_congr rfl fun x _ => ?_
  rw [Nat.mod_one, Nat.mul_zero, Nat.zero_add]

theorem mem_block (t : Fin cfg0.N) (i : S4096x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The blocks written back fill the result. -/
theorem filled (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have hlt : (i 0).val / 2048 * 1 + (i 1).val / 1024 < 2 := by omega
  refine ⟨⟨(i 0).val / 2048 * 1 + (i 1).val / 1024, lt_of_lt_of_eq hlt N_0.symm⟩,
    (by decide +kernel : ∀ t : Fin grid0.N, win0_2.flush t = true) _, ?_⟩
  rw [mem_block]
  obtain ⟨-, -, -, -, e0, e1⟩ := visits ⟨(i 0).val / 2048 * 1 + (i 1).val / 1024, lt_of_lt_of_eq hlt N_0.symm⟩
  dsimp only at e0 e1
  intro a
  match a with
  | ⟨0, _⟩ =>
    show win0_2.index _ (0 : Fin 2) * 2048 ≤ (i 0).val ∧ (i 0).val < win0_2.index _ (0 : Fin 2) * 2048 + 2048
    rw [e0]; omega
  | ⟨1, _⟩ =>
    show win0_2.index _ (1 : Fin 2) * 1024 ≤ (i 1).val ∧ (i 1).val < win0_2.index _ (1 : Fin 2) * 1024 + 1024
    rw [e1]; omega

/-- The whole product, element by element. -/
def whole (c : Dev nD) : S4096x1024.Idx → EReal := fun i =>
  ∑ k : Fin 1024, argA m c (ix2 (i 0) k) * argB m c (ix2 (i 1) k)

/-- The array the run leaves in the result. -/
theorem array (c : Dev nD) : (dats m 0 c).arrAt 2 cfg0.N = whole m c :=
  (dats m 0 c).arrAt_eq_of_cover 2 _ (fun t hf => by
    rw [Value.flushed2]
    funext y
    rw [View.read_apply]
    show outsAt0 m c t y = _
    rw [block_sum m c t y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) _ k.val (ix2 (((cfg0.win 2).blk t).view.emb y 1) k) ?_ rfl).symm
    · show win0_2.index t (0 : Fin 2) * 2048 + 1 * (y 0).val = _; rw [e0]; omega
    · show win0_2.index t (1 : Fin 2) * 1024 + 1 * (y 1).val = _; rw [e1]; omega)
  filled

end Cert.DmIdeal.Sum

end
-- ==== Proof.DmClaim.lean ====
/-
  Dm: the reference's result element by element, and the claims about the kernel, its reading over the reals and the
  reference.
-/
module

public import proofs.«01_k».proof.Proof.DmValue
public import proofs.«01_k».proof.Proof.Gen.Dm.Frame
public import proofs.«01_k».proof.Proof.Gen.DmRefIdeal.Run
public import proofs.«01_k».proof.Proof.Gen.DmRefIdeal.Read
public import proofs.«01_k».proof.Defs

@[expose] public section

set_option maxRecDepth 16384

noncomputable section

namespace Cert.Proof.Dm

open Idealize.ShloMosaic Idealize.ShloMosaic.TcCoe Idealize.SL.Sem
open Idealize.ShloMosaic.ValueIdx (ix2)
open scoped BigOperators

/-- The reference's result, element by element. -/
theorem reference (x0 : (⟨Cert.DmRefIdeal.S4096x1024, .bf16⟩ : BufTy).Contents (Elt Ideal))
    (x1 : (⟨Cert.DmRefIdeal.S1024x1024, .bf16⟩ : BufTy).Contents (Elt Ideal)) (i : Cert.DmRefIdeal.S4096x1024.Idx) :
    Cert.DmRefIdeal.Read.val_main_v5 (F := Ideal) x0 x1 i
      = (∑ k : Fin 1024, (x0 (ix2 (i 0) k) : EReal) * (x1 (ix2 (i 1) k) : EReal) : EReal) := by
  show Cert.DmRefIdeal.Read.val_main_v4 (F := Ideal) x0 x1 _ = _
  rw [Cert.DmRefIdeal.Read.val_main_v4_apply]
  refine Finset.sum_congr rfl fun k _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Dm := fun m ρ _ => Cert.Dm.Gen.frame m ρ

theorem frame_ideal : Cert.quiescent_DmIdeal := fun m ρ _ => Cert.DmIdeal.Gen.frame m ρ

theorem frame_reference : Cert.quiescent_DmRefIdeal := fun m ρ _ =>
  (θ_run Cert.DmRefIdeal.defs _ _).mono (fun r h => ⟨fun c => (h c).2, sem_eq_zero_of_no_sems (by decide) r.2⟩)
    (Cert.DmRefIdeal.Value.run (F := Ideal) m ρ)

/-- The kernel's result is the reference's. -/
theorem algebraic : Cert.algebraic_DmIdeal_DmRefIdeal := by
  intro m ρ m' ρ' _ hagree
  refine ⟨fun c => Cert.DmIdeal.Sum.whole m c, ?_, ?_⟩
  · refine (θ_run Cert.DmIdeal.defs _ _).mono (fun _ h c => ?_) (Cert.DmIdeal.Value.run_blocks (F := Ideal) m ρ)
    exact ⟨(h c).1.trans (Cert.DmIdeal.Sum.array m c), (h c).2⟩
  · refine (θ_run Cert.DmRefIdeal.defs _ _).mono (fun _ h c => ?_) (Cert.DmRefIdeal.Value.run (F := Ideal) m' ρ')
    refine ⟨((h c).1.trans (Cert.DmRefIdeal.Read.val_main_v5_eq _ _)).trans ?_, (h c).2⟩
    funext i
    rw [reference, (hagree c).1, (hagree c).2]
    rfl

end Cert.Proof.Dm

end
-- ==== Proof.DwInValue.lean ====
/-
  DwIn: the transpose of the left operand times the right operand, 8704 by 1024 with 4096 summands an element.
  The grid visits each block of the result in a run of 4 points, one for each block of the contracted axis; the
  running sum lies in a scratch buffer from the run's first point on, and the run's last point writes the block. Here: what
  each point leaves, and, over the reals, that the array after the run is the whole product.
-/
module

public import proofs.«01_k».proof.Proof.Blocks
public import Idealize.ShloMosaic.PureOps.Ideal.Laws
public import proofs.«01_k».proof.Proof.Gen.DwInIdeal.Value
public import proofs.«01_k».proof.Proof.Gen.DwInIdeal.Skeleton

@[expose] public section

set_option maxRecDepth 16384

noncomputable section

namespace Cert.DwInIdeal.Sum

open Cert.DwInIdeal Cert.DwInIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- At the first point of a run the scratch takes the product of the two blocks. -/
theorem first (c : Dev nD) (t : Fin cfg0.N) (h : t.val % 4 = 0) :
    (outsAt0 m c t.val t.isLt).2 = k0_pay1 (iblk m c 0 t) (iblk m c 1 t) := by
  have hN := lt_of_lt_of_eq t.isLt (show cfg0.N = 16 from N_0)
  rw [outsAt0_A m c t h (by omega) (by omega)]
  dsimp only
  unfold sout0_A_0
  rw [View.read_writes_eq_canon _ _ _ (scover0_A_0 c _ _ _ _ _ _ _ _ _ _ _ _ _ _)]
  unfold kernelRun0_A
  dsimp only
  rw [View.canon_unit_zero corner]
  unfold k0_pay2
  simp only [View.readAt_eq_ld, (hs0_0 t).read_unread, (hs0_1 t).read_unread, View.ld_unit_zero (S := S1024x2176) corner, View.ld_unit_zero (S := S1024x1024) corner, View.ld_unit_zero (S := S2176x1024) corner, shapeCast_self]

/-- At a later point that is not the last the scratch takes the product of the two blocks on top of what it held. -/
theorem next (c : Dev nD) (n : ℕ) (hn : n + 1 < cfg0.N) (h : (n + 1) % 4 ≠ 0) (h' : (n + 1) % 4 ≠ 3) :
    (outsAt0 m c (n + 1) hn).2
      = addf (outsAt0 m c n (Nat.lt_of_succ_lt hn)).2 (k0_pay1 (iblk m c 0 ⟨n + 1, hn⟩) (iblk m c 1 ⟨n + 1, hn⟩)) := by
  rw [outsAt0_B m c ⟨n + 1, hn⟩ h (by dsimp only; omega) h']
  dsimp only
  unfold sout0_B_0
  rw [View.read_writes_eq_canon _ _ _ (scover0_B_0 c _ _ _ _ _ _ _ _ _ _ _ _ _ _ _)]
  unfold kernelRun0_B
  dsimp only
  rw [View.canon_unit_zero corner]
  unfold k0_pay3
  simp only [View.readAt_eq_ld, (hs0_0 _).read_unread, (hs0_1 _).read_unread, (Memref.isWhole_whole _).read_unread,
    View.ld_unit_zero (S := S1024x2176) corner, View.ld_unit_zero (S := S1024x1024) corner, View.ld_unit_zero (S := S2176x1024) corner, shapeCast_self]
  rfl

/-- At the last point of a run the result's block is the scratch with the last product on top, rounded. -/
theorem last (c : Dev nD) (n : ℕ) (hn : n + 1 < cfg0.N) (h : (n + 1) % 4 = 3) :
    (outsAt0 m c (n + 1) hn).1
      = truncf .bf16 (addf (outsAt0 m c n (Nat.lt_of_succ_lt hn)).2 (k0_pay1 (iblk m c 0 ⟨n + 1, hn⟩) (iblk m c 1 ⟨n + 1, hn⟩))) bitsLt_bf16_f32 := by
  rw [outsAt0_C m c ⟨n + 1, hn⟩ (by dsimp only; omega) (by dsimp only; omega) h]
  dsimp only
  unfold out0_C_2
  rw [View.read_writes_eq_canon _ _ _ (cover0_C_2 c _ _ _ _ _ _ _ _ _ _ _ _ _ _ _)]
  unfold kernelRun0_C
  dsimp only
  rw [View.canon_unit_zero corner]
  unfold k0_pay4
  dsimp only
  sl_unfold_words
  rw [View.readCov_unit_zero (S := S2176x1024) _ corner]
  unfold k0_pay3
  simp only [View.readAt_eq_ld, (hs0_0 _).read_unread, (hs0_1 _).read_unread, (Memref.isWhole_whole _).read_unread,
    View.ld_unit_zero (S := S1024x2176) corner, View.ld_unit_zero (S := S1024x1024) corner, View.ld_unit_zero (S := S2176x1024) corner, shapeCast_self]
  rfl

end AnyFloats

/-! ## Over the reals -/

variable (m : (ℓ : Loc nD τ sig) → Buf (Elt Ideal) ℓ)

/-- One product of two blocks, element by element. -/
theorem product (x0 : Vec Ideal S1024x2176 .bf16) (x1 : Vec Ideal S1024x1024 .bf16) (j : S2176x1024.Idx) :
    k0_pay1 x0 x1 j = ∑ x : Fin 1024, x0 (ix2 x (j 0)) * x1 (ix2 x (j 1)) := by
  unfold k0_pay1
  show FloatOps.matmul (F := Ideal) (φ₁ := .bf16) (φ₂ := .bf16) dot_S1024x2176_S1024x1024_S2176x1024_0_0_1_1_n_n none x0 x1
    (constant S2176x1024 .f32 0x00000000#32) j = _
  rw [Ideal.matmul_constant_zero_apply,
    ← Equiv.sum_comp (ValueIdx.contrEquiv1 dot_S1024x2176_S1024x1024_S2176x1024_0_0_1_1_n_n 1024 rfl rfl).symm]
  refine Finset.sum_congr rfl fun k _ => ?_
  have hk := ValueIdx.contrEquiv1_symm_val dot_S1024x2176_S1024x1024_S2176x1024_0_0_1_1_n_n 1024 rfl rfl k
  refine congrArg₂ (· * ·) (congrArg x0 (funext fun a => Fin.ext ?_)) (congrArg x1 (funext fun a => Fin.ext ?_))
  · match a with
    | ⟨0, _⟩ => exact (DotDims.lhsIdx_val_of_single _ rfl _ _).trans hk
    | ⟨1, _⟩ => rfl
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val % 4 ∧ win0_0.index t (1 : Fin 2) = t.val / 4 / 1
    ∧ win0_1.index t (0 : Fin 2) = t.val % 4 ∧ win0_1.index t (1 : Fin 2) = t.val / 4 % 1
    ∧ win0_2.index t (0 : Fin 2) = t.val / 4 / 1 ∧ win0_2.index t (1 : Fin 2) = t.val / 4 % 1 :=
  (by decide +kernel : ∀ t : Fin grid0.N, _)

/-- The two operands as matrices. -/
abbrev argA (c : Dev nD) : S4096x8704.Idx → EReal := m ((c : Thread nD τ).loc main_arg0)
abbrev argB (c : Dev nD) : S4096x1024.Idx → EReal := m ((c : Thread nD τ).loc main_arg1)

/-- The left operand's block at a point, inside the whole operand. -/
theorem left_block (c : Dev nD) (t : Fin cfg0.N) (j : S1024x2176.Idx) :
    (iblk m c 0 t : Vec Ideal S1024x2176 .bf16) j
      = Blocks.cell (argA m c) (1024 * (t.val % 4) + (j 0).val) (2176 * (t.val / 4 / 1) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 2176 + 1 * (j 1).val = _; rw [e1]; omega

/-- The right operand's block at a point, inside the whole operand. -/
theorem right_block (c : Dev nD) (t : Fin cfg0.N) (j : S1024x1024.Idx) :
    (iblk m c 1 t : Vec Ideal S1024x1024 .bf16) j
      = Blocks.cell (argB m c) (1024 * (t.val % 4) + (j 0).val) (1024 * (t.val / 4 % 1) + (j 1).val) := by
  obtain ⟨-, -, e0, e1, -⟩ := visits t
  unfold iblk
  rw [View.read_apply]
  refine Blocks.cell_eq (argB m c) _ _ _ ?_ ?_
  · show win0_1.index t (0 : Fin 2) * 1024 + 1 * (j 0).val = _; rw [e0]; omega
  · show win0_1.index t (1 : Fin 2) * 1024 + 1 * (j 1).val = _; rw [e1]; omega

/-- The `k`-th summand of the element that lies at `j` in the result's block number `q`. -/
def summand (c : Dev nD) (j : S2176x1024.Idx) (q k : ℕ) : EReal :=
  Blocks.cell (argA m c) k (2176 * (q / 1) + (j 0).val) * Blocks.cell (argB m c) k (1024 * (q % 1) + (j 1).val)

/-- The product of the blocks visited at a point is one block of summands. -/
theorem product_at (c : Dev nD) (t : Fin cfg0.N) (j : S2176x1024.Idx) :
    k0_pay1 (iblk m c 0 t) (iblk m c 1 t) j = ∑ x : Fin 1024, summand m c j (t.val / 4) (1024 * (t.val % 4) + x.val) := by
  rw [product]
  refine Finset.sum_congr rfl fun x _ => ?_
  rw [left_block, right_block]
  rfl

/-- What the last point of a run leaves in the result's block. -/
theorem block_sum (c : Dev nD) (t : Fin cfg0.N) (h : t.val % 4 = 3) (j : S2176x1024.Idx) :
    (outsAt0 m c t.val t.isLt).1 j = ∑ k : Fin 4096, summand m c j (t.val / 4) k.val := by
  obtain ⟨_ | n, hn⟩ := t
  · exact absurd (show (0 : ℕ) % 4 = 3 from h) (by decide)
  have hc := Blocks.closing 4 1024 (by decide) (fun n h => (outsAt0 m c n h).2 j) (summand m c j)
    (fun n h h0 => by rw [first m c ⟨n, h⟩ h0]; exact product_at m c ⟨n, h⟩ j)
    (fun n h h0 h1 => by
      rw [next m c n h h0 h1]
      show (outsAt0 m c n _).2 j + k0_pay1 (iblk m c 0 ⟨n + 1, h⟩) (iblk m c 1 ⟨n + 1, h⟩) j = _
      rw [product_at])
    n hn h
  rw [← product_at m c ⟨n + 1, hn⟩ j] at hc
  dsimp only at h ⊢
  rw [last m c n hn h]
  exact hc

/-- The whole product, element by element. -/
def whole (c : Dev nD) : S8704x1024.Idx → EReal := fun i =>
  ∑ k : Fin 4096, argA m c (ix2 k (i 0)) * argB m c (ix2 k (i 1))

/-- The array the run leaves in the result. -/
theorem array (c : Dev nD) : (dats m 0 c).arrAt 2 cfg0.N = whole m c :=
  (dats m 0 c).arrAt_eq_of_cover 2 _ (fun t hf => by
    have ht := (flush0_2 t).mp hf
    rw [Value.flushed2]
    funext y
    rw [View.read_apply]
    show (outsAt0 m c t.val t.isLt).1 y = _
    rw [block_sum m c t ht y]
    obtain ⟨-, -, -, -, e0, e1⟩ := visits t
    unfold whole summand
    refine Finset.sum_congr rfl fun k _ => ?_
    refine congrArg₂ (· * ·) (Blocks.cell_eq (argA m c) k.val _ (ix2 k (((cfg0.win 2).blk t).view.emb y 0)) rfl ?_).symm
      (Blocks.cell_eq (argB m c) k.val _ (ix2 k (((cfg0.win 2).blk t).view.emb y 1)) rfl ?_).symm
    · show win0_2.index t (0 : Fin 2) * 2176 + 1 * (y 0).val = _; rw [e0]; omega
    · show win0_2.index t (1 : Fin 2) * 1024 + 1 * (y 1).val = _; rw [e1]; omega)
  (fun i => (Value.covered_iff2 i).2 (by
    have h0 : (i 0).val < 8704 := (i 0).isLt
    have h1 : (i 1).val < 1024 := (i 1).isLt
    omega))

end Cert.DwInIdeal.Sum

end
-- ==== Proof.DwInClaim.lean ====
/-
  DwIn: the reference's result element by element, and the claims about the kernel, its reading over the reals and the
  reference.
-/
module

public import proofs.«01_k».proof.Proof.DwInValue
public import proofs.«01_k».proof.Proof.Gen.DwIn.Frame
public import proofs.«01_k».proof.Proof.Gen.DwInRefIdeal.Run
public import proofs.«01_k».proof.Proof.Gen.DwInRefIdeal.Read
public import proofs.«01_k».proof.Defs

@[expose] public section

set_option maxRecDepth 16384

noncomputable section

namespace Cert.Proof.DwIn

open Idealize.ShloMosaic Idealize.ShloMosaic.TcCoe Idealize.SL.Sem
open Idealize.ShloMosaic.ValueIdx (ix2)
open scoped BigOperators

/-- The reference's result, element by element. -/
theorem reference (x0 : (⟨Cert.DwInRefIdeal.S4096x8704, .bf16⟩ : BufTy).Contents (Elt Ideal))
    (x1 : (⟨Cert.DwInRefIdeal.S4096x1024, .bf16⟩ : BufTy).Contents (Elt Ideal)) (i : Cert.DwInRefIdeal.S8704x1024.Idx) :
    Cert.DwInRefIdeal.Read.val_main_v8 (F := Ideal) x0 x1 i
      = (∑ k : Fin 4096, (x0 (ix2 k (i 0)) : EReal) * (x1 (ix2 k (i 1)) : EReal) : EReal) := by
  show Cert.DwInRefIdeal.Read.val_main_v7 (F := Ideal) x0 x1 i = _
  rw [Cert.DwInRefIdeal.Read.val_main_v7_apply, Cert.DwInRefIdeal.Read.val_main_v6_apply, Cert.DwInRefIdeal.Read.val_main_v5_apply]
  refine Finset.sum_congr rfl fun k _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_DwIn := fun m ρ _ => Cert.DwIn.Gen.frame m ρ

theorem frame_ideal : Cert.quiescent_DwInIdeal := fun m ρ _ => Cert.DwInIdeal.Gen.frame m ρ

theorem frame_reference : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The kernel's result is the reference's. -/
theorem algebraic : Cert.algebraic_DwInIdeal_DwInRefIdeal := by
  intro m ρ m' ρ' _ hagree
  refine ⟨fun c => Cert.DwInIdeal.Sum.whole m c, ?_, ?_⟩
  · refine (θ_run Cert.DwInIdeal.defs _ _).mono (fun _ h c => ?_) (Cert.DwInIdeal.Value.run_blocks (F := Ideal) m ρ)
    exact ⟨(h c).1.trans (Cert.DwInIdeal.Sum.array m c), (h c).2⟩
  · refine (θ_run Cert.DwInRefIdeal.defs _ _).mono (fun _ h c => ?_) (Cert.DwInRefIdeal.Value.run (F := Ideal) m' ρ')
    refine ⟨((h c).1.trans (Cert.DwInRefIdeal.Read.val_main_v8_eq _ _)).trans ?_, (h c).2⟩
    funext i
    rw [reference, (hagree c).1, (hagree c).2]
    rfl

end Cert.Proof.DwIn

end
-- ==== Proof.DhValue.lean ====
/-
  Dh: the left operand times the right operand, 4096 by 1024 with 8704 summands an element.
  The grid visits each block of the result in a run of 4 points, one for each block of the contracted axis; the
  running sum lies in a scratch buffer from the run's first point on, and the run's last point writes the block. Here: what
  each point leaves, and, over the reals, that the array after the run is the whole product.
-/
module

public import proofs.«01_k».proof.Proof.Blocks
public import Idealize.ShloMosaic.PureOps.Ideal.Laws
public import proofs.«01_k».proof.Proof.Gen.DhIdeal.Value
public import proofs.«01_k».proof.Proof.Gen.DhIdeal.Skeleton

@[expose] public section

set_option maxRecDepth 16384

noncomputable section

namespace Cert.DhIdeal.Sum

open Cert.DhIdeal Cert.DhIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- At the first point of a run the scratch takes the product of the two blocks. -/
theorem first (c : Dev nD) (t : Fin cfg0.N) (h : t.val % 4 = 0) :
    (outsAt0 m c t.val t.isLt).2 = k0_pay1 (iblk m c 0 t) (iblk m c 1 t) := by
  have hN := lt_of_lt_of_eq t.isLt (show cfg0.N = 16 from N_0)
  rw [outsAt0_A m c t h (by omega) (by omega)]
  dsimp only
  unfold sout0_A_0
  rw [View.read_writes_eq_canon _ _ _ (scover0_A_0 c _ _ _ _ _ _ _ _ _ _ _ _ _ _)]
  unfold kernelRun0_A
  dsimp only
  rw [View.canon_unit_zero corner]
  unfold k0_pay2
  simp only [View.readAt_eq_ld, (hs0_0 t).read_unread, (hs0_1 t).read_unread, View.ld_unit_zero (S := S1024x2176) corner, View.ld_unit_zero (S := S2176x1024) corner, View.ld_unit_zero (S := S1024x1024) corner, shapeCast_self]

/-- At a later point that is not the last the scratch takes the product of the two blocks on top of what it held. -/
theorem next (c : Dev nD) (n : ℕ) (hn : n + 1 < cfg0.N) (h : (n + 1) % 4 ≠ 0) (h' : (n + 1) % 4 ≠ 3) :
    (outsAt0 m c (n + 1) hn).2
      = addf (outsAt0 m c n (Nat.lt_of_succ_lt hn)).2 (k0_pay1 (iblk m c 0 ⟨n + 1, hn⟩) (iblk m c 1 ⟨n + 1, hn⟩)) := by
  rw [outsAt0_B m c ⟨n + 1, hn⟩ h (by dsimp only; omega) h']
  dsimp only
  unfold sout0_B_0
  rw [View.read_writes_eq_canon _ _ _ (scover0_B_0 c _ _ _ _ _ _ _ _ _ _ _ _ _ _ _)]
  unfold kernelRun0_B
  dsimp only
  rw [View.canon_unit_zero corner]
  unfold k0_pay3
  simp only [View.readAt_eq_ld, (hs0_0 _).read_unread, (hs0_1 _).read_unread, (Memref.isWhole_whole _).read_unread,
    View.ld_unit_zero (S := S1024x2176) corner, View.ld_unit_zero (S := S2176x1024) corner, View.ld_unit_zero (S := S1024x1024) corner, shapeCast_self]
  rfl

/-- At the last point of a run the result's block is the scratch with the last product on top. -/
theorem last (c : Dev nD) (n : ℕ) (hn : n + 1 < cfg0.N) (h : (n + 1) % 4 = 3) :
    (outsAt0 m c (n + 1) hn).1
      = addf (outsAt0 m c n (Nat.lt_of_succ_lt hn)).2 (k0_pay1 (iblk m c 0 ⟨n + 1, hn⟩) (iblk m c 1 ⟨n + 1, hn⟩)) := by
  rw [outsAt0_C m c ⟨n + 1, hn⟩ (by dsimp only; omega) (by dsimp only; omega) h]
  dsimp only
  unfold out0_C_2
  rw [View.read_writes_eq_canon _ _ _ (cover0_C_2 c _ _ _ _ _ _ _ _ _ _ _ _ _ _ _)]
  unfold kernelRun0_C
  dsimp only
  rw [View.canon_unit_zero corner]
  sl_unfold_words
  rw [View.readCov_unit_zero (S := S1024x1024) _ corner]
  unfold k0_pay3
  simp only [View.readAt_eq_ld, (hs0_0 _).read_unread, (hs0_1 _).read_unread, (Memref.isWhole_whole _).read_unread,
    View.ld_unit_zero (S := S1024x2176) corner, View.ld_unit_zero (S := S2176x1024) corner, View.ld_unit_zero (S := S1024x1024) corner, shapeCast_self]
  rfl

end AnyFloats

/-! ## Over the reals -/

variable (m : (ℓ : Loc nD τ sig) → Buf (Elt Ideal) ℓ)

/-- One product of two blocks, element by element. -/
theorem product (x0 : Vec Ideal S1024x2176 .bf16) (x1 : Vec Ideal S2176x1024 .bf16) (j : S1024x1024.Idx) :
    k0_pay1 x0 x1 j = ∑ x : Fin 2176, x0 (ix2 (j 0) x) * x1 (ix2 x (j 1)) := by
  unfold k0_pay1
  show FloatOps.matmul (F := Ideal) (φ₁ := .bf16) (φ₂ := .bf16) dot_S1024x2176_S2176x1024_S1024x1024_1_0_0_1_n_n none x0 x1
    (constant S1024x1024 .f32 0x00000000#32) j = _
  rw [Ideal.matmul_constant_zero_apply,
    ← Equiv.sum_comp (ValueIdx.contrEquiv1 dot_S1024x2176_S2176x1024_S1024x1024_1_0_0_1_n_n 2176 rfl rfl).symm]
  refine Finset.sum_congr rfl fun k _ => ?_
  have hk := ValueIdx.contrEquiv1_symm_val dot_S1024x2176_S2176x1024_S1024x1024_1_0_0_1_n_n 2176 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val / 4 / 1 ∧ win0_0.index t (1 : Fin 2) = t.val % 4
    ∧ win0_1.index t (0 : Fin 2) = t.val % 4 ∧ win0_1.index t (1 : Fin 2) = t.val / 4 % 1
    ∧ win0_2.index t (0 : Fin 2) = t.val / 4 / 1 ∧ win0_2.index t (1 : Fin 2) = t.val / 4 % 1 :=
  (by decide +kernel : ∀ t : Fin grid0.N, _)

/-- The two operands as matrices. -/
abbrev argA (c : Dev nD) : S4096x8704.Idx → EReal := m ((c : Thread nD τ).loc main_arg0)
abbrev argB (c : Dev nD) : S8704x1024.Idx → EReal := m ((c : Thread nD τ).loc main_arg1)

/-- The left operand's block at a point, inside the whole operand. -/
theorem left_block (c : Dev nD) (t : Fin cfg0.N) (j : S1024x2176.Idx) :
    (iblk m c 0 t : Vec Ideal S1024x2176 .bf16) j
      = Blocks.cell (argA m c) (1024 * (t.val / 4 / 1) + (j 0).val) (2176 * (t.val % 4) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 2176 + 1 * (j 1).val = _; rw [e1]; omega

/-- The right operand's block at a point, inside the whole operand. -/
theorem right_block (c : Dev nD) (t : Fin cfg0.N) (j : S2176x1024.Idx) :
    (iblk m c 1 t : Vec Ideal S2176x1024 .bf16) j
      = Blocks.cell (argB m c) (2176 * (t.val % 4) + (j 0).val) (1024 * (t.val / 4 % 1) + (j 1).val) := by
  obtain ⟨-, -, e0, e1, -⟩ := visits t
  unfold iblk
  rw [View.read_apply]
  refine Blocks.cell_eq (argB m c) _ _ _ ?_ ?_
  · show win0_1.index t (0 : Fin 2) * 2176 + 1 * (j 0).val = _; rw [e0]; omega
  · show win0_1.index t (1 : Fin 2) * 1024 + 1 * (j 1).val = _; rw [e1]; omega

/-- The `k`-th summand of the element that lies at `j` in the result's block number `q`. -/
def summand (c : Dev nD) (j : S1024x1024.Idx) (q k : ℕ) : EReal :=
  Blocks.cell (argA m c) (1024 * (q / 1) + (j 0).val) k * Blocks.cell (argB m c) k (1024 * (q % 1) + (j 1).val)

/-- The product of the blocks visited at a point is one block of summands. -/
theorem product_at (c : Dev nD) (t : Fin cfg0.N) (j : S1024x1024.Idx) :
    k0_pay1 (iblk m c 0 t) (iblk m c 1 t) j = ∑ x : Fin 2176, summand m c j (t.val / 4) (2176 * (t.val % 4) + x.val) := by
  rw [product]
  refine Finset.sum_congr rfl fun x _ => ?_
  rw [left_block, right_block]
  rfl

/-- What the last point of a run leaves in the result's block. -/
theorem block_sum (c : Dev nD) (t : Fin cfg0.N) (h : t.val % 4 = 3) (j : S1024x1024.Idx) :
    (outsAt0 m c t.val t.isLt).1 j = ∑ k : Fin 8704, summand m c j (t.val / 4) k.val := by
  obtain ⟨_ | n, hn⟩ := t
  · exact absurd (show (0 : ℕ) % 4 = 3 from h) (by decide)
  have hc := Blocks.closing 4 2176 (by decide) (fun n h => (outsAt0 m c n h).2 j) (summand m c j)
    (fun n h h0 => by rw [first m c ⟨n, h⟩ h0]; exact product_at m c ⟨n, h⟩ j)
    (fun n h h0 h1 => by
      rw [next m c n h h0 h1]
      show (outsAt0 m c n _).2 j + k0_pay1 (iblk m c 0 ⟨n + 1, h⟩) (iblk m c 1 ⟨n + 1, h⟩) j = _
      rw [product_at])
    n hn h
  rw [← product_at m c ⟨n + 1, hn⟩ j] at hc
  dsimp only at h ⊢
  rw [last m c n hn h]
  exact hc

/-- The whole product, element by element. -/
def whole (c : Dev nD) : S4096x1024.Idx → EReal := fun i =>
  ∑ k : Fin 8704, argA m c (ix2 (i 0) k) * argB m c (ix2 k (i 1))

/-- The array the run leaves in the result. -/
theorem array (c : Dev nD) : (dats m 0 c).arrAt 2 cfg0.N = whole m c :=
  (dats m 0 c).arrAt_eq_of_cover 2 _ (fun t hf => by
    have ht := (flush0_2 t).mp hf
    rw [Value.flushed2]
    funext y
    rw [View.read_apply]
    show (outsAt0 m c t.val t.isLt).1 y = _
    rw [block_sum m c t ht y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) k.val _ (ix2 k (((cfg0.win 2).blk t).view.emb y 1)) rfl ?_).symm
    · show win0_2.index t (0 : Fin 2) * 1024 + 1 * (y 0).val = _; rw [e0]; omega
    · show win0_2.index t (1 : Fin 2) * 1024 + 1 * (y 1).val = _; rw [e1]; omega)
  (fun i => (Value.covered_iff2 i).2 (by
    have h0 : (i 0).val < 4096 := (i 0).isLt
    have h1 : (i 1).val < 1024 := (i 1).isLt
    omega))

end Cert.DhIdeal.Sum

end
-- ==== Proof.DhClaim.lean ====
/-
  Dh: the reference's result element by element, and the claims about the kernel, its reading over the reals and the
  reference.
-/
module

public import proofs.«01_k».proof.Proof.DhValue
public import proofs.«01_k».proof.Proof.Gen.Dh.Frame
public import proofs.«01_k».proof.Proof.Gen.DhRefIdeal.Run
public import proofs.«01_k».proof.Proof.Gen.DhRefIdeal.Read
public import proofs.«01_k».proof.Defs

@[expose] public section

set_option maxRecDepth 16384

noncomputable section

namespace Cert.Proof.Dh

open Idealize.ShloMosaic Idealize.ShloMosaic.TcCoe Idealize.SL.Sem
open Idealize.ShloMosaic.ValueIdx (ix2)
open scoped BigOperators

/-- The reference's result, element by element. -/
theorem reference (x0 : (⟨Cert.DhRefIdeal.S4096x8704, .bf16⟩ : BufTy).Contents (Elt Ideal))
    (x1 : (⟨Cert.DhRefIdeal.S8704x1024, .bf16⟩ : BufTy).Contents (Elt Ideal)) (i : Cert.DhRefIdeal.S4096x1024.Idx) :
    Cert.DhRefIdeal.Read.val_main_v5 (F := Ideal) x0 x1 i
      = (∑ k : Fin 8704, (x0 (ix2 (i 0) k) : EReal) * (x1 (ix2 k (i 1)) : EReal) : EReal) := by
  show Cert.DhRefIdeal.Read.val_main_v5 (F := Ideal) x0 x1 _ = _
  rw [Cert.DhRefIdeal.Read.val_main_v5_apply]
  refine Finset.sum_congr rfl fun k _ => ?_
  simp only [Cert.DhRefIdeal.Read.val_main_v2_apply]
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Dh := fun m ρ _ => Cert.Dh.Gen.frame m ρ

theorem frame_ideal : Cert.quiescent_DhIdeal := fun m ρ _ => Cert.DhIdeal.Gen.frame m ρ

theorem frame_reference : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

/-- The kernel's result is the reference's. -/
theorem algebraic : Cert.algebraic_DhIdeal_DhRefIdeal := by
  intro m ρ m' ρ' _ hagree
  refine ⟨fun c => Cert.DhIdeal.Sum.whole m c, ?_, ?_⟩
  · refine (θ_run Cert.DhIdeal.defs _ _).mono (fun _ h c => ?_) (Cert.DhIdeal.Value.run_blocks (F := Ideal) m ρ)
    exact ⟨(h c).1.trans (Cert.DhIdeal.Sum.array m c), (h c).2⟩
  · refine (θ_run Cert.DhRefIdeal.defs _ _).mono (fun _ h c => ?_) (Cert.DhRefIdeal.Value.run (F := Ideal) m' ρ')
    refine ⟨((h c).1.trans (Cert.DhRefIdeal.Read.val_main_v5_eq _ _)).trans ?_, (h c).2⟩
    funext i
    rw [reference, (hagree c).1, (hagree c).2]
    rfl

end Cert.Proof.Dh

end
-- ==== Proof.ProjValue.lean ====
/-
  Proj: the left operand times the transpose of the right operand, 4096 by 8704 with 1024 summands an element.
  Every point of the grid writes one block of the result, with the whole contracted axis in one product. Here: what a
  point leaves, and, over the reals, that the array after the run is the whole product.
-/
module

public import proofs.«01_k».proof.Proof.Blocks
public import Idealize.ShloMosaic.PureOps.Ideal.Laws
public import proofs.«01_k».proof.Proof.Gen.ProjIdeal.Value
public import proofs.«01_k».proof.Proof.Gen.ProjIdeal.Skeleton

@[expose] public section

set_option maxRecDepth 16384

noncomputable section

namespace Cert.ProjIdeal.Sum

open Cert.ProjIdeal Cert.ProjIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- What a point leaves in the result's block. -/
theorem point (c : Dev nD) (t : Fin cfg0.N) :
    outsAt0 m c t = truncf .bf16 (k0_pay1 (iblk m c 0 t) (iblk m c 1 t)) bitsLt_bf16_f32 := by
  unfold outsAt0 out0_A_2
  rw [View.read_writes_eq_canon _ _ _ (cover0_A_2 c _ _ _ _ _ _ _ _ _ _ _ _ _ _)]
  unfold kernelRun0_A
  dsimp only
  rw [View.canon_unit_zero corner]
  unfold k0_pay4
  dsimp only
  sl_unfold_words
  rw [View.readCov_unit_zero (S := S1024x2176) _ corner]
  unfold k0_pay2
  simp only [View.readAt_eq_ld, (hs0_0 t).read_unread, (hs0_1 t).read_unread, View.ld_unit_zero (S := S1024x1024) corner, View.ld_unit_zero (S := S2176x1024) corner, View.ld_unit_zero (S := S1024x2176) corner, shapeCast_self]

end AnyFloats

/-! ## Over the reals -/

variable (m : (ℓ : Loc nD τ sig) → Buf (Elt Ideal) ℓ)

/-- One product of two blocks, element by element. -/
theorem product (x0 : Vec Ideal S1024x1024 .bf16) (x1 : Vec Ideal S2176x1024 .bf16) (j : S1024x2176.Idx) :
    k0_pay1 x0 x1 j = ∑ x : Fin 1024, x0 (ix2 (j 0) x) * x1 (ix2 (j 1) x) := by
  unfold k0_pay1
  show FloatOps.matmul (F := Ideal) (φ₁ := .bf16) (φ₂ := .bf16) dot_S1024x1024_S2176x1024_S1024x2176_1_1_0_0_n_n none x0 x1
    (constant S1024x2176 .f32 0x00000000#32) j = _
  rw [Ideal.matmul_constant_zero_apply,
    ← Equiv.sum_comp (ValueIdx.contrEquiv1 dot_S1024x1024_S2176x1024_S1024x2176_1_1_0_0_n_n 1024 rfl rfl).symm]
  refine Finset.sum_congr rfl fun k _ => ?_
  have hk := ValueIdx.contrEquiv1_symm_val dot_S1024x1024_S2176x1024_S1024x2176_1_1_0_0_n_n 1024 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => rfl
    | ⟨1, _⟩ => exact (DotDims.rhsIdx_val_of_single _ rfl _ _).trans hk

/-- The block each window visits at a point. -/
theorem visits : ∀ t : Fin cfg0.N, win0_0.index t (0 : Fin 2) = t.val / 1 / 4 ∧ win0_0.index t (1 : Fin 2) = t.val % 1
    ∧ win0_1.index t (0 : Fin 2) = t.val / 1 % 4 ∧ win0_1.index t (1 : Fin 2) = t.val % 1
    ∧ win0_2.index t (0 : Fin 2) = t.val / 1 / 4 ∧ win0_2.index t (1 : Fin 2) = t.val / 1 % 4 :=
  (by decide +kernel : ∀ t : Fin grid0.N, _)

/-- The two operands as matrices. -/
abbrev argA (c : Dev nD) : S4096x1024.Idx → EReal := m ((c : Thread nD τ).loc main_arg0)
abbrev argB (c : Dev nD) : S8704x1024.Idx → EReal := m ((c : Thread nD τ).loc main_arg1)

/-- The left operand's block at a point, inside the whole operand. -/
theorem left_block (c : Dev nD) (t : Fin cfg0.N) (j : S1024x1024.Idx) :
    (iblk m c 0 t : Vec Ideal S1024x1024 .bf16) j
      = Blocks.cell (argA m c) (1024 * (t.val / 1 / 4) + (j 0).val) (1024 * (t.val % 1) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 1024 + 1 * (j 1).val = _; rw [e1]; omega

/-- The right operand's block at a point, inside the whole operand. -/
theorem right_block (c : Dev nD) (t : Fin cfg0.N) (j : S2176x1024.Idx) :
    (iblk m c 1 t : Vec Ideal S2176x1024 .bf16) j
      = Blocks.cell (argB m c) (2176 * (t.val / 1 % 4) + (j 0).val) (1024 * (t.val % 1) + (j 1).val) := by
  obtain ⟨-, -, e0, e1, -⟩ := visits t
  unfold iblk
  rw [View.read_apply]
  refine Blocks.cell_eq (argB m c) _ _ _ ?_ ?_
  · show win0_1.index t (0 : Fin 2) * 2176 + 1 * (j 0).val = _; rw [e0]; omega
  · show win0_1.index t (1 : Fin 2) * 1024 + 1 * (j 1).val = _; rw [e1]; omega

/-- The `k`-th summand of the element that lies at `j` in the result's block number `q`. -/
def summand (c : Dev nD) (j : S1024x2176.Idx) (q k : ℕ) : EReal :=
  Blocks.cell (argA m c) (1024 * (q / 4) + (j 0).val) k * Blocks.cell (argB m c) (2176 * (q % 4) + (j 1).val) k

/-- The product of the blocks visited at a point is one block of summands. -/
theorem product_at (c : Dev nD) (t : Fin cfg0.N) (j : S1024x2176.Idx) :
    k0_pay1 (iblk m c 0 t) (iblk m c 1 t) j = ∑ x : Fin 1024, summand m c j (t.val / 1) (1024 * (t.val % 1) + x.val) := by
  rw [product]
  refine Finset.sum_congr rfl fun x _ => ?_
  rw [left_block, right_block]
  rfl

/-- What a point leaves in the result's block, element by element. -/
theorem block_sum (c : Dev nD) (t : Fin cfg0.N) (j : S1024x2176.Idx) :
    outsAt0 m c t j = ∑ k : Fin 1024, summand m c j (t.val / 1) k.val := by
  rw [point]
  show k0_pay1 (iblk m c 0 t) (iblk m c 1 t) j = _
  rw [product_at]
  refine Finset.sum_congr rfl fun x _ => ?_
  rw [Nat.mod_one, Nat.mul_zero, Nat.zero_add]

theorem mem_block (t : Fin cfg0.N) (i : S4096x8704.Idx) :
    i ∈ ((cfg0.win 2).blk t).view.set ↔ ∀ a : Fin 2, win0_2.index t a * S1024x2176.size a ≤ (i a).val
      ∧ (i a).val < win0_2.index t a * S1024x2176.size a + S1024x2176.size a := by
  show i ∈ ((View.whole main_v0).slice (win0_2.rect t)).set ↔ _
  rw [View.set_slice_whole, Rect.mem_set_unit]
  exact Iff.rfl

/-- The blocks written back fill the result. -/
theorem filled (i : S4096x8704.Idx) : ∃ t : Fin cfg0.N, (cfg0.win 2).flush t = true ∧ i ∈ ((cfg0.win 2).blk t).view.set := by
  have h0 : (i 0).val < 4096 := (i 0).isLt
  have h1 : (i 1).val < 8704 := (i 1).isLt
  have hlt : (i 0).val / 1024 * 4 + (i 1).val / 2176 < 16 := by omega
  refine ⟨⟨(i 0).val / 1024 * 4 + (i 1).val / 2176, lt_of_lt_of_eq hlt N_0.symm⟩,
    (by decide +kernel : ∀ t : Fin grid0.N, win0_2.flush t = true) _, ?_⟩
  rw [mem_block]
  obtain ⟨-, -, -, -, e0, e1⟩ := visits ⟨(i 0).val / 1024 * 4 + (i 1).val / 2176, lt_of_lt_of_eq hlt N_0.symm⟩
  dsimp only at e0 e1
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 2176 ≤ (i 1).val ∧ (i 1).val < win0_2.index _ (1 : Fin 2) * 2176 + 2176
    rw [e1]; omega

/-- The whole product, element by element. -/
def whole (c : Dev nD) : S4096x8704.Idx → EReal := fun i =>
  ∑ k : Fin 1024, argA m c (ix2 (i 0) k) * argB m c (ix2 (i 1) k)

/-- The array the run leaves in the result. -/
theorem array (c : Dev nD) : (dats m 0 c).arrAt 2 cfg0.N = whole m c :=
  (dats m 0 c).arrAt_eq_of_cover 2 _ (fun t hf => by
    rw [Value.flushed2]
    funext y
    rw [View.read_apply]
    show outsAt0 m c t y = _
    rw [block_sum m c t y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) _ k.val (ix2 (((cfg0.win 2).blk t).view.emb y 1) k) ?_ rfl).symm
    · show win0_2.index t (0 : Fin 2) * 1024 + 1 * (y 0).val = _; rw [e0]; omega
    · show win0_2.index t (1 : Fin 2) * 2176 + 1 * (y 1).val = _; rw [e1]; omega)
  filled

end Cert.ProjIdeal.Sum

end
-- ==== Proof.ProjClaim.lean ====
/-
  Proj: the reference's result element by element, and the claims about the kernel, its reading over the reals and the
  reference.
-/
module

public import proofs.«01_k».proof.Proof.ProjValue
public import proofs.«01_k».proof.Proof.Gen.Proj.Frame
public import proofs.«01_k».proof.Proof.Gen.ProjRefIdeal.Run
public import proofs.«01_k».proof.Proof.Gen.ProjRefIdeal.Read
public import proofs.«01_k».proof.Defs

@[expose] public section

set_option maxRecDepth 16384

noncomputable section

namespace Cert.Proof.Proj

open Idealize.ShloMosaic Idealize.ShloMosaic.TcCoe Idealize.SL.Sem
open Idealize.ShloMosaic.ValueIdx (ix2)
open scoped BigOperators

/-- The reference's result, element by element. -/
theorem reference (x0 : (⟨Cert.ProjRefIdeal.S4096x1024, .bf16⟩ : BufTy).Contents (Elt Ideal))
    (x1 : (⟨Cert.ProjRefIdeal.S8704x1024, .bf16⟩ : BufTy).Contents (Elt Ideal)) (i : Cert.ProjRefIdeal.S4096x8704.Idx) :
    Cert.ProjRefIdeal.Read.val_main_v4 (F := Ideal) x0 x1 i
      = (∑ k : Fin 1024, (x0 (ix2 (i 0) k) : EReal) * (x1 (ix2 (i 1) k) : EReal) : EReal) := by
  show Cert.ProjRefIdeal.Read.val_main_v3 (F := Ideal) x0 x1 _ = _
  rw [Cert.ProjRefIdeal.Read.val_main_v3_apply]
  refine Finset.sum_congr rfl fun k _ => ?_
  simp only [Cert.ProjRefIdeal.Read.val_main_v2_apply]
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Proj := fun m ρ _ => Cert.Proj.Gen.frame m ρ

theorem frame_ideal : Cert.quiescent_ProjIdeal := fun m ρ _ => Cert.ProjIdeal.Gen.frame m ρ

theorem frame_reference : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The kernel's result is the reference's. -/
theorem algebraic : Cert.algebraic_ProjIdeal_ProjRefIdeal := by
  intro m ρ m' ρ' _ hagree
  refine ⟨fun c => Cert.ProjIdeal.Sum.whole m c, ?_, ?_⟩
  · refine (θ_run Cert.ProjIdeal.defs _ _).mono (fun _ h c => ?_) (Cert.ProjIdeal.Value.run_blocks (F := Ideal) m ρ)
    exact ⟨(h c).1.trans (Cert.ProjIdeal.Sum.array m c), (h c).2⟩
  · refine (θ_run Cert.ProjRefIdeal.defs _ _).mono (fun _ h c => ?_) (Cert.ProjRefIdeal.Value.run (F := Ideal) m' ρ')
    refine ⟨((h c).1.trans (Cert.ProjRefIdeal.Read.val_main_v4_eq _ _)).trans ?_, (h c).2⟩
    funext i
    rw [reference, (hagree c).1, (hagree c).2]
    rfl

end Cert.Proof.Proj

end
-- ==== Proof.YaValue.lean ====
/-
  Ya: the left operand times the right operand, 4096 by 1024 with 1024 summands an element.
  Every point of the grid writes one block of the result, with the whole contracted axis in one product. Here: what a
  point leaves, and, over the reals, that the array after the run is the whole product.
-/
module

public import proofs.«01_k».proof.Proof.Blocks
public import Idealize.ShloMosaic.PureOps.Ideal.Laws
public import proofs.«01_k».proof.Proof.Gen.YaIdeal.Value
public import proofs.«01_k».proof.Proof.Gen.YaIdeal.Skeleton

@[expose] public section

set_option maxRecDepth 16384

noncomputable section

namespace Cert.YaIdeal.Sum

open Cert.YaIdeal Cert.YaIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- What a point leaves in the result's block. -/
theorem point (c : Dev nD) (t : Fin cfg0.N) :
    outsAt0 m c t = truncf .bf16 (k0_pay1 (iblk m c 0 t) (iblk m c 1 t)) bitsLt_bf16_f32 := by
  unfold outsAt0 out0_A_2
  rw [View.read_writes_eq_canon _ _ _ (cover0_A_2 c _ _ _ _ _ _ _ _ _ _ _ _ _ _)]
  unfold kernelRun0_A
  dsimp only
  rw [View.canon_unit_zero corner]
  unfold k0_pay4
  dsimp only
  sl_unfold_words
  rw [View.readCov_unit_zero (S := S2048x1024) _ corner]
  unfold k0_pay2
  simp only [View.readAt_eq_ld, (hs0_0 t).read_unread, (hs0_1 t).read_unread, View.ld_unit_zero (S := S2048x1024) corner, View.ld_unit_zero (S := S1024x1024) corner, shapeCast_self]

end AnyFloats

/-! ## Over the reals -/

variable (m : (ℓ : Loc nD τ sig) → Buf (Elt Ideal) ℓ)

/-- One product of two blocks, element by element. -/
theorem product (x0 : Vec Ideal S2048x1024 .bf16) (x1 : Vec Ideal S1024x1024 .bf16) (j : S2048x1024.Idx) :
    k0_pay1 x0 x1 j = ∑ x : Fin 1024, x0 (ix2 (j 0) x) * x1 (ix2 x (j 1)) := by
  unfold k0_pay1
  show FloatOps.matmul (F := Ideal) (φ₁ := .bf16) (φ₂ := .bf16) dot_S2048x1024_S1024x1024_S2048x1024_1_0_0_1_n_n none x0 x1
    (constant S2048x1024 .f32 0x00000000#32) j = _
  rw [Ideal.matmul_constant_zero_apply,
    ← Equiv.sum_comp (ValueIdx.contrEquiv1 dot_S2048x1024_S1024x1024_S2048x1024_1_0_0_1_n_n 1024 rfl rfl).symm]
  refine Finset.sum_congr rfl fun k _ => ?_
  have hk := ValueIdx.contrEquiv1_symm_val dot_S2048x1024_S1024x1024_S2048x1024_1_0_0_1_n_n 1024 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val / 1 / 1 ∧ win0_0.index t (1 : Fin 2) = t.val % 1
    ∧ win0_1.index t (0 : Fin 2) = t.val % 1 ∧ win0_1.index t (1 : Fin 2) = t.val / 1 % 1
    ∧ win0_2.index t (0 : Fin 2) = t.val / 1 / 1 ∧ win0_2.index t (1 : Fin 2) = t.val / 1 % 1 :=
  (by decide +kernel : ∀ t : Fin grid0.N, _)

/-- The two operands as matrices. -/
abbrev argA (c : Dev nD) : S4096x1024.Idx → EReal := m ((c : Thread nD τ).loc main_arg0)
abbrev argB (c : Dev nD) : S1024x1024.Idx → EReal := m ((c : Thread nD τ).loc main_arg1)

/-- The left operand's block at a point, inside the whole operand. -/
theorem left_block (c : Dev nD) (t : Fin cfg0.N) (j : S2048x1024.Idx) :
    (iblk m c 0 t : Vec Ideal S2048x1024 .bf16) j
      = Blocks.cell (argA m c) (2048 * (t.val / 1 / 1) + (j 0).val) (1024 * (t.val % 1) + (j 1).val) := by
  obtain ⟨e0, e1, -⟩ := visits t
  unfold iblk
  rw [View.read_apply]
  refine Blocks.cell_eq (argA m c) _ _ _ ?_ ?_
  · show win0_0.index t (0 : Fin 2) * 2048 + 1 * (j 0).val = _; rw [e0]; omega
  · show win0_0.index t (1 : Fin 2) * 1024 + 1 * (j 1).val = _; rw [e1]; omega

/-- The right operand's block at a point, inside the whole operand. -/
theorem right_block (c : Dev nD) (t : Fin cfg0.N) (j : S1024x1024.Idx) :
    (iblk m c 1 t : Vec Ideal S1024x1024 .bf16) j
      = Blocks.cell (argB m c) (1024 * (t.val % 1) + (j 0).val) (1024 * (t.val / 1 % 1) + (j 1).val) := by
  obtain ⟨-, -, e0, e1, -⟩ := visits t
  unfold iblk
  rw [View.read_apply]
  refine Blocks.cell_eq (argB m c) _ _ _ ?_ ?_
  · show win0_1.index t (0 : Fin 2) * 1024 + 1 * (j 0).val = _; rw [e0]; omega
  · show win0_1.index t (1 : Fin 2) * 1024 + 1 * (j 1).val = _; rw [e1]; omega

/-- The `k`-th summand of the element that lies at `j` in the result's block number `q`. -/
def summand (c : Dev nD) (j : S2048x1024.Idx) (q k : ℕ) : EReal :=
  Blocks.cell (argA m c) (2048 * (q / 1) + (j 0).val) k * Blocks.cell (argB m c) k (1024 * (q % 1) + (j 1).val)

/-- The product of the blocks visited at a point is one block of summands. -/
theorem product_at (c : Dev nD) (t : Fin cfg0.N) (j : S2048x1024.Idx) :
    k0_pay1 (iblk m c 0 t) (iblk m c 1 t) j = ∑ x : Fin 1024, summand m c j (t.val / 1) (1024 * (t.val % 1) + x.val) := by
  rw [product]
  refine Finset.sum_congr rfl fun x _ => ?_
  rw [left_block, right_block]
  rfl

/-- What a point leaves in the result's block, element by element. -/
theorem block_sum (c : Dev nD) (t : Fin cfg0.N) (j : S2048x1024.Idx) :
    outsAt0 m c t j = ∑ k : Fin 1024, summand m c j (t.val / 1) k.val := by
  rw [point]
  show k0_pay1 (iblk m c 0 t) (iblk m c 1 t) j = _
  rw [product_at]
  refine Finset.sum_congr rfl fun x _ => ?_
  rw [Nat.mod_one, Nat.mul_zero, Nat.zero_add]

theorem mem_block (t : Fin cfg0.N) (i : S4096x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The blocks written back fill the result. -/
theorem filled (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have hlt : (i 0).val / 2048 * 1 + (i 1).val / 1024 < 2 := by omega
  refine ⟨⟨(i 0).val / 2048 * 1 + (i 1).val / 1024, lt_of_lt_of_eq hlt N_0.symm⟩,
    (by decide +kernel : ∀ t : Fin grid0.N, win0_2.flush t = true) _, ?_⟩
  rw [mem_block]
  obtain ⟨-, -, -, -, e0, e1⟩ := visits ⟨(i 0).val / 2048 * 1 + (i 1).val / 1024, lt_of_lt_of_eq hlt N_0.symm⟩
  dsimp only at e0 e1
  intro a
  match a with
  | ⟨0, _⟩ =>
    show win0_2.index _ (0 : Fin 2) * 2048 ≤ (i 0).val ∧ (i 0).val < win0_2.index _ (0 : Fin 2) * 2048 + 2048
    rw [e0]; omega
  | ⟨1, _⟩ =>
    show win0_2.index _ (1 : Fin 2) * 1024 ≤ (i 1).val ∧ (i 1).val < win0_2.index _ (1 : Fin 2) * 1024 + 1024
    rw [e1]; omega

/-- The whole product, element by element. -/
def whole (c : Dev nD) : S4096x1024.Idx → EReal := fun i =>
  ∑ k : Fin 1024, argA m c (ix2 (i 0) k) * argB m c (ix2 k (i 1))

/-- The array the run leaves in the result. -/
theorem array (c : Dev nD) : (dats m 0 c).arrAt 2 cfg0.N = whole m c :=
  (dats m 0 c).arrAt_eq_of_cover 2 _ (fun t hf => by
    rw [Value.flushed2]
    funext y
    rw [View.read_apply]
    show outsAt0 m c t y = _
    rw [block_sum m c t y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) k.val _ (ix2 k (((cfg0.win 2).blk t).view.emb y 1)) rfl ?_).symm
    · show win0_2.index t (0 : Fin 2) * 2048 + 1 * (y 0).val = _; rw [e0]; omega
    · show win0_2.index t (1 : Fin 2) * 1024 + 1 * (y 1).val = _; rw [e1]; omega)
  filled

end Cert.YaIdeal.Sum

end
-- ==== Proof.YaClaim.lean ====
/-
  Ya: the reference's result element by element, and the claims about the kernel, its reading over the reals and the
  reference.
-/
module

public import proofs.«01_k».proof.Proof.YaValue
public import proofs.«01_k».proof.Proof.Gen.Ya.Frame
public import proofs.«01_k».proof.Proof.Gen.YaRefIdeal.Run
public import proofs.«01_k».proof.Proof.Gen.YaRefIdeal.Read
public import proofs.«01_k».proof.Defs

@[expose] public section

set_option maxRecDepth 16384

noncomputable section

namespace Cert.Proof.Ya

open Idealize.ShloMosaic Idealize.ShloMosaic.TcCoe Idealize.SL.Sem
open Idealize.ShloMosaic.ValueIdx (ix2)
open scoped BigOperators

/-- The reference's result, element by element. -/
theorem reference (x0 : (⟨Cert.YaRefIdeal.S4096x1024, .bf16⟩ : BufTy).Contents (Elt Ideal))
    (x1 : (⟨Cert.YaRefIdeal.S1024x1024, .bf16⟩ : BufTy).Contents (Elt Ideal)) (i : Cert.YaRefIdeal.S4096x1024.Idx) :
    Cert.YaRefIdeal.Read.val_main_v3 (F := Ideal) x0 x1 i
      = (∑ k : Fin 1024, (x0 (ix2 (i 0) k) : EReal) * (x1 (ix2 k (i 1)) : EReal) : EReal) := by
  show Cert.YaRefIdeal.Read.val_main_v2 (F := Ideal) x0 x1 _ = _
  rw [Cert.YaRefIdeal.Read.val_main_v2_apply]
  refine Finset.sum_congr rfl fun k _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Ya := fun m ρ _ => Cert.Ya.Gen.frame m ρ

theorem frame_ideal : Cert.quiescent_YaIdeal := fun m ρ _ => Cert.YaIdeal.Gen.frame m ρ

theorem frame_reference : Cert.quiescent_YaRefIdeal := fun m ρ _ =>
  (θ_run Cert.YaRefIdeal.defs _ _).mono (fun r h => ⟨fun c => (h c).2, sem_eq_zero_of_no_sems (by decide) r.2⟩)
    (Cert.YaRefIdeal.Value.run (F := Ideal) m ρ)

/-- The kernel's result is the reference's. -/
theorem algebraic : Cert.algebraic_YaIdeal_YaRefIdeal := by
  intro m ρ m' ρ' _ hagree
  refine ⟨fun c => Cert.YaIdeal.Sum.whole m c, ?_, ?_⟩
  · refine (θ_run Cert.YaIdeal.defs _ _).mono (fun _ h c => ?_) (Cert.YaIdeal.Value.run_blocks (F := Ideal) m ρ)
    exact ⟨(h c).1.trans (Cert.YaIdeal.Sum.array m c), (h c).2⟩
  · refine (θ_run Cert.YaRefIdeal.defs _ _).mono (fun _ h c => ?_) (Cert.YaRefIdeal.Value.run (F := Ideal) m' ρ')
    refine ⟨((h c).1.trans (Cert.YaRefIdeal.Read.val_main_v3_eq _ _)).trans ?_, (h c).2⟩
    funext i
    rw [reference, (hagree c).1, (hagree c).2]
    rfl

end Cert.Proof.Ya

end
-- ==== Proof.GuValue.lean ====
/-
  Gu: the left operand times the transpose of the right operand, 4096 by 5632 with 1024 summands an element.
  Every point of the grid writes one block of the result, with the whole contracted axis in one product. Here: what a
  point leaves, and, over the reals, that the array after the run is the whole product.
-/
module

public import proofs.«01_k».proof.Proof.Blocks
public import Idealize.ShloMosaic.PureOps.Ideal.Laws
public import proofs.«01_k».proof.Proof.Gen.GuIdeal.Value
public import proofs.«01_k».proof.Proof.Gen.GuIdeal.Skeleton

@[expose] public section

set_option maxRecDepth 16384

noncomputable section

namespace Cert.GuIdeal.Sum

open Cert.GuIdeal Cert.GuIdeal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- What a point leaves in the result's block. -/
theorem point (c : Dev nD) (t : Fin cfg0.N) :
    outsAt0 m c t = truncf .bf16 (k0_pay1 (iblk m c 0 t) (iblk m c 1 t)) bitsLt_bf16_f32 := by
  unfold outsAt0 out0_A_2
  rw [View.read_writes_eq_canon _ _ _ (cover0_A_2 c _ _ _ _ _ _ _ _ _ _ _ _ _ _)]
  unfold kernelRun0_A
  dsimp only
  rw [View.canon_unit_zero corner]
  unfold k0_pay4
  dsimp only
  sl_unfold_words
  rw [View.readCov_unit_zero (S := S1024x1408) _ corner]
  unfold k0_pay2
  simp only [View.readAt_eq_ld, (hs0_0 t).read_unread, (hs0_1 t).read_unread, View.ld_unit_zero (S := S1024x1024) corner, View.ld_unit_zero (S := S1408x1024) corner, View.ld_unit_zero (S := S1024x1408) corner, shapeCast_self]

end AnyFloats

/-! ## Over the reals -/

variable (m : (ℓ : Loc nD τ sig) → Buf (Elt Ideal) ℓ)

/-- One product of two blocks, element by element. -/
theorem product (x0 : Vec Ideal S1024x1024 .bf16) (x1 : Vec Ideal S1408x1024 .bf16) (j : S1024x1408.Idx) :
    k0_pay1 x0 x1 j = ∑ x : Fin 1024, x0 (ix2 (j 0) x) * x1 (ix2 (j 1) x) := by
  unfold k0_pay1
  show FloatOps.matmul (F := Ideal) (φ₁ := .bf16) (φ₂ := .bf16) dot_S1024x1024_S1408x1024_S1024x1408_1_1_0_0_n_n none x0 x1
    (constant S1024x1408 .f32 0x00000000#32) j = _
  rw [Ideal.matmul_constant_zero_apply,
    ← Equiv.sum_comp (ValueIdx.contrEquiv1 dot_S1024x1024_S1408x1024_S1024x1408_1_1_0_0_n_n 1024 rfl rfl).symm]
  refine Finset.sum_congr rfl fun k _ => ?_
  have hk := ValueIdx.contrEquiv1_symm_val dot_S1024x1024_S1408x1024_S1024x1408_1_1_0_0_n_n 1024 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => rfl
    | ⟨1, _⟩ => exact (DotDims.rhsIdx_val_of_single _ rfl _ _).trans hk

/-- The block each window visits at a point. -/
theorem visits : ∀ t : Fin cfg0.N, win0_0.index t (0 : Fin 2) = t.val / 1 / 4 ∧ win0_0.index t (1 : Fin 2) = t.val % 1
    ∧ win0_1.index t (0 : Fin 2) = t.val / 1 % 4 ∧ win0_1.index t (1 : Fin 2) = t.val % 1
    ∧ win0_2.index t (0 : Fin 2) = t.val / 1 / 4 ∧ win0_2.index t (1 : Fin 2) = t.val / 1 % 4 :=
  (by decide +kernel : ∀ t : Fin grid0.N, _)

/-- The two operands as matrices. -/
abbrev argA (c : Dev nD) : S4096x1024.Idx → EReal := m ((c : Thread nD τ).loc main_arg0)
abbrev argB (c : Dev nD) : S5632x1024.Idx → EReal := m ((c : Thread nD τ).loc main_arg1)

/-- The left operand's block at a point, inside the whole operand. -/
theorem left_block (c : Dev nD) (t : Fin cfg0.N) (j : S1024x1024.Idx) :
    (iblk m c 0 t : Vec Ideal S1024x1024 .bf16) j
      = Blocks.cell (argA m c) (1024 * (t.val / 1 / 4) + (j 0).val) (1024 * (t.val % 1) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 1024 + 1 * (j 1).val = _; rw [e1]; omega

/-- The right operand's block at a point, inside the whole operand. -/
theorem right_block (c : Dev nD) (t : Fin cfg0.N) (j : S1408x1024.Idx) :
    (iblk m c 1 t : Vec Ideal S1408x1024 .bf16) j
      = Blocks.cell (argB m c) (1408 * (t.val / 1 % 4) + (j 0).val) (1024 * (t.val % 1) + (j 1).val) := by
  obtain ⟨-, -, e0, e1, -⟩ := visits t
  unfold iblk
  rw [View.read_apply]
  refine Blocks.cell_eq (argB m c) _ _ _ ?_ ?_
  · show win0_1.index t (0 : Fin 2) * 1408 + 1 * (j 0).val = _; rw [e0]; omega
  · show win0_1.index t (1 : Fin 2) * 1024 + 1 * (j 1).val = _; rw [e1]; omega

/-- The `k`-th summand of the element that lies at `j` in the result's block number `q`. -/
def summand (c : Dev nD) (j : S1024x1408.Idx) (q k : ℕ) : EReal :=
  Blocks.cell (argA m c) (1024 * (q / 4) + (j 0).val) k * Blocks.cell (argB m c) (1408 * (q % 4) + (j 1).val) k

/-- The product of the blocks visited at a point is one block of summands. -/
theorem product_at (c : Dev nD) (t : Fin cfg0.N) (j : S1024x1408.Idx) :
    k0_pay1 (iblk m c 0 t) (iblk m c 1 t) j = ∑ x : Fin 1024, summand m c j (t.val / 1) (1024 * (t.val % 1) + x.val) := by
  rw [product]
  refine Finset.sum_congr rfl fun x _ => ?_
  rw [left_block, right_block]
  rfl

/-- What a point leaves in the result's block, element by element. -/
theorem block_sum (c : Dev nD) (t : Fin cfg0.N) (j : S1024x1408.Idx) :
    outsAt0 m c t j = ∑ k : Fin 1024, summand m c j (t.val / 1) k.val := by
  rw [point]
  show k0_pay1 (iblk m c 0 t) (iblk m c 1 t) j = _
  rw [product_at]
  refine Finset.sum_congr rfl fun x _ => ?_
  rw [Nat.mod_one, Nat.mul_zero, Nat.zero_add]

theorem mem_block (t : Fin cfg0.N) (i : S4096x5632.Idx) :
    i ∈ ((cfg0.win 2).blk t).view.set ↔ ∀ a : Fin 2, win0_2.index t a * S1024x1408.size a ≤ (i a).val
      ∧ (i a).val < win0_2.index t a * S1024x1408.size a + S1024x1408.size a := by
  show i ∈ ((View.whole main_v0).slice (win0_2.rect t)).set ↔ _
  rw [View.set_slice_whole, Rect.mem_set_unit]
  exact Iff.rfl

/-- The blocks written back fill the result. -/
theorem filled (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have hlt : (i 0).val / 1024 * 4 + (i 1).val / 1408 < 16 := by omega
  refine ⟨⟨(i 0).val / 1024 * 4 + (i 1).val / 1408, lt_of_lt_of_eq hlt N_0.symm⟩,
    (by decide +kernel : ∀ t : Fin grid0.N, win0_2.flush t = true) _, ?_⟩
  rw [mem_block]
  obtain ⟨-, -, -, -, e0, e1⟩ := visits ⟨(i 0).val / 1024 * 4 + (i 1).val / 1408, lt_of_lt_of_eq hlt N_0.symm⟩
  dsimp only at e0 e1
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1408 ≤ (i 1).val ∧ (i 1).val < win0_2.index _ (1 : Fin 2) * 1408 + 1408
    rw [e1]; omega

/-- The whole product, element by element. -/
def whole (c : Dev nD) : S4096x5632.Idx → EReal := fun i =>
  ∑ k : Fin 1024, argA m c (ix2 (i 0) k) * argB m c (ix2 (i 1) k)

/-- The array the run leaves in the result. -/
theorem array (c : Dev nD) : (dats m 0 c).arrAt 2 cfg0.N = whole m c :=
  (dats m 0 c).arrAt_eq_of_cover 2 _ (fun t hf => by
    rw [Value.flushed2]
    funext y
    rw [View.read_apply]
    show outsAt0 m c t y = _
    rw [block_sum m c t y]
    obtain ⟨-, -, -, -, e0, e1⟩ := visits t
    unfold whole summand
    refine Finset.sum_congr rfl fun k _ => ?_
    refine congrArg₂ (· * ·) (Blocks.cell_eq (argA m c) _ k.val (ix2 (((cfg0.win 2).blk t).view.emb y 0) k) ?_ rfl).symm
      (Blocks.cell_eq (argB m c) _ k.val (ix2 (((cfg0.win 2).blk t).view.emb y 1) k) ?_ rfl).symm
    · show win0_2.index t (0 : Fin 2) * 1024 + 1 * (y 0).val = _; rw [e0]; omega
    · show win0_2.index t (1 : Fin 2) * 1408 + 1 * (y 1).val = _; rw [e1]; omega)
  filled

end Cert.GuIdeal.Sum

end
-- ==== Proof.GuClaim.lean ====
/-
  Gu: the reference's result element by element, and the claims about the kernel, its reading over the reals and the
  reference.
-/
module

public import proofs.«01_k».proof.Proof.GuValue
public import proofs.«01_k».proof.Proof.Gen.Gu.Frame
public import proofs.«01_k».proof.Proof.Gen.GuRefIdeal.Run
public import proofs.«01_k».proof.Proof.Gen.GuRefIdeal.Read
public import proofs.«01_k».proof.Defs

@[expose] public section

set_option maxRecDepth 16384

noncomputable section

namespace Cert.Proof.Gu

open Idealize.ShloMosaic Idealize.ShloMosaic.TcCoe Idealize.SL.Sem
open Idealize.ShloMosaic.ValueIdx (ix2)
open scoped BigOperators

/-- The reference's result, element by element. -/
theorem reference (x0 : (⟨Cert.GuRefIdeal.S4096x1024, .bf16⟩ : BufTy).Contents (Elt Ideal))
    (x1 : (⟨Cert.GuRefIdeal.S5632x1024, .bf16⟩ : BufTy).Contents (Elt Ideal)) (i : Cert.GuRefIdeal.S4096x5632.Idx) :
    Cert.GuRefIdeal.Read.val_main_v4 (F := Ideal) x0 x1 i
      = (∑ k : Fin 1024, (x0 (ix2 (i 0) k) : EReal) * (x1 (ix2 (i 1) k) : EReal) : EReal) := by
  show Cert.GuRefIdeal.Read.val_main_v3 (F := Ideal) x0 x1 _ = _
  rw [Cert.GuRefIdeal.Read.val_main_v3_apply]
  refine Finset.sum_congr rfl fun k _ => ?_
  simp only [Cert.GuRefIdeal.Read.val_main_v2_apply]
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_Gu := fun m ρ _ => Cert.Gu.Gen.frame m ρ

theorem frame_ideal : Cert.quiescent_GuIdeal := fun m ρ _ => Cert.GuIdeal.Gen.frame m ρ

theorem frame_reference : Cert.quiescent_GuRefIdeal := fun m ρ _ =>
  (θ_run Cert.GuRefIdeal.defs _ _).mono (fun r h => ⟨fun c => (h c).2, sem_eq_zero_of_no_sems (by decide) r.2⟩)
    (Cert.GuRefIdeal.Value.run (F := Ideal) m ρ)

/-- The kernel's result is the reference's. -/
theorem algebraic : Cert.algebraic_GuIdeal_GuRefIdeal := by
  intro m ρ m' ρ' _ hagree
  refine ⟨fun c => Cert.GuIdeal.Sum.whole m c, ?_, ?_⟩
  · refine (θ_run Cert.GuIdeal.defs _ _).mono (fun _ h c => ?_) (Cert.GuIdeal.Value.run_blocks (F := Ideal) m ρ)
    exact ⟨(h c).1.trans (Cert.GuIdeal.Sum.array m c), (h c).2⟩
  · refine (θ_run Cert.GuRefIdeal.defs _ _).mono (fun _ h c => ?_) (Cert.GuRefIdeal.Value.run (F := Ideal) m' ρ')
    refine ⟨((h c).1.trans (Cert.GuRefIdeal.Read.val_main_v4_eq _ _)).trans ?_, (h c).2⟩
    funext i
    rw [reference, (hagree c).1, (hagree c).2]
    rfl

end Cert.Proof.Gu

end
-- ==== Proof.X2Value.lean ====
/-
  X2: the left operand times the right operand, 4096 by 1024 with 2816 summands an element.
  Every point of the grid writes one block of the result, with the whole contracted axis in one product. Here: what a
  point leaves, and, over the reals, that the array after the run is the whole product.
-/
module

public import proofs.«01_k».proof.Proof.Blocks
public import Idealize.ShloMosaic.PureOps.Ideal.Laws
public import proofs.«01_k».proof.Proof.Gen.X2Ideal.Value
public import proofs.«01_k».proof.Proof.Gen.X2Ideal.Skeleton

@[expose] public section

set_option maxRecDepth 16384

noncomputable section

namespace Cert.X2Ideal.Sum

open Cert.X2Ideal Cert.X2Ideal.Gen Idealize.ShloMosaic Idealize.ShloMosaic.TcCoe Idealize.SL.Sem
open Idealize.ShloMosaic.Pipeline (Dat)
open Idealize.ShloMosaic.ValueIdx (ix2)
open scoped BigOperators

section AnyFloats

variable {F : FTy → Type} [FloatOps F]
variable (m : (ℓ : Loc nD τ sig) → Buf (Elt F) ℓ)

theorem corner : (![0, 0] : Fin 2 → Nat) = fun _ => 0 := funext fun a => by fin_cases a <;> rfl

/-- What a point leaves in the result's block. -/
theorem point (c : Dev nD) (t : Fin cfg0.N) :
    outsAt0 m c t = addf (k0_pay1 (iblk m c 0 t) (iblk m c 1 t)) (iblk m c 2 t : Vec F S1024x512 .f32) := by
  unfold outsAt0 out0_A_3
  rw [View.read_writes_eq_canon _ _ _ (cover0_A_3 c _ _ _ _ _ _ _ _ _ _ _ _ _ _ _ _ _)]
  unfold kernelRun0_A
  dsimp only
  rw [View.canon_unit_zero corner]
  unfold k0_pay4
  dsimp only
  sl_unfold_words
  rw [View.readCov_unit_zero (S := S1024x512) _ corner]
  unfold k0_pay2
  simp only [View.readAt_eq_ld, (hs0_0 t).read_unread, (hs0_1 t).read_unread, (hs0_2 t).read_unread, View.ld_unit_zero (S := S1024x2816) corner, View.ld_unit_zero (S := S2816x512) corner, View.ld_unit_zero (S := S1024x512) corner, shapeCast_self]

end AnyFloats

/-! ## Over the reals -/

variable (m : (ℓ : Loc nD τ sig) → Buf (Elt Ideal) ℓ)

/-- One product of two blocks, element by element. -/
theorem product (x0 : Vec Ideal S1024x2816 .bf16) (x1 : Vec Ideal S2816x512 .bf16) (j : S1024x512.Idx) :
    k0_pay1 x0 x1 j = ∑ x : Fin 2816, x0 (ix2 (j 0) x) * x1 (ix2 x (j 1)) := by
  unfold k0_pay1
  show FloatOps.matmul (F := Ideal) (φ₁ := .bf16) (φ₂ := .bf16) dot_S1024x2816_S2816x512_S1024x512_1_0_0_1_n_n none x0 x1
    (constant S1024x512 .f32 0x00000000#32) j = _
  rw [Ideal.matmul_constant_zero_apply,
    ← Equiv.sum_comp (ValueIdx.contrEquiv1 dot_S1024x2816_S2816x512_S1024x512_1_0_0_1_n_n 2816 rfl rfl).symm]
  refine Finset.sum_congr rfl fun k _ => ?_
  have hk := ValueIdx.contrEquiv1_symm_val dot_S1024x2816_S2816x512_S1024x512_1_0_0_1_n_n 2816 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

/-- The block each window visits at a point. -/
theorem visits : ∀ t : Fin cfg0.N, win0_0.index t (0 : Fin 2) = t.val / 1 / 2 ∧ win0_0.index t (1 : Fin 2) = t.val % 1
    ∧ win0_1.index t (0 : Fin 2) = t.val % 1 ∧ win0_1.index t (1 : Fin 2) = t.val / 1 % 2
    ∧ win0_3.index t (0 : Fin 2) = t.val / 1 / 2 ∧ win0_3.index t (1 : Fin 2) = t.val / 1 % 2 :=
  (by decide +kernel : ∀ t : Fin grid0.N, _)

/-- The two operands as matrices. -/
abbrev argA (c : Dev nD) : S4096x2816.Idx → EReal := m ((c : Thread nD τ).loc main_arg0)
abbrev argB (c : Dev nD) : S2816x1024.Idx → EReal := m ((c : Thread nD τ).loc main_arg1)

/-- The left operand's block at a point, inside the whole operand. -/
theorem left_block (c : Dev nD) (t : Fin cfg0.N) (j : S1024x2816.Idx) :
    (iblk m c 0 t : Vec Ideal S1024x2816 .bf16) j
      = Blocks.cell (argA m c) (1024 * (t.val / 1 / 2) + (j 0).val) (2816 * (t.val % 1) + (j 1).val) := by
  obtain ⟨e0, e1, -⟩ := visits t
  unfold iblk
  rw [View.read_apply]
  refine Blocks.cell_eq (argA m c) _ _ _ ?_ ?_
  · show win0_0.index t (0 : Fin 2) * 1024 + 1 * (j 0).val = _; rw [e0]; omega
  · show win0_0.index t (1 : Fin 2) * 2816 + 1 * (j 1).val = _; rw [e1]; omega

/-- The right operand's block at a point, inside the whole operand. -/
theorem right_block (c : Dev nD) (t : Fin cfg0.N) (j : S2816x512.Idx) :
    (iblk m c 1 t : Vec Ideal S2816x512 .bf16) j
      = Blocks.cell (argB m c) (2816 * (t.val % 1) + (j 0).val) (512 * (t.val / 1 % 2) + (j 1).val) := by
  obtain ⟨-, -, e0, e1, -⟩ := visits t
  unfold iblk
  rw [View.read_apply]
  refine Blocks.cell_eq (argB m c) _ _ _ ?_ ?_
  · show win0_1.index t (0 : Fin 2) * 2816 + 1 * (j 0).val = _; rw [e0]; omega
  · show win0_1.index t (1 : Fin 2) * 512 + 1 * (j 1).val = _; rw [e1]; omega

/-- The `k`-th summand of the element that lies at `j` in the result's block number `q`. -/
def summand (c : Dev nD) (j : S1024x512.Idx) (q k : ℕ) : EReal :=
  Blocks.cell (argA m c) (1024 * (q / 2) + (j 0).val) k * Blocks.cell (argB m c) k (512 * (q % 2) + (j 1).val)

/-- The product of the blocks visited at a point is one block of summands. -/
theorem product_at (c : Dev nD) (t : Fin cfg0.N) (j : S1024x512.Idx) :
    k0_pay1 (iblk m c 0 t) (iblk m c 1 t) j = ∑ x : Fin 2816, summand m c j (t.val / 1) (2816 * (t.val % 1) + x.val) := by
  rw [product]
  refine Finset.sum_congr rfl fun x _ => ?_
  rw [left_block, right_block]
  rfl

/-- The array the product is added to. -/
abbrev argR (c : Dev nD) : S4096x1024.Idx → EReal := m ((c : Thread nD τ).loc main_arg2)

theorem visits_added : ∀ t : Fin cfg0.N, win0_2.index t (0 : Fin 2) = t.val / 1 / 2 ∧ win0_2.index t (1 : Fin 2) = t.val / 1 % 2 :=
  (by decide +kernel : ∀ t : Fin grid0.N, _)

/-- Its block at a point, inside the whole array. -/
theorem added_block (c : Dev nD) (t : Fin cfg0.N) (j : S1024x512.Idx) :
    (iblk m c 2 t : Vec Ideal S1024x512 .f32) j = Blocks.cell (argR m c) (1024 * (t.val / 1 / 2) + (j 0).val) (512 * (t.val / 1 % 2) + (j 1).val) := by
  obtain ⟨e0, e1⟩ := visits_added t
  unfold iblk
  rw [View.read_apply]
  refine Blocks.cell_eq (argR m c) _ _ _ ?_ ?_
  · show win0_2.index t (0 : Fin 2) * 1024 + 1 * (j 0).val = _; rw [e0]; omega
  · show win0_2.index t (1 : Fin 2) * 512 + 1 * (j 1).val = _; rw [e1]; omega

/-- What a point leaves in the result's block, element by element. -/
theorem block_sum (c : Dev nD) (t : Fin cfg0.N) (j : S1024x512.Idx) :
    outsAt0 m c t j = Blocks.cell (argR m c) (1024 * (t.val / 1 / 2) + (j 0).val) (512 * (t.val / 1 % 2) + (j 1).val) + ∑ k : Fin 2816, summand m c j (t.val / 1) k.val := by
  rw [point]
  show (k0_pay1 (iblk m c 0 t) (iblk m c 1 t) j : EReal) + ((iblk m c 2 t : Vec Ideal S1024x512 .f32) j : EReal) = _
  rw [product_at, added_block, add_comm]
  refine congrArg₂ (· + ·) rfl ?_
  refine Finset.sum_congr rfl fun x _ => ?_
  rw [Nat.mod_one, Nat.mul_zero, Nat.zero_add]

theorem mem_block (t : Fin cfg0.N) (i : S4096x1024.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- The blocks written back fill the result. -/
theorem filled (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hlt : (i 0).val / 1024 * 2 + (i 1).val / 512 < 8 := by omega
  refine ⟨⟨(i 0).val / 1024 * 2 + (i 1).val / 512, lt_of_lt_of_eq hlt N_0.symm⟩,
    (by decide +kernel : ∀ t : Fin grid0.N, win0_3.flush t = true) _, ?_⟩
  rw [mem_block]
  obtain ⟨-, -, -, -, e0, e1⟩ := visits ⟨(i 0).val / 1024 * 2 + (i 1).val / 512, lt_of_lt_of_eq hlt N_0.symm⟩
  dsimp only at e0 e1
  intro a
  match a with
  | ⟨0, _⟩ =>
    show win0_3.index _ (0 : Fin 2) * 1024 ≤ (i 0).val ∧ (i 0).val < win0_3.index _ (0 : Fin 2) * 1024 + 1024
    rw [e0]; omega
  | ⟨1, _⟩ =>
    show win0_3.index _ (1 : Fin 2) * 512 ≤ (i 1).val ∧ (i 1).val < win0_3.index _ (1 : Fin 2) * 512 + 512
    rw [e1]; omega

/-- The whole product, element by element, on top of the third argument. -/
def whole (c : Dev nD) : S4096x1024.Idx → EReal := fun i =>
  argR m c i + ∑ k : Fin 2816, argA m c (ix2 (i 0) k) * argB m c (ix2 k (i 1))

/-- The array the run leaves in the result. -/
theorem array (c : Dev nD) : (dats m 0 c).arrAt 3 cfg0.N = whole m c :=
  (dats m 0 c).arrAt_eq_of_cover 3 _ (fun t hf => by
    rw [Value.flushed3]
    funext y
    rw [View.read_apply]
    show outsAt0 m c t y = _
    rw [block_sum m c t y]
    obtain ⟨-, -, -, -, e0, e1⟩ := visits t
    unfold whole summand
    refine congrArg₂ (· + ·) (Blocks.cell_eq (argR m c) _ _ (((cfg0.win 3).blk t).view.emb y) ?_ ?_).symm ?_
    · show win0_3.index t (0 : Fin 2) * 1024 + 1 * (y 0).val = _; rw [e0]; omega
    · show win0_3.index t (1 : Fin 2) * 512 + 1 * (y 1).val = _; rw [e1]; omega
    refine Finset.sum_congr rfl fun k _ => ?_
    refine congrArg₂ (· * ·) (Blocks.cell_eq (argA m c) _ k.val (ix2 (((cfg0.win 3).blk t).view.emb y 0) k) ?_ rfl).symm
      (Blocks.cell_eq (argB m c) k.val _ (ix2 k (((cfg0.win 3).blk t).view.emb y 1)) rfl ?_).symm
    · show win0_3.index t (0 : Fin 2) * 1024 + 1 * (y 0).val = _; rw [e0]; omega
    · show win0_3.index t (1 : Fin 2) * 512 + 1 * (y 1).val = _; rw [e1]; omega)
  filled

end Cert.X2Ideal.Sum

end
-- ==== Proof.X2Claim.lean ====
/-
  X2: the reference's result element by element, and the claims about the kernel, its reading over the reals and the
  reference.
-/
module

public import proofs.«01_k».proof.Proof.X2Value
public import proofs.«01_k».proof.Proof.Gen.X2.Frame
public import proofs.«01_k».proof.Proof.Gen.X2RefIdeal.Run
public import proofs.«01_k».proof.Proof.Gen.X2RefIdeal.Read
public import proofs.«01_k».proof.Defs

@[expose] public section

set_option maxRecDepth 16384

noncomputable section

namespace Cert.Proof.X2

open Idealize.ShloMosaic Idealize.ShloMosaic.TcCoe Idealize.SL.Sem
open Idealize.ShloMosaic.ValueIdx (ix2)
open scoped BigOperators

/-- The reference's result, element by element. -/
theorem reference (x0 : (⟨Cert.X2RefIdeal.S4096x2816, .bf16⟩ : BufTy).Contents (Elt Ideal))
    (x1 : (⟨Cert.X2RefIdeal.S2816x1024, .bf16⟩ : BufTy).Contents (Elt Ideal)) (x2 : (⟨Cert.X2RefIdeal.S4096x1024, .f32⟩ : BufTy).Contents (Elt Ideal)) (i : Cert.X2RefIdeal.S4096x1024.Idx) :
    Cert.X2RefIdeal.Read.val_main_v3 (F := Ideal) x0 x1 x2 i
      = (x2 i + ∑ k : Fin 2816, (x0 (ix2 (i 0) k) : EReal) * (x1 (ix2 k (i 1)) : EReal) : EReal) := by
  refine congrArg₂ (· + ·) rfl ?_
  show Cert.X2RefIdeal.Read.val_main_v2 (F := Ideal) x0 x1 _ = _
  rw [Cert.X2RefIdeal.Read.val_main_v2_apply]
  refine Finset.sum_congr rfl fun k _ => ?_
  exact congrArg₂ (· * ·) (congrArg x0 (funext fun a => match a with | ⟨0, _⟩ => rfl | ⟨1, _⟩ => rfl))
    (congrArg x1 (funext fun a => match a with | ⟨0, _⟩ => rfl | ⟨1, _⟩ => rfl))

theorem frame_kernel : Cert.quiescent_X2 := fun m ρ _ => Cert.X2.Gen.frame m ρ

theorem frame_ideal : Cert.quiescent_X2Ideal := fun m ρ _ => Cert.X2Ideal.Gen.frame m ρ

theorem frame_reference : Cert.quiescent_X2RefIdeal := fun m ρ _ =>
  (θ_run Cert.X2RefIdeal.defs _ _).mono (fun r h => ⟨fun c => (h c).2, sem_eq_zero_of_no_sems (by decide) r.2⟩)
    (Cert.X2RefIdeal.Value.run (F := Ideal) m ρ)

/-- The kernel's result is the reference's. -/
theorem algebraic : Cert.algebraic_X2Ideal_X2RefIdeal := by
  intro m ρ m' ρ' _ hagree
  refine ⟨fun c => Cert.X2Ideal.Sum.whole m c, ?_, ?_⟩
  · refine (θ_run Cert.X2Ideal.defs _ _).mono (fun _ h c => ?_) (Cert.X2Ideal.Value.run_blocks (F := Ideal) m ρ)
    exact ⟨(h c).1.trans (Cert.X2Ideal.Sum.array m c), (h c).2⟩
  · refine (θ_run Cert.X2RefIdeal.defs _ _).mono (fun _ h c => ?_) (Cert.X2RefIdeal.Value.run (F := Ideal) m' ρ')
    refine ⟨((h c).1.trans (Cert.X2RefIdeal.Read.val_main_v3_eq _ _ _)).trans ?_, (h c).2⟩
    funext i
    rw [reference, (hagree c).1, (hagree c).2.1, (hagree c).2.2]
    rfl

end Cert.Proof.X2

end
-- ==== Proof.Adam.lean ====
/-
  One AdamW step of one element over the reals: the new first and second moments and the change of the weight, from the
  weight, its gradient and the two moments before the step. The constants are the step's, as float32 spells them.
-/
module

public import Idealize.ShloMosaic.PureOps.Ideal

@[expose] public section

noncomputable section

namespace Cert.Adam

open Idealize.ShloMosaic

/-- The new first moment: nine tenths of the old one and one tenth of the gradient. -/
def newM (g m : Ideal .f32) : Ideal .f32 :=
  FloatOps.addf (FloatOps.mulf (FloatOps.ofBits .f32 0x3F666666#32) m) (FloatOps.mulf (FloatOps.ofBits .f32 0x3DCCCCCD#32) g)

/-- The new second moment: the old one and the square of the gradient, weighted. -/
def newV (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The change of the weight: the corrected first moment over the root of the corrected second one, and the decay. -/
def delta (w g m v : Ideal .f32) : Ideal .f32 :=
  FloatOps.mulf (FloatOps.ofBits .f32 0xBA83126F#32)
    (FloatOps.addf
      (FloatOps.divf (FloatOps.divf (newM g m) (FloatOps.ofBits .f32 0x3F26BD02#32))
        (FloatOps.addf (FloatOps.sqrt (FloatOps.divf (newV g v) (FloatOps.ofBits .f32 0x3C231ACC#32)))
          (FloatOps.ofBits .f32 0x322BCC77#32)))
      (FloatOps.mulf (FloatOps.ofBits .f32 0x3C23D70A#32) w))

/-- An array laid out in another shape and back is the array. -/
theorem back {s t : Shape} (x : FVec Ideal s .f32) (h : Shape.ShapeCasts s t) (h' : Shape.ShapeCasts t s) (i : s.Idx) :
    shapeCast s (shapeCast t x h) h' i = x i := by
  show x (Shape.reshapeEquiv _ (Shape.reshapeEquiv _ i)) = x i
  rw [Shape.reshapeEquiv_reshapeEquiv, Shape.reshapeEquiv_self]

end Cert.Adam

end
-- ==== Proof.AdInValue.lean ====
/-
  AdIn: the optimiser's step of w_in over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdInIdeal.Frame
public import proofs.«01_k».proof.Proof.Gen.AdInIdeal.Skeleton

@[expose] public section

set_option maxRecDepth 16384

noncomputable section

namespace Cert.AdInIdeal.Step

open Cert.AdInIdeal Cert.AdInIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S4x1024x1088_S4096x1088 := by
  unfold V V0
  simp only [hostOps0, List.flatten_cons, List.flatten_nil, List.append_nil]
  after_results
  rfl

theorem entry1 (c : Dev nD) : V m c main_v1
    = shapeCast _ (m ((c : Thread nD τ).loc main_arg1)) shapeCasts_S4x1024x1088_S4096x1088 := by
  unfold V V0
  simp only [hostOps0, List.flatten_cons, List.flatten_nil, List.append_nil]
  after_results
  rfl

theorem entry2 (c : Dev nD) : V m c main_v2
    = shapeCast _ (m ((c : Thread nD τ).loc main_arg2)) shapeCasts_S4x1024x1088_S4096x1088 := by
  unfold V V0
  simp only [hostOps0, List.flatten_cons, List.flatten_nil, List.append_nil]
  after_results
  rfl

theorem entry3 (c : Dev nD) : V m c main_v3
    = shapeCast _ (m ((c : Thread nD τ).loc main_arg3)) shapeCasts_S4x1024x1088_S4096x1088 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S4096x1088_S4x1024x1088)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S4096x1088_S4x1024x1088)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S4096x1088_S4x1024x1088)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdInIdeal.Step

end
-- ==== Proof.AdInClaim.lean ====
/-
  AdIn: the claims about the optimiser's step of w_in, its reading over the reals and its reference.
-/
module

public import proofs.«01_k».proof.Proof.AdInValue
public import proofs.«01_k».proof.Proof.Gen.AdIn.Frame
public import proofs.«01_k».proof.Proof.Gen.AdInRefIdeal.Run
public import proofs.«01_k».proof.Proof.Gen.AdInRefIdeal.Read
public import proofs.«01_k».proof.Defs

@[expose] public section

set_option maxRecDepth 16384

noncomputable section

namespace Cert.Proof.AdIn

open Idealize.ShloMosaic Idealize.ShloMosaic.TcCoe Idealize.SL.Sem

theorem frame_kernel : Cert.quiescent_AdIn := fun m ρ _ => Cert.AdIn.Gen.frame m ρ

theorem frame_ideal : Cert.quiescent_AdInIdeal := fun m ρ _ => Cert.AdInIdeal.Gen.frame m ρ

theorem frame_reference : Cert.quiescent_AdInRefIdeal := fun m ρ _ =>
  (θ_run Cert.AdInRefIdeal.defs _ _).mono (fun r h => ⟨fun c => (h c).2.2.2, sem_eq_zero_of_no_sems (by decide) r.2⟩)
    (Cert.AdInRefIdeal.Value.run (F := Ideal) m ρ)

/-- The kernel's three results are the reference's: the step, element by element. -/
theorem algebraic : Cert.algebraic_AdInIdeal_AdInRefIdeal := by
  intro m g m' g' _ hagree
  refine ⟨fun c i => Adam.delta (m ((c.tc : Thread Cert.AdInIdeal.nD Cert.AdInIdeal.τ).loc Cert.AdInIdeal.main_arg0) i) (m ((c.tc : Thread Cert.AdInIdeal.nD Cert.AdInIdeal.τ).loc Cert.AdInIdeal.main_arg1) i) (m ((c.tc : Thread Cert.AdInIdeal.nD Cert.AdInIdeal.τ).loc Cert.AdInIdeal.main_arg2) i) (m ((c.tc : Thread Cert.AdInIdeal.nD Cert.AdInIdeal.τ).loc Cert.AdInIdeal.main_arg3) i),
    fun c i => Adam.newM (m ((c.tc : Thread Cert.AdInIdeal.nD Cert.AdInIdeal.τ).loc Cert.AdInIdeal.main_arg1) i) (m ((c.tc : Thread Cert.AdInIdeal.nD Cert.AdInIdeal.τ).loc Cert.AdInIdeal.main_arg2) i), fun c i => Adam.newV (m ((c.tc : Thread Cert.AdInIdeal.nD Cert.AdInIdeal.τ).loc Cert.AdInIdeal.main_arg1) i) (m ((c.tc : Thread Cert.AdInIdeal.nD Cert.AdInIdeal.τ).loc Cert.AdInIdeal.main_arg3) i), ?_, ?_⟩
  · run_from Cert.AdInIdeal.Gen.run_main m g
    · exact Cert.AdInIdeal.Step.result_delta m c
    · exact Cert.AdInIdeal.Step.result_newM m c
    · exact Cert.AdInIdeal.Step.result_newV m c
    · exact Cert.AdInIdeal.Gen.W_main_arg0 m _ c
    · exact Cert.AdInIdeal.Gen.W_main_arg1 m _ c
    · exact Cert.AdInIdeal.Gen.W_main_arg2 m _ c
    · exact Cert.AdInIdeal.Gen.W_main_arg3 m _ c
  · refine (θ_run Cert.AdInRefIdeal.defs _ _).mono (fun _ h c => ?_) (Cert.AdInRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdIn

end
-- ==== Proof.AdConvValue.lean ====
/-
  AdConv: the optimiser's step of conv_w over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdConvIdeal.Frame
public import proofs.«01_k».proof.Proof.Gen.AdConvIdeal.Skeleton

@[expose] public section

set_option maxRecDepth 16384

noncomputable section

namespace Cert.AdConvIdeal.Step

open Cert.AdConvIdeal Cert.AdConvIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S4x3x1x128_S12x128 := by
  unfold V V0
  simp only [hostOps0, List.flatten_cons, List.flatten_nil, List.append_nil]
  after_results
  rfl

theorem entry1 (c : Dev nD) : V m c main_v1
    = shapeCast _ (m ((c : Thread nD τ).loc main_arg1)) shapeCasts_S4x3x1x128_S12x128 := by
  unfold V V0
  simp only [hostOps0, List.flatten_cons, List.flatten_nil, List.append_nil]
  after_results
  rfl

theorem entry2 (c : Dev nD) : V m c main_v2
    = shapeCast _ (m ((c : Thread nD τ).loc main_arg2)) shapeCasts_S4x3x1x128_S12x128 := by
  unfold V V0
  simp only [hostOps0, List.flatten_cons, List.flatten_nil, List.append_nil]
  after_results
  rfl

theorem entry3 (c : Dev nD) : V m c main_v3
    = shapeCast _ (m ((c : Thread nD τ).loc main_arg3)) shapeCasts_S4x3x1x128_S12x128 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S12x128_S4x3x1x128)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S12x128_S4x3x1x128)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S12x128_S4x3x1x128)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdConvIdeal.Step

end
-- ==== Proof.AdConvClaim.lean ====
/-
  AdConv: the claims about the optimiser's step of conv_w, its reading over the reals and its reference.
-/
module

public import proofs.«01_k».proof.Proof.AdConvValue
public import proofs.«01_k».proof.Proof.Gen.AdConv.Frame
public import proofs.«01_k».proof.Proof.Gen.AdConvRefIdeal.Run
public import proofs.«01_k».proof.Proof.Gen.AdConvRefIdeal.Read
public import proofs.«01_k».proof.Defs

@[expose] public section

set_option maxRecDepth 16384

noncomputable section

namespace Cert.Proof.AdConv

open Idealize.ShloMosaic Idealize.ShloMosaic.TcCoe Idealize.SL.Sem

theorem frame_kernel : Cert.quiescent_AdConv := fun m ρ _ => Cert.AdConv.Gen.frame m ρ

theorem frame_ideal : Cert.quiescent_AdConvIdeal := fun m ρ _ => Cert.AdConvIdeal.Gen.frame m ρ

theorem frame_reference : Cert.quiescent_AdConvRefIdeal := fun m ρ _ =>
  (θ_run Cert.AdConvRefIdeal.defs _ _).mono (fun r h => ⟨fun c => (h c).2.2.2, sem_eq_zero_of_no_sems (by decide) r.2⟩)
    (Cert.AdConvRefIdeal.Value.run (F := Ideal) m ρ)

/-- The kernel's three results are the reference's: the step, element by element. -/
theorem algebraic : Cert.algebraic_AdConvIdeal_AdConvRefIdeal := by
  intro m g m' g' _ hagree
  refine ⟨fun c i => Adam.delta (m ((c.tc : Thread Cert.AdConvIdeal.nD Cert.AdConvIdeal.τ).loc Cert.AdConvIdeal.main_arg0) i) (m ((c.tc : Thread Cert.AdConvIdeal.nD Cert.AdConvIdeal.τ).loc Cert.AdConvIdeal.main_arg1) i) (m ((c.tc : Thread Cert.AdConvIdeal.nD Cert.AdConvIdeal.τ).loc Cert.AdConvIdeal.main_arg2) i) (m ((c.tc : Thread Cert.AdConvIdeal.nD Cert.AdConvIdeal.τ).loc Cert.AdConvIdeal.main_arg3) i),
    fun c i => Adam.newM (m ((c.tc : Thread Cert.AdConvIdeal.nD Cert.AdConvIdeal.τ).loc Cert.AdConvIdeal.main_arg1) i) (m ((c.tc : Thread Cert.AdConvIdeal.nD Cert.AdConvIdeal.τ).loc Cert.AdConvIdeal.main_arg2) i), fun c i => Adam.newV (m ((c.tc : Thread Cert.AdConvIdeal.nD Cert.AdConvIdeal.τ).loc Cert.AdConvIdeal.main_arg1) i) (m ((c.tc : Thread Cert.AdConvIdeal.nD Cert.AdConvIdeal.τ).loc Cert.AdConvIdeal.main_arg3) i), ?_, ?_⟩
  · run_from Cert.AdConvIdeal.Gen.run_main m g
    · exact Cert.AdConvIdeal.Step.result_delta m c
    · exact Cert.AdConvIdeal.Step.result_newM m c
    · exact Cert.AdConvIdeal.Step.result_newV m c
    · exact Cert.AdConvIdeal.Gen.W_main_arg0 m _ c
    · exact Cert.AdConvIdeal.Gen.W_main_arg1 m _ c
    · exact Cert.AdConvIdeal.Gen.W_main_arg2 m _ c
    · exact Cert.AdConvIdeal.Gen.W_main_arg3 m _ c
  · refine (θ_run Cert.AdConvRefIdeal.defs _ _).mono (fun _ h c => ?_) (Cert.AdConvRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdConv

end
-- ==== Proof.AdSqValue.lean ====
/-
  AdSq: the optimiser's step of w_a_out, of w_attn_out and of w_o over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdSqIdeal.Frame
public import proofs.«01_k».proof.Proof.Gen.AdSqIdeal.Skeleton

@[expose] public section

set_option maxRecDepth 16384

noncomputable section

namespace Cert.AdSqIdeal.Step

open Cert.AdSqIdeal Cert.AdSqIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S4x128x1024_S512x1024 := by
  unfold V V0
  simp only [hostOps0, List.flatten_cons, List.flatten_nil, List.append_nil]
  after_results
  rfl

theorem entry1 (c : Dev nD) : V m c main_v1
    = shapeCast _ (m ((c : Thread nD τ).loc main_arg1)) shapeCasts_S4x128x1024_S512x1024 := by
  unfold V V0
  simp only [hostOps0, List.flatten_cons, List.flatten_nil, List.append_nil]
  after_results
  rfl

theorem entry2 (c : Dev nD) : V m c main_v2
    = shapeCast _ (m ((c : Thread nD τ).loc main_arg2)) shapeCasts_S4x128x1024_S512x1024 := by
  unfold V V0
  simp only [hostOps0, List.flatten_cons, List.flatten_nil, List.append_nil]
  after_results
  rfl

theorem entry3 (c : Dev nD) : V m c main_v3
    = shapeCast _ (m ((c : Thread nD τ).loc main_arg3)) shapeCasts_S4x128x1024_S512x1024 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S512x1024_S4x128x1024)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S512x1024_S4x128x1024)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S512x1024_S4x128x1024)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdSqIdeal.Step

end
-- ==== Proof.AdSqClaim.lean ====
/-
  AdSq: the claims about the optimiser's step of w_a_out, of w_attn_out and of w_o, its reading over the reals and its reference.
-/
module

public import proofs.«01_k».proof.Proof.AdSqValue
public import proofs.«01_k».proof.Proof.Gen.AdSq.Frame
public import proofs.«01_k».proof.Proof.Gen.AdSqRefIdeal.Run
public import proofs.«01_k».proof.Proof.Gen.AdSqRefIdeal.Read
public import proofs.«01_k».proof.Defs

@[expose] public section

set_option maxRecDepth 16384

noncomputable section

namespace Cert.Proof.AdSq

open Idealize.ShloMosaic Idealize.ShloMosaic.TcCoe Idealize.SL.Sem

theorem frame_kernel : Cert.quiescent_AdSq := fun m ρ _ => Cert.AdSq.Gen.frame m ρ

theorem frame_ideal : Cert.quiescent_AdSqIdeal := fun m ρ _ => Cert.AdSqIdeal.Gen.frame m ρ

theorem frame_reference : Cert.quiescent_AdSqRefIdeal := fun m ρ _ =>
  (θ_run Cert.AdSqRefIdeal.defs _ _).mono (fun r h => ⟨fun c => (h c).2.2.2, sem_eq_zero_of_no_sems (by decide) r.2⟩)
    (Cert.AdSqRefIdeal.Value.run (F := Ideal) m ρ)

/-- The kernel's three results are the reference's: the step, element by element. -/
theorem algebraic : Cert.algebraic_AdSqIdeal_AdSqRefIdeal := by
  intro m g m' g' _ hagree
  refine ⟨fun c i => Adam.delta (m ((c.tc : Thread Cert.AdSqIdeal.nD Cert.AdSqIdeal.τ).loc Cert.AdSqIdeal.main_arg0) i) (m ((c.tc : Thread Cert.AdSqIdeal.nD Cert.AdSqIdeal.τ).loc Cert.AdSqIdeal.main_arg1) i) (m ((c.tc : Thread Cert.AdSqIdeal.nD Cert.AdSqIdeal.τ).loc Cert.AdSqIdeal.main_arg2) i) (m ((c.tc : Thread Cert.AdSqIdeal.nD Cert.AdSqIdeal.τ).loc Cert.AdSqIdeal.main_arg3) i),
    fun c i => Adam.newM (m ((c.tc : Thread Cert.AdSqIdeal.nD Cert.AdSqIdeal.τ).loc Cert.AdSqIdeal.main_arg1) i) (m ((c.tc : Thread Cert.AdSqIdeal.nD Cert.AdSqIdeal.τ).loc Cert.AdSqIdeal.main_arg2) i), fun c i => Adam.newV (m ((c.tc : Thread Cert.AdSqIdeal.nD Cert.AdSqIdeal.τ).loc Cert.AdSqIdeal.main_arg1) i) (m ((c.tc : Thread Cert.AdSqIdeal.nD Cert.AdSqIdeal.τ).loc Cert.AdSqIdeal.main_arg3) i), ?_, ?_⟩
  · run_from Cert.AdSqIdeal.Gen.run_main m g
    · exact Cert.AdSqIdeal.Step.result_delta m c
    · exact Cert.AdSqIdeal.Step.result_newM m c
    · exact Cert.AdSqIdeal.Step.result_newV m c
    · exact Cert.AdSqIdeal.Gen.W_main_arg0 m _ c
    · exact Cert.AdSqIdeal.Gen.W_main_arg1 m _ c
    · exact Cert.AdSqIdeal.Gen.W_main_arg2 m _ c
    · exact Cert.AdSqIdeal.Gen.W_main_arg3 m _ c
  · refine (θ_run Cert.AdSqRefIdeal.defs _ _).mono (fun _ h c => ?_) (Cert.AdSqRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdSq

end
-- ==== Proof.AdPoolValue.lean ====
/-
  AdPool: the optimiser's step of w_pool over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdPoolIdeal.Frame
public import proofs.«01_k».proof.Proof.Gen.AdPoolIdeal.Skeleton

@[expose] public section

set_option maxRecDepth 16384

noncomputable section

namespace Cert.AdPoolIdeal.Step

open Cert.AdPoolIdeal Cert.AdPoolIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S4x4x32x256_S512x256 := by
  unfold V V0
  simp only [hostOps0, List.flatten_cons, List.flatten_nil, List.append_nil]
  after_results
  rfl

theorem entry1 (c : Dev nD) : V m c main_v1
    = shapeCast _ (m ((c : Thread nD τ).loc main_arg1)) shapeCasts_S4x4x32x256_S512x256 := by
  unfold V V0
  simp only [hostOps0, List.flatten_cons, List.flatten_nil, List.append_nil]
  after_results
  rfl

theorem entry2 (c : Dev nD) : V m c main_v2
    = shapeCast _ (m ((c : Thread nD τ).loc main_arg2)) shapeCasts_S4x4x32x256_S512x256 := by
  unfold V V0
  simp only [hostOps0, List.flatten_cons, List.flatten_nil, List.append_nil]
  after_results
  rfl

theorem entry3 (c : Dev nD) : V m c main_v3
    = shapeCast _ (m ((c : Thread nD τ).loc main_arg3)) shapeCasts_S4x4x32x256_S512x256 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S512x256_S4x4x32x256)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S512x256_S4x4x32x256)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S512x256_S4x4x32x256)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdPoolIdeal.Step

end
-- ==== Proof.AdPoolClaim.lean ====
/-
  AdPool: the claims about the optimiser's step of w_pool, its reading over the reals and its reference.
-/
module

public import proofs.«01_k».proof.Proof.AdPoolValue
public import proofs.«01_k».proof.Proof.Gen.AdPool.Frame
public import proofs.«01_k».proof.Proof.Gen.AdPoolRefIdeal.Run
public import proofs.«01_k».proof.Proof.Gen.AdPoolRefIdeal.Read
public import proofs.«01_k».proof.Defs

@[expose] public section

set_option maxRecDepth 16384

noncomputable section

namespace Cert.Proof.AdPool

open Idealize.ShloMosaic Idealize.ShloMosaic.TcCoe Idealize.SL.Sem

theorem frame_kernel : Cert.quiescent_AdPool := fun m ρ _ => Cert.AdPool.Gen.frame m ρ

theorem frame_ideal : Cert.quiescent_AdPoolIdeal := fun m ρ _ => Cert.AdPoolIdeal.Gen.frame m ρ

theorem frame_reference : Cert.quiescent_AdPoolRefIdeal := fun m ρ _ =>
  (θ_run Cert.AdPoolRefIdeal.defs _ _).mono (fun r h => ⟨fun c => (h c).2.2.2, sem_eq_zero_of_no_sems (by decide) r.2⟩)
    (Cert.AdPoolRefIdeal.Value.run (F := Ideal) m ρ)

/-- The kernel's three results are the reference's: the step, element by element. -/
theorem algebraic : Cert.algebraic_AdPoolIdeal_AdPoolRefIdeal := by
  intro m g m' g' _ hagree
  refine ⟨fun c i => Adam.delta (m ((c.tc : Thread Cert.AdPoolIdeal.nD Cert.AdPoolIdeal.τ).loc Cert.AdPoolIdeal.main_arg0) i) (m ((c.tc : Thread Cert.AdPoolIdeal.nD Cert.AdPoolIdeal.τ).loc Cert.AdPoolIdeal.main_arg1) i) (m ((c.tc : Thread Cert.AdPoolIdeal.nD Cert.AdPoolIdeal.τ).loc Cert.AdPoolIdeal.main_arg2) i) (m ((c.tc : Thread Cert.AdPoolIdeal.nD Cert.AdPoolIdeal.τ).loc Cert.AdPoolIdeal.main_arg3) i),
    fun c i => Adam.newM (m ((c.tc : Thread Cert.AdPoolIdeal.nD Cert.AdPoolIdeal.τ).loc Cert.AdPoolIdeal.main_arg1) i) (m ((c.tc : Thread Cert.AdPoolIdeal.nD Cert.AdPoolIdeal.τ).loc Cert.AdPoolIdeal.main_arg2) i), fun c i => Adam.newV (m ((c.tc : Thread Cert.AdPoolIdeal.nD Cert.AdPoolIdeal.τ).loc Cert.AdPoolIdeal.main_arg1) i) (m ((c.tc : Thread Cert.AdPoolIdeal.nD Cert.AdPoolIdeal.τ).loc Cert.AdPoolIdeal.main_arg3) i), ?_, ?_⟩
  · run_from Cert.AdPoolIdeal.Gen.run_main m g
    · exact Cert.AdPoolIdeal.Step.result_delta m c
    · exact Cert.AdPoolIdeal.Step.result_newM m c
    · exact Cert.AdPoolIdeal.Step.result_newV m c
    · exact Cert.AdPoolIdeal.Gen.W_main_arg0 m _ c
    · exact Cert.AdPoolIdeal.Gen.W_main_arg1 m _ c
    · exact Cert.AdPoolIdeal.Gen.W_main_arg2 m _ c
    · exact Cert.AdPoolIdeal.Gen.W_main_arg3 m _ c
  · refine (θ_run Cert.AdPoolRefIdeal.defs _ _).mono (fun _ h c => ?_) (Cert.AdPoolRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdPool

end
-- ==== Proof.AdRowClaim.lean ====
/-
  AdRow: the claims about the optimiser's step of pool_scale, of g_mix and of g_ffn, its reading over the reals and its reference.
-/
module

public import proofs.«01_k».proof.Proof.Adam
public import proofs.«01_k».proof.Proof.Gen.AdRowIdeal.Value
public import Idealize.ShloMosaic.Lib.Claim
public import proofs.«01_k».proof.Proof.Gen.AdRow.Frame
public import proofs.«01_k».proof.Proof.Gen.AdRowRefIdeal.Run
public import proofs.«01_k».proof.Proof.Gen.AdRowRefIdeal.Read
public import proofs.«01_k».proof.Defs

@[expose] public section

set_option maxRecDepth 16384

noncomputable section

namespace Cert.Proof.AdRow

open Idealize.ShloMosaic Idealize.ShloMosaic.TcCoe Idealize.SL.Sem

theorem frame_kernel : Cert.quiescent_AdRow := fun m ρ _ => Cert.AdRow.Gen.frame m ρ

theorem frame_ideal : Cert.quiescent_AdRowIdeal := fun m ρ _ => Cert.AdRowIdeal.Gen.frame m ρ

theorem frame_reference : Cert.quiescent_AdRowRefIdeal := fun m ρ _ =>
  (θ_run Cert.AdRowRefIdeal.defs _ _).mono (fun r h => ⟨fun c => (h c).2.2.2, sem_eq_zero_of_no_sems (by decide) r.2⟩)
    (Cert.AdRowRefIdeal.Value.run (F := Ideal) m ρ)

/-- The kernel's three results are the reference's: the step, element by element. -/
theorem algebraic : Cert.algebraic_AdRowIdeal_AdRowRefIdeal := by
  intro m g m' g' _ hagree
  refine ⟨fun c i => Adam.delta (m ((c.tc : Thread Cert.AdRowIdeal.nD Cert.AdRowIdeal.τ).loc Cert.AdRowIdeal.main_arg0) i) (m ((c.tc : Thread Cert.AdRowIdeal.nD Cert.AdRowIdeal.τ).loc Cert.AdRowIdeal.main_arg1) i) (m ((c.tc : Thread Cert.AdRowIdeal.nD Cert.AdRowIdeal.τ).loc Cert.AdRowIdeal.main_arg2) i) (m ((c.tc : Thread Cert.AdRowIdeal.nD Cert.AdRowIdeal.τ).loc Cert.AdRowIdeal.main_arg3) i),
    fun c i => Adam.newM (m ((c.tc : Thread Cert.AdRowIdeal.nD Cert.AdRowIdeal.τ).loc Cert.AdRowIdeal.main_arg1) i) (m ((c.tc : Thread Cert.AdRowIdeal.nD Cert.AdRowIdeal.τ).loc Cert.AdRowIdeal.main_arg2) i), fun c i => Adam.newV (m ((c.tc : Thread Cert.AdRowIdeal.nD Cert.AdRowIdeal.τ).loc Cert.AdRowIdeal.main_arg1) i) (m ((c.tc : Thread Cert.AdRowIdeal.nD Cert.AdRowIdeal.τ).loc Cert.AdRowIdeal.main_arg3) i), ?_, ?_⟩
  · refine (θ_run Cert.AdRowIdeal.defs _ _).mono (fun _ h c => ?_) (Cert.AdRowIdeal.Value.run (F := Ideal) m g)
    obtain ⟨h0, h1, h2, hargs⟩ := h c
    exact ⟨h0, h1, h2, hargs⟩
  · refine (θ_run Cert.AdRowRefIdeal.defs _ _).mono (fun _ h c => ?_) (Cert.AdRowRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdRow

end
-- ==== Proof.AdSinkClaim.lean ====
/-
  AdSink: the claims about the optimiser's step of attn_sink, its reading over the reals and its reference.
-/
module

public import proofs.«01_k».proof.Proof.Adam
public import proofs.«01_k».proof.Proof.Gen.AdSinkIdeal.Value
public import Idealize.ShloMosaic.Lib.Claim
public import proofs.«01_k».proof.Proof.Gen.AdSink.Frame
public import proofs.«01_k».proof.Proof.Gen.AdSinkRefIdeal.Run
public import proofs.«01_k».proof.Proof.Gen.AdSinkRefIdeal.Read
public import proofs.«01_k».proof.Defs

@[expose] public section

set_option maxRecDepth 16384

noncomputable section

namespace Cert.Proof.AdSink

open Idealize.ShloMosaic Idealize.ShloMosaic.TcCoe Idealize.SL.Sem

theorem frame_kernel : Cert.quiescent_AdSink := fun m ρ _ => Cert.AdSink.Gen.frame m ρ

theorem frame_ideal : Cert.quiescent_AdSinkIdeal := fun m ρ _ => Cert.AdSinkIdeal.Gen.frame m ρ

theorem frame_reference : Cert.quiescent_AdSinkRefIdeal := fun m ρ _ =>
  (θ_run Cert.AdSinkRefIdeal.defs _ _).mono (fun r h => ⟨fun c => (h c).2.2.2, sem_eq_zero_of_no_sems (by decide) r.2⟩)
    (Cert.AdSinkRefIdeal.Value.run (F := Ideal) m ρ)

/-- The kernel's three results are the reference's: the step, element by element. -/
theorem algebraic : Cert.algebraic_AdSinkIdeal_AdSinkRefIdeal := by
  intro m g m' g' _ hagree
  refine ⟨fun c i => Adam.delta (m ((c.tc : Thread Cert.AdSinkIdeal.nD Cert.AdSinkIdeal.τ).loc Cert.AdSinkIdeal.main_arg0) i) (m ((c.tc : Thread Cert.AdSinkIdeal.nD Cert.AdSinkIdeal.τ).loc Cert.AdSinkIdeal.main_arg1) i) (m ((c.tc : Thread Cert.AdSinkIdeal.nD Cert.AdSinkIdeal.τ).loc Cert.AdSinkIdeal.main_arg2) i) (m ((c.tc : Thread Cert.AdSinkIdeal.nD Cert.AdSinkIdeal.τ).loc Cert.AdSinkIdeal.main_arg3) i),
    fun c i => Adam.newM (m ((c.tc : Thread Cert.AdSinkIdeal.nD Cert.AdSinkIdeal.τ).loc Cert.AdSinkIdeal.main_arg1) i) (m ((c.tc : Thread Cert.AdSinkIdeal.nD Cert.AdSinkIdeal.τ).loc Cert.AdSinkIdeal.main_arg2) i), fun c i => Adam.newV (m ((c.tc : Thread Cert.AdSinkIdeal.nD Cert.AdSinkIdeal.τ).loc Cert.AdSinkIdeal.main_arg1) i) (m ((c.tc : Thread Cert.AdSinkIdeal.nD Cert.AdSinkIdeal.τ).loc Cert.AdSinkIdeal.main_arg3) i), ?_, ?_⟩
  · refine (θ_run Cert.AdSinkIdeal.defs _ _).mono (fun _ h c => ?_) (Cert.AdSinkIdeal.Value.run (F := Ideal) m g)
    obtain ⟨h0, h1, h2, hargs⟩ := h c
    exact ⟨h0, h1, h2, hargs⟩
  · refine (θ_run Cert.AdSinkRefIdeal.defs _ _).mono (fun _ h c => ?_) (Cert.AdSinkRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdSink

end
-- ==== Proof.AdGuValue.lean ====
/-
  AdGu: the optimiser's step of w_gu over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdGuIdeal.Frame
public import proofs.«01_k».proof.Proof.Gen.AdGuIdeal.Skeleton

@[expose] public section

set_option maxRecDepth 16384

noncomputable section

namespace Cert.AdGuIdeal.Step

open Cert.AdGuIdeal Cert.AdGuIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S4x1024x704_S4096x704 := by
  unfold V V0
  simp only [hostOps0, List.flatten_cons, List.flatten_nil, List.append_nil]
  after_results
  rfl

theorem entry1 (c : Dev nD) : V m c main_v1
    = shapeCast _ (m ((c : Thread nD τ).loc main_arg1)) shapeCasts_S4x1024x704_S4096x704 := by
  unfold V V0
  simp only [hostOps0, List.flatten_cons, List.flatten_nil, List.append_nil]
  after_results
  rfl

theorem entry2 (c : Dev nD) : V m c main_v2
    = shapeCast _ (m ((c : Thread nD τ).loc main_arg2)) shapeCasts_S4x1024x704_S4096x704 := by
  unfold V V0
  simp only [hostOps0, List.flatten_cons, List.flatten_nil, List.append_nil]
  after_results
  rfl

theorem entry3 (c : Dev nD) : V m c main_v3
    = shapeCast _ (m ((c : Thread nD τ).loc main_arg3)) shapeCasts_S4x1024x704_S4096x704 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S4096x704_S4x1024x704)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S4096x704_S4x1024x704)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S4096x704_S4x1024x704)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdGuIdeal.Step

end
-- ==== Proof.AdGuClaim.lean ====
/-
  AdGu: the claims about the optimiser's step of w_gu, its reading over the reals and its reference.
-/
module

public import proofs.«01_k».proof.Proof.AdGuValue
public import proofs.«01_k».proof.Proof.Gen.AdGu.Frame
public import proofs.«01_k».proof.Proof.Gen.AdGuRefIdeal.Run
public import proofs.«01_k».proof.Proof.Gen.AdGuRefIdeal.Read
public import proofs.«01_k».proof.Defs

@[expose] public section

set_option maxRecDepth 16384

noncomputable section

namespace Cert.Proof.AdGu

open Idealize.ShloMosaic Idealize.ShloMosaic.TcCoe Idealize.SL.Sem

theorem frame_kernel : Cert.quiescent_AdGu := fun m ρ _ => Cert.AdGu.Gen.frame m ρ

theorem frame_ideal : Cert.quiescent_AdGuIdeal := fun m ρ _ => Cert.AdGuIdeal.Gen.frame m ρ

theorem frame_reference : Cert.quiescent_AdGuRefIdeal := fun m ρ _ =>
  (θ_run Cert.AdGuRefIdeal.defs _ _).mono (fun r h => ⟨fun c => (h c).2.2.2, sem_eq_zero_of_no_sems (by decide) r.2⟩)
    (Cert.AdGuRefIdeal.Value.run (F := Ideal) m ρ)

/-- The kernel's three results are the reference's: the step, element by element. -/
theorem algebraic : Cert.algebraic_AdGuIdeal_AdGuRefIdeal := by
  intro m g m' g' _ hagree
  refine ⟨fun c i => Adam.delta (m ((c.tc : Thread Cert.AdGuIdeal.nD Cert.AdGuIdeal.τ).loc Cert.AdGuIdeal.main_arg0) i) (m ((c.tc : Thread Cert.AdGuIdeal.nD Cert.AdGuIdeal.τ).loc Cert.AdGuIdeal.main_arg1) i) (m ((c.tc : Thread Cert.AdGuIdeal.nD Cert.AdGuIdeal.τ).loc Cert.AdGuIdeal.main_arg2) i) (m ((c.tc : Thread Cert.AdGuIdeal.nD Cert.AdGuIdeal.τ).loc Cert.AdGuIdeal.main_arg3) i),
    fun c i => Adam.newM (m ((c.tc : Thread Cert.AdGuIdeal.nD Cert.AdGuIdeal.τ).loc Cert.AdGuIdeal.main_arg1) i) (m ((c.tc : Thread Cert.AdGuIdeal.nD Cert.AdGuIdeal.τ).loc Cert.AdGuIdeal.main_arg2) i), fun c i => Adam.newV (m ((c.tc : Thread Cert.AdGuIdeal.nD Cert.AdGuIdeal.τ).loc Cert.AdGuIdeal.main_arg1) i) (m ((c.tc : Thread Cert.AdGuIdeal.nD Cert.AdGuIdeal.τ).loc Cert.AdGuIdeal.main_arg3) i), ?_, ?_⟩
  · run_from Cert.AdGuIdeal.Gen.run_main m g
    · exact Cert.AdGuIdeal.Step.result_delta m c
    · exact Cert.AdGuIdeal.Step.result_newM m c
    · exact Cert.AdGuIdeal.Step.result_newV m c
    · exact Cert.AdGuIdeal.Gen.W_main_arg0 m _ c
    · exact Cert.AdGuIdeal.Gen.W_main_arg1 m _ c
    · exact Cert.AdGuIdeal.Gen.W_main_arg2 m _ c
    · exact Cert.AdGuIdeal.Gen.W_main_arg3 m _ c
  · refine (θ_run Cert.AdGuRefIdeal.defs _ _).mono (fun _ h c => ?_) (Cert.AdGuRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdGu

end
-- ==== Proof.AdDownValue.lean ====
/-
  AdDown: the optimiser's step of w_down over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdDownIdeal.Frame
public import proofs.«01_k».proof.Proof.Gen.AdDownIdeal.Skeleton

@[expose] public section

set_option maxRecDepth 16384

noncomputable section

namespace Cert.AdDownIdeal.Step

open Cert.AdDownIdeal Cert.AdDownIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S4x352x1024_S1408x1024 := by
  unfold V V0
  simp only [hostOps0, List.flatten_cons, List.flatten_nil, List.append_nil]
  after_results
  rfl

theorem entry1 (c : Dev nD) : V m c main_v1
    = shapeCast _ (m ((c : Thread nD τ).loc main_arg1)) shapeCasts_S4x352x1024_S1408x1024 := by
  unfold V V0
  simp only [hostOps0, List.flatten_cons, List.flatten_nil, List.append_nil]
  after_results
  rfl

theorem entry2 (c : Dev nD) : V m c main_v2
    = shapeCast _ (m ((c : Thread nD τ).loc main_arg2)) shapeCasts_S4x352x1024_S1408x1024 := by
  unfold V V0
  simp only [hostOps0, List.flatten_cons, List.flatten_nil, List.append_nil]
  after_results
  rfl

theorem entry3 (c : Dev nD) : V m c main_v3
    = shapeCast _ (m ((c : Thread nD τ).loc main_arg3)) shapeCasts_S4x352x1024_S1408x1024 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S1408x1024_S4x352x1024)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S1408x1024_S4x352x1024)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S1408x1024_S4x352x1024)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdDownIdeal.Step

end
-- ==== Proof.AdDownClaim.lean ====
/-
  AdDown: the claims about the optimiser's step of w_down, its reading over the reals and its reference.
-/
module

public import proofs.«01_k».proof.Proof.AdDownValue
public import proofs.«01_k».proof.Proof.Gen.AdDown.Frame
public import proofs.«01_k».proof.Proof.Gen.AdDownRefIdeal.Run
public import proofs.«01_k».proof.Proof.Gen.AdDownRefIdeal.Read
public import proofs.«01_k».proof.Defs

@[expose] public section

set_option maxRecDepth 16384

noncomputable section

namespace Cert.Proof.AdDown

open Idealize.ShloMosaic Idealize.ShloMosaic.TcCoe Idealize.SL.Sem

theorem frame_kernel : Cert.quiescent_AdDown := fun m ρ _ => Cert.AdDown.Gen.frame m ρ

theorem frame_ideal : Cert.quiescent_AdDownIdeal := fun m ρ _ => Cert.AdDownIdeal.Gen.frame m ρ

theorem frame_reference : Cert.quiescent_AdDownRefIdeal := fun m ρ _ =>
  (θ_run Cert.AdDownRefIdeal.defs _ _).mono (fun r h => ⟨fun c => (h c).2.2.2, sem_eq_zero_of_no_sems (by decide) r.2⟩)
    (Cert.AdDownRefIdeal.Value.run (F := Ideal) m ρ)

/-- The kernel's three results are the reference's: the step, element by element. -/
theorem algebraic : Cert.algebraic_AdDownIdeal_AdDownRefIdeal := by
  intro m g m' g' _ hagree
  refine ⟨fun c i => Adam.delta (m ((c.tc : Thread Cert.AdDownIdeal.nD Cert.AdDownIdeal.τ).loc Cert.AdDownIdeal.main_arg0) i) (m ((c.tc : Thread Cert.AdDownIdeal.nD Cert.AdDownIdeal.τ).loc Cert.AdDownIdeal.main_arg1) i) (m ((c.tc : Thread Cert.AdDownIdeal.nD Cert.AdDownIdeal.τ).loc Cert.AdDownIdeal.main_arg2) i) (m ((c.tc : Thread Cert.AdDownIdeal.nD Cert.AdDownIdeal.τ).loc Cert.AdDownIdeal.main_arg3) i),
    fun c i => Adam.newM (m ((c.tc : Thread Cert.AdDownIdeal.nD Cert.AdDownIdeal.τ).loc Cert.AdDownIdeal.main_arg1) i) (m ((c.tc : Thread Cert.AdDownIdeal.nD Cert.AdDownIdeal.τ).loc Cert.AdDownIdeal.main_arg2) i), fun c i => Adam.newV (m ((c.tc : Thread Cert.AdDownIdeal.nD Cert.AdDownIdeal.τ).loc Cert.AdDownIdeal.main_arg1) i) (m ((c.tc : Thread Cert.AdDownIdeal.nD Cert.AdDownIdeal.τ).loc Cert.AdDownIdeal.main_arg3) i), ?_, ?_⟩
  · run_from Cert.AdDownIdeal.Gen.run_main m g
    · exact Cert.AdDownIdeal.Step.result_delta m c
    · exact Cert.AdDownIdeal.Step.result_newM m c
    · exact Cert.AdDownIdeal.Step.result_newV m c
    · exact Cert.AdDownIdeal.Gen.W_main_arg0 m _ c
    · exact Cert.AdDownIdeal.Gen.W_main_arg1 m _ c
    · exact Cert.AdDownIdeal.Gen.W_main_arg2 m _ c
    · exact Cert.AdDownIdeal.Gen.W_main_arg3 m _ c
  · refine (θ_run Cert.AdDownRefIdeal.defs _ _).mono (fun _ h c => ?_) (Cert.AdDownRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdDown

end
-- ==== Proof.AdRelClaim.lean ====
/-
  AdRel: the claims about the optimiser's step of rel_bias, its reading over the reals and its reference.
-/
module

public import proofs.«01_k».proof.Proof.Adam
public import proofs.«01_k».proof.Proof.Gen.AdRelIdeal.Value
public import Idealize.ShloMosaic.Lib.Claim
public import proofs.«01_k».proof.Proof.Gen.AdRel.Frame
public import proofs.«01_k».proof.Proof.Gen.AdRelRefIdeal.Run
public import proofs.«01_k».proof.Proof.Gen.AdRelRefIdeal.Read
public import proofs.«01_k».proof.Defs

@[expose] public section

set_option maxRecDepth 16384

noncomputable section

namespace Cert.Proof.AdRel

open Idealize.ShloMosaic Idealize.ShloMosaic.TcCoe Idealize.SL.Sem

theorem frame_kernel : Cert.quiescent_AdRel := fun m ρ _ => Cert.AdRel.Gen.frame m ρ

theorem frame_ideal : Cert.quiescent_AdRelIdeal := fun m ρ _ => Cert.AdRelIdeal.Gen.frame m ρ

theorem frame_reference : Cert.quiescent_AdRelRefIdeal := fun m ρ _ =>
  (θ_run Cert.AdRelRefIdeal.defs _ _).mono (fun r h => ⟨fun c => (h c).2.2.2, sem_eq_zero_of_no_sems (by decide) r.2⟩)
    (Cert.AdRelRefIdeal.Value.run (F := Ideal) m ρ)

/-- The kernel's three results are the reference's: the step, element by element. -/
theorem algebraic : Cert.algebraic_AdRelIdeal_AdRelRefIdeal := by
  intro m g m' g' _ hagree
  refine ⟨fun c i => Adam.delta (m ((c.tc : Thread Cert.AdRelIdeal.nD Cert.AdRelIdeal.τ).loc Cert.AdRelIdeal.main_arg0) i) (m ((c.tc : Thread Cert.AdRelIdeal.nD Cert.AdRelIdeal.τ).loc Cert.AdRelIdeal.main_arg1) i) (m ((c.tc : Thread Cert.AdRelIdeal.nD Cert.AdRelIdeal.τ).loc Cert.AdRelIdeal.main_arg2) i) (m ((c.tc : Thread Cert.AdRelIdeal.nD Cert.AdRelIdeal.τ).loc Cert.AdRelIdeal.main_arg3) i),
    fun c i => Adam.newM (m ((c.tc : Thread Cert.AdRelIdeal.nD Cert.AdRelIdeal.τ).loc Cert.AdRelIdeal.main_arg1) i) (m ((c.tc : Thread Cert.AdRelIdeal.nD Cert.AdRelIdeal.τ).loc Cert.AdRelIdeal.main_arg2) i), fun c i => Adam.newV (m ((c.tc : Thread Cert.AdRelIdeal.nD Cert.AdRelIdeal.τ).loc Cert.AdRelIdeal.main_arg1) i) (m ((c.tc : Thread Cert.AdRelIdeal.nD Cert.AdRelIdeal.τ).loc Cert.AdRelIdeal.main_arg3) i), ?_, ?_⟩
  · refine (θ_run Cert.AdRelIdeal.defs _ _).mono (fun _ h c => ?_) (Cert.AdRelIdeal.Value.run (F := Ideal) m g)
    obtain ⟨h0, h1, h2, hargs⟩ := h c
    exact ⟨h0, h1, h2, hargs⟩
  · refine (θ_run Cert.AdRelRefIdeal.defs _ _).mono (fun _ h c => ?_) (Cert.AdRelRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdRel

end
-- ==== Proof.AdFinalValue.lean ====
/-
  AdFinal: the optimiser's step of g_final over the reals. Each point takes a block of rows of the four arrays and leaves
  the same rows of the three results; the host lays the arrays out as rows before and takes the results back after.
-/
module

public import proofs.«01_k».proof.Proof.Adam
public import Idealize.ShloMosaic.Lib.Pipeline.ValueKit
public import Idealize.ShloMosaic.Lib.Claim
public import Idealize.ShloMosaic.PureOps.Ideal.Laws
public import proofs.«01_k».proof.Proof.Gen.AdFinalIdeal.Frame
public import proofs.«01_k».proof.Proof.Gen.AdFinalIdeal.Skeleton

@[expose] public section

set_option maxRecDepth 16384

noncomputable section

namespace Cert.AdFinalIdeal.Step

open Cert.AdFinalIdeal Cert.AdFinalIdeal.Gen Idealize.ShloMosaic Idealize.ShloMosaic.TcCoe Idealize.SL.Sem
open Idealize.ShloMosaic.Pipeline (Dat)

variable (m : (ℓ : Loc nD τ sig) → Buf (Elt Ideal) ℓ)

/-- Every window visits, at a point, the block of that number. -/
theorem visits : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The rows the run leaves in the first array. -/
theorem rows_delta (c : Dev nD) : (dats m 0 c).arrAt 4 cfg0.N = fun i => Adam.delta (V m c main_v0 i) (V m c main_v1 i) (V m c main_v2 i) (V m c main_v3 i) := by
  refine (dats m 0 c).arrAt_eq_of_covers 4 _ (by decide +kernel) fun t _ y => ?_
  blk_simp
  rw [after0_4]; frame_out
  pointwise [k0_pay4, k0_pay3, k0_pay2, k0_pay1, Adam.delta, Adam.newM, Adam.newV]
  blk_point [iblk, visits t]

/-- The rows the run leaves in the second array. -/
theorem rows_newM (c : Dev nD) : (dats m 0 c).arrAt 5 cfg0.N = fun i => Adam.newM (V m c main_v1 i) (V m c main_v2 i) := by
  refine (dats m 0 c).arrAt_eq_of_covers 5 _ (by decide +kernel) fun t _ y => ?_
  blk_simp
  rw [after0_5]; frame_out
  pointwise [k0_pay2, k0_pay1, Adam.newM]
  blk_point [iblk, visits t]

/-- The rows the run leaves in the third array. -/
theorem rows_newV (c : Dev nD) : (dats m 0 c).arrAt 6 cfg0.N = fun i => Adam.newV (V m c main_v1 i) (V m c main_v3 i) := by
  refine (dats m 0 c).arrAt_eq_of_covers 6 _ (by decide +kernel) fun t _ y => ?_
  blk_simp
  rw [after0_6]; frame_out
  pointwise [k0_pay3, k0_pay1, Adam.newV]
  blk_point [iblk, visits t]

theorem entry0 (c : Dev nD) : V m c main_v0
    = shapeCast _ (m ((c : Thread nD τ).loc main_arg0)) shapeCasts_S1024_S1x1024 := by
  unfold V V0
  simp only [hostOps0, List.flatten_cons, List.flatten_nil, List.append_nil]
  after_results
  rfl

theorem entry1 (c : Dev nD) : V m c main_v1
    = shapeCast _ (m ((c : Thread nD τ).loc main_arg1)) shapeCasts_S1024_S1x1024 := by
  unfold V V0
  simp only [hostOps0, List.flatten_cons, List.flatten_nil, List.append_nil]
  after_results
  rfl

theorem entry2 (c : Dev nD) : V m c main_v2
    = shapeCast _ (m ((c : Thread nD τ).loc main_arg2)) shapeCasts_S1024_S1x1024 := by
  unfold V V0
  simp only [hostOps0, List.flatten_cons, List.flatten_nil, List.append_nil]
  after_results
  rfl

theorem entry3 (c : Dev nD) : V m c main_v3
    = shapeCast _ (m ((c : Thread nD τ).loc main_arg3)) shapeCasts_S1024_S1x1024 := by
  unfold V V0
  simp only [hostOps0, List.flatten_cons, List.flatten_nil, List.append_nil]
  after_results
  rfl

/-- The first result, in the arguments. -/
theorem result_delta (c : Dev nD) : Pipeline.afterTail₀ cfgs (dats m) 0 (V0 m) [hostOps1] c main_v5
    = fun i => Adam.delta (m ((c : Thread nD τ).loc main_arg0) i) (m ((c : Thread nD τ).loc main_arg1) i) (m ((c : Thread nD τ).loc main_arg2) i) (m ((c : Thread nD τ).loc main_arg3) i) := by
  unfold Pipeline.afterTail₀
  simp only [hostOps1, List.flatten_cons, List.flatten_nil, List.append_nil]
  after_results
  refine (congrArg (fun A => shapeCast _ A shapeCasts_S1x1024_S1024)
    ((Pipeline.withArrays_arr spec0 launch0.win.arr_inj c (V0 m c) (fun w => (dats m 0 c).arrAt w cfg0.N) 4).trans
      (rows_delta m c))).trans (funext fun i => ?_)
  rw [entry0, entry1, entry2, entry3]
  exact congr (congr (congrArg₂ Adam.delta (Adam.back _ _ _ i) (Adam.back _ _ _ i)) (Adam.back _ _ _ i)) (Adam.back _ _ _ i)

/-- The second result, in the arguments. -/
theorem result_newM (c : Dev nD) : Pipeline.afterTail₀ cfgs (dats m) 0 (V0 m) [hostOps1] c main_v6
    = fun i => Adam.newM (m ((c : Thread nD τ).loc main_arg1) i) (m ((c : Thread nD τ).loc main_arg2) i) := by
  unfold Pipeline.afterTail₀
  simp only [hostOps1, List.flatten_cons, List.flatten_nil, List.append_nil]
  after_results
  refine (congrArg (fun A => shapeCast _ A shapeCasts_S1x1024_S1024)
    ((Pipeline.withArrays_arr spec0 launch0.win.arr_inj c (V0 m c) (fun w => (dats m 0 c).arrAt w cfg0.N) 5).trans
      (rows_newM m c))).trans (funext fun i => ?_)
  rw [entry1, entry2]
  exact congrArg₂ Adam.newM (Adam.back _ _ _ i) (Adam.back _ _ _ i)

/-- The third result, in the arguments. -/
theorem result_newV (c : Dev nD) : Pipeline.afterTail₀ cfgs (dats m) 0 (V0 m) [hostOps1] c main_v7
    = fun i => Adam.newV (m ((c : Thread nD τ).loc main_arg1) i) (m ((c : Thread nD τ).loc main_arg3) i) := by
  unfold Pipeline.afterTail₀
  simp only [hostOps1, List.flatten_cons, List.flatten_nil, List.append_nil]
  after_results
  refine (congrArg (fun A => shapeCast _ A shapeCasts_S1x1024_S1024)
    ((Pipeline.withArrays_arr spec0 launch0.win.arr_inj c (V0 m c) (fun w => (dats m 0 c).arrAt w cfg0.N) 6).trans
      (rows_newV m c))).trans (funext fun i => ?_)
  rw [entry1, entry3]
  exact congrArg₂ Adam.newV (Adam.back _ _ _ i) (Adam.back _ _ _ i)

end Cert.AdFinalIdeal.Step

end
-- ==== Proof.AdFinalClaim.lean ====
/-
  AdFinal: the claims about the optimiser's step of g_final, its reading over the reals and its reference.
-/
module

public import proofs.«01_k».proof.Proof.AdFinalValue
public import proofs.«01_k».proof.Proof.Gen.AdFinal.Frame
public import proofs.«01_k».proof.Proof.Gen.AdFinalRefIdeal.Run
public import proofs.«01_k».proof.Proof.Gen.AdFinalRefIdeal.Read
public import proofs.«01_k».proof.Defs

@[expose] public section

set_option maxRecDepth 16384

noncomputable section

namespace Cert.Proof.AdFinal

open Idealize.ShloMosaic Idealize.ShloMosaic.TcCoe Idealize.SL.Sem

theorem frame_kernel : Cert.quiescent_AdFinal := fun m ρ _ => Cert.AdFinal.Gen.frame m ρ

theorem frame_ideal : Cert.quiescent_AdFinalIdeal := fun m ρ _ => Cert.AdFinalIdeal.Gen.frame m ρ

theorem frame_reference : Cert.quiescent_AdFinalRefIdeal := fun m ρ _ =>
  (θ_run Cert.AdFinalRefIdeal.defs _ _).mono (fun r h => ⟨fun c => (h c).2.2.2, sem_eq_zero_of_no_sems (by decide) r.2⟩)
    (Cert.AdFinalRefIdeal.Value.run (F := Ideal) m ρ)

/-- The kernel's three results are the reference's: the step, element by element. -/
theorem algebraic : Cert.algebraic_AdFinalIdeal_AdFinalRefIdeal := by
  intro m g m' g' _ hagree
  refine ⟨fun c i => Adam.delta (m ((c.tc : Thread Cert.AdFinalIdeal.nD Cert.AdFinalIdeal.τ).loc Cert.AdFinalIdeal.main_arg0) i) (m ((c.tc : Thread Cert.AdFinalIdeal.nD Cert.AdFinalIdeal.τ).loc Cert.AdFinalIdeal.main_arg1) i) (m ((c.tc : Thread Cert.AdFinalIdeal.nD Cert.AdFinalIdeal.τ).loc Cert.AdFinalIdeal.main_arg2) i) (m ((c.tc : Thread Cert.AdFinalIdeal.nD Cert.AdFinalIdeal.τ).loc Cert.AdFinalIdeal.main_arg3) i),
    fun c i => Adam.newM (m ((c.tc : Thread Cert.AdFinalIdeal.nD Cert.AdFinalIdeal.τ).loc Cert.AdFinalIdeal.main_arg1) i) (m ((c.tc : Thread Cert.AdFinalIdeal.nD Cert.AdFinalIdeal.τ).loc Cert.AdFinalIdeal.main_arg2) i), fun c i => Adam.newV (m ((c.tc : Thread Cert.AdFinalIdeal.nD Cert.AdFinalIdeal.τ).loc Cert.AdFinalIdeal.main_arg1) i) (m ((c.tc : Thread Cert.AdFinalIdeal.nD Cert.AdFinalIdeal.τ).loc Cert.AdFinalIdeal.main_arg3) i), ?_, ?_⟩
  · run_from Cert.AdFinalIdeal.Gen.run_main m g
    · exact Cert.AdFinalIdeal.Step.result_delta m c
    · exact Cert.AdFinalIdeal.Step.result_newM m c
    · exact Cert.AdFinalIdeal.Step.result_newV m c
    · exact Cert.AdFinalIdeal.Gen.W_main_arg0 m _ c
    · exact Cert.AdFinalIdeal.Gen.W_main_arg1 m _ c
    · exact Cert.AdFinalIdeal.Gen.W_main_arg2 m _ c
    · exact Cert.AdFinalIdeal.Gen.W_main_arg3 m _ c
  · refine (θ_run Cert.AdFinalRefIdeal.defs _ _).mono (fun _ h c => ?_) (Cert.AdFinalRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a1, a2]; rfl
    · rw [a1, a3]; rfl

end Cert.Proof.AdFinal

end
-- ==== Proof.Norm.lean ====
/-
  The root mean square norm of one row and its gradient, over the extended reals. A row `x` of 1024 entries is divided
  by the root of its mean square plus a small constant. The gradient is written in two ways: as the projection
  `r (d - x̂ mean(d x̂))` with `x̂ = r x`, and as differentiation gives it, the part through the root added on twice.
  The two agree for every row, entries that are infinite included.
-/
module

public import Idealize.ShloMosaic.PureOps.Ideal
public import Idealize.ShloMosaic.PureOps.Ideal.Laws
public import Idealize.ShloMosaic.Lib.IdealHost

@[expose] public section

noncomputable section

namespace Cert.Norm

open Idealize.ShloMosaic
open scoped BigOperators

/-- The number of entries of a row, as the programs write it. -/
abbrev len : EReal := Ideal.ofBits .f32 0x44800000#32

/-- The constant under the root. -/
abbrev eps : EReal := Ideal.ofBits .f32 0x358637BD#32

/-- Minus one half, the power's derivative. -/
abbrev mhalf : EReal := Ideal.ofBits .f32 0xBF000000#32

theorem len_eq : len = ((1024 : ℝ) : EReal) := by
  simp [len, Ideal.ofBits, Ideal.ieee, -EReal.coe_mul]; norm_num

theorem mhalf_eq : mhalf = ((-(1 / 2) : ℝ) : EReal) := by
  simp [mhalf, Ideal.ofBits, Ideal.ieee, -EReal.coe_mul, -EReal.coe_neg]; norm_num

theorem eps_pos : ∃ e : ℝ, 0 < e ∧ eps = (e : EReal) := by
  refine ⟨_, ?_, by simp [eps, Ideal.ofBits, Ideal.ieee, -EReal.coe_mul]; rfl⟩
  norm_num

/-- The mean square of a row, plus the small constant. -/
def meanSq (x : Fin 1024 → EReal) : EReal := Ideal.div (∑ k, x k * x k) len + eps

/-- The reciprocal of the root. -/
def scale (x : Fin 1024 → EReal) : EReal := Ideal.rsqrt (meanSq x)

/-- The gradient as the projection away from the normed row. -/
def gradProj (x d : Fin 1024 → EReal) (j : Fin 1024) : EReal :=
  scale x * (d j - x j * scale x * Ideal.div (∑ k, d k * (x k * scale x)) len)

/-- What goes through the root: one half of the factor of `x`. -/
def through (x d : Fin 1024 → EReal) : EReal :=
  Ideal.div ((∑ k, x k * d k) * (mhalf * Ideal.div (scale x) (meanSq x))) len

/-- The gradient as differentiation gives it. -/
def gradDiff (x d : Fin 1024 → EReal) (j : Fin 1024) : EReal :=
  d j * scale x + x j * through x d + through x d * x j

/-- A real factor that is not negative goes into a sum. -/
theorem coe_mul_sum {ι : Type*} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

theorem square_nonneg (a : EReal) : 0 ≤ a * a := by
  rcases le_total 0 a with h | h
  · exact mul_nonneg h h
  · have := EReal.mul_nonneg_iff.mpr (Or.inr ⟨h, h⟩)
    exact this

theorem meanSq_cases (x : Fin 1024 → EReal) : meanSq x = ⊤ ∨ ∃ v : ℝ, 0 < v ∧ meanSq x = (v : EReal) := by
  obtain ⟨e, he, hee⟩ := eps_pos
  have hs : 0 ≤ ∑ k, x k * x k := Finset.sum_nonneg fun k _ => square_nonneg (x k)
  unfold meanSq
  rw [hee, len_eq, Ideal.div_coe (by norm_num)]
  generalize ∑ k, x k * x k = S at hs
  induction S with
  | bot => simp at hs
  | top =>
    left
    rw [EReal.top_mul_coe_of_pos (by norm_num)]
    exact EReal.top_add_coe e
  | coe s =>
    right
    have hs' : 0 ≤ s := by exact_mod_cast hs
    exact ⟨s * (1 / 1024) + e, by positivity, by push_cast; rfl⟩

theorem mul_neg' (a b : EReal) : a * -b = -(a * b) := by
  rw [mul_comm, EReal.neg_mul, mul_comm]

theorem neg_twice (u : EReal) : -(u + u) = -u + -u := by
  induction u with
  | bot => rfl
  | top => rfl
  | coe a => norm_cast; ring

/-- The two gradients agree. -/
theorem gradProj_eq (x d : Fin 1024 → EReal) (j : Fin 1024) : gradProj x d j = gradDiff x d j := by
  unfold gradProj gradDiff through
  rcases meanSq_cases x with h | ⟨v, hv, h⟩
  · have hr : scale x = 0 := by rw [scale, h, Ideal.rsqrt_top]
    rw [hr, h]
    have h0 : Ideal.div 0 (⊤ : EReal) = 0 := by simp [Ideal.div]
    have h1 : Ideal.div 0 len = 0 := by rw [len_eq, Ideal.div_coe (by norm_num), zero_mul]
    simp [h0, h1]
  · obtain ⟨r, hr0, hr, hrr⟩ : ∃ r : ℝ, 0 < r ∧ scale x = (r : EReal) ∧ r * v⁻¹ = r * r * r := by
      have hq : 0 < Real.sqrt v := Real.sqrt_pos.mpr hv
      refine ⟨(Real.sqrt v)⁻¹, inv_pos.mpr hq, ?_, ?_⟩
      · rw [scale, h, Ideal.rsqrt_coe, if_neg (not_lt.mpr hv.le), if_neg hv.ne']
      · have e : v⁻¹ = (Real.sqrt v)⁻¹ * (Real.sqrt v)⁻¹ := by
          rw [← mul_inv, Real.mul_self_sqrt hv.le]
        rw [e, mul_assoc]
    have hsum : ∑ k, d k * (x k * (r : EReal)) = (r : EReal) * ∑ k, x k * d k := by
      rw [coe_mul_sum _ r hr0.le]
      exact Finset.sum_congr rfl fun k _ => by ac_rfl
    rw [hr, h, hsum, len_eq, mhalf_eq, Ideal.div_coe (by norm_num), Ideal.div_coe (by norm_num), Ideal.div_coe hv.ne']
    generalize ∑ k, x k * d k = S
    have half : ∀ w : EReal, ((r * r * r * (1 / 2048) : ℝ) : EReal) * w + ((r * r * r * (1 / 2048) : ℝ) : EReal) * w
        = ((r * r * r * (1 / 1024) : ℝ) : EReal) * w := by
      intro w
      have hp : (0 : EReal) ≤ ((r * r * r * (1 / 2048) : ℝ) : EReal) := by
        have : 0 ≤ r * r * r * (1 / 2048) := by positivity
        exact_mod_cast this
      rw [← EReal.right_distrib_of_nonneg hp hp, ← EReal.coe_add]
      congr 2
      ring
    have hT : S * (((-(1 / 2) : ℝ) : EReal) * ((r : EReal) * ((1 / v : ℝ) : EReal))) * ((1 / 1024 : ℝ) : EReal)
        = -(((r * r * r * (1 / 2048) : ℝ) : EReal) * S) := by
      rw [← EReal.coe_mul, ← EReal.coe_mul, mul_assoc, ← EReal.coe_mul, mul_comm S, ← EReal.neg_mul, ← EReal.coe_neg]
      congr 2
      have e : r * (1 / v) = r * r * r := by rw [one_div, hrr]
      rw [e]
      ring
    have hL : (r : EReal) * (x j * (r : EReal) * ((r : EReal) * S * ((1 / 1024 : ℝ) : EReal)))
        = ((r * r * r * (1 / 1024) : ℝ) : EReal) * (x j * S) := by
      simp only [EReal.coe_mul]
      ac_rfl
    rw [hT, sub_eq_add_neg, EReal.left_distrib_of_nonneg_of_ne_top (by exact_mod_cast hr0.le) (EReal.coe_ne_top r),
      mul_neg', hL, ← half, mul_neg', EReal.neg_mul, mul_comm (r : EReal) (d j), add_assoc]
    congr 1
    have e1 : x j * (((r * r * r * (1 / 2048) : ℝ) : EReal) * S) = ((r * r * r * (1 / 2048) : ℝ) : EReal) * (x j * S) := mul_left_comm _ _ _
    have e2 : (((r * r * r * (1 / 2048) : ℝ) : EReal) * S) * x j = ((r * r * r * (1 / 2048) : ℝ) : EReal) * (x j * S) := by
      rw [mul_assoc, mul_comm S]
    rw [e1, e2]
    exact neg_twice _

end Cert.Norm
-- ==== Proof.RmsBValue.lean ====
/-
  The backward norm: what its blocks of rows hold over the reals, the gradient of the rows and the sum over the blocks
  that is the gradient of the scale, and that these are the derivative of the plain norm.
-/
module

public import proofs.«01_k».proof.Proof.Norm
public import proofs.«01_k».proof.Proof.Gen.RmsBIdeal.Value
public import Idealize.ShloMosaic.Lib.Pipeline.ValueKit
public import Idealize.ShloMosaic.Lib.Claim
public import Idealize.ShloMosaic.PureOps.Ideal.Laws

@[expose] public section

set_option maxRecDepth 16384

noncomputable section

namespace Cert.Proof.RmsB

open Idealize.ShloMosaic Idealize.ShloMosaic.TcCoe Idealize.SL.Sem
open Cert.RmsBIdeal Cert.RmsBIdeal.Gen
open scoped BigOperators

theorem pay2_apply (x : FVec Ideal S256x1024 .f32) (j : S256x1.Idx) :
    k0_pay2 (F := Ideal) x j = Norm.scale (fun k => x (ix2 (j 0) k)) := by
  idx_vars j
  pointwise [k0_pay2, Norm.scale, Norm.meanSq]

theorem pay4_apply (x dh : FVec Ideal S256x1024 .f32) (g : FVec Ideal S1x1024 .f32) (r : FVec Ideal S256x1024 .f32) (j : S256x1024.Idx) :
    k0_pay4 (F := Ideal) x dh g r j = r j + Norm.gradProj (fun k => x (ix2 (j 0) k)) (fun k => dh (ix2 (j 0) k) * g (ix2 0 k)) (j 1) := by
  idx_vars j
  pointwise [k0_pay4, k0_pay3, k0_pay2, Norm.gradProj, Norm.scale, Norm.meanSq]

theorem pay6_apply (x dh : FVec Ideal S256x1024 .f32) (j : S1x1024.Idx) :
    k0_pay6 (F := Ideal) x dh j = ∑ a : Fin 256, dh (ix2 a (j 1)) * (x (ix2 a (j 1)) * Norm.scale (fun k => x (ix2 a k))) := by
  idx_vars j
  pointwise [k0_pay6, k0_pay3, k0_pay2, Norm.scale, Norm.meanSq]

/-- The norm's gradient in the rows, with the gradient that comes past the norm added on. -/
def dx (x : S4096x1024.Idx → EReal) (g : S1x1024.Idx → EReal) (dh dres : S4096x1024.Idx → EReal) (i : S4096x1024.Idx) : EReal :=
  dres i + Norm.gradProj (fun k => x (ix2 (i 0) k)) (fun k => dh (ix2 (i 0) k) * g (ix2 0 k)) (i 1)

/-- The norm's gradient in its weight: the column sums of the gradient times the normed rows. -/
def dg (x dh : S4096x1024.Idx → EReal) (i : S1x1024.Idx) : EReal :=
  ∑ a : Fin 4096, dh (ix2 a (i 1)) * (x (ix2 a (i 1)) * Norm.scale (fun k => x (ix2 a k)))

variable (m : (ℓ : Loc nD τ sig) → Buf (Elt Ideal) ℓ)

theorem visits : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem array4 (c : Dev nD) : (dats m 0 c).arrAt 4 cfg0.N
    = dx (V m c main_arg0) (V m c main_arg1) (V m c main_arg2) (V m c main_arg3) := by
  refine (dats m 0 c).arrAt_eq_of_covers 4 _ (by decide +kernel) fun t _ y => ?_
  blk_simp
  have hp : (outsAt0 m c t.val t.isLt).1 = k0_pay4 (F := Ideal) (iblk m c 0 t) (iblk m c 2 t) (iblk m c 1 t) (iblk m c 3 t) := by
    by_cases h0 : t.val % 16 = 0
    · have h1 : ¬1 ≤ t.val := by have := Nat.lt_of_lt_of_eq t.isLt N_0; omega
      rw [outsAt0_A m c t h0 h1]; frame_out
    · have h1 : 1 ≤ t.val := by omega
      rw [outsAt0_B m c t h0 h1]; frame_out
  rw [after0_4, hp, pay4_apply]
  blk_point [iblk, dx, visits t]

theorem array5 (c : Dev nD) : (dats m 0 c).arrAt 5 cfg0.N
    = dx (V m c main_arg0) (V m c main_arg1) (V m c main_arg2) (V m c main_arg3) := by
  refine (dats m 0 c).arrAt_eq_of_covers 5 _ (by decide +kernel) fun t _ y => ?_
  blk_simp
  have hp : (outsAt0 m c t.val t.isLt).2.1 = k0_pay5 (F := Ideal) (iblk m c 0 t) (iblk m c 2 t) (iblk m c 1 t) (iblk m c 3 t) := by
    by_cases h0 : t.val % 16 = 0
    · have h1 : ¬1 ≤ t.val := by have := Nat.lt_of_lt_of_eq t.isLt N_0; omega
      rw [outsAt0_A m c t h0 h1]; frame_out
    · have h1 : 1 ≤ t.val := by omega
      rw [outsAt0_B m c t h0 h1]; frame_out
  rw [after0_5, hp]
  refine (pay4_apply _ _ _ _ _).trans ?_
  blk_point [iblk, dx, visits t]

/-- The weight's gradient is a sum over the points, each adding its rows' part, so at the last point it is the sum over all rows. -/
theorem array6 (c : Dev nD) : (dats m 0 c).arrAt 6 cfg0.N = dg (V m c main_arg0) (V m c main_arg2) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun p j => k0_pay6 (F := Ideal) (iblk m c 0 p) (iblk m c 2 p) j)
    (fun t h j => by rw [outsAt0_A m c t h (by have := Nat.lt_of_lt_of_eq t.isLt N_0; omega)]; frame_out; exact (zero_add _).symm)
    (fun t h j => by rw [outsAt0_B m c t h (by omega)]; frame_out; pointwise [k0_pay1])
    (le_of_eq N_0) t0_15 rfl _, zero_add]
  show (_ : EReal) = _
  simp only [pay6_apply, dg]
  refine Fin.sum_mul_add_congr fun s k hl => ?_
  blk_point [iblk, visits s]

end Cert.Proof.RmsB
end
-- ==== Proof.RmsBClaim.lean ====
/-
  RmsB: the claims about the gradient of the root mean square norm, its reading over the reals and its reference, which
  is what differentiation makes of the norm.
-/
module

public import proofs.«01_k».proof.Proof.RmsBValue
public import proofs.«01_k».proof.Proof.Gen.RmsB.Frame
public import proofs.«01_k».proof.Proof.Gen.RmsBRefIdeal.Run
public import proofs.«01_k».proof.Proof.Gen.RmsBRefIdeal.Read
public import proofs.«01_k».proof.Defs

@[expose] public section

set_option maxRecDepth 16384

noncomputable section

namespace Cert.Proof.RmsB

open Idealize.ShloMosaic Idealize.ShloMosaic.TcCoe Idealize.SL.Sem
open Cert.RmsBRefIdeal Cert.RmsBRefIdeal.Read
open scoped BigOperators

/-- The reference's gradient in the rows, element by element. -/
theorem reference_dx (x : (⟨S4096x1024, .f32⟩ : BufTy).Contents (Elt Ideal)) (g : (⟨S1x1024, .f32⟩ : BufTy).Contents (Elt Ideal))
    (dh dres : (⟨S4096x1024, .f32⟩ : BufTy).Contents (Elt Ideal)) :
    val_main_v34 (F := Ideal) x g dh dres = dx x g dh dres := by
  funext i
  have e : dx x g dh dres i = dres i + Norm.gradDiff (fun k => x (ix2 (i 0) k)) (fun k => dh (ix2 (i 0) k) * g (ix2 0 k)) (i 1) := by
    exact congrArg (dres i + ·) (Norm.gradProj_eq _ _ _)
  refine Eq.trans ?_ e.symm
  clear e
  idx_vars i
  pointwise [val_main_v34, val_main_v33, val_main_v32, val_main_v31, val_main_v30, val_main_v29, val_main_v28, val_main_cst_6, val_main_v27,
    val_main_v26, val_main_cst_5, val_main_v25, val_main_v24, val_main_v23, val_main_v22, val_main_v21, val_main_cst_4, val_main_v20,
    val_main_v19, val_main_v18, val_main_v10, val_main_v9, val_main_cst_2, val_main_v8, val_main_v7, val_main_v6, val_main_v5,
    val_main_cst_1, val_main_v4, val_main_v3, val_main_cst_0, val_main_v2, val_main_v1, val_main_cst, val_main_v0,
    Norm.gradDiff, Norm.through, Norm.scale, Norm.meanSq, Norm.len, Norm.eps, Norm.mhalf]
  simp only [Fintype.sum_unique]

/-- The reference's gradient in the weight, element by element. -/
theorem reference_dg (x dh : (⟨S4096x1024, .f32⟩ : BufTy).Contents (Elt Ideal)) :
    val_main_v17 (F := Ideal) x dh = dg x dh := by
  funext i
  idx_vars i
  pointwise [val_main_v17, val_main_v16, val_main_cst_3, val_main_v15, val_main_v12, val_main_v11, val_main_v7, val_main_v6, val_main_v5,
    val_main_cst_1, val_main_v4, val_main_v3, val_main_cst_0, val_main_v2, val_main_v1, val_main_cst, val_main_v0,
    dg, Norm.scale, Norm.meanSq, Norm.len, Norm.eps]
  exact Finset.sum_congr rfl fun a _ => mul_comm _ _

theorem frame_kernel : Cert.quiescent_RmsB := fun m ρ _ => Cert.RmsB.Gen.frame m ρ

theorem frame_ideal : Cert.quiescent_RmsBIdeal := fun m ρ _ => Cert.RmsBIdeal.Gen.frame m ρ

theorem frame_reference : Cert.quiescent_RmsBRefIdeal := fun m ρ _ =>
  (θ_run Cert.RmsBRefIdeal.defs _ _).mono (fun r h => ⟨fun c => (h c).2.2.2, sem_eq_zero_of_no_sems (by decide) r.2⟩)
    (Cert.RmsBRefIdeal.Value.run (F := Ideal) m ρ)

/-- The kernel's three results are the reference's. -/
theorem algebraic : Cert.algebraic_RmsBIdeal_RmsBRefIdeal := by
  intro m g m' g' _ hagree
  refine ⟨fun c => dx (Cert.RmsBIdeal.Gen.V m c Cert.RmsBIdeal.main_arg0) (Cert.RmsBIdeal.Gen.V m c Cert.RmsBIdeal.main_arg1) (Cert.RmsBIdeal.Gen.V m c Cert.RmsBIdeal.main_arg2) (Cert.RmsBIdeal.Gen.V m c Cert.RmsBIdeal.main_arg3),
    fun c => dx (Cert.RmsBIdeal.Gen.V m c Cert.RmsBIdeal.main_arg0) (Cert.RmsBIdeal.Gen.V m c Cert.RmsBIdeal.main_arg1) (Cert.RmsBIdeal.Gen.V m c Cert.RmsBIdeal.main_arg2) (Cert.RmsBIdeal.Gen.V m c Cert.RmsBIdeal.main_arg3),
    fun c => dg (Cert.RmsBIdeal.Gen.V m c Cert.RmsBIdeal.main_arg0) (Cert.RmsBIdeal.Gen.V m c Cert.RmsBIdeal.main_arg2), ?_, ?_⟩
  · refine (θ_run Cert.RmsBIdeal.defs _ _).mono (fun _ h c => ?_) (Cert.RmsBIdeal.Value.run_blocks (F := Ideal) m g)
    obtain ⟨h0, h1, h2, hargs⟩ := h c
    exact ⟨h0.trans (array4 m c), h1.trans (array5 m c), h2.trans (array6 m c), hargs⟩
  · refine (θ_run Cert.RmsBRefIdeal.defs _ _).mono (fun _ h c => ?_) (Cert.RmsBRefIdeal.Value.run (F := Ideal) m' g')
    obtain ⟨h0, h1, h2, hargs⟩ := h c
    obtain ⟨a0, a1, a2, a3⟩ := hagree c
    refine ⟨(h0.trans (val_main_v34_eq _ _ _ _)).trans ((reference_dx _ _ _ _).trans ?_),
      (h1.trans (val_main_v35_eq _ _ _ _)).trans ((show _ = val_main_v34 (F := Ideal) _ _ _ _ from rfl).trans ((reference_dx _ _ _ _).trans ?_)),
      (h2.trans (val_main_v17_eq _ _)).trans ((reference_dg _ _).trans ?_), hargs⟩
    · rw [a0, a1, a2, a3]
    · rw [a0, a1, a2, a3]
    · rw [a0, a2]

end Cert.Proof.RmsB

end
-- ==== Proof.RmsFValue.lean ====
/-
  RmsF: the root mean square norm over the reals. Each point norms 256 rows.
-/
module

public import proofs.«01_k».proof.Proof.Norm
public import proofs.«01_k».proof.Proof.Gen.RmsFIdeal.Value
public import Idealize.ShloMosaic.Lib.Pipeline.ValueKit
public import Idealize.ShloMosaic.Lib.Claim

@[expose] public section

set_option maxRecDepth 16384

noncomputable section

namespace Cert.Proof.RmsF

open Idealize.ShloMosaic Idealize.ShloMosaic.TcCoe Idealize.SL.Sem
open Cert.RmsFIdeal Cert.RmsFIdeal.Gen
open scoped BigOperators

/-- The normed rows times the weight. -/
def norm (x : S4096x1024.Idx → EReal) (g : S1x1024.Idx → EReal) (i : S4096x1024.Idx) : EReal :=
  x i * Norm.scale (fun k => x (ix2 (i 0) k)) * g (ix2 0 (i 1))

theorem pay1_apply (x : FVec Ideal S256x1024 .f32) (g : FVec Ideal S1x1024 .f32) (j : S256x1024.Idx) :
    k0_pay1 (F := Ideal) x g j = x j * Norm.scale (fun k => x (ix2 (j 0) k)) * g (ix2 0 (j 1)) := by
  idx_vars j
  pointwise [k0_pay1, Norm.scale, Norm.meanSq]

variable (m : (ℓ : Loc nD τ sig) → Buf (Elt Ideal) ℓ)

theorem visits : ∀ t : Fin cfg0.N, win0_0.index t = ![t.val, 0] ∧ win0_1.index t = ![0, 0] ∧ win0_2.index t = ![t.val, 0] :=
  (by decide +kernel : ∀ t : Fin grid0.N, _)

/-- The array the run leaves. -/
theorem array (c : Dev nD) : (dats m 0 c).arrAt 2 cfg0.N = norm (V m c main_arg0) (V m c main_arg1) := by
  refine (dats m 0 c).arrAt_eq_of_covers 2 _ (by decide +kernel) fun t _ y => ?_
  blk_simp
  rw [after0_2]; frame_out
  rw [pay1_apply]
  blk_point [iblk, norm, visits t]

end Cert.Proof.RmsF

end
-- ==== Proof.RmsFClaim.lean ====
/-
  RmsF: the claims about the root mean square norm, its reading over the reals and its reference.
-/
module

public import proofs.«01_k».proof.Proof.RmsFValue
public import proofs.«01_k».proof.Proof.Gen.RmsF.Frame
public import proofs.«01_k».proof.Proof.Gen.RmsFRefIdeal.Run
public import proofs.«01_k».proof.Proof.Gen.RmsFRefIdeal.Read
public import proofs.«01_k».proof.Defs

@[expose] public section

set_option maxRecDepth 16384

noncomputable section

namespace Cert.Proof.RmsF

open Idealize.ShloMosaic Idealize.ShloMosaic.TcCoe Idealize.SL.Sem
open Cert.RmsFRefIdeal Cert.RmsFRefIdeal.Read
open scoped BigOperators

/-- The reference's result, element by element. -/
theorem reference (x : (⟨S4096x1024, .f32⟩ : BufTy).Contents (Elt Ideal)) (g : (⟨S1x1024, .f32⟩ : BufTy).Contents (Elt Ideal)) :
    val_main_v12 (F := Ideal) x g = norm x g := by
  funext i
  idx_vars i
  pointwise [val_main_v12, val_main_v11, val_main_v10, val_main_v9, val_main_v8, val_main_v7, val_main_v6, val_main_v5,
    val_main_cst_1, val_main_v4, val_main_v3, val_main_cst_0, val_main_v2, val_main_v1, val_main_cst, val_main_v0,
    norm, Norm.scale, Norm.meanSq, Norm.len, Norm.eps]

theorem frame_kernel : Cert.quiescent_RmsF := fun m ρ _ => Cert.RmsF.Gen.frame m ρ

theorem frame_ideal : Cert.quiescent_RmsFIdeal := fun m ρ _ => Cert.RmsFIdeal.Gen.frame m ρ

theorem frame_reference : Cert.quiescent_RmsFRefIdeal := fun m ρ _ =>
  (θ_run Cert.RmsFRefIdeal.defs _ _).mono (fun r h => ⟨fun c => (h c).2, sem_eq_zero_of_no_sems (by decide) r.2⟩)
    (Cert.RmsFRefIdeal.Value.run (F := Ideal) m ρ)

/-- The kernel's result is the reference's. -/
theorem algebraic : Cert.algebraic_RmsFIdeal_RmsFRefIdeal := by
  intro m g m' g' _ hagree
  refine ⟨fun c => norm (Cert.RmsFIdeal.Gen.V m c Cert.RmsFIdeal.main_arg0) (Cert.RmsFIdeal.Gen.V m c Cert.RmsFIdeal.main_arg1), ?_, ?_⟩
  · refine (θ_run Cert.RmsFIdeal.defs _ _).mono (fun _ h c => ?_) (Cert.RmsFIdeal.Value.run_blocks (F := Ideal) m g)
    exact ⟨(h c).1.trans (array m c), (h c).2⟩
  · refine (θ_run Cert.RmsFRefIdeal.defs _ _).mono (fun _ h c => ?_) (Cert.RmsFRefIdeal.Value.run (F := Ideal) m' g')
    obtain ⟨a0, a1⟩ := hagree c
    refine ⟨((h c).1.trans (val_main_v12_eq _ _)).trans ((reference _ _).trans ?_), (h c).2⟩
    rw [a0, a1]

end Cert.Proof.RmsF

end
-- ==== Proof.LossHValue.lean ====
/-
  LossH: the loss and its gradients over the reals. Each point takes 256 rows, adds their part of the loss and of the
  weight's gradient to the sums so far, and leaves the rows' own gradients.
-/
module

public import proofs.«01_k».proof.Proof.Norm
public import proofs.«01_k».proof.Proof.Gen.LossHIdeal.Value
public import Idealize.ShloMosaic.Lib.Pipeline.ValueKit
public import Idealize.ShloMosaic.Lib.Claim

@[expose] public section

set_option maxRecDepth 16384

noncomputable section

namespace Cert.Proof.LossH

open Idealize.ShloMosaic Idealize.ShloMosaic.TcCoe Idealize.SL.Sem
open Cert.LossHIdeal Cert.LossHIdeal.Gen
open scoped BigOperators

/-- One over the number of entries of a row, as the kernel writes it. -/
abbrev share : EReal := Ideal.ofBits .f32 0x3A800000#32

/-- One half. -/
abbrev half : EReal := Ideal.ofBits .f32 0x3F000000#32

/-- The error of one row: the normed row times the weight, less the target. -/
def err (x g t : Fin 1024 → EReal) (k : Fin 1024) : EReal := x k * Norm.scale x * g k - t k

/-- The loss's gradient at one row's normed and weighted entry. -/
def errGrad (x g t : Fin 1024 → EReal) (k : Fin 1024) : EReal := err x g t k * share

/-- One row's mean square error. -/
def rowLoss (x g t : Fin 1024 → EReal) : EReal := Ideal.div (∑ k, err x g t k * err x g t k) Norm.len

/-- The gradient in one row. -/
def rowGrad (x g t : Fin 1024 → EReal) (j : Fin 1024) : EReal := Norm.gradProj x (fun k => errGrad x g t k * g k) j

/-- One row's part of the gradient in the weight. -/
def rowWeight (x g t : Fin 1024 → EReal) (j : Fin 1024) : EReal := errGrad x g t j * (x j * Norm.scale x)

/-- A row of an array of rows of 1024. -/
abbrev row {n : ℕ} (x : (⟨2, ![n, 1024]⟩ : Shape).Idx → EReal) (a : Fin n) (k : Fin 1024) : EReal := x (ix2 a k)

theorem pay10_apply (x : FVec Ideal S256x1024 .f32) (g : FVec Ideal S1x1024 .f32) (t : FVec Ideal S256x1024 .f32) (j : S256x1024.Idx) :
    k0_pay10 (F := Ideal) x g t j = rowGrad (row x (j 0)) (row g 0) (row t (j 0)) (j 1) := by
  idx_vars j
  pointwise [k0_pay10, k0_pay9, k0_pay7, k0_pay6, k0_pay5, rowGrad, errGrad, err, row, share, Norm.gradProj, Norm.scale, Norm.meanSq, Norm.len, Norm.eps]

theorem pay8_apply (x : FVec Ideal S256x1024 .f32) (g : FVec Ideal S1x1024 .f32) (t : FVec Ideal S256x1024 .f32) (j : S1x1.Idx) :
    k0_pay8 (F := Ideal) x g t j = half * ∑ a : Fin 256, rowLoss (row x a) (row g 0) (row t a) := by
  idx_vars j
  pointwise [k0_pay8, k0_pay7, k0_pay6, k0_pay5, rowLoss, err, row, half, Norm.scale, Norm.meanSq, Norm.len, Norm.eps]

theorem pay3_apply (x : FVec Ideal S256x1024 .f32) (g : FVec Ideal S1x1024 .f32) (t : FVec Ideal S256x1024 .f32) (j : S1x1024.Idx) :
    k0_pay3 (F := Ideal) (k0_pay6 x) (k0_pay9 x g t) j = ∑ a : Fin 256, rowWeight (row x a) (row g 0) (row t a) (j 1) := by
  idx_vars j
  pointwise [k0_pay3, k0_pay9, k0_pay7, k0_pay6, k0_pay5, rowWeight, errGrad, err, row, share, Norm.scale, Norm.meanSq, Norm.len, Norm.eps]

/-- The gradient in the rows. -/
def dx (x : S4096x1024.Idx → EReal) (g : S1x1024.Idx → EReal) (t : S4096x1024.Idx → EReal) (i : S4096x1024.Idx) : EReal :=
  rowGrad (row x (i 0)) (row g 0) (row t (i 0)) (i 1)

/-- The loss. -/
def loss (x : S4096x1024.Idx → EReal) (g : S1x1024.Idx → EReal) (t : S4096x1024.Idx → EReal) (_ : S1x1.Idx) : EReal :=
  half * ∑ a : Fin 4096, rowLoss (row x a) (row g 0) (row t a)

/-- The gradient in the weight. -/
def dg (x : S4096x1024.Idx → EReal) (g : S1x1024.Idx → EReal) (t : S4096x1024.Idx → EReal) (i : S1x1024.Idx) : EReal :=
  ∑ a : Fin 4096, rowWeight (row x a) (row g 0) (row t a) (i 1)

theorem half_eq : half = ((1 / 2 : ℝ) : EReal) := by
  simp [half, Ideal.ofBits, Ideal.ieee, -EReal.coe_mul]; norm_num

variable (m : (ℓ : Loc nD τ sig) → Buf (Elt Ideal) ℓ)

/-- The rows' windows visit, at a point, the block of that number; the weight's and the sums' stay. -/
theorem visits : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem lt16 (t : Fin cfg0.N) : t.val < 16 := Nat.lt_of_lt_of_eq t.isLt N_0

theorem array4 (c : Dev nD) : (dats m 0 c).arrAt 4 cfg0.N = dx (V m c main_arg0) (V m c main_arg1) (V m c main_arg2) := by
  refine (dats m 0 c).arrAt_eq_of_covers 4 _ (by decide +kernel) fun t _ y => ?_
  blk_simp
  have ht := lt16 t
  have hp : (outsAt0 m c t.val t.isLt).2.1 = k0_pay10 (F := Ideal) (iblk m c 0 t) (iblk m c 1 t) (iblk m c 2 t) := by
    by_cases h0 : t.val % 16 = 0
    · rw [outsAt0_A m c t h0 (by omega) h0 (by omega)]; frame_out
    · rw [outsAt0_B m c t h0 (by omega) h0 (by omega)]; frame_out
  rw [after0_4, hp, pay10_apply]
  unfold dx
  refine congr (congr (congr (congrArg rowGrad (funext fun k => ?_)) (funext fun k => ?_)) (funext fun k => ?_)) ?_
  · blk_point [iblk, row, visits t]
  · blk_point [iblk, row, visits t]
  · blk_point [iblk, row, visits t]
  · refine Fin.ext ?_
    show (y 1).val = ((win0_4.blk t).view.emb y 1).val
    blk_simp [visits t]

theorem array5 (c : Dev nD) : (dats m 0 c).arrAt 5 cfg0.N = dx (V m c main_arg0) (V m c main_arg1) (V m c main_arg2) := by
  refine (dats m 0 c).arrAt_eq_of_covers 5 _ (by decide +kernel) fun t _ y => ?_
  blk_simp
  have ht := lt16 t
  have hp : (outsAt0 m c t.val t.isLt).2.2.1 = k0_pay1 (F := Ideal) (k0_pay10 (F := Ideal) (iblk m c 0 t) (iblk m c 1 t) (iblk m c 2 t)) := by
    by_cases h0 : t.val % 16 = 0
    · rw [outsAt0_A m c t h0 (by omega) h0 (by omega)]; frame_out
    · rw [outsAt0_B m c t h0 (by omega) h0 (by omega)]; frame_out
  rw [after0_5, hp]
  refine (pay10_apply _ _ _ _).trans ?_
  unfold dx
  refine congr (congr (congr (congrArg rowGrad (funext fun k => ?_)) (funext fun k => ?_)) (funext fun k => ?_)) ?_
  · blk_point [iblk, row, visits t]
  · blk_point [iblk, row, visits t]
  · blk_point [iblk, row, visits t]
  · refine Fin.ext ?_
    show (y 1).val = ((win0_5.blk t).view.emb y 1).val
    blk_simp [visits t]

/-- The loss is a sum over the points, each adding half its rows' mean square errors: half the sum over all rows. -/
theorem array3 (c : Dev nD) : (dats m 0 c).arrAt 3 cfg0.N = loss (V m c main_arg0) (V m c main_arg1) (V m c main_arg2) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0)
    (fun p j => k0_pay8 (F := Ideal) (iblk m c 0 p) (iblk m c 1 p) (iblk m c 2 p) j)
    (fun t h j => by have := lt16 t; rw [outsAt0_A m c t h (by omega) h (by omega)]; frame_out; exact (zero_add _).symm)
    (fun t h j => by rw [outsAt0_B m c t h (by omega) h (by omega)]; frame_out; pointwise [k0_pay2])
    (le_of_eq N_0) t0_15 rfl _, zero_add]
  show (_ : EReal) = _
  simp only [pay8_apply, loss]
  rw [half_eq, ← Norm.coe_mul_sum _ _ (by norm_num)]
  refine congrArg (_ * ·) ?_
  refine Fin.sum_mul_add_congr fun s k hl => ?_
  blk_point [iblk, row, visits s]

/-- The weight's gradient is a sum over the points, each adding its rows' part. -/
theorem array6 (c : Dev nD) : (dats m 0 c).arrAt 6 cfg0.N = dg (V m c main_arg0) (V m c main_arg1) (V m c main_arg2) := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0)
    (fun p j => k0_pay3 (F := Ideal) (k0_pay6 (iblk m c 0 p)) (k0_pay9 (iblk m c 0 p) (iblk m c 1 p) (iblk m c 2 p)) j)
    (fun t h j => by have := lt16 t; rw [outsAt0_A m c t h (by omega) h (by omega)]; frame_out; exact (zero_add _).symm)
    (fun t h j => by rw [outsAt0_B m c t h (by omega) h (by omega)]; frame_out; pointwise [k0_pay4])
    (le_of_eq N_0) t0_15 rfl _, zero_add]
  show (_ : EReal) = _
  simp only [pay3_apply, dg]
  refine Fin.sum_mul_add_congr fun s k hl => ?_
  blk_point [iblk, row, visits s]

end Cert.Proof.LossH

end
-- ==== Proof.LossHClaim.lean ====
/-
  LossH: the claims about the loss and its gradients, their reading over the reals and their reference, which is what
  differentiation makes of the loss.
-/
module

public import proofs.«01_k».proof.Proof.LossHValue
public import proofs.«01_k».proof.Proof.Gen.LossH.Frame
public import proofs.«01_k».proof.Proof.Gen.LossHRefIdeal.Run
public import proofs.«01_k».proof.Proof.Gen.LossHRefIdeal.Read
public import proofs.«01_k».proof.Defs

@[expose] public section

set_option maxRecDepth 16384

noncomputable section

namespace Cert.Proof.LossH

open Idealize.ShloMosaic Idealize.ShloMosaic.TcCoe Idealize.SL.Sem
open Cert.LossHRefIdeal Cert.LossHRefIdeal.Read
open scoped BigOperators

/-- Two, the square's derivative. -/
abbrev two : EReal := Ideal.ofBits .f32 0x40000000#32

theorem two_eq : two = ((2 : ℝ) : EReal) := by
  simp [two, Ideal.ofBits, Ideal.ieee, -EReal.coe_mul]; norm_num

theorem share_eq : share = ((1 / 1024 : ℝ) : EReal) := by
  simp [share, Ideal.ofBits, Ideal.ieee, -EReal.coe_mul]; norm_num

/-- Half of a row's share of twice the error is the error's share. -/
theorem errGrad_eq (x g t : Fin 1024 → EReal) (k : Fin 1024) :
    Ideal.div half Norm.len * (two * err x g t k) = errGrad x g t k := by
  rw [errGrad, half_eq, two_eq, share_eq, Norm.len_eq, Ideal.div_coe (by norm_num), ← mul_assoc, ← EReal.coe_mul, ← EReal.coe_mul, mul_comm]
  congr 2
  norm_num

theorem reference_dx (x : (⟨S4096x1024, .f32⟩ : BufTy).Contents (Elt Ideal)) (g : (⟨S1x1024, .f32⟩ : BufTy).Contents (Elt Ideal))
    (t : (⟨S4096x1024, .f32⟩ : BufTy).Contents (Elt Ideal)) : val_main_v48 (F := Ideal) x g t = dx x g t := by
  funext i
  idx_vars i
  show _ = Norm.gradProj (row x i0) (fun k => errGrad (row x i0) (row g 0) (row t i0) k * row g 0 k) i1
  rw [Norm.gradProj_eq]
  simp only [← errGrad_eq]
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_cst_3, val_main_v17, val_main_v18,
    val_main_cst_4, val_main_v19, val_main_cst_5, val_main_v20, val_main_v21, val_main_cst_6, val_main_v22, val_main_cst_7,
    val_main_v23, val_main_cst_8, val_main_cst_9, val_main_v24, val_main_v25, val_main_cst_10, val_main_v26, val_main_v27,
    val_main_v28, val_main_v29, val_main_v30, val_main_cst_11, val_main_v31, val_main_v32, val_main_v33, val_main_v34,
    val_main_v35, val_main_cst_12, val_main_v36, val_main_v37, val_main_v38, val_main_v39, val_main_v40, val_main_cst_13,
    val_main_v41, val_main_v42, val_main_cst_14, val_main_v43, val_main_v44, val_main_v45, val_main_v46, val_main_v47,
    val_main_v48, val_main_v49, val_main_v50, Norm.gradDiff, Norm.through,
    err, row, two, half, Norm.scale, Norm.meanSq, Norm.len, Norm.eps, Norm.mhalf]
  simp only [Fintype.sum_unique]

theorem reference_dg (x : (⟨S4096x1024, .f32⟩ : BufTy).Contents (Elt Ideal)) (g : (⟨S1x1024, .f32⟩ : BufTy).Contents (Elt Ideal))
    (t : (⟨S4096x1024, .f32⟩ : BufTy).Contents (Elt Ideal)) : val_main_v32 (F := Ideal) x g t = dg x g t := by
  funext i
  idx_vars i
  show _ = ∑ a : Fin 4096, errGrad (row x a) (row g 0) (row t a) i1 * (row x a i1 * Norm.scale (row x a))
  simp only [← errGrad_eq]
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_cst_3, val_main_v17, val_main_v18,
    val_main_cst_4, val_main_v19, val_main_cst_5, val_main_v20, val_main_v21, val_main_cst_6, val_main_v22, val_main_cst_7,
    val_main_v23, val_main_cst_8, val_main_cst_9, val_main_v24, val_main_v25, val_main_cst_10, val_main_v26, val_main_v27,
    val_main_v28, val_main_v29, val_main_v30, val_main_cst_11, val_main_v31, val_main_v32, val_main_v33, val_main_v34,
    val_main_v35, val_main_cst_12, val_main_v36, val_main_v37, val_main_v38, val_main_v39, val_main_v40, val_main_cst_13,
    val_main_v41, val_main_v42, val_main_cst_14, val_main_v43, val_main_v44, val_main_v45, val_main_v46, val_main_v47,
    val_main_v48, val_main_v49, val_main_v50, err, row, two, half, Norm.scale, Norm.meanSq, Norm.len, Norm.eps]
  exact Finset.sum_congr rfl fun a _ => mul_comm _ _

theorem reference_loss (x : (⟨S4096x1024, .f32⟩ : BufTy).Contents (Elt Ideal)) (g : (⟨S1x1024, .f32⟩ : BufTy).Contents (Elt Ideal))
    (t : (⟨S4096x1024, .f32⟩ : BufTy).Contents (Elt Ideal)) : val_main_v49 (F := Ideal) x g t = loss x g t := by
  funext i
  idx_vars i
  pointwise [val_main_v0, val_main_cst, val_main_v1, val_main_v2, val_main_cst_0, val_main_v3, val_main_v4, val_main_cst_1,
    val_main_v5, val_main_v6, val_main_v7, val_main_v8, val_main_cst_2, val_main_v9, val_main_v10, val_main_v11,
    val_main_v12, val_main_v13, val_main_v14, val_main_v15, val_main_v16, val_main_cst_3, val_main_v17, val_main_v18,
    val_main_cst_4, val_main_v19, val_main_cst_5, val_main_v20, val_main_v21, val_main_cst_6, val_main_v22, val_main_cst_7,
    val_main_v23, val_main_cst_8, val_main_cst_9, val_main_v24, val_main_v25, val_main_cst_10, val_main_v26, val_main_v27,
    val_main_v28, val_main_v29, val_main_v30, val_main_cst_11, val_main_v31, val_main_v32, val_main_v33, val_main_v34,
    val_main_v35, val_main_cst_12, val_main_v36, val_main_v37, val_main_v38, val_main_v39, val_main_v40, val_main_cst_13,
    val_main_v41, val_main_v42, val_main_cst_14, val_main_v43, val_main_v44, val_main_v45, val_main_v46, val_main_v47,
    val_main_v48, val_main_v49, val_main_v50, loss, rowLoss, err, row, half, Norm.scale, Norm.meanSq, Norm.len, Norm.eps]

theorem frame_kernel : Cert.quiescent_LossH := fun m ρ _ => Cert.LossH.Gen.frame m ρ

theorem frame_ideal : Cert.quiescent_LossHIdeal := fun m ρ _ => Cert.LossHIdeal.Gen.frame m ρ

theorem frame_reference : Cert.quiescent_LossHRefIdeal := fun m ρ _ =>
  (θ_run Cert.LossHRefIdeal.defs _ _).mono (fun r h => ⟨fun c => (h c).2.2.2.2, sem_eq_zero_of_no_sems (by decide) r.2⟩)
    (Cert.LossHRefIdeal.Value.run (F := Ideal) m ρ)

/-- The kernel's four results are the reference's. -/
theorem algebraic : Cert.algebraic_LossHIdeal_LossHRefIdeal := by
  intro m g m' g' _ hagree
  refine ⟨fun c => loss (Cert.LossHIdeal.Gen.V m c Cert.LossHIdeal.main_arg0) (Cert.LossHIdeal.Gen.V m c Cert.LossHIdeal.main_arg1) (Cert.LossHIdeal.Gen.V m c Cert.LossHIdeal.main_arg2), fun c => dx (Cert.LossHIdeal.Gen.V m c Cert.LossHIdeal.main_arg0) (Cert.LossHIdeal.Gen.V m c Cert.LossHIdeal.main_arg1) (Cert.LossHIdeal.Gen.V m c Cert.LossHIdeal.main_arg2), fun c => dx (Cert.LossHIdeal.Gen.V m c Cert.LossHIdeal.main_arg0) (Cert.LossHIdeal.Gen.V m c Cert.LossHIdeal.main_arg1) (Cert.LossHIdeal.Gen.V m c Cert.LossHIdeal.main_arg2), fun c => dg (Cert.LossHIdeal.Gen.V m c Cert.LossHIdeal.main_arg0) (Cert.LossHIdeal.Gen.V m c Cert.LossHIdeal.main_arg1) (Cert.LossHIdeal.Gen.V m c Cert.LossHIdeal.main_arg2), ?_, ?_⟩
  · refine (θ_run Cert.LossHIdeal.defs _ _).mono (fun _ h c => ?_) (Cert.LossHIdeal.Value.run_blocks (F := Ideal) m g)
    obtain ⟨h0, h1, h2, h3, hargs⟩ := h c
    exact ⟨h0.trans (array3 m c), h1.trans (array4 m c), h2.trans (array5 m c), h3.trans (array6 m c), hargs⟩
  · refine (θ_run Cert.LossHRefIdeal.defs _ _).mono (fun _ h c => ?_) (Cert.LossHRefIdeal.Value.run (F := Ideal) m' g')
    obtain ⟨h0, h1, h2, h3, hargs⟩ := h c
    obtain ⟨a0, a1, a2⟩ := hagree c
    refine ⟨(h0.trans (val_main_v49_eq _ _ _)).trans ((reference_loss _ _ _).trans ?_),
      (h1.trans (val_main_v48_eq _ _)).trans ((reference_dx _ _ _).trans ?_),
      (h2.trans (val_main_v50_eq _ _)).trans ((show _ = val_main_v48 (F := Ideal) _ _ _ from rfl).trans ((reference_dx _ _ _).trans ?_)),
      (h3.trans (val_main_v32_eq _ _ _)).trans ((reference_dg _ _ _).trans ?_), hargs⟩
    all_goals rw [a0, a1, a2]

end Cert.Proof.LossH

end
-- ==== Proof.Gate.lean ====
/-
  The logistic function over the reals with their infinities, as the kernels and the references write it.
-/
module

public import Idealize.ShloMosaic.PureOps.Ideal.Laws

@[expose] public section

noncomputable section

namespace Cert.Gate

open Idealize.ShloMosaic

/-- The logistic function with the sign taken by `-`, as the references have it. -/
def logistic (a : EReal) : EReal := Ideal.div 1 (1 + Ideal.exp (-a))

theorem logistic_bot : logistic ⊥ = 0 := by
  unfold logistic
  rw [EReal.neg_bot, Ideal.exp_top, show (1 : EReal) + ⊤ = ⊤ from EReal.add_top_of_ne_bot (by decide)]
  rw [Ideal.div, if_neg (by decide), EReal.inv_top, mul_zero]

theorem logistic_top : logistic ⊤ = 1 := by
  unfold logistic
  rw [EReal.neg_top, Ideal.exp_bot, add_zero, show (1 : EReal) = ((1 : ℝ) : EReal) from rfl,
    Ideal.div_coe one_ne_zero]
  norm_num

theorem logistic_coe (a : ℝ) : logistic a = ((1 / (1 + Real.exp (-a)) : ℝ) : EReal) := by
  have h : (1 + Real.exp (-a)) ≠ 0 := by positivity
  unfold logistic
  rw [← EReal.coe_neg, Ideal.exp_coe, show (1 : EReal) = ((1 : ℝ) : EReal) from rfl, ← EReal.coe_add, Ideal.div_coe h,
    ← EReal.coe_mul, one_mul]

/-- The derivative of `a · logistic a`, written with the factor `logistic a` taken out, against its two terms. The
    incoming value is a number; `a` may be infinite. -/
theorem silu_grad (c : ℝ) (a : EReal) :
    (c : EReal) * logistic a * (1 + a * (1 - logistic a))
      = c * logistic a + a * c * (logistic a * (1 - logistic a)) := by
  induction a with
  | bot => rw [logistic_bot]; simp
  | top =>
    have e : (1 : EReal) - 1 = 0 := by
      rw [show (1 : EReal) = ((1 : ℝ) : EReal) from rfl, ← EReal.coe_sub, sub_self, EReal.coe_zero]
    rw [logistic_top, e]; simp
  | coe a =>
    rw [logistic_coe]
    generalize 1 / (1 + Real.exp (-a)) = s
    rw [show (1 : EReal) = ((1 : ℝ) : EReal) from rfl]
    norm_cast
    ring

/-- A number whose size is below infinity is real. -/
theorem exists_coe {x : EReal} (h : max x (-x) < ⊤) : ∃ r : ℝ, x = r := by
  induction x with
  | bot => simp at h
  | top => simp at h
  | coe r => exact ⟨r, rfl⟩

end Cert.Gate

end
-- ==== Proof.SwiBValue.lean ====
/-
  SwiB: the gradient of the feed-forward gate over the reals. Each point takes 256 rows; the first half of a row of the
  result is the gradient of the gate, the second half that of the gated values.
-/
module

public import proofs.«01_k».proof.Proof.Gate
public import proofs.«01_k».proof.Proof.Gen.SwiBIdeal.Value
public import Idealize.ShloMosaic.Lib.Pipeline.ValueKit
public import Idealize.ShloMosaic.Lib.Claim

@[expose] public section

set_option maxRecDepth 16384

noncomputable section

namespace Cert.Proof.SwiB

open Idealize.ShloMosaic Idealize.ShloMosaic.TcCoe Idealize.SL.Sem
open Cert.SwiBIdeal Cert.SwiBIdeal.Gen
open scoped BigOperators

/-- The column of the array's second half. -/
abbrev right (k : Fin 2816) : Fin 5632 := ⟨2816 + k.val, by omega⟩

/-- The column of the array's first half. -/
abbrev left (k : Fin 2816) : Fin 5632 := ⟨k.val, by omega⟩

/-- The gradient of the first half's value at `(r, k)`. -/
def gateGrad (x : S4096x5632.Idx → EReal) (d : S4096x2816.Idx → EReal) (r : Fin 4096) (k : Fin 2816) : EReal :=
  d (ix2 r k) * x (ix2 r (right k)) * Gate.logistic (x (ix2 r (left k)))
    * (1 + x (ix2 r (left k)) * (1 - Gate.logistic (x (ix2 r (left k)))))

/-- The gradient of the second half's value at `(r, k)`. -/
def valueGrad (x : S4096x5632.Idx → EReal) (d : S4096x2816.Idx → EReal) (r : Fin 4096) (k : Fin 2816) : EReal :=
  d (ix2 r k) * x (ix2 r (left k)) * Gate.logistic (x (ix2 r (left k)))

/-- The two halves side by side. -/
def grads (x : S4096x5632.Idx → EReal) (d : S4096x2816.Idx → EReal) (i : S4096x5632.Idx) : EReal :=
  if h : (i 1).val < 2816 then gateGrad x d (i 0) ⟨(i 1).val, h⟩
  else valueGrad x d (i 0) ⟨(i 1).val - 2816, by have : (i 1).val < 5632 := (i 1).isLt; omega⟩

theorem low_apply (a d b : FVec Ideal S256x2816 .bf16) (j : S256x2816.Idx) :
    k0_pay4 (F := Ideal) a d b j = d j * b j * Gate.logistic (a j) * (1 + a j * (1 - Gate.logistic (a j))) := by
  idx_vars j
  pointwise [k0_pay4, k0_pay3, k0_pay2, k0_pay1, Gate.logistic]
  simp only [zero_sub]

theorem high_apply (a d : FVec Ideal S256x2816 .bf16) (j : S256x2816.Idx) :
    k0_pay5 (F := Ideal) a d j = d j * a j * Gate.logistic (a j) := by
  idx_vars j
  pointwise [k0_pay5, k0_pay3, k0_pay2, k0_pay1, Gate.logistic]
  simp only [zero_sub]

variable (m : (ℓ : Loc nD τ sig) → Buf (Elt Ideal) ℓ)

theorem visits : ∀ t : Fin cfg0.N, win0_0.index t = ![t.val, 0] ∧ win0_1.index t = ![t.val, 0] ∧ win0_2.index t = ![t.val, 0] :=
  (by decide +kernel : ∀ t : Fin grid0.N, _)

/-- The array the run leaves. -/
theorem array (c : Dev nD) : (dats m 0 c).arrAt 2 cfg0.N = grads (V m c main_arg0) (V m c main_arg1) := by
  refine (dats m 0 c).arrAt_eq_of_covers 2 _ (by decide +kernel) fun t _ y => ?_
  have e : (((View.whole main_v0).slice (win0_2.rect t)).emb y 1).val = (y 1).val := by
    show ((win0_2.blk t).view.emb y 1).val = (y 1).val
    blk_simp [visits t]
  have e' : ((win0_2.blk t).view.emb y 1).val = (y 1).val := e
  blk_simp
  rw [after0_2]
  canon_tiles x h
  · rw [high_apply]
    unfold grads
    rw [dif_neg (by omega)]
    blk_point [iblk, valueGrad, visits t]
    all_goals omega
  · rw [low_apply]
    unfold grads
    rw [dif_pos (by omega)]
    blk_point [iblk, gateGrad, visits t]
    all_goals omega

end Cert.Proof.SwiB

end
-- ==== Proof.SwiBClaim.lean ====
/-
  SwiB: the claims about the gradient of the feed-forward gate, its reading over the reals and its reference. The
  incoming gradient and the values that pass the gate are numbers, as the precondition says; the gate's own argument is
  any.
-/
module

public import proofs.«01_k».proof.Proof.SwiBValue
public import proofs.«01_k».proof.Proof.Gen.SwiB.Frame
public import proofs.«01_k».proof.Proof.Gen.SwiBRefIdeal.Run
public import proofs.«01_k».proof.Proof.Gen.SwiBRefIdeal.Read
public import proofs.«01_k».proof.Defs

@[expose] public section

set_option maxRecDepth 16384

noncomputable section

namespace Cert.Proof.SwiB

open Idealize.ShloMosaic Idealize.ShloMosaic.TcCoe Idealize.SL.Sem
open Cert.SwiBRefIdeal Cert.SwiBRefIdeal.Read
open scoped BigOperators

/-- The shapes of the precondition's operations. -/
theorem pre_facts : Cert.Pre_finite.Facts where
  slices_S4096x5632_S4096x2816_0_2816 := by decide
  bitsLt_bf16_f32 := by decide
  bcast_S_S4096x2816 := by decide

/-- What the precondition says of one row and one column: both factors of the gradient there are real. -/
theorem finite_apply (x : FVec Ideal S4096x5632 .bf16) (d : FVec Ideal S4096x2816 .bf16)
    (h : @Cert.Pre_finite.fn pre_facts Ideal _ x d = fun _ => 1#1) (r : Fin 4096) (k : Fin 2816) :
    (∃ u : ℝ, x (ix2 r (right k)) = u) ∧ ∃ v : ℝ, d (ix2 r k) = v := by
  have e := congrFun h (ix2 r k)
  let := pre_facts
  pointwise [Cert.Pre_finite.fn] at e
  rw [show Ideal.ofBits .f32 2139095040#32 = ⊤ from by simp [Ideal.ofBits, Ideal.ieee]] at e
  simp only [hlo_ix] at e
  exact ⟨Gate.exists_coe e.1, Gate.exists_coe e.2⟩

theorem left_half (x : (⟨S4096x5632, .bf16⟩ : BufTy).Contents (Elt Ideal)) (d : (⟨S4096x2816, .bf16⟩ : BufTy).Contents (Elt Ideal))
    (r : Fin 4096) (k : Fin 2816) (hu : ∃ u : ℝ, x (ix2 r (right k)) = u) (hv : ∃ v : ℝ, d (ix2 r k) = v) :
    val_main_v8 (F := Ideal) x d (ix2 r k) = gateGrad x d r k := by
  obtain ⟨u, hu⟩ := hu
  obtain ⟨v, hv⟩ := hv
  have e := Gate.silu_grad (v * u) (x (ix2 r (left k)))
  rw [EReal.coe_mul, ← hu, ← hv] at e
  rw [gateGrad, e]
  pointwise [val_main_v8, val_main_call1_v2, val_main_call1_v1, val_main_call1_v0, val_main_v7, val_main_v6, val_main_v5,
    val_main_call0_v0, val_main_call0_v1, val_main_call0_cst, val_main_call0_v2, val_main_call0_v3,
    val_main_call0_cst_0, val_main_call0_v4, val_main_call0_cst_1, val_main_call0_v6, val_main_call0_v7, val_main_v3_0, val_main_v3_1, val_main_v3_2, val_main_v2, val_main_v1, val_main_v0, Gate.logistic]

theorem right_half (x : (⟨S4096x5632, .bf16⟩ : BufTy).Contents (Elt Ideal)) (d : (⟨S4096x2816, .bf16⟩ : BufTy).Contents (Elt Ideal))
    (r : Fin 4096) (k : Fin 2816) : val_main_v6 (F := Ideal) x d (ix2 r k) = valueGrad x d r k := by
  pointwise [val_main_v6, val_main_v5,
    val_main_call0_v0, val_main_call0_v1, val_main_call0_cst, val_main_call0_v2, val_main_call0_v3,
    val_main_call0_cst_0, val_main_call0_v4, val_main_call0_cst_1, val_main_call0_v6, val_main_call0_v7, val_main_v3_0, val_main_v3_1, val_main_v3_2, val_main_v2, val_main_v1, val_main_v0, valueGrad, Gate.logistic]
  rw [mul_comm, mul_assoc]

/-- The reference's result, element by element. -/
theorem reference (x : (⟨S4096x5632, .bf16⟩ : BufTy).Contents (Elt Ideal)) (d : (⟨S4096x2816, .bf16⟩ : BufTy).Contents (Elt Ideal))
    (h : @Cert.Pre_finite.fn pre_facts Ideal _ x d = fun _ => 1#1) : val_main_v10 (F := Ideal) x d = grads x d := by
  funext i
  rw [val_main_v10_apply]
  refine Eq.trans (b := val_main_v9 (F := Ideal) x d i) rfl ?_
  unfold val_main_v9 grads
  have hi : (i 1).val < 5632 := (i 1).isLt
  by_cases hk : (i 1).val < 2816
  · rw [dif_pos hk]
    have hf := finite_apply x d h (i 0) ⟨(i 1).val, hk⟩
    rw [← left_half x d (i 0) ⟨(i 1).val, hk⟩ hf.1 hf.2]
    exact concatenate_pair_apply_left (t := S4096x5632) (s₁ := S4096x2816) (s₂ := S4096x2816) 1 _ _ _ i rfl
      (ix2 (i 0) ⟨(i 1).val, hk⟩) (fun b => by fin_cases b <;> rfl)
  · rw [dif_neg hk, ← right_half x d (i 0) ⟨(i 1).val - 2816, by omega⟩]
    refine concatenate_pair_apply_right (t := S4096x5632) (s₁ := S4096x2816) (s₂ := S4096x2816) 1 _ _ _ i rfl rfl
      (ix2 (i 0) ⟨(i 1).val - 2816, by omega⟩) (fun b hb => ?_) ?_
    · fin_cases b
      · rfl
      · exact absurd rfl hb
    · show (i 1).val - 2816 + 2816 = (i 1).val
      omega

theorem frame_kernel : Cert.quiescent_SwiB := fun m ρ _ => Cert.SwiB.Gen.frame m ρ

theorem frame_ideal : Cert.quiescent_SwiBIdeal := fun m ρ _ => Cert.SwiBIdeal.Gen.frame m ρ

theorem frame_ideal_pre : @Cert.quiescent_SwiBIdeal_pre_finite _ pre_facts := fun m ρ _ => Cert.SwiBIdeal.Gen.frame m ρ

theorem frame_reference : Cert.quiescent_SwiBRefIdeal := fun m ρ _ =>
  (θ_run Cert.SwiBRefIdeal.defs _ _).mono (fun r h => ⟨fun c => (h c).2, sem_eq_zero_of_no_sems (by decide) r.2⟩)
    (Cert.SwiBRefIdeal.Value.run (F := Ideal) m ρ)

theorem frame_reference_pre : @Cert.quiescent_SwiBRefIdeal_pre_finite _ pre_facts := fun m ρ _ =>
  frame_reference m ρ trivial

/-- The kernel's result is the reference's. -/
theorem algebraic : @Cert.algebraic_SwiBIdeal_SwiBRefIdeal_pre_finite _ _ pre_facts := by
  intro m g m' g' hpre hagree
  refine ⟨fun c => grads (Cert.SwiBIdeal.Gen.V m c Cert.SwiBIdeal.main_arg0) (Cert.SwiBIdeal.Gen.V m c Cert.SwiBIdeal.main_arg1), ?_, ?_⟩
  · refine (θ_run Cert.SwiBIdeal.defs _ _).mono (fun _ h c => ?_) (Cert.SwiBIdeal.Value.run_blocks (F := Ideal) m g)
    exact ⟨(h c).1.trans (array m c), (h c).2⟩
  · refine (θ_run Cert.SwiBRefIdeal.defs _ _).mono (fun _ h c => ?_) (Cert.SwiBRefIdeal.Value.run (F := Ideal) m' g')
    obtain ⟨a0, a1⟩ := hagree c
    have hp := hpre c
    refine ⟨((h c).1.trans (val_main_v10_eq _ _)).trans ((reference _ _ ?_).trans ?_), (h c).2⟩
    · rw [a0, a1]
      exact hp
    · rw [a0, a1]

end Cert.Proof.SwiB

end
-- ==== Proof.SwiFValue.lean ====
/-
  SwiF: the gate of the feed-forward block over the reals. Each point gates 256 rows.
-/
module

public import proofs.«01_k».proof.Proof.Gate
public import proofs.«01_k».proof.Proof.Gen.SwiFIdeal.Value
public import Idealize.ShloMosaic.Lib.Pipeline.ValueKit
public import Idealize.ShloMosaic.Lib.Claim

@[expose] public section

set_option maxRecDepth 16384

noncomputable section

namespace Cert.Proof.SwiF

open Idealize.ShloMosaic Idealize.ShloMosaic.TcCoe Idealize.SL.Sem
open Cert.SwiFIdeal Cert.SwiFIdeal.Gen
open scoped BigOperators

/-- The column of the array's first half. -/
abbrev left (k : Fin 2816) : Fin 5632 := ⟨k.val, by omega⟩

/-- The column of the array's second half. -/
abbrev right (k : Fin 2816) : Fin 5632 := ⟨2816 + k.val, by omega⟩

/-- The gated values: the first half's `a · logistic a` times the second half. -/
def gated (x : S4096x5632.Idx → EReal) (i : S4096x2816.Idx) : EReal :=
  x (ix2 (i 0) (left (i 1))) * Gate.logistic (x (ix2 (i 0) (left (i 1)))) * x (ix2 (i 0) (right (i 1)))

theorem pay1_apply (a b : FVec Ideal S256x2816 .bf16) (j : S256x2816.Idx) :
    k0_pay1 (F := Ideal) a b j = a j * Gate.logistic (a j) * b j := by
  idx_vars j
  pointwise [k0_pay1, Gate.logistic]
  rw [zero_sub]

variable (m : (ℓ : Loc nD τ sig) → Buf (Elt Ideal) ℓ)

theorem visits : ∀ t : Fin cfg0.N, win0_0.index t = ![t.val, 0] ∧ win0_1.index t = ![t.val, 0] :=
  (by decide +kernel : ∀ t : Fin grid0.N, _)

/-- The array the run leaves. -/
theorem array (c : Dev nD) : (dats m 0 c).arrAt 1 cfg0.N = gated (V m c main_arg0) := by
  refine (dats m 0 c).arrAt_eq_of_covers 1 _ (by decide +kernel) fun t _ y => ?_
  blk_simp
  rw [after0_1]; frame_out
  rw [pay1_apply]
  have e : ((win0_1.blk t).view.emb y 1).val = (y 1).val := by blk_simp [visits t]
  blk_point [iblk, gated, visits t]
  all_goals first | exact e.symm | exact congrArg (2816 + ·) e.symm

end Cert.Proof.SwiF

end
-- ==== Proof.SwiFClaim.lean ====
/-
  SwiF: the claims about the gate of the feed-forward block, its reading over the reals and its reference.
-/
module

public import proofs.«01_k».proof.Proof.SwiFValue
public import proofs.«01_k».proof.Proof.Gen.SwiF.Frame
public import proofs.«01_k».proof.Proof.Gen.SwiFRefIdeal.Run
public import proofs.«01_k».proof.Proof.Gen.SwiFRefIdeal.Read
public import proofs.«01_k».proof.Defs

@[expose] public section

set_option maxRecDepth 16384

noncomputable section

namespace Cert.Proof.SwiF

open Idealize.ShloMosaic Idealize.ShloMosaic.TcCoe Idealize.SL.Sem
open Cert.SwiFRefIdeal Cert.SwiFRefIdeal.Read
open scoped BigOperators

/-- The reference's result, element by element. -/
theorem reference (x : (⟨S4096x5632, .bf16⟩ : BufTy).Contents (Elt Ideal)) :
    val_main_v5 (F := Ideal) x = gated x := by
  funext i
  idx_vars i
  pointwise [val_main_v5, val_main_v4, val_main_v3, val_main_call0_v5, val_main_call0_v4, val_main_call0_cst_0,
    val_main_call0_v3, val_main_call0_v2, val_main_call0_cst, val_main_call0_v1, val_main_call0_v0, val_main_v2,
    val_main_v1, val_main_v0, gated, Gate.logistic, left, right]

theorem frame_kernel : Cert.quiescent_SwiF := fun m ρ _ => Cert.SwiF.Gen.frame m ρ

theorem frame_ideal : Cert.quiescent_SwiFIdeal := fun m ρ _ => Cert.SwiFIdeal.Gen.frame m ρ

theorem frame_reference : Cert.quiescent_SwiFRefIdeal := fun m ρ _ =>
  (θ_run Cert.SwiFRefIdeal.defs _ _).mono (fun r h => ⟨fun c => (h c).2, sem_eq_zero_of_no_sems (by decide) r.2⟩)
    (Cert.SwiFRefIdeal.Value.run (F := Ideal) m ρ)

/-- The kernel's result is the reference's. -/
theorem algebraic : Cert.algebraic_SwiFIdeal_SwiFRefIdeal := by
  intro m g m' g' _ hagree
  refine ⟨fun c => gated (Cert.SwiFIdeal.Gen.V m c Cert.SwiFIdeal.main_arg0), ?_, ?_⟩
  · refine (θ_run Cert.SwiFIdeal.defs _ _).mono (fun _ h c => ?_) (Cert.SwiFIdeal.Value.run_blocks (F := Ideal) m g)
    exact ⟨(h c).1.trans (array m c), (h c).2⟩
  · refine (θ_run Cert.SwiFRefIdeal.defs _ _).mono (fun _ h c => ?_) (Cert.SwiFRefIdeal.Value.run (F := Ideal) m' g')
    have a0 := hagree c
    refine ⟨((h c).1.trans (val_main_v5_eq _)).trans ((reference _).trans ?_), (h c).2⟩
    rw [a0]

end Cert.Proof.SwiF

end
-- ==== Proof.MergeFValue.lean ====
/-
  MergeF: the gated sum of the three mixers over the reals. Each point merges 256 rows, in two runs of 512 columns.
-/
module

public import proofs.«01_k».proof.Proof.Gate
public import proofs.«01_k».proof.Proof.Gen.MergeFIdeal.Value
public import Idealize.ShloMosaic.Lib.Pipeline.ValueKit
public import Idealize.ShloMosaic.Lib.Claim

@[expose] public section

set_option maxRecDepth 16384

noncomputable section

namespace Cert.Proof.MergeF

open Idealize.ShloMosaic Idealize.ShloMosaic.TcCoe Idealize.SL.Sem
open Cert.MergeFIdeal Cert.MergeFIdeal.Gen
open scoped BigOperators

/-- The column of the convolution's gate logit. -/
abbrev gateConv (k : Fin 1024) : Fin 8704 := ⟨5632 + k.val, by omega⟩

/-- The column of the pool's gate logit. -/
abbrev gatePool (k : Fin 1024) : Fin 8704 := ⟨5632 + (1024 + k.val), by omega⟩

/-- The column of the attention's gate logit. -/
abbrev gateAttn (k : Fin 1024) : Fin 8704 := ⟨5632 + (2048 + k.val), by omega⟩

/-- The gated sum of the three mixers; the pool's values are scaled by column. -/
def merged (p : S4096x8704.Idx → EReal) (a b d : S4096x1024.Idx → EReal) (s : S1x1024.Idx → EReal)
    (i : S4096x1024.Idx) : EReal :=
  Gate.logistic (p (ix2 (i 0) (gateConv (i 1)))) * a i
    + Gate.logistic (p (ix2 (i 0) (gatePool (i 1)))) * (b i * s (ix2 0 (i 1)))
    + Gate.logistic (p (ix2 (i 0) (gateAttn (i 1)))) * d i

/-- The first run's columns of a block. -/
theorem low_apply (v0 v9 v12 v21 : FVec Ideal S256x512 .bf16) (v23 : FVec Ideal S1x512 .f32)
    (v28 v37 : FVec Ideal S256x512 .bf16) (j : S256x512.Idx) :
    k0_pay4 (F := Ideal) (k0_pay2 v0 v9 v12 v21 v23) (k0_pay3 v28) v37 j
      = Gate.logistic (v0 j) * v9 j + Gate.logistic (v12 j) * (v21 j * v23 (ix2 0 (j 1))) + Gate.logistic (v28 j) * v37 j := by
  idx_vars j
  pointwise [k0_pay4, k0_pay3, k0_pay2, Gate.logistic]
  simp only [zero_sub]

/-- The second run's columns of a block. -/
theorem high_apply (v0 v9 v12 v21 : FVec Ideal S256x512 .bf16) (v23 : FVec Ideal S1x512 .f32)
    (v28 v37 : FVec Ideal S256x512 .bf16) (j : S256x512.Idx) :
    k0_pay1 (F := Ideal) (k0_pay5 v0 v9 v12 v21 v23) (k0_pay6 v28) (k0_pay7 (F := Ideal)) v37 j
      = Gate.logistic (v0 j) * v9 j + Gate.logistic (v12 j) * (v21 j * v23 (ix2 0 (j 1))) + Gate.logistic (v28 j) * v37 j := by
  idx_vars j
  pointwise [k0_pay1, k0_pay5, k0_pay6, k0_pay7, Gate.logistic]
  simp only [zero_sub]

variable (m : (ℓ : Loc nD τ sig) → Buf (Elt Ideal) ℓ)

theorem visits : ∀ t : Fin cfg0.N, win0_0.index t = ![t.val, 11] ∧ win0_1.index t = ![t.val, 12]
    ∧ win0_2.index t = ![t.val, 13] ∧ win0_3.index t = ![t.val, 14] ∧ win0_4.index t = ![t.val, 15]
    ∧ win0_5.index t = ![t.val, 16] ∧ win0_6.index t = ![t.val, 0] ∧ win0_7.index t = ![t.val, 0]
    ∧ win0_8.index t = ![t.val, 0] ∧ win0_9.index t = ![0, 0] ∧ win0_10.index t = ![t.val, 0] :=
  (by decide +kernel : ∀ t : Fin grid0.N, _)

/-- The array the run leaves. -/
theorem array (c : Dev nD) : (dats m 0 c).arrAt 10 cfg0.N
    = merged (V m c main_arg0) (V m c main_arg1) (V m c main_arg2) (V m c main_arg3) (V m c main_arg4) := by
  refine (dats m 0 c).arrAt_eq_of_covers 10 _ (by decide +kernel) fun t _ y => ?_
  have e : (((View.whole main_v0).slice (win0_10.rect t)).emb y 1).val = (y 1).val := by
    show ((win0_10.blk t).view.emb y 1).val = (y 1).val
    blk_simp [visits t]
  blk_simp
  rw [after0_10]
  canon_tiles x h
  · rw [high_apply]
    blk_point [iblk, merged, visits t]
    all_goals omega
  · rw [low_apply]
    blk_point [iblk, merged, visits t]
    all_goals omega

end Cert.Proof.MergeF

end
-- ==== Proof.MergeFClaim.lean ====
/-
  MergeF: the claims about the gated sum of the three mixers, its reading over the reals and its reference.
-/
module

public import proofs.«01_k».proof.Proof.MergeFValue
public import proofs.«01_k».proof.Proof.Gen.MergeF.Frame
public import proofs.«01_k».proof.Proof.Gen.MergeFRefIdeal.Run
public import proofs.«01_k».proof.Proof.Gen.MergeFRefIdeal.Read
public import proofs.«01_k».proof.Defs

@[expose] public section

set_option maxRecDepth 16384

noncomputable section

namespace Cert.Proof.MergeF

open Idealize.ShloMosaic Idealize.ShloMosaic.TcCoe Idealize.SL.Sem
open Cert.MergeFRefIdeal Cert.MergeFRefIdeal.Read
open scoped BigOperators

/-- The reference's result, element by element. -/
theorem reference (p : (⟨S4096x8704, .bf16⟩ : BufTy).Contents (Elt Ideal)) (a b d : (⟨S4096x1024, .bf16⟩ : BufTy).Contents (Elt Ideal))
    (s : (⟨S1x1024, .f32⟩ : BufTy).Contents (Elt Ideal)) :
    val_main_v33 (F := Ideal) p a b d s = merged p a b d s := by
  funext i
  idx_vars i
  pointwise [val_main_v33, val_main_v32, val_main_v31, val_main_v30, val_main_v29, val_main_v28, val_main_v27,
    val_main_v26, val_main_v25, val_main_v24, val_main_v23, val_main_v22, val_main_v21, val_main_v20,
    val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4,
    merged, gateConv, gatePool, gateAttn, Gate.logistic]

theorem frame_kernel : Cert.quiescent_MergeF := fun m ρ _ => Cert.MergeF.Gen.frame m ρ

theorem frame_ideal : Cert.quiescent_MergeFIdeal := fun m ρ _ => Cert.MergeFIdeal.Gen.frame m ρ

theorem frame_reference : Cert.quiescent_MergeFRefIdeal := fun m ρ _ =>
  (θ_run Cert.MergeFRefIdeal.defs _ _).mono (fun r h => ⟨fun c => (h c).2, sem_eq_zero_of_no_sems (by decide) r.2⟩)
    (Cert.MergeFRefIdeal.Value.run (F := Ideal) m ρ)

/-- The kernel's result is the reference's. -/
theorem algebraic : Cert.algebraic_MergeFIdeal_MergeFRefIdeal := by
  intro m g m' g' _ hagree
  refine ⟨fun c => merged (Cert.MergeFIdeal.Gen.V m c Cert.MergeFIdeal.main_arg0) (Cert.MergeFIdeal.Gen.V m c Cert.MergeFIdeal.main_arg1)
    (Cert.MergeFIdeal.Gen.V m c Cert.MergeFIdeal.main_arg2) (Cert.MergeFIdeal.Gen.V m c Cert.MergeFIdeal.main_arg3)
    (Cert.MergeFIdeal.Gen.V m c Cert.MergeFIdeal.main_arg4), ?_, ?_⟩
  · refine (θ_run Cert.MergeFIdeal.defs _ _).mono (fun _ h c => ?_) (Cert.MergeFIdeal.Value.run_blocks (F := Ideal) m g)
    exact ⟨(h c).1.trans (array m c), (h c).2⟩
  · refine (θ_run Cert.MergeFRefIdeal.defs _ _).mono (fun _ h c => ?_) (Cert.MergeFRefIdeal.Value.run (F := Ideal) m' g')
    obtain ⟨a0, a1, a2, a3, a4⟩ := hagree c
    refine ⟨((h c).1.trans (val_main_v33_eq _ _ _ _ _)).trans ((reference _ _ _ _ _).trans ?_), (h c).2⟩
    rw [a0, a1, a2, a3, a4]

end Cert.Proof.MergeF

end
-- ==== Proof.SumSmallValue.lean ====
/-
  SumSmall: the sum of the eight devices' parts of the small gradients over the reals. The first part is taken from the array of
  all the parts, the other seven from the array the host cuts off it.
-/
module

public import proofs.«01_k».proof.Proof.Gen.SumSmallIdeal.Frame
public import Idealize.ShloMosaic.Lib.Pipeline.ValueKit
public import Idealize.ShloMosaic.Lib.Claim

@[expose] public section

set_option maxRecDepth 16384

noncomputable section

namespace Cert.Proof.SumSmall

open Idealize.ShloMosaic Idealize.ShloMosaic.TcCoe Idealize.SL.Sem
open Cert.SumSmallIdeal Cert.SumSmallIdeal.Gen
open scoped BigOperators

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v1 = _
  unfold V
  simp only [hostOps0]
  after_results
  rfl

theorem row : ∀ i : grid0.Coords, (Scalar.addi 0#32 (BitVec.ofNat 32 (i 0).val)).toNat = 0 + (i 0).val := by
  decide +kernel

/-- Where the first part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x32x1024.size a ≤ S8x32x1024.size a := by
  decide +kernel

/-- Every block the first part's window takes lies inside the array. -/
theorem ok : Ok m := by
  intro i
  exact ⟨(index m i).symm ▸ inside i, .inl rfl⟩

/-- Where the other windows stand. -/
theorem visits (hO : Ok m) (t : Fin (cfgM m hO).N) :
    ((cfgM m hO).win 1).index t = ![0, t.val, 0] ∧ ((cfgM m hO).win 2).index t = ![1, t.val, 0] ∧ ((cfgM m hO).win 3).index t = ![2, t.val, 0] ∧ ((cfgM m hO).win 4).index t = ![3, t.val, 0] ∧ ((cfgM m hO).win 5).index t = ![4, t.val, 0] ∧ ((cfgM m hO).win 6).index t = ![5, t.val, 0] ∧ ((cfgM m hO).win 7).index t = ![6, t.val, 0]
      ∧ ((cfgM m hO).win 8).index t = ![t.val, 0] :=
  (by decide +kernel : ∀ t : Fin grid0.N, cc0_transform_1 (grid0.coords t) = ![0, t.val, 0] ∧ cc0_transform_2 (grid0.coords t) = ![1, t.val, 0] ∧ cc0_transform_3 (grid0.coords t) = ![2, t.val, 0] ∧ cc0_transform_4 (grid0.coords t) = ![3, t.val, 0] ∧ cc0_transform_5 (grid0.coords t) = ![4, t.val, 0] ∧ cc0_transform_6 (grid0.coords t) = ![5, t.val, 0] ∧ cc0_transform_7 (grid0.coords t) = ![6, t.val, 0]
    ∧ cc0_transform_8 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 0 + t.val, 0] :=
  (index m (grid0.coords t)).trans (by rw [coords_val t])

/-- The block written back covers the result. -/
theorem covers (hO : Ok m) : ((cfgM m hO).win 8).Covers := by
  refine ⟨(by decide : ∀ a : Fin 2, 0 < S32x1024.size a), fun β => ?_⟩
  have h0 : (β (0 : Fin 2)).val < 1 :=
    Nat.lt_of_lt_of_eq (β (0 : Fin 2)).isLt (show (32 + 32 - 1) / 32 = 1 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_8 _ _, fun a => ⟨?_, .inl rfl⟩⟩
  rw [(visits m hO ⟨(β (0 : Fin 2)).val, hN⟩).2.2.2.2.2.2.2]
  match a with
  | ⟨0, _⟩ => rfl
  | ⟨1, _⟩ => exact (Nat.lt_one_iff.mp h1).symm

end Table

variable (m : (ℓ : Loc nD τ sig) → Buf (Elt Ideal) ℓ)

/-- The eight parts, added. -/
def sums (x : S8x32x1024.Idx → EReal) (i : S32x1024.Idx) : EReal :=
  x (ix3 0 (i 0) (i 1)) + x (ix3 1 (i 0) (i 1)) + x (ix3 2 (i 0) (i 1)) + x (ix3 3 (i 0) (i 1)) + x (ix3 4 (i 0) (i 1)) + x (ix3 5 (i 0) (i 1)) + x (ix3 6 (i 0) (i 1)) + x (ix3 7 (i 0) (i 1))

theorem pay_apply (a b c d e f g h : FVec Ideal S1x32x1024 .f32) (j : S32x1024.Idx) :
    k0_pay1 (F := Ideal) a b c d e f g h j
      = a (ix3 0 (j 0) (j 1)) + b (ix3 0 (j 0) (j 1)) + c (ix3 0 (j 0) (j 1)) + d (ix3 0 (j 0) (j 1)) + e (ix3 0 (j 0) (j 1)) + f (ix3 0 (j 0) (j 1)) + g (ix3 0 (j 0) (j 1)) + h (ix3 0 (j 0) (j 1)) := by
  idx_vars j
  pointwise [k0_pay1]

theorem pay_congr {a a' b b' c c' d d' e e' f f' g g' h h' : FVec Ideal S1x32x1024 .f32} (ea : a = a') (eb : b = b') (ec : c = c') (ed : d = d') (ee : e = e') (ef : f = f') (eg : g = g') (eh : h = h') :
    k0_pay1 (F := Ideal) a b c d e f g h = k0_pay1 (F := Ideal) a' b' c' d' e' f' g' h' := by
  rw [ea, eb, ec, ed, ee, ef, eg, eh]

/-- What the point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) (iblk m hO c 4 t) (iblk m hO c 5 t) (iblk m hO c 6 t) (iblk m hO c 7 t) := by
  unfold outsAt0
  frame_out
  exact pay_congr ((hs0_0 m hO t).read_unread _) ((hs0_1 m hO t).read_unread _) ((hs0_2 m hO t).read_unread _) ((hs0_3 m hO t).read_unread _) ((hs0_4 m hO t).read_unread _) ((hs0_5 m hO t).read_unread _) ((hs0_6 m hO t).read_unread _) ((hs0_7 m hO t).read_unread _)

/-- The other seven parts, cut off by the host. -/
theorem entry (c : Dev nD) :
    V m c main_v0 = extractStridedSlice S7x32x1024 ![1, 0, 0] (m ((c : Thread nD τ).loc main_arg0)) slices_S8x32x1024_S7x32x1024_1_0_0 := by
  unfold V
  simp only [hostOps0]
  after_results

theorem entry_apply (c : Dev nD) (k : Fin 7) (r : Fin 32) (s : Fin 1024) :
    V m c main_v0 (ix3 k r s) = V m c main_arg0 (ix3 ⟨1 + k.val, by omega⟩ r s) := by
  rw [entry, V_main_arg0]
  pointwise []

theorem block0 (hO : Ok m) (c : Dev nD) (t : Fin (cfgM m hO).N) (r : Fin 32) (s : Fin 1024) :
    (iblk m hO c 0 t : FVec Ideal S1x32x1024 .f32) (ix3 0 r s) = V m c main_arg0 (ix3 0 r s) := by
  have ht : t.val < 1 := Nat.lt_of_lt_of_eq t.isLt N_0
  blk_point [iblk, visits_own m hO t]

theorem block1 (hO : Ok m) (c : Dev nD) (t : Fin (cfgM m hO).N) (r : Fin 32) (s : Fin 1024) :
    (iblk m hO c 1 t : FVec Ideal S1x32x1024 .f32) (ix3 0 r s) = V m c main_arg0 (ix3 1 r s) := by
  have ht : t.val < 1 := Nat.lt_of_lt_of_eq t.isLt N_0
  refine Eq.trans ?_ (entry_apply m c 0 r s)
  blk_point [iblk, visits m hO t]

theorem block2 (hO : Ok m) (c : Dev nD) (t : Fin (cfgM m hO).N) (r : Fin 32) (s : Fin 1024) :
    (iblk m hO c 2 t : FVec Ideal S1x32x1024 .f32) (ix3 0 r s) = V m c main_arg0 (ix3 2 r s) := by
  have ht : t.val < 1 := Nat.lt_of_lt_of_eq t.isLt N_0
  refine Eq.trans ?_ (entry_apply m c 1 r s)
  blk_point [iblk, visits m hO t]

theorem block3 (hO : Ok m) (c : Dev nD) (t : Fin (cfgM m hO).N) (r : Fin 32) (s : Fin 1024) :
    (iblk m hO c 3 t : FVec Ideal S1x32x1024 .f32) (ix3 0 r s) = V m c main_arg0 (ix3 3 r s) := by
  have ht : t.val < 1 := Nat.lt_of_lt_of_eq t.isLt N_0
  refine Eq.trans ?_ (entry_apply m c 2 r s)
  blk_point [iblk, visits m hO t]

theorem block4 (hO : Ok m) (c : Dev nD) (t : Fin (cfgM m hO).N) (r : Fin 32) (s : Fin 1024) :
    (iblk m hO c 4 t : FVec Ideal S1x32x1024 .f32) (ix3 0 r s) = V m c main_arg0 (ix3 4 r s) := by
  have ht : t.val < 1 := Nat.lt_of_lt_of_eq t.isLt N_0
  refine Eq.trans ?_ (entry_apply m c 3 r s)
  blk_point [iblk, visits m hO t]

theorem block5 (hO : Ok m) (c : Dev nD) (t : Fin (cfgM m hO).N) (r : Fin 32) (s : Fin 1024) :
    (iblk m hO c 5 t : FVec Ideal S1x32x1024 .f32) (ix3 0 r s) = V m c main_arg0 (ix3 5 r s) := by
  have ht : t.val < 1 := Nat.lt_of_lt_of_eq t.isLt N_0
  refine Eq.trans ?_ (entry_apply m c 4 r s)
  blk_point [iblk, visits m hO t]

theorem block6 (hO : Ok m) (c : Dev nD) (t : Fin (cfgM m hO).N) (r : Fin 32) (s : Fin 1024) :
    (iblk m hO c 6 t : FVec Ideal S1x32x1024 .f32) (ix3 0 r s) = V m c main_arg0 (ix3 6 r s) := by
  have ht : t.val < 1 := Nat.lt_of_lt_of_eq t.isLt N_0
  refine Eq.trans ?_ (entry_apply m c 5 r s)
  blk_point [iblk, visits m hO t]

theorem block7 (hO : Ok m) (c : Dev nD) (t : Fin (cfgM m hO).N) (r : Fin 32) (s : Fin 1024) :
    (iblk m hO c 7 t : FVec Ideal S1x32x1024 .f32) (ix3 0 r s) = V m c main_arg0 (ix3 7 r s) := by
  have ht : t.val < 1 := Nat.lt_of_lt_of_eq t.isLt N_0
  refine Eq.trans ?_ (entry_apply m c 6 r s)
  blk_point [iblk, visits m hO t]

theorem pay_of {a b c d e f g h : FVec Ideal S1x32x1024 .f32} {j : S32x1024.Idx} {PA PB PC PD PE PF PG PH : EReal}
    (ea : a (ix3 0 (j 0) (j 1)) = PA) (eb : b (ix3 0 (j 0) (j 1)) = PB) (ec : c (ix3 0 (j 0) (j 1)) = PC) (ed : d (ix3 0 (j 0) (j 1)) = PD) (ee : e (ix3 0 (j 0) (j 1)) = PE) (ef : f (ix3 0 (j 0) (j 1)) = PF) (eg : g (ix3 0 (j 0) (j 1)) = PG) (eh : h (ix3 0 (j 0) (j 1)) = PH) :
    k0_pay1 (F := Ideal) a b c d e f g h j = PA + PB + PC + PD + PE + PF + PG + PH := by
  rw [pay_apply, ea, eb, ec, ed, ee, ef, eg, eh]

/-- The array the run leaves. -/
theorem array (hO : Ok m) (c : Dev nD) :
    (dats m hO 0 c).arrAt 8 (cfgM m hO).N = sums (V m c main_arg0) := by
  refine (dats m hO 0 c).arrAt_eq_of_covers 8 _ (covers m hO) fun t _ y => ?_
  blk_simp
  rw [after0_8, after]
  refine (pay_of (block0 m hO c t _ _) (block1 m hO c t _ _) (block2 m hO c t _ _) (block3 m hO c t _ _) (block4 m hO c t _ _) (block5 m hO c t _ _) (block6 m hO c t _ _) (block7 m hO c t _ _)).trans ?_
  have ht : t.val < 1 := Nat.lt_of_lt_of_eq t.isLt N_0
  blk_point [sums, visits m hO t]
  all_goals omega

end Cert.Proof.SumSmall

end
-- ==== Proof.SumSmallTable.lean ====
/-
  SumSmall: the call's table of one number, and that every block it points to lies inside the array, for the call as it runs on
  the machine's numbers.
-/
module

public import proofs.«01_k».proof.Proof.Gen.SumSmall.Frame
public import Idealize.ShloMosaic.Lib.Pipeline.ValueKit

@[expose] public section

set_option maxRecDepth 16384

noncomputable section

namespace Cert.Proof.SumSmall.Machine

open Idealize.ShloMosaic Idealize.ShloMosaic.TcCoe Idealize.SL.Sem
open Cert.SumSmall Cert.SumSmall.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v1 = _
  unfold V
  simp only [hostOps0]
  after_results
  rfl

theorem row : ∀ i : grid0.Coords, (Scalar.addi 0#32 (BitVec.ofNat 32 (i 0).val)).toNat = 0 + (i 0).val := by
  decide +kernel

/-- Where the first part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x32x1024.size a ≤ S8x32x1024.size a := by
  decide +kernel

/-- Every block the first part's window takes lies inside the array. -/
theorem ok : Ok m := by
  intro i
  exact ⟨(index m i).symm ▸ inside i, .inl rfl⟩

end Cert.Proof.SumSmall.Machine

end
-- ==== Proof.SumSmallClaim.lean ====
/-
  SumSmall: the claims about the sum of the devices' small gradients, its reading over the reals and its reference.
-/
module

public import proofs.«01_k».proof.Proof.SumSmallValue
public import proofs.«01_k».proof.Proof.SumSmallTable
public import proofs.«01_k».proof.Proof.Gen.SumSmallRefIdeal.Run
public import proofs.«01_k».proof.Proof.Gen.SumSmallRefIdeal.Read
public import proofs.«01_k».proof.Defs

@[expose] public section

set_option maxRecDepth 16384

noncomputable section

namespace Cert.Proof.SumSmall

open Idealize.ShloMosaic Idealize.ShloMosaic.TcCoe Idealize.SL.Sem
open Cert.SumSmallRefIdeal Cert.SumSmallRefIdeal.Read
open scoped BigOperators

/-- The reference's result, element by element. -/
theorem reference (x : (⟨S8x32x1024, .f32⟩ : BufTy).Contents (Elt Ideal)) : val_main_v0 (F := Ideal) x = sums x := by
  funext i
  idx_vars i
  pointwise [val_main_v0, val_main_cst, sums]
  rw [Fin.sum_univ_eight]

theorem frame_kernel : Cert.quiescent_SumSmall := fun m ρ _ => Cert.SumSmall.Gen.frame m ρ (Machine.ok m)

theorem frame_ideal : Cert.quiescent_SumSmallIdeal := fun m ρ _ => Cert.SumSmallIdeal.Gen.frame m ρ (ok m)

theorem frame_reference : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

/-- The kernel's result is the reference's. -/
theorem algebraic : Cert.algebraic_SumSmallIdeal_SumSmallRefIdeal := by
  intro m g m' g' _ hagree
  refine ⟨fun c => sums (Cert.SumSmallIdeal.Gen.V m c Cert.SumSmallIdeal.main_arg0), ?_, ?_⟩
  · refine (θ_run Cert.SumSmallIdeal.defs _ _).mono (fun _ h c => ?_)
      (θ_run_and (Cert.SumSmallIdeal.Gen.run_main m g (ok m)) (Cert.SumSmallIdeal.Gen.unchanged m g (ok m)))
    exact ⟨((h.1 c).1 8).trans (array m (ok m) c), h.2 c⟩
  · refine (θ_run Cert.SumSmallRefIdeal.defs _ _).mono (fun _ h c => ?_) (Cert.SumSmallRefIdeal.Value.run (F := Ideal) m' g')
    have a0 := hagree c
    refine ⟨((h c).1.trans (val_main_v0_eq _)).trans ((reference _).trans ?_), (h c).2⟩
    exact congrArg sums (a0.trans (Cert.SumSmallIdeal.Gen.V_main_arg0 m c).symm)

end Cert.Proof.SumSmall

end
-- ==== Proof.ChipAValue.lean ====
/-
  ChipA: the sum of the chips' parts over the reals. The own part's rows begin at row 0 of the array that holds the parts
  of every chip; the other three parts lie in an array of their own. Each point takes 320 rows.
-/
module

public import proofs.«01_k».proof.Proof.Gen.ChipAIdeal.Frame
public import Idealize.ShloMosaic.Lib.Pipeline.ValueKit
public import Idealize.ShloMosaic.Lib.Claim

@[expose] public section

set_option maxRecDepth 16384

noncomputable section

namespace Cert.Proof.ChipA

open Idealize.ShloMosaic Idealize.ShloMosaic.TcCoe Idealize.SL.Sem
open Cert.ChipAIdeal Cert.ChipAIdeal.Gen

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 0#32 (BitVec.ofNat 32 (i 0).val)).toNat = 0 + (i 0).val := by
  decide +kernel

/-- Where the own part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x320x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

/-- Where the other windows stand. -/
theorem visits (hO : Ok m) (t : Fin (cfgM m hO).N) :
    ((cfgM m hO).win 1).index t = ![0, t.val, 0] ∧ ((cfgM m hO).win 2).index t = ![1, t.val, 0]
      ∧ ((cfgM m hO).win 3).index t = ![2, t.val, 0] ∧ ((cfgM m hO).win 4).index t = ![t.val, 0] :=
  (by decide +kernel : ∀ t : Fin grid0.N, cc0_transform_1 (grid0.coords t) = ![0, t.val, 0]
    ∧ cc0_transform_2 (grid0.coords t) = ![1, t.val, 0] ∧ cc0_transform_3 (grid0.coords t) = ![2, t.val, 0]
    ∧ cc0_transform_4 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 0 + t.val, 0] :=
  (index m (grid0.coords t)).trans (by rw [coords_val t])

/-- The blocks written back cover the result. -/
theorem covers (hO : Ok m) : ((cfgM m hO).win 4).Covers := by
  refine ⟨(by decide : ∀ a : Fin 2, 0 < S320x1024.size a), fun β => ?_⟩
  have h0 : (β (0 : Fin 2)).val < 2 :=
    Nat.lt_of_lt_of_eq (β (0 : Fin 2)).isLt (show (640 + 320 - 1) / 320 = 2 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_4 _ _, fun a => ⟨?_, .inl rfl⟩⟩
  rw [(visits m hO ⟨(β (0 : Fin 2)).val, hN⟩).2.2.2]
  match a with
  | ⟨0, _⟩ => rfl
  | ⟨1, _⟩ => exact (Nat.lt_one_iff.mp h1).symm

end Table

variable (m : (ℓ : Loc nD τ sig) → Buf (Elt Ideal) ℓ)

/-- The own part and the three others, added. -/
def sums (own : S4x2560x1024.Idx → EReal) (others : S3x640x1024.Idx → EReal) (i : S640x1024.Idx) : EReal :=
  own (ix3 0 ⟨(i 0).val, by have : (i 0).val < 640 := (i 0).isLt; omega⟩ (i 1))
    + others (ix3 0 (i 0) (i 1)) + others (ix3 1 (i 0) (i 1)) + others (ix3 2 (i 0) (i 1))

theorem pay_apply (a b c d : FVec Ideal S1x320x1024 .bf16) (j : S320x1024.Idx) :
    k0_pay1 (F := Ideal) a b c d j
      = a (ix3 0 (j 0) (j 1)) + b (ix3 0 (j 0) (j 1)) + c (ix3 0 (j 0) (j 1)) + d (ix3 0 (j 0) (j 1)) := by
  idx_vars j
  pointwise [k0_pay1]

theorem pay_congr {a a' b b' c c' d d' : FVec Ideal S1x320x1024 .bf16} (ha : a = a') (hb : b = b') (hc : c = c') (hd : d = d') :
    k0_pay1 (F := Ideal) a b c d = k0_pay1 (F := Ideal) a' b' c' d' := by
  rw [ha, hb, hc, hd]

/-- What a point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) := by
  unfold outsAt0
  frame_out
  exact pay_congr ((hs0_0 m hO t).read_unread _) ((hs0_1 m hO t).read_unread _) ((hs0_2 m hO t).read_unread _)
    ((hs0_3 m hO t).read_unread _)

/-- The array the run leaves. -/
theorem array (hO : Ok m) (c : Dev nD) :
    (dats m hO 0 c).arrAt 4 (cfgM m hO).N = sums (V m c main_arg0) (V m c main_arg1) := by
  refine (dats m hO 0 c).arrAt_eq_of_covers 4 _ (covers m hO) fun t _ y => ?_
  blk_simp
  rw [after0_4, after]
  refine (pay_apply _ _ _ _ _).trans ?_
  blk_point [iblk, sums, visits m hO t, visits_own m hO t]

end Cert.Proof.ChipA

end
-- ==== Proof.ChipATable.lean ====
/-
  ChipA: the call's table of one number, and that every block it points to lies inside the array, for the call as it runs on
  the machine's numbers.
-/
module

public import proofs.«01_k».proof.Proof.Gen.ChipA.Frame
public import Idealize.ShloMosaic.Lib.Pipeline.ValueKit

@[expose] public section

set_option maxRecDepth 16384

noncomputable section

namespace Cert.Proof.ChipA.Machine

open Idealize.ShloMosaic Idealize.ShloMosaic.TcCoe Idealize.SL.Sem
open Cert.ChipA Cert.ChipA.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 0#32 (BitVec.ofNat 32 (i 0).val)).toNat = 0 + (i 0).val := by
  decide +kernel

/-- Where the own part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x320x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

end Cert.Proof.ChipA.Machine

end
-- ==== Proof.ChipAClaim.lean ====
/-
  ChipA: the claims about the sum of the chips' parts whose own part begins at row 0, its reading over the reals and its
  reference.
-/
module

public import proofs.«01_k».proof.Proof.ChipAValue
public import proofs.«01_k».proof.Proof.ChipATable
public import proofs.«01_k».proof.Proof.Gen.ChipARefIdeal.Run
public import proofs.«01_k».proof.Proof.Gen.ChipARefIdeal.Read
public import proofs.«01_k».proof.Defs

@[expose] public section

set_option maxRecDepth 16384

noncomputable section

namespace Cert.Proof.ChipA

open Idealize.ShloMosaic Idealize.ShloMosaic.TcCoe Idealize.SL.Sem
open Cert.ChipARefIdeal Cert.ChipARefIdeal.Read
open scoped BigOperators

/-- The reference's result, element by element. -/
theorem reference (x : (⟨S4x2560x1024, .bf16⟩ : BufTy).Contents (Elt Ideal)) (y : (⟨S3x640x1024, .bf16⟩ : BufTy).Contents (Elt Ideal)) :
    val_main_v5 (F := Ideal) x y = sums x y := by
  funext i
  idx_vars i
  pointwise [val_main_v5, val_main_v4, val_main_cst, val_main_v3, val_main_v2, val_main_v1, val_main_v0, sums]
  rw [Fin.sum_univ_three, ← add_assoc, ← add_assoc]

theorem frame_kernel : Cert.quiescent_ChipA := fun m ρ _ => Cert.ChipA.Gen.frame m ρ (Machine.ok m)

theorem frame_ideal : Cert.quiescent_ChipAIdeal := fun m ρ _ => Cert.ChipAIdeal.Gen.frame m ρ (ok m)

theorem frame_reference : Cert.quiescent_ChipARefIdeal := fun m ρ _ =>
  (θ_run Cert.ChipARefIdeal.defs _ _).mono (fun r h => ⟨fun c => (h c).2, sem_eq_zero_of_no_sems (by decide) r.2⟩)
    (Cert.ChipARefIdeal.Value.run (F := Ideal) m ρ)

/-- The kernel's result is the reference's. -/
theorem algebraic : Cert.algebraic_ChipAIdeal_ChipARefIdeal := by
  intro m g m' g' _ hagree
  refine ⟨fun c => sums (Cert.ChipAIdeal.Gen.V m c Cert.ChipAIdeal.main_arg0) (Cert.ChipAIdeal.Gen.V m c Cert.ChipAIdeal.main_arg1), ?_, ?_⟩
  · refine (θ_run Cert.ChipAIdeal.defs _ _).mono (fun _ h c => ?_)
      (θ_run_and (Cert.ChipAIdeal.Gen.run_main m g (ok m)) (Cert.ChipAIdeal.Gen.unchanged m g (ok m)))
    exact ⟨((h.1 c).1 4).trans (array m (ok m) c), h.2 c⟩
  · refine (θ_run Cert.ChipARefIdeal.defs _ _).mono (fun _ h c => ?_) (Cert.ChipARefIdeal.Value.run (F := Ideal) m' g')
    obtain ⟨a0, a1⟩ := hagree c
    refine ⟨((h c).1.trans (val_main_v5_eq _ _)).trans ((reference _ _).trans ?_), (h c).2⟩
    exact congrArg₂ sums (a0.trans (Cert.ChipAIdeal.Gen.V_main_arg0 m c).symm) (a1.trans (Cert.ChipAIdeal.Gen.V_main_arg1 m c).symm)

end Cert.Proof.ChipA

end
-- ==== Proof.ChipBValue.lean ====
/-
  ChipB: the sum of the chips' parts over the reals. The own part's rows begin at row 640 of the array that holds the parts
  of every chip; the other three parts lie in an array of their own. Each point takes 320 rows.
-/
module

public import proofs.«01_k».proof.Proof.Gen.ChipBIdeal.Frame
public import Idealize.ShloMosaic.Lib.Pipeline.ValueKit
public import Idealize.ShloMosaic.Lib.Claim

@[expose] public section

set_option maxRecDepth 16384

noncomputable section

namespace Cert.Proof.ChipB

open Idealize.ShloMosaic Idealize.ShloMosaic.TcCoe Idealize.SL.Sem
open Cert.ChipBIdeal Cert.ChipBIdeal.Gen

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 2#32 (BitVec.ofNat 32 (i 0).val)).toNat = 2 + (i 0).val := by
  decide +kernel

/-- Where the own part's window stands. -/
theorem index (i : grid0.Coords) : cc0_transform_0 inb_S1_S1_0 numel1_S1 (tbl m) i = ![0, 2 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 2 + (i 0).val, 0] : Fin 3 → Nat) a + 1) * S1x320x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

/-- Where the other windows stand. -/
theorem visits (hO : Ok m) (t : Fin (cfgM m hO).N) :
    ((cfgM m hO).win 1).index t = ![0, t.val, 0] ∧ ((cfgM m hO).win 2).index t = ![1, t.val, 0]
      ∧ ((cfgM m hO).win 3).index t = ![2, t.val, 0] ∧ ((cfgM m hO).win 4).index t = ![t.val, 0] :=
  (by decide +kernel : ∀ t : Fin grid0.N, cc0_transform_1 (grid0.coords t) = ![0, t.val, 0]
    ∧ cc0_transform_2 (grid0.coords t) = ![1, t.val, 0] ∧ cc0_transform_3 (grid0.coords t) = ![2, t.val, 0]
    ∧ cc0_transform_4 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 2 + t.val, 0] :=
  (index m (grid0.coords t)).trans (by rw [coords_val t])

/-- The blocks written back cover the result. -/
theorem covers (hO : Ok m) : ((cfgM m hO).win 4).Covers := by
  refine ⟨(by decide : ∀ a : Fin 2, 0 < S320x1024.size a), fun β => ?_⟩
  have h0 : (β (0 : Fin 2)).val < 2 :=
    Nat.lt_of_lt_of_eq (β (0 : Fin 2)).isLt (show (640 + 320 - 1) / 320 = 2 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_4 _ _, fun a => ⟨?_, .inl rfl⟩⟩
  rw [(visits m hO ⟨(β (0 : Fin 2)).val, hN⟩).2.2.2]
  match a with
  | ⟨0, _⟩ => rfl
  | ⟨1, _⟩ => exact (Nat.lt_one_iff.mp h1).symm

end Table

variable (m : (ℓ : Loc nD τ sig) → Buf (Elt Ideal) ℓ)

/-- The own part and the three others, added. -/
def sums (own : S4x2560x1024.Idx → EReal) (others : S3x640x1024.Idx → EReal) (i : S640x1024.Idx) : EReal :=
  own (ix3 0 ⟨640 + (i 0).val, by have : (i 0).val < 640 := (i 0).isLt; omega⟩ (i 1))
    + others (ix3 0 (i 0) (i 1)) + others (ix3 1 (i 0) (i 1)) + others (ix3 2 (i 0) (i 1))

theorem pay_apply (a b c d : FVec Ideal S1x320x1024 .bf16) (j : S320x1024.Idx) :
    k0_pay1 (F := Ideal) a b c d j
      = a (ix3 0 (j 0) (j 1)) + b (ix3 0 (j 0) (j 1)) + c (ix3 0 (j 0) (j 1)) + d (ix3 0 (j 0) (j 1)) := by
  idx_vars j
  pointwise [k0_pay1]

theorem pay_congr {a a' b b' c c' d d' : FVec Ideal S1x320x1024 .bf16} (ha : a = a') (hb : b = b') (hc : c = c') (hd : d = d') :
    k0_pay1 (F := Ideal) a b c d = k0_pay1 (F := Ideal) a' b' c' d' := by
  rw [ha, hb, hc, hd]

/-- What a point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) := by
  unfold outsAt0
  frame_out
  exact pay_congr ((hs0_0 m hO t).read_unread _) ((hs0_1 m hO t).read_unread _) ((hs0_2 m hO t).read_unread _)
    ((hs0_3 m hO t).read_unread _)

/-- The array the run leaves. -/
theorem array (hO : Ok m) (c : Dev nD) :
    (dats m hO 0 c).arrAt 4 (cfgM m hO).N = sums (V m c main_arg0) (V m c main_arg1) := by
  refine (dats m hO 0 c).arrAt_eq_of_covers 4 _ (covers m hO) fun t _ y => ?_
  blk_simp
  rw [after0_4, after]
  refine (pay_apply _ _ _ _ _).trans ?_
  blk_point [iblk, sums, visits m hO t, visits_own m hO t]

end Cert.Proof.ChipB

end
-- ==== Proof.ChipBTable.lean ====
/-
  ChipB: the call's table of one number, and that every block it points to lies inside the array, for the call as it runs on
  the machine's numbers.
-/
module

public import proofs.«01_k».proof.Proof.Gen.ChipB.Frame
public import Idealize.ShloMosaic.Lib.Pipeline.ValueKit

@[expose] public section

set_option maxRecDepth 16384

noncomputable section

namespace Cert.Proof.ChipB.Machine

open Idealize.ShloMosaic Idealize.ShloMosaic.TcCoe Idealize.SL.Sem
open Cert.ChipB Cert.ChipB.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 2#32 (BitVec.ofNat 32 (i 0).val)).toNat = 2 + (i 0).val := by
  decide +kernel

/-- Where the own part's window stands. -/
theorem index (i : grid0.Coords) : cc0_transform_0 inb_S1_S1_0 numel1_S1 (tbl m) i = ![0, 2 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 2 + (i 0).val, 0] : Fin 3 → Nat) a + 1) * S1x320x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

end Cert.Proof.ChipB.Machine

end
-- ==== Proof.ChipBClaim.lean ====
/-
  ChipB: the claims about the sum of the chips' parts whose own part begins at row 640, its reading over the reals and its
  reference.
-/
module

public import proofs.«01_k».proof.Proof.ChipBValue
public import proofs.«01_k».proof.Proof.ChipBTable
public import proofs.«01_k».proof.Proof.Gen.ChipBRefIdeal.Run
public import proofs.«01_k».proof.Proof.Gen.ChipBRefIdeal.Read
public import proofs.«01_k».proof.Defs

@[expose] public section

set_option maxRecDepth 16384

noncomputable section

namespace Cert.Proof.ChipB

open Idealize.ShloMosaic Idealize.ShloMosaic.TcCoe Idealize.SL.Sem
open Cert.ChipBRefIdeal Cert.ChipBRefIdeal.Read
open scoped BigOperators

/-- The reference's result, element by element. -/
theorem reference (x : (⟨S4x2560x1024, .bf16⟩ : BufTy).Contents (Elt Ideal)) (y : (⟨S3x640x1024, .bf16⟩ : BufTy).Contents (Elt Ideal)) :
    val_main_v5 (F := Ideal) x y = sums x y := by
  funext i
  idx_vars i
  pointwise [val_main_v5, val_main_v4, val_main_cst, val_main_v3, val_main_v2, val_main_v1, val_main_v0, sums]
  rw [Fin.sum_univ_three, ← add_assoc, ← add_assoc]

theorem frame_kernel : Cert.quiescent_ChipB := fun m ρ _ => Cert.ChipB.Gen.frame m ρ (Machine.ok m)

theorem frame_ideal : Cert.quiescent_ChipBIdeal := fun m ρ _ => Cert.ChipBIdeal.Gen.frame m ρ (ok m)

theorem frame_reference : Cert.quiescent_ChipBRefIdeal := fun m ρ _ =>
  (θ_run Cert.ChipBRefIdeal.defs _ _).mono (fun r h => ⟨fun c => (h c).2, sem_eq_zero_of_no_sems (by decide) r.2⟩)
    (Cert.ChipBRefIdeal.Value.run (F := Ideal) m ρ)

/-- The kernel's result is the reference's. -/
theorem algebraic : Cert.algebraic_ChipBIdeal_ChipBRefIdeal := by
  intro m g m' g' _ hagree
  refine ⟨fun c => sums (Cert.ChipBIdeal.Gen.V m c Cert.ChipBIdeal.main_arg0) (Cert.ChipBIdeal.Gen.V m c Cert.ChipBIdeal.main_arg1), ?_, ?_⟩
  · refine (θ_run Cert.ChipBIdeal.defs _ _).mono (fun _ h c => ?_)
      (θ_run_and (Cert.ChipBIdeal.Gen.run_main m g (ok m)) (Cert.ChipBIdeal.Gen.unchanged m g (ok m)))
    exact ⟨((h.1 c).1 4).trans (array m (ok m) c), h.2 c⟩
  · refine (θ_run Cert.ChipBRefIdeal.defs _ _).mono (fun _ h c => ?_) (Cert.ChipBRefIdeal.Value.run (F := Ideal) m' g')
    obtain ⟨a0, a1⟩ := hagree c
    refine ⟨((h c).1.trans (val_main_v5_eq _ _)).trans ((reference _ _).trans ?_), (h c).2⟩
    exact congrArg₂ sums (a0.trans (Cert.ChipBIdeal.Gen.V_main_arg0 m c).symm) (a1.trans (Cert.ChipBIdeal.Gen.V_main_arg1 m c).symm)

end Cert.Proof.ChipB

end
-- ==== Proof.ChipCValue.lean ====
/-
  ChipC: the sum of the chips' parts over the reals. The own part's rows begin at row 1280 of the array that holds the parts
  of every chip; the other three parts lie in an array of their own. Each point takes 256 rows.
-/
module

public import proofs.«01_k».proof.Proof.Gen.ChipCIdeal.Frame
public import Idealize.ShloMosaic.Lib.Pipeline.ValueKit
public import Idealize.ShloMosaic.Lib.Claim

@[expose] public section

set_option maxRecDepth 16384

noncomputable section

namespace Cert.Proof.ChipC

open Idealize.ShloMosaic Idealize.ShloMosaic.TcCoe Idealize.SL.Sem
open Cert.ChipCIdeal Cert.ChipCIdeal.Gen

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 5#32 (BitVec.ofNat 32 (i 0).val)).toNat = 5 + (i 0).val := by
  decide +kernel

/-- Where the own part's window stands. -/
theorem index (i : grid0.Coords) : cc0_transform_0 inb_S1_S1_0 numel1_S1 (tbl m) i = ![0, 5 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 5 + (i 0).val, 0] : Fin 3 → Nat) a + 1) * S1x256x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

/-- Where the other windows stand. -/
theorem visits (hO : Ok m) (t : Fin (cfgM m hO).N) :
    ((cfgM m hO).win 1).index t = ![0, t.val, 0] ∧ ((cfgM m hO).win 2).index t = ![1, t.val, 0]
      ∧ ((cfgM m hO).win 3).index t = ![2, t.val, 0] ∧ ((cfgM m hO).win 4).index t = ![t.val, 0] :=
  (by decide +kernel : ∀ t : Fin grid0.N, cc0_transform_1 (grid0.coords t) = ![0, t.val, 0]
    ∧ cc0_transform_2 (grid0.coords t) = ![1, t.val, 0] ∧ cc0_transform_3 (grid0.coords t) = ![2, t.val, 0]
    ∧ cc0_transform_4 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 5 + t.val, 0] :=
  (index m (grid0.coords t)).trans (by rw [coords_val t])

/-- The blocks written back cover the result. -/
theorem covers (hO : Ok m) : ((cfgM m hO).win 4).Covers := by
  refine ⟨(by decide : ∀ a : Fin 2, 0 < S256x1024.size a), fun β => ?_⟩
  have h0 : (β (0 : Fin 2)).val < 3 :=
    Nat.lt_of_lt_of_eq (β (0 : Fin 2)).isLt (show (768 + 256 - 1) / 256 = 3 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_4 _ _, fun a => ⟨?_, .inl rfl⟩⟩
  rw [(visits m hO ⟨(β (0 : Fin 2)).val, hN⟩).2.2.2]
  match a with
  | ⟨0, _⟩ => rfl
  | ⟨1, _⟩ => exact (Nat.lt_one_iff.mp h1).symm

end Table

variable (m : (ℓ : Loc nD τ sig) → Buf (Elt Ideal) ℓ)

/-- The own part and the three others, added. -/
def sums (own : S4x2560x1024.Idx → EReal) (others : S3x768x1024.Idx → EReal) (i : S768x1024.Idx) : EReal :=
  own (ix3 0 ⟨1280 + (i 0).val, by have : (i 0).val < 768 := (i 0).isLt; omega⟩ (i 1))
    + others (ix3 0 (i 0) (i 1)) + others (ix3 1 (i 0) (i 1)) + others (ix3 2 (i 0) (i 1))

theorem pay_apply (a b c d : FVec Ideal S1x256x1024 .bf16) (j : S256x1024.Idx) :
    k0_pay1 (F := Ideal) a b c d j
      = a (ix3 0 (j 0) (j 1)) + b (ix3 0 (j 0) (j 1)) + c (ix3 0 (j 0) (j 1)) + d (ix3 0 (j 0) (j 1)) := by
  idx_vars j
  pointwise [k0_pay1]

theorem pay_congr {a a' b b' c c' d d' : FVec Ideal S1x256x1024 .bf16} (ha : a = a') (hb : b = b') (hc : c = c') (hd : d = d') :
    k0_pay1 (F := Ideal) a b c d = k0_pay1 (F := Ideal) a' b' c' d' := by
  rw [ha, hb, hc, hd]

/-- What a point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) := by
  unfold outsAt0
  frame_out
  exact pay_congr ((hs0_0 m hO t).read_unread _) ((hs0_1 m hO t).read_unread _) ((hs0_2 m hO t).read_unread _)
    ((hs0_3 m hO t).read_unread _)

/-- The array the run leaves. -/
theorem array (hO : Ok m) (c : Dev nD) :
    (dats m hO 0 c).arrAt 4 (cfgM m hO).N = sums (V m c main_arg0) (V m c main_arg1) := by
  refine (dats m hO 0 c).arrAt_eq_of_covers 4 _ (covers m hO) fun t _ y => ?_
  blk_simp
  rw [after0_4, after]
  refine (pay_apply _ _ _ _ _).trans ?_
  blk_point [iblk, sums, visits m hO t, visits_own m hO t]

end Cert.Proof.ChipC

end
-- ==== Proof.ChipCTable.lean ====
/-
  ChipC: the call's table of one number, and that every block it points to lies inside the array, for the call as it runs on
  the machine's numbers.
-/
module

public import proofs.«01_k».proof.Proof.Gen.ChipC.Frame
public import Idealize.ShloMosaic.Lib.Pipeline.ValueKit

@[expose] public section

set_option maxRecDepth 16384

noncomputable section

namespace Cert.Proof.ChipC.Machine

open Idealize.ShloMosaic Idealize.ShloMosaic.TcCoe Idealize.SL.Sem
open Cert.ChipC Cert.ChipC.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 5#32 (BitVec.ofNat 32 (i 0).val)).toNat = 5 + (i 0).val := by
  decide +kernel

/-- Where the own part's window stands. -/
theorem index (i : grid0.Coords) : cc0_transform_0 inb_S1_S1_0 numel1_S1 (tbl m) i = ![0, 5 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 5 + (i 0).val, 0] : Fin 3 → Nat) a + 1) * S1x256x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

end Cert.Proof.ChipC.Machine

end
-- ==== Proof.ChipCClaim.lean ====
/-
  ChipC: the claims about the sum of the chips' parts whose own part begins at row 1280, its reading over the reals and its
  reference.
-/
module

public import proofs.«01_k».proof.Proof.ChipCValue
public import proofs.«01_k».proof.Proof.ChipCTable
public import proofs.«01_k».proof.Proof.Gen.ChipCRefIdeal.Run
public import proofs.«01_k».proof.Proof.Gen.ChipCRefIdeal.Read
public import proofs.«01_k».proof.Defs

@[expose] public section

set_option maxRecDepth 16384

noncomputable section

namespace Cert.Proof.ChipC

open Idealize.ShloMosaic Idealize.ShloMosaic.TcCoe Idealize.SL.Sem
open Cert.ChipCRefIdeal Cert.ChipCRefIdeal.Read
open scoped BigOperators

/-- The reference's result, element by element. -/
theorem reference (x : (⟨S4x2560x1024, .bf16⟩ : BufTy).Contents (Elt Ideal)) (y : (⟨S3x768x1024, .bf16⟩ : BufTy).Contents (Elt Ideal)) :
    val_main_v5 (F := Ideal) x y = sums x y := by
  funext i
  idx_vars i
  pointwise [val_main_v5, val_main_v4, val_main_cst, val_main_v3, val_main_v2, val_main_v1, val_main_v0, sums]
  rw [Fin.sum_univ_three, ← add_assoc, ← add_assoc]

theorem frame_kernel : Cert.quiescent_ChipC := fun m ρ _ => Cert.ChipC.Gen.frame m ρ (Machine.ok m)

theorem frame_ideal : Cert.quiescent_ChipCIdeal := fun m ρ _ => Cert.ChipCIdeal.Gen.frame m ρ (ok m)

theorem frame_reference : Cert.quiescent_ChipCRefIdeal := fun m ρ _ =>
  (θ_run Cert.ChipCRefIdeal.defs _ _).mono (fun r h => ⟨fun c => (h c).2, sem_eq_zero_of_no_sems (by decide) r.2⟩)
    (Cert.ChipCRefIdeal.Value.run (F := Ideal) m ρ)

/-- The kernel's result is the reference's. -/
theorem algebraic : Cert.algebraic_ChipCIdeal_ChipCRefIdeal := by
  intro m g m' g' _ hagree
  refine ⟨fun c => sums (Cert.ChipCIdeal.Gen.V m c Cert.ChipCIdeal.main_arg0) (Cert.ChipCIdeal.Gen.V m c Cert.ChipCIdeal.main_arg1), ?_, ?_⟩
  · refine (θ_run Cert.ChipCIdeal.defs _ _).mono (fun _ h c => ?_)
      (θ_run_and (Cert.ChipCIdeal.Gen.run_main m g (ok m)) (Cert.ChipCIdeal.Gen.unchanged m g (ok m)))
    exact ⟨((h.1 c).1 4).trans (array m (ok m) c), h.2 c⟩
  · refine (θ_run Cert.ChipCRefIdeal.defs _ _).mono (fun _ h c => ?_) (Cert.ChipCRefIdeal.Value.run (F := Ideal) m' g')
    obtain ⟨a0, a1⟩ := hagree c
    refine ⟨((h c).1.trans (val_main_v5_eq _ _)).trans ((reference _ _).trans ?_), (h c).2⟩
    exact congrArg₂ sums (a0.trans (Cert.ChipCIdeal.Gen.V_main_arg0 m c).symm) (a1.trans (Cert.ChipCIdeal.Gen.V_main_arg1 m c).symm)

end Cert.Proof.ChipC

end
-- ==== Proof.ChipDValue.lean ====
/-
  ChipD: the sum of the chips' parts over the reals. The own part's rows begin at row 2048 of the array that holds the parts
  of every chip; the other three parts lie in an array of their own. Each point takes 512 rows.
-/
module

public import proofs.«01_k».proof.Proof.Gen.ChipDIdeal.Frame
public import Idealize.ShloMosaic.Lib.Pipeline.ValueKit
public import Idealize.ShloMosaic.Lib.Claim

@[expose] public section

set_option maxRecDepth 16384

noncomputable section

namespace Cert.Proof.ChipD

open Idealize.ShloMosaic Idealize.ShloMosaic.TcCoe Idealize.SL.Sem
open Cert.ChipDIdeal Cert.ChipDIdeal.Gen

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 4#32 (BitVec.ofNat 32 (i 0).val)).toNat = 4 + (i 0).val := by
  decide +kernel

/-- Where the own part's window stands. -/
theorem index (i : grid0.Coords) : cc0_transform_0 inb_S1_S1_0 numel1_S1 (tbl m) i = ![0, 4 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 4 + (i 0).val, 0] : Fin 3 → Nat) a + 1) * S1x512x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

/-- Where the other windows stand. -/
theorem visits (hO : Ok m) (t : Fin (cfgM m hO).N) :
    ((cfgM m hO).win 1).index t = ![0, t.val, 0] ∧ ((cfgM m hO).win 2).index t = ![1, t.val, 0]
      ∧ ((cfgM m hO).win 3).index t = ![2, t.val, 0] ∧ ((cfgM m hO).win 4).index t = ![t.val, 0] :=
  (by decide +kernel : ∀ t : Fin grid0.N, cc0_transform_1 (grid0.coords t) = ![0, t.val, 0]
    ∧ cc0_transform_2 (grid0.coords t) = ![1, t.val, 0] ∧ cc0_transform_3 (grid0.coords t) = ![2, t.val, 0]
    ∧ cc0_transform_4 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 4 + t.val, 0] :=
  (index m (grid0.coords t)).trans (by rw [coords_val t])

/-- The blocks written back cover the result. -/
theorem covers (hO : Ok m) : ((cfgM m hO).win 4).Covers := by
  refine ⟨(by decide : ∀ a : Fin 2, 0 < S512x1024.size a), fun β => ?_⟩
  have h0 : (β (0 : Fin 2)).val < 1 :=
    Nat.lt_of_lt_of_eq (β (0 : Fin 2)).isLt (show (512 + 512 - 1) / 512 = 1 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_4 _ _, fun a => ⟨?_, .inl rfl⟩⟩
  rw [(visits m hO ⟨(β (0 : Fin 2)).val, hN⟩).2.2.2]
  match a with
  | ⟨0, _⟩ => rfl
  | ⟨1, _⟩ => exact (Nat.lt_one_iff.mp h1).symm

end Table

variable (m : (ℓ : Loc nD τ sig) → Buf (Elt Ideal) ℓ)

/-- The own part and the three others, added. -/
def sums (own : S4x2560x1024.Idx → EReal) (others : S3x512x1024.Idx → EReal) (i : S512x1024.Idx) : EReal :=
  own (ix3 0 ⟨2048 + (i 0).val, by have : (i 0).val < 512 := (i 0).isLt; omega⟩ (i 1))
    + others (ix3 0 (i 0) (i 1)) + others (ix3 1 (i 0) (i 1)) + others (ix3 2 (i 0) (i 1))

theorem pay_apply (a b c d : FVec Ideal S1x512x1024 .bf16) (j : S512x1024.Idx) :
    k0_pay1 (F := Ideal) a b c d j
      = a (ix3 0 (j 0) (j 1)) + b (ix3 0 (j 0) (j 1)) + c (ix3 0 (j 0) (j 1)) + d (ix3 0 (j 0) (j 1)) := by
  idx_vars j
  pointwise [k0_pay1]

theorem pay_congr {a a' b b' c c' d d' : FVec Ideal S1x512x1024 .bf16} (ha : a = a') (hb : b = b') (hc : c = c') (hd : d = d') :
    k0_pay1 (F := Ideal) a b c d = k0_pay1 (F := Ideal) a' b' c' d' := by
  rw [ha, hb, hc, hd]

/-- What a point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) := by
  unfold outsAt0
  frame_out
  exact pay_congr ((hs0_0 m hO t).read_unread _) ((hs0_1 m hO t).read_unread _) ((hs0_2 m hO t).read_unread _)
    ((hs0_3 m hO t).read_unread _)

/-- The array the run leaves. -/
theorem array (hO : Ok m) (c : Dev nD) :
    (dats m hO 0 c).arrAt 4 (cfgM m hO).N = sums (V m c main_arg0) (V m c main_arg1) := by
  refine (dats m hO 0 c).arrAt_eq_of_covers 4 _ (covers m hO) fun t _ y => ?_
  blk_simp
  rw [after0_4, after]
  refine (pay_apply _ _ _ _ _).trans ?_
  blk_point [iblk, sums, visits m hO t, visits_own m hO t]

end Cert.Proof.ChipD

end
-- ==== Proof.ChipDTable.lean ====
/-
  ChipD: the call's table of one number, and that every block it points to lies inside the array, for the call as it runs on
  the machine's numbers.
-/
module

public import proofs.«01_k».proof.Proof.Gen.ChipD.Frame
public import Idealize.ShloMosaic.Lib.Pipeline.ValueKit

@[expose] public section

set_option maxRecDepth 16384

noncomputable section

namespace Cert.Proof.ChipD.Machine

open Idealize.ShloMosaic Idealize.ShloMosaic.TcCoe Idealize.SL.Sem
open Cert.ChipD Cert.ChipD.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 4#32 (BitVec.ofNat 32 (i 0).val)).toNat = 4 + (i 0).val := by
  decide +kernel

/-- Where the own part's window stands. -/
theorem index (i : grid0.Coords) : cc0_transform_0 inb_S1_S1_0 numel1_S1 (tbl m) i = ![0, 4 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 4 + (i 0).val, 0] : Fin 3 → Nat) a + 1) * S1x512x1024.size a ≤ S4x2560x1024.size a := by
  decide +kernel

/-- Every block the own part's window takes lies inside the array. -/
theorem ok : Ok m := by
  intro i
  rw [index m i]
  exact ⟨inside i, .inr (Affine.block_words_dvd (of_decide_eq_true rfl) (by decide))⟩

end Cert.Proof.ChipD.Machine

end
-- ==== Proof.ChipDClaim.lean ====
/-
  ChipD: the claims about the sum of the chips' parts whose own part begins at row 2048, its reading over the reals and its
  reference.
-/
module

public import proofs.«01_k».proof.Proof.ChipDValue
public import proofs.«01_k».proof.Proof.ChipDTable
public import proofs.«01_k».proof.Proof.Gen.ChipDRefIdeal.Run
public import proofs.«01_k».proof.Proof.Gen.ChipDRefIdeal.Read
public import proofs.«01_k».proof.Defs

@[expose] public section

set_option maxRecDepth 16384

noncomputable section

namespace Cert.Proof.ChipD

open Idealize.ShloMosaic Idealize.ShloMosaic.TcCoe Idealize.SL.Sem
open Cert.ChipDRefIdeal Cert.ChipDRefIdeal.Read
open scoped BigOperators

/-- The reference's result, element by element. -/
theorem reference (x : (⟨S4x2560x1024, .bf16⟩ : BufTy).Contents (Elt Ideal)) (y : (⟨S3x512x1024, .bf16⟩ : BufTy).Contents (Elt Ideal)) :
    val_main_v5 (F := Ideal) x y = sums x y := by
  funext i
  idx_vars i
  pointwise [val_main_v5, val_main_v4, val_main_cst, val_main_v3, val_main_v2, val_main_v1, val_main_v0, sums]
  rw [Fin.sum_univ_three, ← add_assoc, ← add_assoc]

theorem frame_kernel : Cert.quiescent_ChipD := fun m ρ _ => Cert.ChipD.Gen.frame m ρ (Machine.ok m)

theorem frame_ideal : Cert.quiescent_ChipDIdeal := fun m ρ _ => Cert.ChipDIdeal.Gen.frame m ρ (ok m)

theorem frame_reference : Cert.quiescent_ChipDRefIdeal := fun m ρ _ =>
  (θ_run Cert.ChipDRefIdeal.defs _ _).mono (fun r h => ⟨fun c => (h c).2, sem_eq_zero_of_no_sems (by decide) r.2⟩)
    (Cert.ChipDRefIdeal.Value.run (F := Ideal) m ρ)

/-- The kernel's result is the reference's. -/
theorem algebraic : Cert.algebraic_ChipDIdeal_ChipDRefIdeal := by
  intro m g m' g' _ hagree
  refine ⟨fun c => sums (Cert.ChipDIdeal.Gen.V m c Cert.ChipDIdeal.main_arg0) (Cert.ChipDIdeal.Gen.V m c Cert.ChipDIdeal.main_arg1), ?_, ?_⟩
  · refine (θ_run Cert.ChipDIdeal.defs _ _).mono (fun _ h c => ?_)
      (θ_run_and (Cert.ChipDIdeal.Gen.run_main m g (ok m)) (Cert.ChipDIdeal.Gen.unchanged m g (ok m)))
    exact ⟨((h.1 c).1 4).trans (array m (ok m) c), h.2 c⟩
  · refine (θ_run Cert.ChipDRefIdeal.defs _ _).mono (fun _ h c => ?_) (Cert.ChipDRefIdeal.Value.run (F := Ideal) m' g')
    obtain ⟨a0, a1⟩ := hagree c
    refine ⟨((h c).1.trans (val_main_v5_eq _ _)).trans ((reference _ _).trans ?_), (h c).2⟩
    exact congrArg₂ sums (a0.trans (Cert.ChipDIdeal.Gen.V_main_arg0 m c).symm) (a1.trans (Cert.ChipDIdeal.Gen.V_main_arg1 m c).symm)

end Cert.Proof.ChipD

end
-- ==== Proof.ChipEValue.lean ====
/-
  ChipE: the sum of the chips' parts over the reals. The own part's rows begin at row 0 of the array that holds the parts
  of every chip; the other three parts lie in an array of their own. Each point takes 512 rows.
-/
module

public import proofs.«01_k».proof.Proof.Gen.ChipEIdeal.Frame
public import Idealize.ShloMosaic.Lib.Pipeline.ValueKit
public import Idealize.ShloMosaic.Lib.Claim

@[expose] public section

set_option maxRecDepth 16384

noncomputable section

namespace Cert.Proof.ChipE

open Idealize.ShloMosaic Idealize.ShloMosaic.TcCoe Idealize.SL.Sem
open Cert.ChipEIdeal Cert.ChipEIdeal.Gen

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 0#32 (BitVec.ofNat 32 (i 0).val)).toNat = 0 + (i 0).val := by
  decide +kernel

/-- Where the own part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x512x1024.size a ≤ S4x1536x1024.size a := by
  decide +kernel

/-- Every block the own part's window takes lies inside the array. -/
theorem ok : Ok m := by
  intro i
  rw [index m i]
  exact ⟨inside i, .inr (Affine.block_words_dvd (of_decide_eq_true rfl) (by decide))⟩

/-- Where the other windows stand. -/
theorem visits (hO : Ok m) (t : Fin (cfgM m hO).N) :
    ((cfgM m hO).win 1).index t = ![0, t.val, 0] ∧ ((cfgM m hO).win 2).index t = ![1, t.val, 0]
      ∧ ((cfgM m hO).win 3).index t = ![2, t.val, 0] ∧ ((cfgM m hO).win 4).index t = ![t.val, 0] :=
  (by decide +kernel : ∀ t : Fin grid0.N, cc0_transform_1 (grid0.coords t) = ![0, t.val, 0]
    ∧ cc0_transform_2 (grid0.coords t) = ![1, t.val, 0] ∧ cc0_transform_3 (grid0.coords t) = ![2, t.val, 0]
    ∧ cc0_transform_4 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 0 + t.val, 0] :=
  (index m (grid0.coords t)).trans (by rw [coords_val t])

/-- The blocks written back cover the result. -/
theorem covers (hO : Ok m) : ((cfgM m hO).win 4).Covers := by
  refine ⟨(by decide : ∀ a : Fin 2, 0 < S512x1024.size a), fun β => ?_⟩
  have h0 : (β (0 : Fin 2)).val < 3 :=
    Nat.lt_of_lt_of_eq (β (0 : Fin 2)).isLt (show (1536 + 512 - 1) / 512 = 3 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_4 _ _, fun a => ⟨?_, .inl rfl⟩⟩
  rw [(visits m hO ⟨(β (0 : Fin 2)).val, hN⟩).2.2.2]
  match a with
  | ⟨0, _⟩ => rfl
  | ⟨1, _⟩ => exact (Nat.lt_one_iff.mp h1).symm

end Table

variable (m : (ℓ : Loc nD τ sig) → Buf (Elt Ideal) ℓ)

/-- The own part and the three others, added. -/
def sums (own : S4x1536x1024.Idx → EReal) (others : S3x1536x1024.Idx → EReal) (i : S1536x1024.Idx) : EReal :=
  own (ix3 0 (i 0) (i 1))
    + others (ix3 0 (i 0) (i 1)) + others (ix3 1 (i 0) (i 1)) + others (ix3 2 (i 0) (i 1))

theorem pay_apply (a b c d : FVec Ideal S1x512x1024 .bf16) (j : S512x1024.Idx) :
    k0_pay1 (F := Ideal) a b c d j
      = a (ix3 0 (j 0) (j 1)) + b (ix3 0 (j 0) (j 1)) + c (ix3 0 (j 0) (j 1)) + d (ix3 0 (j 0) (j 1)) := by
  idx_vars j
  pointwise [k0_pay1]

theorem pay_congr {a a' b b' c c' d d' : FVec Ideal S1x512x1024 .bf16} (ha : a = a') (hb : b = b') (hc : c = c') (hd : d = d') :
    k0_pay1 (F := Ideal) a b c d = k0_pay1 (F := Ideal) a' b' c' d' := by
  rw [ha, hb, hc, hd]

/-- What a point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) := by
  unfold outsAt0
  frame_out
  exact pay_congr ((hs0_0 m hO t).read_unread _) ((hs0_1 m hO t).read_unread _) ((hs0_2 m hO t).read_unread _)
    ((hs0_3 m hO t).read_unread _)

/-- The array the run leaves. -/
theorem array (hO : Ok m) (c : Dev nD) :
    (dats m hO 0 c).arrAt 4 (cfgM m hO).N = sums (V m c main_arg0) (V m c main_arg1) := by
  refine (dats m hO 0 c).arrAt_eq_of_covers 4 _ (covers m hO) fun t _ y => ?_
  blk_simp
  rw [after0_4, after]
  refine (pay_apply _ _ _ _ _).trans ?_
  blk_point [iblk, sums, visits m hO t, visits_own m hO t]

end Cert.Proof.ChipE

end
-- ==== Proof.ChipETable.lean ====
/-
  ChipE: the call's table of one number, and that every block it points to lies inside the array, for the call as it runs on
  the machine's numbers.
-/
module

public import proofs.«01_k».proof.Proof.Gen.ChipE.Frame
public import Idealize.ShloMosaic.Lib.Pipeline.ValueKit

@[expose] public section

set_option maxRecDepth 16384

noncomputable section

namespace Cert.Proof.ChipE.Machine

open Idealize.ShloMosaic Idealize.ShloMosaic.TcCoe Idealize.SL.Sem
open Cert.ChipE Cert.ChipE.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 0#32 (BitVec.ofNat 32 (i 0).val)).toNat = 0 + (i 0).val := by
  decide +kernel

/-- Where the own part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x512x1024.size a ≤ S4x1536x1024.size a := by
  decide +kernel

/-- Every block the own part's window takes lies inside the array. -/
theorem ok : Ok m := by
  intro i
  rw [index m i]
  exact ⟨inside i, .inr (Affine.block_words_dvd (of_decide_eq_true rfl) (by decide))⟩

end Cert.Proof.ChipE.Machine

end
-- ==== Proof.ChipEClaim.lean ====
/-
  ChipE: the claims about the sum of the chips' parts whose own part begins at row 0, its reading over the reals and its
  reference.
-/
module

public import proofs.«01_k».proof.Proof.ChipEValue
public import proofs.«01_k».proof.Proof.ChipETable
public import proofs.«01_k».proof.Proof.Gen.ChipERefIdeal.Run
public import proofs.«01_k».proof.Proof.Gen.ChipERefIdeal.Read
public import proofs.«01_k».proof.Defs

@[expose] public section

set_option maxRecDepth 16384

noncomputable section

namespace Cert.Proof.ChipE

open Idealize.ShloMosaic Idealize.ShloMosaic.TcCoe Idealize.SL.Sem
open Cert.ChipERefIdeal Cert.ChipERefIdeal.Read
open scoped BigOperators

/-- The reference's result, element by element. -/
theorem reference (x : (⟨S4x1536x1024, .bf16⟩ : BufTy).Contents (Elt Ideal)) (y : (⟨S3x1536x1024, .bf16⟩ : BufTy).Contents (Elt Ideal)) :
    val_main_v5 (F := Ideal) x y = sums x y := by
  funext i
  idx_vars i
  pointwise [val_main_v5, val_main_v4, val_main_cst, val_main_v3, val_main_v2, val_main_v1, val_main_v0, sums]
  rw [Fin.sum_univ_three, ← add_assoc, ← add_assoc]

theorem frame_kernel : Cert.quiescent_ChipE := fun m ρ _ => Cert.ChipE.Gen.frame m ρ (Machine.ok m)

theorem frame_ideal : Cert.quiescent_ChipEIdeal := fun m ρ _ => Cert.ChipEIdeal.Gen.frame m ρ (ok m)

theorem frame_reference : Cert.quiescent_ChipERefIdeal := fun m ρ _ =>
  (θ_run Cert.ChipERefIdeal.defs _ _).mono (fun r h => ⟨fun c => (h c).2, sem_eq_zero_of_no_sems (by decide) r.2⟩)
    (Cert.ChipERefIdeal.Value.run (F := Ideal) m ρ)

/-- The kernel's result is the reference's. -/
theorem algebraic : Cert.algebraic_ChipEIdeal_ChipERefIdeal := by
  intro m g m' g' _ hagree
  refine ⟨fun c => sums (Cert.ChipEIdeal.Gen.V m c Cert.ChipEIdeal.main_arg0) (Cert.ChipEIdeal.Gen.V m c Cert.ChipEIdeal.main_arg1), ?_, ?_⟩
  · refine (θ_run Cert.ChipEIdeal.defs _ _).mono (fun _ h c => ?_)
      (θ_run_and (Cert.ChipEIdeal.Gen.run_main m g (ok m)) (Cert.ChipEIdeal.Gen.unchanged m g (ok m)))
    exact ⟨((h.1 c).1 4).trans (array m (ok m) c), h.2 c⟩
  · refine (θ_run Cert.ChipERefIdeal.defs _ _).mono (fun _ h c => ?_) (Cert.ChipERefIdeal.Value.run (F := Ideal) m' g')
    obtain ⟨a0, a1⟩ := hagree c
    refine ⟨((h c).1.trans (val_main_v5_eq _ _)).trans ((reference _ _).trans ?_), (h c).2⟩
    exact congrArg₂ sums (a0.trans (Cert.ChipEIdeal.Gen.V_main_arg0 m c).symm) (a1.trans (Cert.ChipEIdeal.Gen.V_main_arg1 m c).symm)

end Cert.Proof.ChipE

end
-- ==== Proof.ChipIValue.lean ====
/-
  ChipI: the sum of the chips' parts over the reals. The own part's rows begin at row 0 of the array that holds the parts
  of every chip; the other three parts lie in an array of their own. Each point takes 544 rows.
-/
module

public import proofs.«01_k».proof.Proof.Gen.ChipIIdeal.Frame
public import Idealize.ShloMosaic.Lib.Pipeline.ValueKit
public import Idealize.ShloMosaic.Lib.Claim

@[expose] public section

set_option maxRecDepth 16384

noncomputable section

namespace Cert.Proof.ChipI

open Idealize.ShloMosaic Idealize.ShloMosaic.TcCoe Idealize.SL.Sem
open Cert.ChipIIdeal Cert.ChipIIdeal.Gen

section Table

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 0#32 (BitVec.ofNat 32 (i 0).val)).toNat = 0 + (i 0).val := by
  decide +kernel

/-- Where the own part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x544x1024.size a ≤ S4x1088x1024.size a := by
  decide +kernel

/-- Every block the own part's window takes lies inside the array. -/
theorem ok : Ok m := by
  intro i
  rw [index m i]
  exact ⟨inside i, .inr (Affine.block_words_dvd (of_decide_eq_true rfl) (by decide))⟩

/-- Where the other windows stand. -/
theorem visits (hO : Ok m) (t : Fin (cfgM m hO).N) :
    ((cfgM m hO).win 1).index t = ![0, t.val, 0] ∧ ((cfgM m hO).win 2).index t = ![1, t.val, 0]
      ∧ ((cfgM m hO).win 3).index t = ![2, t.val, 0] ∧ ((cfgM m hO).win 4).index t = ![t.val, 0] :=
  (by decide +kernel : ∀ t : Fin grid0.N, cc0_transform_1 (grid0.coords t) = ![0, t.val, 0]
    ∧ cc0_transform_2 (grid0.coords t) = ![1, t.val, 0] ∧ cc0_transform_3 (grid0.coords t) = ![2, t.val, 0]
    ∧ cc0_transform_4 (grid0.coords t) = ![t.val, 0]) t

theorem coords_val : ∀ t : Fin grid0.N, (grid0.coords t 0).val = t.val := by decide +kernel

theorem visits_own (hO : Ok m) (t : Fin (cfgM m hO).N) : ((cfgM m hO).win 0).index t = ![0, 0 + t.val, 0] :=
  (index m (grid0.coords t)).trans (by rw [coords_val t])

/-- The blocks written back cover the result. -/
theorem covers (hO : Ok m) : ((cfgM m hO).win 4).Covers := by
  refine ⟨(by decide : ∀ a : Fin 2, 0 < S544x1024.size a), fun β => ?_⟩
  have h0 : (β (0 : Fin 2)).val < 2 :=
    Nat.lt_of_lt_of_eq (β (0 : Fin 2)).isLt (show (1088 + 544 - 1) / 544 = 2 from rfl)
  have h1 : (β (1 : Fin 2)).val < 1 :=
    Nat.lt_of_lt_of_eq (β (1 : Fin 2)).isLt (show (1024 + 1024 - 1) / 1024 = 1 from rfl)
  have hN : (β (0 : Fin 2)).val < (cfgM m hO).N := Nat.lt_of_lt_of_eq h0 N_0.symm
  refine ⟨⟨(β (0 : Fin 2)).val, hN⟩, flush0_4 _ _, fun a => ⟨?_, .inl rfl⟩⟩
  rw [(visits m hO ⟨(β (0 : Fin 2)).val, hN⟩).2.2.2]
  match a with
  | ⟨0, _⟩ => rfl
  | ⟨1, _⟩ => exact (Nat.lt_one_iff.mp h1).symm

end Table

variable (m : (ℓ : Loc nD τ sig) → Buf (Elt Ideal) ℓ)

/-- The own part and the three others, added. -/
def sums (own : S4x1088x1024.Idx → EReal) (others : S3x1088x1024.Idx → EReal) (i : S1088x1024.Idx) : EReal :=
  own (ix3 0 (i 0) (i 1))
    + others (ix3 0 (i 0) (i 1)) + others (ix3 1 (i 0) (i 1)) + others (ix3 2 (i 0) (i 1))

theorem pay_apply (a b c d : FVec Ideal S1x544x1024 .bf16) (j : S544x1024.Idx) :
    k0_pay1 (F := Ideal) a b c d j
      = a (ix3 0 (j 0) (j 1)) + b (ix3 0 (j 0) (j 1)) + c (ix3 0 (j 0) (j 1)) + d (ix3 0 (j 0) (j 1)) := by
  idx_vars j
  pointwise [k0_pay1]

theorem pay_congr {a a' b b' c c' d d' : FVec Ideal S1x544x1024 .bf16} (ha : a = a') (hb : b = b') (hc : c = c') (hd : d = d') :
    k0_pay1 (F := Ideal) a b c d = k0_pay1 (F := Ideal) a' b' c' d' := by
  rw [ha, hb, hc, hd]

/-- What a point leaves, from the blocks it takes. -/
theorem after (hO : Ok m) (c : Dev nD) (t : Fin (cfgM m hO).N) :
    outsAt0 m hO c t = k0_pay1 (F := Ideal) (iblk m hO c 0 t) (iblk m hO c 1 t) (iblk m hO c 2 t) (iblk m hO c 3 t) := by
  unfold outsAt0
  frame_out
  exact pay_congr ((hs0_0 m hO t).read_unread _) ((hs0_1 m hO t).read_unread _) ((hs0_2 m hO t).read_unread _)
    ((hs0_3 m hO t).read_unread _)

/-- The array the run leaves. -/
theorem array (hO : Ok m) (c : Dev nD) :
    (dats m hO 0 c).arrAt 4 (cfgM m hO).N = sums (V m c main_arg0) (V m c main_arg1) := by
  refine (dats m hO 0 c).arrAt_eq_of_covers 4 _ (covers m hO) fun t _ y => ?_
  blk_simp
  rw [after0_4, after]
  refine (pay_apply _ _ _ _ _).trans ?_
  blk_point [iblk, sums, visits m hO t, visits_own m hO t]

end Cert.Proof.ChipI

end
-- ==== Proof.ChipITable.lean ====
/-
  ChipI: the call's table of one number, and that every block it points to lies inside the array, for the call as it runs on
  the machine's numbers.
-/
module

public import proofs.«01_k».proof.Proof.Gen.ChipI.Frame
public import Idealize.ShloMosaic.Lib.Pipeline.ValueKit

@[expose] public section

set_option maxRecDepth 16384

noncomputable section

namespace Cert.Proof.ChipI.Machine

open Idealize.ShloMosaic Idealize.ShloMosaic.TcCoe Idealize.SL.Sem
open Cert.ChipI Cert.ChipI.Gen

variable {F : FTy → Type} [FloatOps F] (m : (ℓ : Loc nD τ sig) → Buf (Elt F) ℓ)

omit [FloatOps F] in
/-- The table of the call holds the number 0, as the host writes it. -/
theorem table : tbl m 0 = fun _ => (0#32 : BitVec 32) := by
  unfold tbl
  show V m 0 main_v0 = _
  unfold V
  simp only [hostOps0]
  after_results
  rfl

theorem row : ∀ i : grid0.Coords, (Scalar.addi 0#32 (BitVec.ofNat 32 (i 0).val)).toNat = 0 + (i 0).val := by
  decide +kernel

/-- Where the own part's window stands. -/
theorem index (i : grid0.Coords) : cc0_transform_0 inb_S1_S1_0 numel1_S1 (tbl m) i = ![0, 0 + (i 0).val, 0] := by
  have h : (tbl m).at 0 (Rect.unit (s := S1) ![0] S1.size inb_S1_S1_0) numel1_S1 = (0#32 : BitVec 32) := congrFun (table m) _
  unfold cc0_transform_0
  exact congrArg₂ (fun a b => (![BitVec.toNat a, b, 0] : Fin 3 → Nat)) h (row i)

theorem inside : ∀ (i : grid0.Coords) a,
    ((![0, 0 + (i 0).val, 0] : Fin 3 → Nat) a + 1) * S1x544x1024.size a ≤ S4x1088x1024.size a := by
  decide +kernel

/-- Every block the own part's window takes lies inside the array. -/
theorem ok : Ok m := by
  intro i
  rw [index m i]
  exact ⟨inside i, .inr (Affine.block_words_dvd (of_decide_eq_true rfl) (by decide))⟩

end Cert.Proof.ChipI.Machine

end
-- ==== Proof.ChipIClaim.lean ====
/-
  ChipI: the claims about the sum of the chips' parts whose own part begins at row 0, its reading over the reals and its
  reference.
-/
module

public import proofs.«01_k».proof.Proof.ChipIValue
public import proofs.«01_k».proof.Proof.ChipITable
public import proofs.«01_k».proof.Proof.Gen.ChipIRefIdeal.Run
public import proofs.«01_k».proof.Proof.Gen.ChipIRefIdeal.Read
public import proofs.«01_k».proof.Defs

@[expose] public section

set_option maxRecDepth 16384

noncomputable section

namespace Cert.Proof.ChipI

open Idealize.ShloMosaic Idealize.ShloMosaic.TcCoe Idealize.SL.Sem
open Cert.ChipIRefIdeal Cert.ChipIRefIdeal.Read
open scoped BigOperators

/-- The reference's result, element by element. -/
theorem reference (x : (⟨S4x1088x1024, .bf16⟩ : BufTy).Contents (Elt Ideal)) (y : (⟨S3x1088x1024, .bf16⟩ : BufTy).Contents (Elt Ideal)) :
    val_main_v5 (F := Ideal) x y = sums x y := by
  funext i
  idx_vars i
  pointwise [val_main_v5, val_main_v4, val_main_cst, val_main_v3, val_main_v2, val_main_v1, val_main_v0, sums]
  rw [Fin.sum_univ_three, ← add_assoc, ← add_assoc]

theorem frame_kernel : Cert.quiescent_ChipI := fun m ρ _ => Cert.ChipI.Gen.frame m ρ (Machine.ok m)

theorem frame_ideal : Cert.quiescent_ChipIIdeal := fun m ρ _ => Cert.ChipIIdeal.Gen.frame m ρ (ok m)

theorem frame_reference : Cert.quiescent_ChipIRefIdeal := fun m ρ _ =>
  (θ_run Cert.ChipIRefIdeal.defs _ _).mono (fun r h => ⟨fun c => (h c).2, sem_eq_zero_of_no_sems (by decide) r.2⟩)
    (Cert.ChipIRefIdeal.Value.run (F := Ideal) m ρ)

/-- The kernel's result is the reference's. -/
theorem algebraic : Cert.algebraic_ChipIIdeal_ChipIRefIdeal := by
  intro m g m' g' _ hagree
  refine ⟨fun c => sums (Cert.ChipIIdeal.Gen.V m c Cert.ChipIIdeal.main_arg0) (Cert.ChipIIdeal.Gen.V m c Cert.ChipIIdeal.main_arg1), ?_, ?_⟩
  · refine (θ_run Cert.ChipIIdeal.defs _ _).mono (fun _ h c => ?_)
      (θ_run_and (Cert.ChipIIdeal.Gen.run_main m g (ok m)) (Cert.ChipIIdeal.Gen.unchanged m g (ok m)))
    exact ⟨((h.1 c).1 4).trans (array m (ok m) c), h.2 c⟩
  · refine (θ_run Cert.ChipIRefIdeal.defs _ _).mono (fun _ h c => ?_) (Cert.ChipIRefIdeal.Value.run (F := Ideal) m' g')
    obtain ⟨a0, a1⟩ := hagree c
    refine ⟨((h c).1.trans (val_main_v5_eq _ _)).trans ((reference _ _).trans ?_), (h c).2⟩
    exact congrArg₂ sums (a0.trans (Cert.ChipIIdeal.Gen.V_main_arg0 m c).symm) (a1.trans (Cert.ChipIIdeal.Gen.V_main_arg1 m c).symm)

end Cert.Proof.ChipI

end
-- ==== Proof.X1Value.lean ====
/-
  X1: the residual plus the merged mixers times their output weight, and the norm of the sum, over the reals. A point of
  the grid does 1024 rows whole, so that it can norm them.
-/
module

public import proofs.«01_k».proof.Proof.Norm
public import proofs.«01_k».proof.Proof.Gen.X1Ideal.Value
public import proofs.«01_k».proof.Proof.Gen.X1Ideal.Skeleton
public import Idealize.ShloMosaic.Lib.Pipeline.ValueKit
public import Idealize.ShloMosaic.Lib.Claim
public import Idealize.ShloMosaic.PureOps.Ideal.Laws

@[expose] public section

set_option maxRecDepth 16384

noncomputable section

namespace Cert.Proof.X1

open Idealize.ShloMosaic Idealize.ShloMosaic.TcCoe Idealize.SL.Sem
open Cert.X1Ideal Cert.X1Ideal.Gen
open scoped BigOperators

/-- The residual plus the product. -/
def total (a : S4096x1024.Idx → EReal) (w : S1024x1024.Idx → EReal) (x : S4096x1024.Idx → EReal) (i : S4096x1024.Idx) : EReal :=
  x i + ∑ k : Fin 1024, a (ix2 (i 0) k) * w (ix2 k (i 1))

/-- Rows normed and scaled. -/
def norm (x : S4096x1024.Idx → EReal) (g : S1x1024.Idx → EReal) (i : S4096x1024.Idx) : EReal :=
  x i * Norm.scale (fun k => x (ix2 (i 0) k)) * g (ix2 0 (i 1))

/-- One point's product, element by element. -/
theorem product (a w : FVec Ideal S1024x1024 .bf16) (j : S1024x1024.Idx) :
    k0_pay1 (F := Ideal) a w j = ∑ k : Fin 1024, (a (ix2 (j 0) k) * w (ix2 k (j 1)) : EReal) := by
  unfold k0_pay1
  show FloatOps.matmul (F := Ideal) (φ₁ := .bf16) (φ₂ := .bf16) dot_S1024x1024_S1024x1024_S1024x1024_1_0_0_1_n_n none a w
    (constant S1024x1024 .f32 0x00000000#32) j = _
  rw [Ideal.matmul_constant_zero_apply,
    ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  refine congrArg₂ (· * ·) (congrArg a (funext fun x => Fin.ext ?_)) (congrArg w (funext fun x => Fin.ext ?_))
  · match x with
    | ⟨0, _⟩ => rfl
    | ⟨1, _⟩ => exact (DotDims.lhsIdx_val_of_single _ rfl _ _).trans hk
  · match x with
    | ⟨0, _⟩ => exact (DotDims.rhsIdx_val_of_single _ rfl _ _).trans hk
    | ⟨1, _⟩ => rfl

/-- The rows of one point: their product on top of the residual. -/
def rows (a w : FVec Ideal S1024x1024 .bf16) (x : FVec Ideal S1024x1024 .f32) (j : S1024x1024.Idx) : EReal :=
  x j + ∑ k : Fin 1024, a (ix2 (j 0) k) * w (ix2 k (j 1))

theorem pay4_apply (a w : FVec Ideal S1024x1024 .bf16) (x : FVec Ideal S1024x1024 .f32) (j : S1024x1024.Idx) :
    k0_pay4 (F := Ideal) (k0_pay1 (F := Ideal) a w) x j = rows a w x j := by
  show (k0_pay1 (F := Ideal) a w j : EReal) + x j = _
  rw [product, add_comm]
  rfl

theorem pay5_apply (s x : FVec Ideal S1024x1024 .f32) (g : FVec Ideal S1x1024 .f32) (j : S1024x1024.Idx) :
    k0_pay5 (F := Ideal) s x g j
      = k0_pay4 (F := Ideal) s x j * Norm.scale (fun k => k0_pay4 (F := Ideal) s x (ix2 (j 0) k)) * g (ix2 0 (j 1)) := by
  idx_vars j
  unfold k0_pay5
  generalize k0_pay4 (F := Ideal) s x = p
  pointwise [Norm.scale, Norm.meanSq, Norm.len, Norm.eps]

theorem visits : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

theorem rows_eq (c : Dev nD) (t : Fin cfg0.N) (j : S1024x1024.Idx) (i : S4096x1024.Idx)
    (h0 : (i 0).val = t.val * 1024 + (j 0).val) (h1 : (i 1).val = (j 1).val) :
    rows (iblk m c 0 t) (iblk m c 1 t) (iblk m c 2 t) j = total (V m c main_arg0) (V m c main_arg1) (V m c main_arg2) i := by
  unfold rows total
  refine congrArg₂ (· + ·) ?_ (Finset.sum_congr rfl fun k _ => ?_)
  · blk_point [iblk, visits t]
  · blk_point [iblk, visits t]

theorem point (c : Dev nD) (t : Fin cfg0.N) : outsAt0 m c t
    = (k0_pay4 (F := Ideal) (k0_pay1 (F := Ideal) (iblk m c 0 t) (iblk m c 1 t)) (iblk m c 2 t),
      k0_pay5 (F := Ideal) (k0_pay1 (F := Ideal) (iblk m c 0 t) (iblk m c 1 t)) (iblk m c 2 t) (iblk m c 3 t)) := by
  unfold outsAt0
  refine Prod.ext ?_ ?_
  · frame_out
    rw [show k0_pay2 (F := Ideal) (iblk m c 0 t) (iblk m c 1 t) = k0_pay1 (F := Ideal) (iblk m c 0 t) (iblk m c 1 t) from shapeCast_self _ _]
  · frame_out
    rw [show k0_pay2 (F := Ideal) (iblk m c 0 t) (iblk m c 1 t) = k0_pay1 (F := Ideal) (iblk m c 0 t) (iblk m c 1 t) from shapeCast_self _ _]

/-- The sum the run leaves. -/
theorem array4 (c : Dev nD) : (dats m 0 c).arrAt 4 cfg0.N = total (V m c main_arg0) (V m c main_arg1) (V m c main_arg2) := by
  refine (dats m 0 c).arrAt_eq_of_covers 4 _ (by decide +kernel) fun t _ y => ?_
  blk_simp
  rw [after0_4, point]
  refine (pay4_apply _ _ _ _).trans ?_
  refine rows_eq m c t _ _ ?_ ?_ <;> (blk_simp [visits t] <;> try omega)

/-- The normed sum the run leaves. -/
theorem array5 (c : Dev nD) : (dats m 0 c).arrAt 5 cfg0.N
    = norm (total (V m c main_arg0) (V m c main_arg1) (V m c main_arg2)) (V m c main_arg3) := by
  refine (dats m 0 c).arrAt_eq_of_covers 5 _ (by decide +kernel) fun t _ y => ?_
  blk_simp
  rw [after0_5, point]
  refine (pay5_apply _ _ _ _).trans ?_
  simp only [pay4_apply]
  unfold norm
  refine congrArg₂ (· * ·) (congrArg₂ (· * ·) (rows_eq m c t _ _ ?_ ?_) (congrArg Norm.scale (funext fun k => rows_eq m c t _ _ ?_ ?_))) ?_
  case refine_5 => blk_point [iblk, visits t]
  all_goals (blk_simp [visits t] <;> try omega)

end Cert.Proof.X1

end
-- ==== Proof.X1Claim.lean ====
/-
  X1: the claims about the mixers' output product with its residual and norm, its reading over the reals and its reference.
-/
module

public import proofs.«01_k».proof.Proof.X1Value
public import proofs.«01_k».proof.Proof.Gen.X1.Frame
public import proofs.«01_k».proof.Proof.Gen.X1RefIdeal.Run
public import proofs.«01_k».proof.Proof.Gen.X1RefIdeal.Read
public import proofs.«01_k».proof.Defs

@[expose] public section

set_option maxRecDepth 16384

noncomputable section

namespace Cert.Proof.X1

open Idealize.ShloMosaic Idealize.ShloMosaic.TcCoe Idealize.SL.Sem
open Cert.X1RefIdeal Cert.X1RefIdeal.Read
open scoped BigOperators

/-- The reference's sum, element by element. -/
theorem reference_total (a : (⟨S4096x1024, .bf16⟩ : BufTy).Contents (Elt Ideal)) (w : (⟨S1024x1024, .bf16⟩ : BufTy).Contents (Elt Ideal))
    (x : (⟨S4096x1024, .f32⟩ : BufTy).Contents (Elt Ideal)) : val_main_v3 (F := Ideal) a w x = total a w x := by
  funext i
  idx_vars i
  pointwise [val_main_v3, val_main_v2, val_main_v1, val_main_v0, total]

/-- The reference's norm of the sum, element by element. -/
theorem reference_norm (a : (⟨S4096x1024, .bf16⟩ : BufTy).Contents (Elt Ideal)) (w : (⟨S1024x1024, .bf16⟩ : BufTy).Contents (Elt Ideal))
    (x : (⟨S4096x1024, .f32⟩ : BufTy).Contents (Elt Ideal)) (g : (⟨S1x1024, .f32⟩ : BufTy).Contents (Elt Ideal)) :
    val_main_v16 (F := Ideal) a w x g = norm (total a w x) g := by
  rw [← reference_total]
  funext i
  unfold val_main_v16 val_main_v15 val_main_v13 val_main_v12 val_main_v11 val_main_v10 val_main_v8 val_main_v6 val_main_v5 val_main_v4
  generalize val_main_v3 (F := Ideal) a w x = p
  idx_vars i
  pointwise [val_main_v14, val_main_v9, val_main_cst_1, val_main_v7, val_main_cst_0, val_main_cst, norm, Norm.scale, Norm.meanSq,
    Norm.len, Norm.eps]

theorem frame_kernel : Cert.quiescent_X1 := fun m ρ _ => Cert.X1.Gen.frame m ρ

theorem frame_ideal : Cert.quiescent_X1Ideal := fun m ρ _ => Cert.X1Ideal.Gen.frame m ρ

theorem frame_reference : Cert.quiescent_X1RefIdeal := fun m ρ _ =>
  (θ_run Cert.X1RefIdeal.defs _ _).mono (fun r h => ⟨fun c => (h c).2.2, sem_eq_zero_of_no_sems (by decide) r.2⟩)
    (Cert.X1RefIdeal.Value.run (F := Ideal) m ρ)

/-- The kernel's results are the reference's. -/
theorem algebraic : Cert.algebraic_X1Ideal_X1RefIdeal := by
  intro m g m' g' _ hagree
  refine ⟨fun c => total (Cert.X1Ideal.Gen.V m c Cert.X1Ideal.main_arg0) (Cert.X1Ideal.Gen.V m c Cert.X1Ideal.main_arg1)
      (Cert.X1Ideal.Gen.V m c Cert.X1Ideal.main_arg2),
    fun c => norm (total (Cert.X1Ideal.Gen.V m c Cert.X1Ideal.main_arg0) (Cert.X1Ideal.Gen.V m c Cert.X1Ideal.main_arg1)
      (Cert.X1Ideal.Gen.V m c Cert.X1Ideal.main_arg2)) (Cert.X1Ideal.Gen.V m c Cert.X1Ideal.main_arg3), ?_, ?_⟩
  · refine (θ_run Cert.X1Ideal.defs _ _).mono (fun _ h c => ?_) (Cert.X1Ideal.Value.run_blocks (F := Ideal) m g)
    exact ⟨(h c).1.trans (array4 m c), (h c).2.1.trans (array5 m c), (h c).2.2⟩
  · refine (θ_run Cert.X1RefIdeal.defs _ _).mono (fun _ h c => ?_) (Cert.X1RefIdeal.Value.run (F := Ideal) m' g')
    obtain ⟨a0, a1, a2, a3⟩ := hagree c
    refine ⟨((h c).1.trans (val_main_v3_eq _ _ _)).trans ((reference_total _ _ _).trans ?_),
      ((h c).2.1.trans (val_main_v16_eq _ _ _ _)).trans ((reference_norm _ _ _ _).trans ?_), (h c).2.2⟩
    · rw [a0, a1, a2]
    · rw [a0, a1, a2, a3]

end Cert.Proof.X1

end
-- ==== Proof.DwPoolValue.lean ====
/-
  DwPool: the gradient of the pooling mixer's weights, over the reals: for each of the four groups of 256 columns the
  product of the rows' columns with the columns of the incoming gradient, summed over all 4096 rows. A point of the grid
  takes 1024 rows of one group and adds their part to the group's block.
-/
module

public import proofs.«01_k».proof.Proof.Gen.DwPoolIdeal.Value
public import proofs.«01_k».proof.Proof.Gen.DwPoolIdeal.Skeleton
public import Idealize.ShloMosaic.Lib.Pipeline.ValueKit
public import Idealize.ShloMosaic.Lib.Claim
public import Idealize.ShloMosaic.PureOps.Ideal.Laws

@[expose] public section

set_option maxRecDepth 16384

noncomputable section

namespace Cert.Proof.DwPool

open Idealize.ShloMosaic Idealize.ShloMosaic.TcCoe Idealize.SL.Sem
open Cert.DwPoolIdeal Cert.DwPoolIdeal.Gen
open scoped BigOperators

/-- A column of a group, among all columns. -/
abbrev column (g : Fin 4) (x : Fin 256) : Fin 1024 := ⟨g.val * 256 + x.val, by have := g.isLt; have := x.isLt; omega⟩

/-- The gradient of every group's weight. -/
def grad (a d : S4096x1024.Idx → EReal) (i : S4x256x256.Idx) : EReal :=
  ∑ k : Fin 4096, a (ix2 k (column (i 0) (i 1))) * d (ix2 k (column (i 0) (i 2)))

/-- One point's product, element by element. -/
theorem product (a d : FVec Ideal S1024x256 .bf16) (j : S256x256.Idx) :
    k0_pay1 (F := Ideal) a d j = ∑ k : Fin 1024, (a (ix2 k (j 0)) * d (ix2 k (j 1)) : EReal) := by
  unfold k0_pay1
  show FloatOps.matmul (F := Ideal) (φ₁ := .bf16) (φ₂ := .bf16) dot_S1024x256_S1024x256_S256x256_0_0_1_1_n_n none a d
    (constant S256x256 .f32 0x00000000#32) j = _
  rw [Ideal.matmul_constant_zero_apply,
    ← Equiv.sum_comp (ValueIdx.contrEquiv1 dot_S1024x256_S1024x256_S256x256_0_0_1_1_n_n 1024 rfl rfl).symm]
  refine Finset.sum_congr rfl fun k _ => ?_
  have hk := ValueIdx.contrEquiv1_symm_val dot_S1024x256_S1024x256_S256x256_0_0_1_1_n_n 1024 rfl rfl k
  refine congrArg₂ (· * ·) (congrArg a (funext fun x => Fin.ext ?_)) (congrArg d (funext fun x => Fin.ext ?_))
  · match x with
    | ⟨0, _⟩ => exact (DotDims.lhsIdx_val_of_single _ rfl _ _).trans hk
    | ⟨1, _⟩ => rfl
  · match x with
    | ⟨0, _⟩ => exact (DotDims.rhsIdx_val_of_single _ rfl _ _).trans hk
    | ⟨1, _⟩ => rfl

/-- The part of the gradient that a point adds. -/
def part (a d : FVec Ideal S1024x256 .bf16) (j : S1x256x256.Idx) : EReal :=
  ∑ k : Fin 1024, a (ix2 k (j 1)) * d (ix2 k (j 2))

theorem pay2_apply (a d : FVec Ideal S1024x256 .bf16) (j : S1x256x256.Idx) : k0_pay2 (F := Ideal) a d j = part a d j := by
  idx_vars j
  obtain rfl : j0 = 0 := Subsingleton.elim _ _
  unfold k0_pay2 part
  generalize h : k0_pay1 (F := Ideal) a d = p
  pointwise []
  rw [← h, product]
  rfl

theorem pay3_apply (a d : FVec Ideal S1024x256 .bf16) (s : FVec Ideal S1x256x256 .f32) (j : S1x256x256.Idx) :
    k0_pay3 (F := Ideal) a d s j = s j + part a d j := by
  idx_vars j
  obtain rfl : j0 = 0 := Subsingleton.elim _ _
  unfold k0_pay3 part
  generalize h : k0_pay1 (F := Ideal) a d = p
  pointwise []
  rw [← h, product]
  rfl

theorem visits : ∀ t : Fin cfg0.N, win0_0.index t = ![t.val % 4, t.val / 4] ∧ win0_1.index t = ![t.val % 4, t.val / 4]
    ∧ win0_2.index t = ![t.val / 4, 0, 0] :=
  (by decide +kernel : ∀ t : Fin grid0.N, _)

variable (m : (ℓ : Loc nD τ sig) → Buf (Elt Ideal) ℓ)

theorem lt16 (t : Fin cfg0.N) : t.val < 16 := Nat.lt_of_lt_of_eq t.isLt N_0

/-- The array the run leaves. -/
theorem array (c : Dev nD) : (dats m 0 c).arrAt 2 cfg0.N = grad (V m c main_arg0) (V m c main_arg1) := by
  refine (dats m 0 c).arrAt_eq_of_covers 2 _ (by decide +kernel) fun t hf y => ?_
  have ht := lt16 t
  blk_simp
  rw [after0_2, Pipeline.eq_sum_fin_of_reset_step_apply_of_flush (fun n h => outsAt0 m c n h) 4 (fun _ => 0)
    (fun p j => part (iblk m c 0 p) (iblk m c 1 p) j)
    (fun t h j => by rw [outsAt0_A m c t h (by omega)]; frame_out; rw [pay2_apply]; exact (zero_add _).symm)
    (fun t h j => by rw [outsAt0_B m c t h (by omega)]; frame_out; rw [pay3_apply])
    t ((flush0_2 t).mp hf) _, zero_add]
  have e0 : (((View.whole main_v0).slice (win0_2.rect t)).emb y 0).val = t.val / 4 + (y 0).val := by
    show win0_2.index t (0 : Fin 3) * 1 + 1 * (y 0).val = _
    rw [(visits t).2.2]; show t.val / 4 * 1 + _ = _; omega
  have e1 : (((View.whole main_v0).slice (win0_2.rect t)).emb y 1).val = (y 1).val := by
    show win0_2.index t (1 : Fin 3) * 256 + 1 * (y 1).val = _
    rw [(visits t).2.2]; show 0 * 256 + _ = _; omega
  have e2 : (((View.whole main_v0).slice (win0_2.rect t)).emb y 2).val = (y 2).val := by
    show win0_2.index t (2 : Fin 3) * 256 + 1 * (y 2).val = _
    rw [(visits t).2.2]; show 0 * 256 + _ = _; omega
  unfold part grad
  refine Fin.sum_mul_add_congr fun s k hl => ?_
  blk_point [iblk, visits t, visits ⟨_, Pipeline.run_point_lt_of_flush t ((flush0_2 t).mp hf) s⟩]
  all_goals omega

end Cert.Proof.DwPool

end
-- ==== Proof.DwPoolClaim.lean ====
/-
  DwPool: the claims about the gradient of the mixer's weights, its reading over the reals and its reference.
-/
module

public import proofs.«01_k».proof.Proof.DwPoolValue
public import proofs.«01_k».proof.Proof.Gen.DwPool.Frame
public import proofs.«01_k».proof.Proof.Gen.DwPoolRefIdeal.Run
public import proofs.«01_k».proof.Proof.Gen.DwPoolRefIdeal.Read
public import proofs.«01_k».proof.Defs

@[expose] public section

set_option maxRecDepth 16384

noncomputable section

namespace Cert.Proof.DwPool

open Idealize.ShloMosaic Idealize.ShloMosaic.TcCoe Idealize.SL.Sem
open Cert.DwPoolRefIdeal Cert.DwPoolRefIdeal.Read
open scoped BigOperators

/-- The reference's result, element by element. -/
theorem reference (a d : (⟨S4096x1024, .bf16⟩ : BufTy).Contents (Elt Ideal)) :
    val_main_v10 (F := Ideal) a d = grad a d := by
  funext i
  idx_vars i
  pointwise [val_main_v10, val_main_v9, val_main_v8, val_main_v7, val_main_v6, val_main_v5, val_main_v4, val_main_v3, val_main_v2, val_main_v1, val_main_v0, val_main_cst, grad]
  exact Finset.sum_congr rfl fun k _ => mul_comm _ _

theorem frame_kernel : Cert.quiescent_DwPool := fun m ρ _ => Cert.DwPool.Gen.frame m ρ

theorem frame_ideal : Cert.quiescent_DwPoolIdeal := fun m ρ _ => Cert.DwPoolIdeal.Gen.frame m ρ

theorem frame_reference : Cert.quiescent_DwPoolRefIdeal := fun m ρ _ =>
  (θ_run Cert.DwPoolRefIdeal.defs _ _).mono (fun r h => ⟨fun c => (h c).2, sem_eq_zero_of_no_sems (by decide) r.2⟩)
    (Cert.DwPoolRefIdeal.Value.run (F := Ideal) m ρ)

/-- The kernel's result is the reference's. -/
theorem algebraic : Cert.algebraic_DwPoolIdeal_DwPoolRefIdeal := by
  intro m g m' g' _ hagree
  refine ⟨fun c => grad (Cert.DwPoolIdeal.Gen.V m c Cert.DwPoolIdeal.main_arg0) (Cert.DwPoolIdeal.Gen.V m c Cert.DwPoolIdeal.main_arg1), ?_, ?_⟩
  · refine (θ_run Cert.DwPoolIdeal.defs _ _).mono (fun _ h c => ?_) (Cert.DwPoolIdeal.Value.run_blocks (F := Ideal) m g)
    exact ⟨(h c).1.trans (array m c), (h c).2⟩
  · refine (θ_run Cert.DwPoolRefIdeal.defs _ _).mono (fun _ h c => ?_) (Cert.DwPoolRefIdeal.Value.run (F := Ideal) m' g')
    obtain ⟨a0, a1⟩ := hagree c
    refine ⟨((h c).1.trans (val_main_v10_eq _ _)).trans ((reference _ _).trans ?_), (h c).2⟩
    rw [a0, a1]

end Cert.Proof.DwPool

end
-- ==== Proof.DpValue.lean ====
/-
  Dp: the product of the pooling mixer, four groups of 256 columns, each times the transpose of the group's weight. A point of the grid
  does 1024 rows of one group. Here: what a point leaves, and the whole array, over the reals.
-/
module

public import proofs.«01_k».proof.Proof.Gen.DpIdeal.Value
public import proofs.«01_k».proof.Proof.Gen.DpIdeal.Skeleton
public import Idealize.ShloMosaic.Lib.Pipeline.ValueKit
public import Idealize.ShloMosaic.Lib.Claim
public import Idealize.ShloMosaic.PureOps.Ideal.Laws

@[expose] public section

set_option maxRecDepth 16384

noncomputable section

namespace Cert.Proof.Dp

open Idealize.ShloMosaic Idealize.ShloMosaic.TcCoe Idealize.SL.Sem
open Cert.DpIdeal Cert.DpIdeal.Gen
open scoped BigOperators

/-- The product of every group of columns with the group's weight. -/
def grouped (a : S4096x1024.Idx → EReal) (w : S4x256x256.Idx → EReal) (i : S4096x1024.Idx) : EReal :=
  ∑ k : Fin 256, a (ix2 (i 0) ⟨(i 1).val / 256 * 256 + k.val, by have := (i 1).isLt; have h : (i 1).val < 1024 := this; have := k.isLt; show _ < 1024; omega⟩)
    * w (ix3 ⟨(i 1).val / 256, Nat.div_lt_of_lt_mul (i 1).isLt⟩ ⟨(i 1).val % 256, Nat.mod_lt _ (by decide)⟩ k)

/-- One point's product, element by element. -/
theorem pay1_apply (a : FVec Ideal S1024x256 .bf16) (w : FVec Ideal S1x256x256 .bf16) (j : S1024x256.Idx) :
    k0_pay1 (F := Ideal) a w j = ∑ k : Fin 256, (a (ix2 (j 0) k) * w (ix3 0 (j 1) k) : EReal) := by
  unfold k0_pay1
  show FloatOps.matmul (F := Ideal) (φ₁ := .bf16) (φ₂ := .bf16) dot_S1024x256_S256x256_S1024x256_1_1_0_0_n_n none a
    (shapeCast S256x256 w shapeCasts_S1x256x256_S256x256) (constant S1024x256 .f32 0x00000000#32) j = _
  rw [Ideal.matmul_constant_zero_apply,
    ← Equiv.sum_comp (ValueIdx.contrEquiv1 dot_S1024x256_S256x256_S1024x256_1_1_0_0_n_n 256 rfl rfl).symm]
  refine Finset.sum_congr rfl fun k _ => ?_
  have hk := ValueIdx.contrEquiv1_symm_val dot_S1024x256_S256x256_S1024x256_1_1_0_0_n_n 256 rfl rfl k
  refine congrArg₂ (· * ·) (congrArg a (funext fun x => Fin.ext ?_)) ?_
  · match x with
    | ⟨0, _⟩ => rfl
    | ⟨1, _⟩ => exact (DotDims.lhsIdx_val_of_single _ rfl _ _).trans hk
  · have e : dot_S1024x256_S256x256_S1024x256_1_1_0_0_n_n.rhsIdx j ((ValueIdx.contrEquiv1 dot_S1024x256_S256x256_S1024x256_1_1_0_0_n_n 256 rfl rfl).symm k)
        = (ix2 (j 1) k : S256x256.Idx) := funext fun x => Fin.ext (by
      match x with
      | ⟨0, _⟩ => rfl
      | ⟨1, _⟩ => exact (DotDims.rhsIdx_val_of_single _ rfl _ _).trans hk)
    rw [e]
    idx_vars j
    pointwise []

theorem visits : ∀ t : Fin cfg0.N, win0_0.index t = ![t.val % 4, t.val / 4] ∧ win0_1.index t = ![t.val / 4, 0, 0]
    ∧ win0_2.index t = ![t.val % 4, t.val / 4] :=
  (by decide +kernel : ∀ t : Fin grid0.N, _)

variable (m : (ℓ : Loc nD τ sig) → Buf (Elt Ideal) ℓ)

/-- The array the run leaves. -/
theorem array (c : Dev nD) : (dats m 0 c).arrAt 2 cfg0.N = grouped (V m c main_arg0) (V m c main_arg1) := by
  refine (dats m 0 c).arrAt_eq_of_covers 2 _ (by decide +kernel) fun t _ y => ?_
  have ht : t.val < 16 := Nat.lt_of_lt_of_eq t.isLt N_0
  blk_simp
  rw [after0_2]; frame_out
  rw [pay1_apply]
  unfold grouped
  refine Finset.sum_congr (M := EReal) rfl fun k _ => ?_
  blk_point [iblk, visits t]

end Cert.Proof.Dp

end
-- ==== Proof.DpClaim.lean ====
/-
  Dp: the claims about the mixer's grouped product, its reading over the reals and its reference.
-/
module

public import proofs.«01_k».proof.Proof.DpValue
public import proofs.«01_k».proof.Proof.Gen.Dp.Frame
public import proofs.«01_k».proof.Proof.Gen.DpRefIdeal.Run
public import proofs.«01_k».proof.Proof.Gen.DpRefIdeal.Read
public import proofs.«01_k».proof.Defs

@[expose] public section

set_option maxRecDepth 16384

noncomputable section

namespace Cert.Proof.Dp

open Idealize.ShloMosaic Idealize.ShloMosaic.TcCoe Idealize.SL.Sem
open Cert.DpRefIdeal Cert.DpRefIdeal.Read
open scoped BigOperators

/-- The reference's result, element by element. -/
theorem reference (a : (⟨S4096x1024, .bf16⟩ : BufTy).Contents (Elt Ideal)) (w : (⟨S4x256x256, .bf16⟩ : BufTy).Contents (Elt Ideal)) :
    val_main_v12 (F := Ideal) a w = grouped a w := by
  funext i
  idx_vars i
  pointwise [val_main_v12, val_main_v11, val_main_v10, val_main_v9, val_main_v8, val_main_v7, val_main_v6, val_main_v5, val_main_v4, val_main_v3, val_main_v2, val_main_v1, val_main_v0, val_main_cst, grouped]

theorem frame_kernel : Cert.quiescent_Dp := fun m ρ _ => Cert.Dp.Gen.frame m ρ

theorem frame_ideal : Cert.quiescent_DpIdeal := fun m ρ _ => Cert.DpIdeal.Gen.frame m ρ

theorem frame_reference : Cert.quiescent_DpRefIdeal := fun m ρ _ =>
  (θ_run Cert.DpRefIdeal.defs _ _).mono (fun r h => ⟨fun c => (h c).2, sem_eq_zero_of_no_sems (by decide) r.2⟩)
    (Cert.DpRefIdeal.Value.run (F := Ideal) m ρ)

/-- The kernel's result is the reference's. -/
theorem algebraic : Cert.algebraic_DpIdeal_DpRefIdeal := by
  intro m g m' g' _ hagree
  refine ⟨fun c => grouped (Cert.DpIdeal.Gen.V m c Cert.DpIdeal.main_arg0) (Cert.DpIdeal.Gen.V m c Cert.DpIdeal.main_arg1), ?_, ?_⟩
  · refine (θ_run Cert.DpIdeal.defs _ _).mono (fun _ h c => ?_) (Cert.DpIdeal.Value.run_blocks (F := Ideal) m g)
    exact ⟨(h c).1.trans (array m c), (h c).2⟩
  · refine (θ_run Cert.DpRefIdeal.defs _ _).mono (fun _ h c => ?_) (Cert.DpRefIdeal.Value.run (F := Ideal) m' g')
    obtain ⟨a0, a1⟩ := hagree c
    refine ⟨((h c).1.trans (val_main_v12_eq _ _)).trans ((reference _ _).trans ?_), (h c).2⟩
    rw [a0, a1]

end Cert.Proof.Dp

end
-- ==== Proof.YpValue.lean ====
/-
  Yp: the product of the pooling mixer, four groups of 256 columns, each times the group's weight. A point of the grid
  does 1024 rows of one group. Here: what a point leaves, and the whole array, over the reals.
-/
module

public import proofs.«01_k».proof.Proof.Gen.YpIdeal.Value
public import proofs.«01_k».proof.Proof.Gen.YpIdeal.Skeleton
public import Idealize.ShloMosaic.Lib.Pipeline.ValueKit
public import Idealize.ShloMosaic.Lib.Claim
public import Idealize.ShloMosaic.PureOps.Ideal.Laws

@[expose] public section

set_option maxRecDepth 16384

noncomputable section

namespace Cert.Proof.Yp

open Idealize.ShloMosaic Idealize.ShloMosaic.TcCoe Idealize.SL.Sem
open Cert.YpIdeal Cert.YpIdeal.Gen
open scoped BigOperators

/-- The product of every group of columns with the group's weight. -/
def grouped (a : S4096x1024.Idx → EReal) (w : S4x256x256.Idx → EReal) (i : S4096x1024.Idx) : EReal :=
  ∑ k : Fin 256, a (ix2 (i 0) ⟨(i 1).val / 256 * 256 + k.val, by have := (i 1).isLt; have h : (i 1).val < 1024 := this; have := k.isLt; show _ < 1024; omega⟩)
    * w (ix3 ⟨(i 1).val / 256, Nat.div_lt_of_lt_mul (i 1).isLt⟩ k ⟨(i 1).val % 256, Nat.mod_lt _ (by decide)⟩)

/-- One point's product, element by element. -/
theorem pay1_apply (a : FVec Ideal S1024x256 .bf16) (w : FVec Ideal S1x256x256 .bf16) (j : S1024x256.Idx) :
    k0_pay1 (F := Ideal) a w j = ∑ k : Fin 256, (a (ix2 (j 0) k) * w (ix3 0 k (j 1)) : EReal) := by
  unfold k0_pay1
  show FloatOps.matmul (F := Ideal) (φ₁ := .bf16) (φ₂ := .bf16) dot_S1024x256_S256x256_S1024x256_1_0_0_1_n_n none a
    (shapeCast S256x256 w shapeCasts_S1x256x256_S256x256) (constant S1024x256 .f32 0x00000000#32) j = _
  rw [Ideal.matmul_constant_zero_apply,
    ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  refine congrArg₂ (· * ·) (congrArg a (funext fun x => Fin.ext ?_)) ?_
  · match x with
    | ⟨0, _⟩ => rfl
    | ⟨1, _⟩ => exact (DotDims.lhsIdx_val_of_single _ rfl _ _).trans hk
  · have e : dot_S1024x256_S256x256_S1024x256_1_0_0_1_n_n.rhsIdx j ((ValueIdx.contrEquiv1 dot_S1024x256_S256x256_S1024x256_1_0_0_1_n_n 256 rfl rfl).symm k)
        = (ix2 k (j 1) : S256x256.Idx) := funext fun x => Fin.ext (by
      match x with
      | ⟨0, _⟩ => exact (DotDims.rhsIdx_val_of_single _ rfl _ _).trans hk
      | ⟨1, _⟩ => rfl)
    rw [e]
    idx_vars j
    pointwise []

theorem visits : ∀ t : Fin cfg0.N, win0_0.index t = ![t.val % 4, t.val / 4] ∧ win0_1.index t = ![t.val / 4, 0, 0]
    ∧ win0_2.index t = ![t.val % 4, t.val / 4] :=
  (by decide +kernel : ∀ t : Fin grid0.N, _)

variable (m : (ℓ : Loc nD τ sig) → Buf (Elt Ideal) ℓ)

/-- The array the run leaves. -/
theorem array (c : Dev nD) : (dats m 0 c).arrAt 2 cfg0.N = grouped (V m c main_arg0) (V m c main_arg1) := by
  refine (dats m 0 c).arrAt_eq_of_covers 2 _ (by decide +kernel) fun t _ y => ?_
  have ht : t.val < 16 := Nat.lt_of_lt_of_eq t.isLt N_0
  blk_simp
  rw [after0_2]; frame_out
  rw [pay1_apply]
  unfold grouped
  refine Finset.sum_congr (M := EReal) rfl fun k _ => ?_
  blk_point [iblk, visits t]

end Cert.Proof.Yp

end
-- ==== Proof.YpClaim.lean ====
/-
  Yp: the claims about the mixer's grouped product, its reading over the reals and its reference.
-/
module

public import proofs.«01_k».proof.Proof.YpValue
public import proofs.«01_k».proof.Proof.Gen.Yp.Frame
public import proofs.«01_k».proof.Proof.Gen.YpRefIdeal.Run
public import proofs.«01_k».proof.Proof.Gen.YpRefIdeal.Read
public import proofs.«01_k».proof.Defs

@[expose] public section

set_option maxRecDepth 16384

noncomputable section

namespace Cert.Proof.Yp

open Idealize.ShloMosaic Idealize.ShloMosaic.TcCoe Idealize.SL.Sem
open Cert.YpRefIdeal Cert.YpRefIdeal.Read
open scoped BigOperators

/-- The reference's result, element by element. -/
theorem reference (a : (⟨S4096x1024, .bf16⟩ : BufTy).Contents (Elt Ideal)) (w : (⟨S4x256x256, .bf16⟩ : BufTy).Contents (Elt Ideal)) :
    val_main_v6 (F := Ideal) a w = grouped a w := by
  funext i
  idx_vars i
  pointwise [val_main_v6, val_main_v5, val_main_v4, val_main_v3, val_main_v2, val_main_v1, val_main_v0, grouped]
  exact Finset.sum_congr rfl fun k _ => mul_comm _ _

theorem frame_kernel : Cert.quiescent_Yp := fun m ρ _ => Cert.Yp.Gen.frame m ρ

theorem frame_ideal : Cert.quiescent_YpIdeal := fun m ρ _ => Cert.YpIdeal.Gen.frame m ρ

theorem frame_reference : Cert.quiescent_YpRefIdeal := fun m ρ _ =>
  (θ_run Cert.YpRefIdeal.defs _ _).mono (fun r h => ⟨fun c => (h c).2, sem_eq_zero_of_no_sems (by decide) r.2⟩)
    (Cert.YpRefIdeal.Value.run (F := Ideal) m ρ)

/-- The kernel's result is the reference's. -/
theorem algebraic : Cert.algebraic_YpIdeal_YpRefIdeal := by
  intro m g m' g' _ hagree
  refine ⟨fun c => grouped (Cert.YpIdeal.Gen.V m c Cert.YpIdeal.main_arg0) (Cert.YpIdeal.Gen.V m c Cert.YpIdeal.main_arg1), ?_, ?_⟩
  · refine (θ_run Cert.YpIdeal.defs _ _).mono (fun _ h c => ?_) (Cert.YpIdeal.Value.run_blocks (F := Ideal) m g)
    exact ⟨(h c).1.trans (array m c), (h c).2⟩
  · refine (θ_run Cert.YpRefIdeal.defs _ _).mono (fun _ h c => ?_) (Cert.YpRefIdeal.Value.run (F := Ideal) m' g')
    obtain ⟨a0, a1⟩ := hagree c
    refine ⟨((h c).1.trans (val_main_v6_eq _ _)).trans ((reference _ _).trans ?_), (h c).2⟩
    rw [a0, a1]

end Cert.Proof.Yp

end
-- ==== Proof.lean ====
/-
  The certificate: for each call of the training step, that the call, its reading over the reals and its reference run
  to their end with the arguments unchanged and the counters at zero, and that over the reals the call's results are the
  reference's. The mathematics is in the modules imported here, a value and a claim module for each call.
-/
module

public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DactIdeal.Value
public import proofs.«01_k».proof.Proof.Gen.DactRefIdeal.Run
public import proofs.«01_k».proof.Proof.Gen.DactRefIdeal.Read
public import proofs.«01_k».proof.Proof.Gen.DwGuIdeal.Value
public import proofs.«01_k».proof.Proof.Gen.DwGuRefIdeal.Run
public import proofs.«01_k».proof.Proof.Gen.DwGuRefIdeal.Read
public import proofs.«01_k».proof.Proof.Gen.Dh2Ideal.Value
public import proofs.«01_k».proof.Proof.Gen.Dh2RefIdeal.Run
public import proofs.«01_k».proof.Proof.Gen.Dh2RefIdeal.Read
public import proofs.«01_k».proof.Proof.Gen.DwOIdeal.Value
public import proofs.«01_k».proof.Proof.Gen.DwORefIdeal.Run
public import proofs.«01_k».proof.Proof.Gen.DwORefIdeal.Read
public import proofs.«01_k».proof.Proof.Gen.DmIdeal.Value
public import proofs.«01_k».proof.Proof.Gen.DmRefIdeal.Run
public import proofs.«01_k».proof.Proof.Gen.DmRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DhIdeal.Value
public import proofs.«01_k».proof.Proof.Gen.DhRefIdeal.Run
public import proofs.«01_k».proof.Proof.Gen.DhRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.YaIdeal.Value
public import proofs.«01_k».proof.Proof.Gen.YaRefIdeal.Run
public import proofs.«01_k».proof.Proof.Gen.YaRefIdeal.Read
public import proofs.«01_k».proof.Proof.Gen.GuIdeal.Value
public import proofs.«01_k».proof.Proof.Gen.GuRefIdeal.Run
public import proofs.«01_k».proof.Proof.Gen.GuRefIdeal.Read
public import proofs.«01_k».proof.Proof.Gen.X2Ideal.Value
public import proofs.«01_k».proof.Proof.Gen.X2RefIdeal.Run
public import proofs.«01_k».proof.Proof.Gen.X2RefIdeal.Read
public import proofs.«01_k».proof.Proof.Gen.AdInIdeal.Frame
public import proofs.«01_k».proof.Proof.Gen.AdInRefIdeal.Run
public import proofs.«01_k».proof.Proof.Gen.AdInRefIdeal.Read
public import proofs.«01_k».proof.Proof.Gen.AdConvIdeal.Frame
public import proofs.«01_k».proof.Proof.Gen.AdConvRefIdeal.Run
public import proofs.«01_k».proof.Proof.Gen.AdConvRefIdeal.Read
public import proofs.«01_k».proof.Proof.Gen.AdSqIdeal.Frame
public import proofs.«01_k».proof.Proof.Gen.AdSqRefIdeal.Run
public import proofs.«01_k».proof.Proof.Gen.AdSqRefIdeal.Read
public import proofs.«01_k».proof.Proof.Gen.AdPoolIdeal.Frame
public import proofs.«01_k».proof.Proof.Gen.AdPoolRefIdeal.Run
public import proofs.«01_k».proof.Proof.Gen.AdPoolRefIdeal.Read
public import proofs.«01_k».proof.Proof.Gen.AdRowIdeal.Value
public import proofs.«01_k».proof.Proof.Gen.AdRowRefIdeal.Run
public import proofs.«01_k».proof.Proof.Gen.AdRowRefIdeal.Read
public import proofs.«01_k».proof.Proof.Gen.AdSinkIdeal.Value
public import proofs.«01_k».proof.Proof.Gen.AdSinkRefIdeal.Run
public import proofs.«01_k».proof.Proof.Gen.AdSinkRefIdeal.Read
public import proofs.«01_k».proof.Proof.Gen.AdGuIdeal.Frame
public import proofs.«01_k».proof.Proof.Gen.AdGuRefIdeal.Run
public import proofs.«01_k».proof.Proof.Gen.AdGuRefIdeal.Read
public import proofs.«01_k».proof.Proof.Gen.AdDownIdeal.Frame
public import proofs.«01_k».proof.Proof.Gen.AdDownRefIdeal.Run
public import proofs.«01_k».proof.Proof.Gen.AdDownRefIdeal.Read
public import proofs.«01_k».proof.Proof.Gen.AdRelIdeal.Value
public import proofs.«01_k».proof.Proof.Gen.AdRelRefIdeal.Run
public import proofs.«01_k».proof.Proof.Gen.AdRelRefIdeal.Read
public import proofs.«01_k».proof.Proof.Gen.AdFinalIdeal.Frame
public import proofs.«01_k».proof.Proof.Gen.AdFinalRefIdeal.Run
public import proofs.«01_k».proof.Proof.Gen.AdFinalRefIdeal.Read
public import proofs.«01_k».proof.Proof.Gen.RmsBIdeal.Value
public import proofs.«01_k».proof.Proof.Gen.RmsBRefIdeal.Run
public import proofs.«01_k».proof.Proof.Gen.RmsBRefIdeal.Read
public import proofs.«01_k».proof.Proof.Gen.RmsFIdeal.Value
public import proofs.«01_k».proof.Proof.Gen.RmsFRefIdeal.Run
public import proofs.«01_k».proof.Proof.Gen.RmsFRefIdeal.Read
public import proofs.«01_k».proof.Proof.Gen.LossHIdeal.Value
public import proofs.«01_k».proof.Proof.Gen.LossHRefIdeal.Run
public import proofs.«01_k».proof.Proof.Gen.LossHRefIdeal.Read
public import proofs.«01_k».proof.Proof.Gen.SwiBIdeal.Value
public import proofs.«01_k».proof.Proof.Gen.SwiBRefIdeal.Run
public import proofs.«01_k».proof.Proof.Gen.SwiBRefIdeal.Read
public import proofs.«01_k».proof.Proof.Gen.SwiFIdeal.Value
public import proofs.«01_k».proof.Proof.Gen.SwiFRefIdeal.Run
public import proofs.«01_k».proof.Proof.Gen.SwiFRefIdeal.Read
public import proofs.«01_k».proof.Proof.Gen.MergeFIdeal.Value
public import proofs.«01_k».proof.Proof.Gen.MergeFRefIdeal.Run
public import proofs.«01_k».proof.Proof.Gen.MergeFRefIdeal.Read
public import proofs.«01_k».proof.Proof.Gen.SumSmallIdeal.Frame
public import proofs.«01_k».proof.Proof.Gen.SumSmallRefIdeal.Run
public import proofs.«01_k».proof.Proof.Gen.SumSmallRefIdeal.Read
public import proofs.«01_k».proof.Proof.Gen.ChipAIdeal.Frame
public import proofs.«01_k».proof.Proof.Gen.ChipARefIdeal.Run
public import proofs.«01_k».proof.Proof.Gen.ChipARefIdeal.Read
public import proofs.«01_k».proof.Proof.Gen.ChipBIdeal.Frame
public import proofs.«01_k».proof.Proof.Gen.ChipBRefIdeal.Run
public import proofs.«01_k».proof.Proof.Gen.ChipBRefIdeal.Read
public import proofs.«01_k».proof.Proof.Gen.ChipCIdeal.Frame
public import proofs.«01_k».proof.Proof.Gen.ChipCRefIdeal.Run
public import proofs.«01_k».proof.Proof.Gen.ChipCRefIdeal.Read
public import proofs.«01_k».proof.Proof.Gen.ChipDIdeal.Frame
public import proofs.«01_k».proof.Proof.Gen.ChipDRefIdeal.Run
public import proofs.«01_k».proof.Proof.Gen.ChipDRefIdeal.Read
public import proofs.«01_k».proof.Proof.Gen.ChipEIdeal.Frame
public import proofs.«01_k».proof.Proof.Gen.ChipERefIdeal.Run
public import proofs.«01_k».proof.Proof.Gen.ChipERefIdeal.Read
public import proofs.«01_k».proof.Proof.Gen.ChipIIdeal.Frame
public import proofs.«01_k».proof.Proof.Gen.ChipIRefIdeal.Run
public import proofs.«01_k».proof.Proof.Gen.ChipIRefIdeal.Read
public import proofs.«01_k».proof.Proof.Gen.X1Ideal.Value
public import proofs.«01_k».proof.Proof.Gen.X1RefIdeal.Run
public import proofs.«01_k».proof.Proof.Gen.X1RefIdeal.Read
public import proofs.«01_k».proof.Proof.Gen.DwPoolIdeal.Value
public import proofs.«01_k».proof.Proof.Gen.DwPoolRefIdeal.Run
public import proofs.«01_k».proof.Proof.Gen.DwPoolRefIdeal.Read
public import proofs.«01_k».proof.Proof.Gen.DpIdeal.Value
public import proofs.«01_k».proof.Proof.Gen.DpRefIdeal.Run
public import proofs.«01_k».proof.Proof.Gen.DpRefIdeal.Read
public import proofs.«01_k».proof.Proof.Gen.YpIdeal.Value
public import proofs.«01_k».proof.Proof.Gen.YpRefIdeal.Run
public import proofs.«01_k».proof.Proof.Gen.YpRefIdeal.Read
public import proofs.«01_k».proof.Proof.DwDownClaim
public import proofs.«01_k».proof.Proof.DactClaim
public import proofs.«01_k».proof.Proof.DwGuClaim
public import proofs.«01_k».proof.Proof.Dh2Claim
public import proofs.«01_k».proof.Proof.DwOClaim
public import proofs.«01_k».proof.Proof.DmClaim
public import proofs.«01_k».proof.Proof.DwInClaim
public import proofs.«01_k».proof.Proof.DhClaim
public import proofs.«01_k».proof.Proof.ProjClaim
public import proofs.«01_k».proof.Proof.YaClaim
public import proofs.«01_k».proof.Proof.GuClaim
public import proofs.«01_k».proof.Proof.X2Claim
public import proofs.«01_k».proof.Proof.AdInClaim
public import proofs.«01_k».proof.Proof.AdConvClaim
public import proofs.«01_k».proof.Proof.AdSqClaim
public import proofs.«01_k».proof.Proof.AdPoolClaim
public import proofs.«01_k».proof.Proof.AdRowClaim
public import proofs.«01_k».proof.Proof.AdSinkClaim
public import proofs.«01_k».proof.Proof.AdGuClaim
public import proofs.«01_k».proof.Proof.AdDownClaim
public import proofs.«01_k».proof.Proof.AdRelClaim
public import proofs.«01_k».proof.Proof.AdFinalClaim
public import proofs.«01_k».proof.Proof.RmsBClaim
public import proofs.«01_k».proof.Proof.RmsFClaim
public import proofs.«01_k».proof.Proof.LossHClaim
public import proofs.«01_k».proof.Proof.SwiBClaim
public import proofs.«01_k».proof.Proof.SwiFClaim
public import proofs.«01_k».proof.Proof.MergeFClaim
public import proofs.«01_k».proof.Proof.SumSmallClaim
public import proofs.«01_k».proof.Proof.ChipAClaim
public import proofs.«01_k».proof.Proof.ChipBClaim
public import proofs.«01_k».proof.Proof.ChipCClaim
public import proofs.«01_k».proof.Proof.ChipDClaim
public import proofs.«01_k».proof.Proof.ChipEClaim
public import proofs.«01_k».proof.Proof.ChipIClaim
public import proofs.«01_k».proof.Proof.X1Claim
public import proofs.«01_k».proof.Proof.DwPoolClaim
public import proofs.«01_k».proof.Proof.DpClaim
public import proofs.«01_k».proof.Proof.YpClaim
public import Idealize.ShloMosaic.Adequacy
public import Idealize.ShloMosaic.Init

@[expose] public section

noncomputable section

namespace Cert.Proof

open Idealize.ShloMosaic Idealize.SL.Sem

theorem claim : Cert.Claim := ⟨Cert.DwDown.Gen.facts, Cert.DwDownIdeal.Gen.facts, Cert.DwDownRefIdeal.Gen.facts,
  Cert.Dact.Gen.facts, Cert.DactIdeal.Gen.facts, Cert.DactRefIdeal.Gen.facts,
  Cert.DwGu.Gen.facts, Cert.DwGuIdeal.Gen.facts, Cert.DwGuRefIdeal.Gen.facts,
  Cert.Dh2.Gen.facts, Cert.Dh2Ideal.Gen.facts, Cert.Dh2RefIdeal.Gen.facts,
  Cert.DwO.Gen.facts, Cert.DwOIdeal.Gen.facts, Cert.DwORefIdeal.Gen.facts,
  Cert.Dm.Gen.facts, Cert.DmIdeal.Gen.facts, Cert.DmRefIdeal.Gen.facts,
  Cert.DwIn.Gen.facts, Cert.DwInIdeal.Gen.facts, Cert.DwInRefIdeal.Gen.facts,
  Cert.Dh.Gen.facts, Cert.DhIdeal.Gen.facts, Cert.DhRefIdeal.Gen.facts,
  Cert.Proj.Gen.facts, Cert.ProjIdeal.Gen.facts, Cert.ProjRefIdeal.Gen.facts,
  Cert.Ya.Gen.facts, Cert.YaIdeal.Gen.facts, Cert.YaRefIdeal.Gen.facts,
  Cert.Gu.Gen.facts, Cert.GuIdeal.Gen.facts, Cert.GuRefIdeal.Gen.facts,
  Cert.X2.Gen.facts, Cert.X2Ideal.Gen.facts, Cert.X2RefIdeal.Gen.facts,
  Cert.AdIn.Gen.facts, Cert.AdInIdeal.Gen.facts, Cert.AdInRefIdeal.Gen.facts,
  Cert.AdConv.Gen.facts, Cert.AdConvIdeal.Gen.facts, Cert.AdConvRefIdeal.Gen.facts,
  Cert.AdSq.Gen.facts, Cert.AdSqIdeal.Gen.facts, Cert.AdSqRefIdeal.Gen.facts,
  Cert.AdPool.Gen.facts, Cert.AdPoolIdeal.Gen.facts, Cert.AdPoolRefIdeal.Gen.facts,
  Cert.AdRow.Gen.facts, Cert.AdRowIdeal.Gen.facts, Cert.AdRowRefIdeal.Gen.facts,
  Cert.AdSink.Gen.facts, Cert.AdSinkIdeal.Gen.facts, Cert.AdSinkRefIdeal.Gen.facts,
  Cert.AdGu.Gen.facts, Cert.AdGuIdeal.Gen.facts, Cert.AdGuRefIdeal.Gen.facts,
  Cert.AdDown.Gen.facts, Cert.AdDownIdeal.Gen.facts, Cert.AdDownRefIdeal.Gen.facts,
  Cert.AdRel.Gen.facts, Cert.AdRelIdeal.Gen.facts, Cert.AdRelRefIdeal.Gen.facts,
  Cert.AdFinal.Gen.facts, Cert.AdFinalIdeal.Gen.facts, Cert.AdFinalRefIdeal.Gen.facts,
  Cert.RmsB.Gen.facts, Cert.RmsBIdeal.Gen.facts, Cert.RmsBRefIdeal.Gen.facts,
  Cert.RmsF.Gen.facts, Cert.RmsFIdeal.Gen.facts, Cert.RmsFRefIdeal.Gen.facts,
  Cert.LossH.Gen.facts, Cert.LossHIdeal.Gen.facts, Cert.LossHRefIdeal.Gen.facts,
  Cert.SwiB.Gen.facts, Cert.SwiBIdeal.Gen.facts, Cert.SwiBRefIdeal.Gen.facts,
  Cert.SwiF.Gen.facts, Cert.SwiFIdeal.Gen.facts, Cert.SwiFRefIdeal.Gen.facts,
  Cert.MergeF.Gen.facts, Cert.MergeFIdeal.Gen.facts, Cert.MergeFRefIdeal.Gen.facts,
  Cert.SumSmall.Gen.facts, Cert.SumSmallIdeal.Gen.facts, Cert.SumSmallRefIdeal.Gen.facts,
  Cert.ChipA.Gen.facts, Cert.ChipAIdeal.Gen.facts, Cert.ChipARefIdeal.Gen.facts,
  Cert.ChipB.Gen.facts, Cert.ChipBIdeal.Gen.facts, Cert.ChipBRefIdeal.Gen.facts,
  Cert.ChipC.Gen.facts, Cert.ChipCIdeal.Gen.facts, Cert.ChipCRefIdeal.Gen.facts,
  Cert.ChipD.Gen.facts, Cert.ChipDIdeal.Gen.facts, Cert.ChipDRefIdeal.Gen.facts,
  Cert.ChipE.Gen.facts, Cert.ChipEIdeal.Gen.facts, Cert.ChipERefIdeal.Gen.facts,
  Cert.ChipI.Gen.facts, Cert.ChipIIdeal.Gen.facts, Cert.ChipIRefIdeal.Gen.facts,
  Cert.X1.Gen.facts, Cert.X1Ideal.Gen.facts, Cert.X1RefIdeal.Gen.facts,
  Cert.DwPool.Gen.facts, Cert.DwPoolIdeal.Gen.facts, Cert.DwPoolRefIdeal.Gen.facts,
  Cert.Dp.Gen.facts, Cert.DpIdeal.Gen.facts, Cert.DpRefIdeal.Gen.facts,
  Cert.Yp.Gen.facts, Cert.YpIdeal.Gen.facts, Cert.YpRefIdeal.Gen.facts,
  SwiB.pre_facts,
  DwDown.frame_kernel, DwDown.frame_ideal, DwDown.frame_reference,
  Dact.frame_kernel, Dact.frame_ideal, Dact.frame_reference,
  DwGu.frame_kernel, DwGu.frame_ideal, DwGu.frame_reference,
  Dh2.frame_kernel, Dh2.frame_ideal, Dh2.frame_reference,
  DwO.frame_kernel, DwO.frame_ideal, DwO.frame_reference,
  Dm.frame_kernel, Dm.frame_ideal, Dm.frame_reference,
  DwIn.frame_kernel, DwIn.frame_ideal, DwIn.frame_reference,
  Dh.frame_kernel, Dh.frame_ideal, Dh.frame_reference,
  Proj.frame_kernel, Proj.frame_ideal, Proj.frame_reference,
  Ya.frame_kernel, Ya.frame_ideal, Ya.frame_reference,
  Gu.frame_kernel, Gu.frame_ideal, Gu.frame_reference,
  X2.frame_kernel, X2.frame_ideal, X2.frame_reference,
  AdIn.frame_kernel, AdIn.frame_ideal, AdIn.frame_reference,
  AdConv.frame_kernel, AdConv.frame_ideal, AdConv.frame_reference,
  AdSq.frame_kernel, AdSq.frame_ideal, AdSq.frame_reference,
  AdPool.frame_kernel, AdPool.frame_ideal, AdPool.frame_reference,
  AdRow.frame_kernel, AdRow.frame_ideal, AdRow.frame_reference,
  AdSink.frame_kernel, AdSink.frame_ideal, AdSink.frame_reference,
  AdGu.frame_kernel, AdGu.frame_ideal, AdGu.frame_reference,
  AdDown.frame_kernel, AdDown.frame_ideal, AdDown.frame_reference,
  AdRel.frame_kernel, AdRel.frame_ideal, AdRel.frame_reference,
  AdFinal.frame_kernel, AdFinal.frame_ideal, AdFinal.frame_reference,
  RmsB.frame_kernel, RmsB.frame_ideal, RmsB.frame_reference,
  RmsF.frame_kernel, RmsF.frame_ideal, RmsF.frame_reference,
  LossH.frame_kernel, LossH.frame_ideal, LossH.frame_reference,
  SwiB.frame_kernel, SwiB.frame_ideal, SwiB.frame_ideal_pre, SwiB.frame_reference, SwiB.frame_reference_pre,
  SwiF.frame_kernel, SwiF.frame_ideal, SwiF.frame_reference,
  MergeF.frame_kernel, MergeF.frame_ideal, MergeF.frame_reference,
  SumSmall.frame_kernel, SumSmall.frame_ideal, SumSmall.frame_reference,
  ChipA.frame_kernel, ChipA.frame_ideal, ChipA.frame_reference,
  ChipB.frame_kernel, ChipB.frame_ideal, ChipB.frame_reference,
  ChipC.frame_kernel, ChipC.frame_ideal, ChipC.frame_reference,
  ChipD.frame_kernel, ChipD.frame_ideal, ChipD.frame_reference,
  ChipE.frame_kernel, ChipE.frame_ideal, ChipE.frame_reference,
  ChipI.frame_kernel, ChipI.frame_ideal, ChipI.frame_reference,
  X1.frame_kernel, X1.frame_ideal, X1.frame_reference,
  DwPool.frame_kernel, DwPool.frame_ideal, DwPool.frame_reference,
  Dp.frame_kernel, Dp.frame_ideal, Dp.frame_reference,
  Yp.frame_kernel, Yp.frame_ideal, Yp.frame_reference,
  trivial, DwDown.algebraic,
  trivial, Dact.algebraic,
  trivial, DwGu.algebraic,
  trivial, Dh2.algebraic,
  trivial, DwO.algebraic,
  trivial, Dm.algebraic,
  trivial, DwIn.algebraic,
  trivial, Dh.algebraic,
  trivial, Proj.algebraic,
  trivial, Ya.algebraic,
  trivial, Gu.algebraic,
  trivial, X2.algebraic,
  trivial, AdIn.algebraic,
  trivial, AdConv.algebraic,
  trivial, AdSq.algebraic,
  trivial, AdPool.algebraic,
  trivial, AdRow.algebraic,
  trivial, AdSink.algebraic,
  trivial, AdGu.algebraic,
  trivial, AdDown.algebraic,
  trivial, AdRel.algebraic,
  trivial, AdFinal.algebraic,
  trivial, RmsB.algebraic,
  trivial, RmsF.algebraic,
  trivial, LossH.algebraic,
  trivial, SwiB.algebraic,
  trivial, SwiF.algebraic,
  trivial, MergeF.algebraic,
  trivial, SumSmall.algebraic,
  trivial, ChipA.algebraic,
  trivial, ChipB.algebraic,
  trivial, ChipC.algebraic,
  trivial, ChipD.algebraic,
  trivial, ChipE.algebraic,
  trivial, ChipI.algebraic,
  trivial, X1.algebraic,
  trivial, DwPool.algebraic,
  trivial, Dp.algebraic,
  trivial, Yp.algebraic⟩

end Cert.Proof

end
